-- ==== Defs.lean ====
def Pre_Kernel [hPre_names_rows : Cert.Pre_names_rows.Facts] (m : (ℓ : Loc Cert.Kernel.nD Cert.Kernel.τ Cert.Kernel.sig) → Buf (Elt Bits) ℓ) : Prop :=
  ∀ c : Dev Cert.Kernel.nD,
    (Cert.Pre_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_names_rows : Cert.Pre_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_names_rows : Cert.Pre_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Exact (m : (ℓ : Loc Cert.Exact.nD Cert.Exact.τ Cert.Exact.sig) → Buf (Elt Bits) ℓ) : Prop :=
  True

def Pre_ExactIdeal (m : (ℓ : Loc Cert.ExactIdeal.nD Cert.ExactIdeal.τ Cert.ExactIdeal.sig) → Buf (Elt Ideal) ℓ) : Prop :=
  True

def Pre_ExactIdeal_finite [hPre_finite : Cert.Pre_finite.Facts] (m : (ℓ : Loc Cert.ExactIdeal.nD Cert.ExactIdeal.τ Cert.ExactIdeal.sig) → Buf (Elt Ideal) ℓ) : Prop :=
  ∀ c : Dev Cert.ExactIdeal.nD,
    (Cert.Pre_finite.fn (F := Ideal) (m ((c.tc : Thread Cert.ExactIdeal.nD Cert.ExactIdeal.τ).loc Cert.ExactIdeal.main_arg0)) (m ((c.tc : Thread Cert.ExactIdeal.nD Cert.ExactIdeal.τ).loc Cert.ExactIdeal.main_arg1))) = (fun _ => 1#1)

def Pre_NearestIdeal (m : (ℓ : Loc Cert.NearestIdeal.nD Cert.NearestIdeal.τ Cert.NearestIdeal.sig) → Buf (Elt Ideal) ℓ) : Prop :=
  True

def Pre_NearestIdeal_finite [hPre_finite : Cert.Pre_finite.Facts] (m : (ℓ : Loc Cert.NearestIdeal.nD Cert.NearestIdeal.τ Cert.NearestIdeal.sig) → Buf (Elt Ideal) ℓ) : Prop :=
  ∀ c : Dev Cert.NearestIdeal.nD,
    (Cert.Pre_finite.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_SearchIdeal (m : (ℓ : Loc Cert.SearchIdeal.nD Cert.SearchIdeal.τ Cert.SearchIdeal.sig) → Buf (Elt Ideal) ℓ) : Prop :=
  True

def Pre_SearchIdeal_finite [hPre_finite : Cert.Pre_finite.Facts] (m : (ℓ : Loc Cert.SearchIdeal.nD Cert.SearchIdeal.τ Cert.SearchIdeal.sig) → Buf (Elt Ideal) ℓ) : Prop :=
  ∀ c : Dev Cert.SearchIdeal.nD,
    (Cert.Pre_finite.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def quiescent_Kernel [hKernel : Cert.Kernel.Facts] [hPre_names_rows : Cert.Pre_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_names_rows : Cert.Pre_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_names_rows : Cert.Pre_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Exact [hExact : Cert.Exact.Facts] : Prop :=
  ∀ (m : (ℓ : Loc Cert.Exact.nD Cert.Exact.τ Cert.Exact.sig) → Buf (Elt Bits) ℓ) (g : Dev Cert.Exact.nD → PrngReg), Pre_Exact m →
    θ_run (Cert.Exact.defs (F := Bits)) (onTc (τ := Cert.Exact.τ) (Cert.Exact.main (F := Bits))) ⟨m, fun _ => 0, g⟩ (fun r => (∀ c : Dev Cert.Exact.nD,
      r.2.mem ((c.tc : Thread Cert.Exact.nD Cert.Exact.τ).loc Cert.Exact.main_arg0) = m ((c.tc : Thread Cert.Exact.nD Cert.Exact.τ).loc Cert.Exact.main_arg0)
      ∧ r.2.mem ((c.tc : Thread Cert.Exact.nD Cert.Exact.τ).loc Cert.Exact.main_arg1) = m ((c.tc : Thread Cert.Exact.nD Cert.Exact.τ).loc Cert.Exact.main_arg1))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1))
      ∧ r.2.sem = fun _ => 0)

def quiescent_ExactIdeal_pre_finite [hExactIdeal : Cert.ExactIdeal.Facts] [hPre_finite : Cert.Pre_finite.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal_finite m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite [hNearestIdeal : Cert.NearestIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchIdeal_pre_finite [hSearchIdeal : Cert.SearchIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_finite m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_rows : Cert.Pre_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Exact_ExactIdeal : Prop :=
  True

def algebraic_ExactIdeal_NearestIdeal_pre_finite [hExactIdeal : Cert.ExactIdeal.Facts] [hNearestIdeal : Cert.NearestIdeal.Facts] [hPre_finite : Cert.Pre_finite.Facts] : Prop :=
  ∀ (m : (ℓ : Loc Cert.ExactIdeal.nD Cert.ExactIdeal.τ Cert.ExactIdeal.sig) → Buf (Elt Ideal) ℓ) (g : Dev Cert.ExactIdeal.nD → PrngReg)
    (m' : (ℓ : Loc Cert.NearestIdeal.nD Cert.NearestIdeal.τ Cert.NearestIdeal.sig) → Buf (Elt Ideal) ℓ) (g' : Dev Cert.NearestIdeal.nD → PrngReg), Pre_ExactIdeal_finite m →
    (∀ c : Dev Cert.ExactIdeal.nD,
      m' ((c.tc : Thread Cert.NearestIdeal.nD Cert.NearestIdeal.τ).loc Cert.NearestIdeal.main_arg0) = m ((c.tc : Thread Cert.ExactIdeal.nD Cert.ExactIdeal.τ).loc Cert.ExactIdeal.main_arg0)
      ∧ m' ((c.tc : Thread Cert.NearestIdeal.nD Cert.NearestIdeal.τ).loc Cert.NearestIdeal.main_arg1) = m ((c.tc : Thread Cert.ExactIdeal.nD Cert.ExactIdeal.τ).loc Cert.ExactIdeal.main_arg1)) →
    ∃ (v0 : (c : Dev Cert.ExactIdeal.nD) → Buf (Elt Ideal) ((c.tc : Thread Cert.ExactIdeal.nD Cert.ExactIdeal.τ).loc Cert.ExactIdeal.main_v8_0)) (v1 : (c : Dev Cert.ExactIdeal.nD) → Buf (Elt Ideal) ((c.tc : Thread Cert.ExactIdeal.nD Cert.ExactIdeal.τ).loc Cert.ExactIdeal.main_v8_1)),
      θ_run (Cert.ExactIdeal.defs (F := Ideal)) (onTc (τ := Cert.ExactIdeal.τ) (Cert.ExactIdeal.main (F := Ideal))) ⟨m, fun _ => 0, g⟩ (fun r => ∀ c : Dev Cert.ExactIdeal.nD,
          r.2.mem ((c.tc : Thread Cert.ExactIdeal.nD Cert.ExactIdeal.τ).loc Cert.ExactIdeal.main_v8_0) = v0 c
          ∧ r.2.mem ((c.tc : Thread Cert.ExactIdeal.nD Cert.ExactIdeal.τ).loc Cert.ExactIdeal.main_v8_1) = v1 c
          ∧ r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
          ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_v18) = v0 c
          ∧ r.2.mem ((c.tc : Thread Cert.NearestIdeal.nD Cert.NearestIdeal.τ).loc Cert.NearestIdeal.main_indices) = v1 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m' ((c.tc : Thread Cert.NearestIdeal.nD Cert.NearestIdeal.τ).loc Cert.NearestIdeal.main_arg1))

def algebraic_SearchIdeal_NearestIdeal_pre_finite [hSearchIdeal : Cert.SearchIdeal.Facts] [hNearestIdeal : Cert.NearestIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.NearestIdeal.nD Cert.NearestIdeal.τ Cert.NearestIdeal.sig) → Buf (Elt Ideal) ℓ) (g' : Dev Cert.NearestIdeal.nD → PrngReg), Pre_SearchIdeal_finite m →
    (∀ c : Dev Cert.SearchIdeal.nD,
      m' ((c.tc : Thread Cert.NearestIdeal.nD Cert.NearestIdeal.τ).loc Cert.NearestIdeal.main_arg0) = m ((c.tc : Thread Cert.SearchIdeal.nD Cert.SearchIdeal.τ).loc Cert.SearchIdeal.main_arg0)
      ∧ m' ((c.tc : Thread Cert.NearestIdeal.nD Cert.NearestIdeal.τ).loc Cert.NearestIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v12_0)) (v1 : (c : Dev Cert.SearchIdeal.nD) → Buf (Elt Ideal) ((c.tc : Thread Cert.SearchIdeal.nD Cert.SearchIdeal.τ).loc Cert.SearchIdeal.main_v12_1)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v12_0) = v0 c
          ∧ r.2.mem ((c.tc : Thread Cert.SearchIdeal.nD Cert.SearchIdeal.τ).loc Cert.SearchIdeal.main_v12_1) = v1 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_v18) = v0 c
          ∧ r.2.mem ((c.tc : Thread Cert.NearestIdeal.nD Cert.NearestIdeal.τ).loc Cert.NearestIdeal.main_indices) = v1 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m' ((c.tc : Thread Cert.NearestIdeal.nD Cert.NearestIdeal.τ).loc Cert.NearestIdeal.main_arg1))

def Claim : Prop :=
  ∃ (hKernel : Cert.Kernel.Facts) (hKernelIdeal : Cert.KernelIdeal.Facts) (hReferenceIdeal : Cert.ReferenceIdeal.Facts) (hExact : Cert.Exact.Facts) (hExactIdeal : Cert.ExactIdeal.Facts) (hNearestIdeal : Cert.NearestIdeal.Facts) (hSearchIdeal : Cert.SearchIdeal.Facts) (hPre_names_rows : Cert.Pre_names_rows.Facts) (hPre_finite : Cert.Pre_finite.Facts),
    quiescent_Kernel (hKernel := hKernel) (hPre_names_rows := hPre_names_rows)
    ∧ quiescent_KernelIdeal (hKernelIdeal := hKernelIdeal) (hPre_names_rows := hPre_names_rows)
    ∧ quiescent_ReferenceIdeal (hReferenceIdeal := hReferenceIdeal) (hPre_names_rows := hPre_names_rows)
    ∧ quiescent_Exact (hExact := hExact)
    ∧ quiescent_ExactIdeal (hExactIdeal := hExactIdeal)
    ∧ quiescent_ExactIdeal_pre_finite (hExactIdeal := hExactIdeal) (hPre_finite := hPre_finite)
    ∧ quiescent_NearestIdeal (hNearestIdeal := hNearestIdeal)
    ∧ quiescent_NearestIdeal_pre_finite (hNearestIdeal := hNearestIdeal) (hPre_finite := hPre_finite)
    ∧ quiescent_SearchIdeal (hSearchIdeal := hSearchIdeal)
    ∧ quiescent_SearchIdeal_pre_finite (hSearchIdeal := hSearchIdeal) (hPre_finite := hPre_finite)
    ∧ preserves_Kernel_KernelIdeal
    ∧ algebraic_KernelIdeal_ReferenceIdeal (hKernelIdeal := hKernelIdeal) (hReferenceIdeal := hReferenceIdeal) (hPre_names_rows := hPre_names_rows)
    ∧ preserves_Exact_ExactIdeal
    ∧ algebraic_ExactIdeal_NearestIdeal_pre_finite (hExactIdeal := hExactIdeal) (hNearestIdeal := hNearestIdeal) (hPre_finite := hPre_finite)
    ∧ algebraic_SearchIdeal_NearestIdeal_pre_finite (hSearchIdeal := hSearchIdeal) (hNearestIdeal := hNearestIdeal) (hPre_finite := hPre_finite)
-- ==== Pre_finite.lean ====
abbrev S256x128 : Shape := ⟨2, ![256, 128]⟩
abbrev S100000x128 : Shape := ⟨2, ![100000, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S256x128 .f32) (main_arg1 : FVec F S100000x128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Pre_names_rows.lean ====
abbrev S100000x128 : Shape := ⟨2, ![100000, 128]⟩
abbrev S100000 : Shape := ⟨1, ![100000]⟩
abbrev S256x16 : Shape := ⟨2, ![256, 16]⟩
abbrev S_ : Shape := ⟨0, ![]⟩

class Facts : Prop where
  bcast_S_S256x16 : S_.BroadcastsInDim S256x16 (![] : Fin 0 → Fin S256x16.rank)
  reducesTo_S256x16_S_d0_1 : S256x16.ReducesTo [0, 1] S_
  h_S_ : 0 < S_.numel

variable [Facts]

def fn {F : FTy → Type} [FloatOps F] (main_arg0 : FVec F S100000x128 .f32) (main_arg1 : IVec S100000 32) (main_arg2 : IVec S256x16 32) : IVec S_ 1 :=
  let main_c : IVec S_ 32 := constantI S_ 32 0#32
  let main_v0 : IVec S256x16 32 := broadcastInDim S256x16 ![] bcast_S_S256x16 main_c
  let main_v1 : IVec S256x16 1 := cmpi .sge main_arg2 main_v0
  let main_c_0 : IVec S_ 32 := constantI S_ 32 100000#32
  let main_v2 : IVec S256x16 32 := broadcastInDim S256x16 ![] bcast_S_S256x16 main_c_0
  let main_v3 : IVec S256x16 1 := cmpi .slt main_arg2 main_v2
  let main_v4 : IVec S256x16 1 := andi main_v1 main_v3
  let main_c_1 : IVec S_ 1 := constantI S_ 1 1#1
  let main_v5 : IVec S_ 1 := (fun x v => Host.reduce IntOp.andi x v reducesTo_S256x16_S_d0_1 h_S_) main_v4 main_c_1
  main_v5
-- ==== Kernel.lean ====
abbrev S100000x128 : Shape := ⟨2, ![100000, 128]⟩
abbrev S100000 : Shape := ⟨1, ![100000]⟩
abbrev S256x16 : Shape := ⟨2, ![256, 16]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S256x16x128 : Shape := ⟨3, ![256, 16, 128]⟩

abbrev nBuf : Table → Nat
  | .hbm => 8
  | .local .scVector .vmem => 3
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S256x16, .i32⟩
  | .hbm, ⟨3, _⟩ => ⟨S4096, .i32⟩
  | .hbm, ⟨4, _⟩ => ⟨S4096x128, .f32⟩
  | .hbm, ⟨5, _⟩ => ⟨S4096, .i32⟩
  | .hbm, ⟨6, _⟩ => ⟨S256x16x128, .f32⟩
  | .hbm, ⟨7, _⟩ => ⟨S256x16, .i32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S256x16 : Shape := ⟨2, ![256, 16]⟩
abbrev S_ : Shape := ⟨0, ![]⟩
abbrev S256x16x1 : Shape := ⟨3, ![256, 16, 1]⟩
abbrev S1 : Shape := ⟨1, ![1]⟩
abbrev S1x1x1 : Shape := ⟨3, ![1, 1, 1]⟩
abbrev S256x16x128 : Shape := ⟨3, ![256, 16, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S256x16, .i32⟩
  | .hbm, ⟨3, _⟩ => ⟨S_, .i32⟩
  | .hbm, ⟨4, _⟩ => ⟨S256x16, .i32⟩
  | .hbm, ⟨5, _⟩ => ⟨S256x16, .i1⟩
  | .hbm, ⟨6, _⟩ => ⟨S_, .i32⟩
  | .hbm, ⟨7, _⟩ => ⟨S256x16, .i32⟩
  | .hbm, ⟨8, _⟩ => ⟨S256x16, .i32⟩
  | .hbm, ⟨9, _⟩ => ⟨S256x16, .i32⟩
  | .hbm, ⟨10, _⟩ => ⟨S256x16x1, .i32⟩
  | .hbm, ⟨11, _⟩ => ⟨S1, .i32⟩
  | .hbm, ⟨12, _⟩ => ⟨S_, .i32⟩
  | .hbm, ⟨13, _⟩ => ⟨S256x16x1, .i32⟩
  | .hbm, ⟨14, _⟩ => ⟨S256x16x1, .i1⟩
  | .hbm, ⟨15, _⟩ => ⟨S1x1x1, .i32⟩
  | .hbm, ⟨16, _⟩ => ⟨S256x16x1, .i32⟩
  | .hbm, ⟨17, _⟩ => ⟨S256x16x1, .i1⟩
  | .hbm, ⟨18, _⟩ => ⟨S256x16x1, .i1⟩
  | .hbm, ⟨19, _⟩ => ⟨S_, .i1⟩
  | .hbm, ⟨20, _⟩ => ⟨S256x16, .i1⟩
  | .hbm, ⟨21, _⟩ => ⟨S256x16x128, .f32⟩
  | .hbm, ⟨22, _⟩ => ⟨S256x16x128, .i1⟩
  | .hbm, ⟨23, _⟩ => ⟨S_, .f32⟩
  | .hbm, ⟨24, _⟩ => ⟨S256x16x128, .f32⟩
  | .hbm, ⟨25, _⟩ => ⟨S256x16x128, .f32⟩
  | .hbm, ⟨26, _⟩ => ⟨S_, .i32⟩
  | .hbm, ⟨27, _⟩ => ⟨S256x16, .i32⟩
  | .hbm, ⟨28, _⟩ => ⟨S256x16, .i1⟩
  | .hbm, ⟨29, _⟩ => ⟨S_, .i32⟩
  | .hbm, ⟨30, _⟩ => ⟨S256x16, .i32⟩
  | .hbm, ⟨31, _⟩ => ⟨S256x16, .i32⟩
  | .hbm, ⟨32, _⟩ => ⟨S256x16, .i32⟩
  | .hbm, ⟨33, _⟩ => ⟨S256x16x1, .i32⟩
  | .hbm, ⟨34, _⟩ => ⟨S1, .i32⟩
  | .hbm, ⟨35, _⟩ => ⟨S_, .i32⟩
  | .hbm, ⟨36, _⟩ => ⟨S256x16x1, .i32⟩
  | .hbm, ⟨37, _⟩ => ⟨S256x16x1, .i1⟩
  | .hbm, ⟨38, _⟩ => ⟨S1x1x1, .i32⟩
  | .hbm, ⟨39, _⟩ => ⟨S256x16x1, .i32⟩
  | .hbm, ⟨40, _⟩ => ⟨S256x16x1, .i1⟩
  | .hbm, ⟨41, _⟩ => ⟨S256x16x1, .i1⟩
  | .hbm, ⟨42, _⟩ => ⟨S_, .i1⟩
  | .hbm, ⟨43, _⟩ => ⟨S256x16, .i1⟩
  | .hbm, ⟨44, _⟩ => ⟨S256x16, .i32⟩
  | .hbm, ⟨45, _⟩ => ⟨S_, .i32⟩
  | .hbm, ⟨46, _⟩ => ⟨S256x16, .i32⟩
  | .hbm, ⟨47, _⟩ => ⟨S256x16, .i32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_c_4 : Ref sig .tc := ⟨.hbm, 45, rfl⟩
abbrev main_call1_v14 : Ref sig .tc := ⟨.hbm, 46, rfl⟩
abbrev main_v1 : Ref sig .tc := ⟨.hbm, 47, rfl⟩

abbrev nD : Nat := 1
abbrev τ : Topo := Topo.v7x

variable {F : FTy → Type} [FloatOps F]
-- ==== Exact.lean ====
abbrev S256x128 : Shape := ⟨2, ![256, 128]⟩
abbrev S100000x128 : Shape := ⟨2, ![100000, 128]⟩
abbrev S_ : Shape := ⟨0, ![]⟩
abbrev S256 : Shape := ⟨1, ![256]⟩
abbrev S100000 : Shape := ⟨1, ![100000]⟩
abbrev S256x1 : Shape := ⟨2, ![256, 1]⟩
abbrev S20x1x5000 : Shape := ⟨3, ![20, 1, 5000]⟩
abbrev S256x16 : Shape := ⟨2, ![256, 16]⟩
abbrev S1x1x5000 : Shape := ⟨3, ![1, 1, 5000]⟩
abbrev S5000x128 : Shape := ⟨2, ![5000, 128]⟩
abbrev S1x5000 : Shape := ⟨2, ![1, 5000]⟩
abbrev S256x5000 : Shape := ⟨2, ![256, 5000]⟩
abbrev S256x5016 : Shape := ⟨2, ![256, 5016]⟩

abbrev nBuf : Space → Nat
  | .hbm => 15
  | .vmem => 10
  | .smem => 0
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S256x128, .f32⟩
  | .hbm, ⟨3, _⟩ => ⟨S_, .f32⟩
  | .hbm, ⟨4, _⟩ => ⟨S256, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S256x1, .f32⟩
  | .hbm, ⟨9, _⟩ => ⟨S20x1x5000, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x16, .f32⟩
  | .hbm, ⟨14, _⟩ => ⟨S256x16, .i32⟩
  | .local _ .vmem, ⟨0, _⟩ => ⟨S256x1, .f32⟩
  | .local _ .vmem, ⟨1, _⟩ => ⟨S256x128, .f32⟩
  | .local _ .vmem, ⟨2, _⟩ => ⟨S1x1x5000, .f32⟩
  | .local _ .vmem, ⟨3, _⟩ => ⟨S1x1x5000, .f32⟩
  | .local _ .vmem, ⟨4, _⟩ => ⟨S5000x128, .f32⟩
  | .local _ .vmem, ⟨5, _⟩ => ⟨S5000x128, .f32⟩
  | .local _ .vmem, ⟨6, _⟩ => ⟨S256x16, .f32⟩
  | .local _ .vmem, ⟨7, _⟩ => ⟨S256x16, .i32⟩
  | .local _ .vmem, ⟨8, _⟩ => ⟨S256x16, .f32⟩
  | .local _ .vmem, ⟨9, _⟩ => ⟨S256x16, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v305 : BitVec 1 := Scalar.cmpi .eq arg0 c19_i32
  let v306 : BitVec 32 := Scalar.extui v305
  let c0_i32_112 : BitVec 32 := 0#32
  let v307 : BitVec 1 := Scalar.cmpi .ne v306 c0_i32_112
  v307

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NearestIdeal.lean ====
abbrev S256x128 : Shape := ⟨2, ![256, 128]⟩
abbrev S100000x128 : Shape := ⟨2, ![100000, 128]⟩
abbrev S_ : Shape := ⟨0, ![]⟩
abbrev S256 : Shape := ⟨1, ![256]⟩
abbrev S100000 : Shape := ⟨1, ![100000]⟩
abbrev S256x1 : Shape := ⟨2, ![256, 1]⟩
abbrev S1x100000 : Shape := ⟨2, ![1, 100000]⟩
abbrev S256x100000 : Shape := ⟨2, ![256, 100000]⟩
abbrev S128x100000 : Shape := ⟨2, ![128, 100000]⟩
abbrev S256x16 : Shape := ⟨2, ![256, 16]⟩

abbrev nBuf : Space → Nat
  | .hbm => 27
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S256x128, .f32⟩
  | .hbm, ⟨3, _⟩ => ⟨S_, .f32⟩
  | .hbm, ⟨4, _⟩ => ⟨S256, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S256x1, .f32⟩
  | .hbm, ⟨9, _⟩ => ⟨S1x100000, .f32⟩
  | .hbm, ⟨10, _⟩ => ⟨S256x100000, .f32⟩
  | .hbm, ⟨11, _⟩ => ⟨S256x100000, .f32⟩
  | .hbm, ⟨12, _⟩ => ⟨S256x100000, .f32⟩
  | .hbm, ⟨13, _⟩ => ⟨S128x100000, .f32⟩
  | .hbm, ⟨14, _⟩ => ⟨S256x100000, .f32⟩
  | .hbm, ⟨15, _⟩ => ⟨S_, .f32⟩
  | .hbm, ⟨16, _⟩ => ⟨S256x100000, .f32⟩
  | .hbm, ⟨17, _⟩ => ⟨S256x100000, .f32⟩
  | .hbm, ⟨18, _⟩ => ⟨S256x100000, .f32⟩
  | .hbm, ⟨19, _⟩ => ⟨S_, .f32⟩
  | .hbm, ⟨20, _⟩ => ⟨S256x100000, .f32⟩
  | .hbm, ⟨21, _⟩ => ⟨S256x100000, .f32⟩
  | .hbm, ⟨22, _⟩ => ⟨S256x100000, .f32⟩
  | .hbm, ⟨23, _⟩ => ⟨S256x100000, .f32⟩
  | .hbm, ⟨24, _⟩ => ⟨S256x16, .f32⟩
  | .hbm, ⟨25, _⟩ => ⟨S256x16, .i32⟩
  | .hbm, ⟨26, _⟩ => ⟨S256x16, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== SearchIdeal.lean ====
abbrev S256x128 : Shape := ⟨2, ![256, 128]⟩
abbrev S100000x128 : Shape := ⟨2, ![100000, 128]⟩
abbrev S_ : Shape := ⟨0, ![]⟩
abbrev S256 : Shape := ⟨1, ![256]⟩
abbrev S100000 : Shape := ⟨1, ![100000]⟩
abbrev S256x1 : Shape := ⟨2, ![256, 1]⟩
abbrev S20x1x5000 : Shape := ⟨3, ![20, 1, 5000]⟩
abbrev S256x16 : Shape := ⟨2, ![256, 16]⟩
abbrev S1x1 : Shape := ⟨2, ![1, 1]⟩
abbrev S1x1x5000 : Shape := ⟨3, ![1, 1, 5000]⟩
abbrev S5000x128 : Shape := ⟨2, ![5000, 128]⟩
abbrev S2x256x5000 : Shape := ⟨3, ![2, 256, 5000]⟩
abbrev S40x256x128 : Shape := ⟨3, ![40, 256, 128]⟩
abbrev S20x256x128 : Shape := ⟨3, ![20, 256, 128]⟩
abbrev S5x256x128 : Shape := ⟨3, ![5, 256, 128]⟩
abbrev S16x256x1 : Shape := ⟨3, ![16, 256, 1]⟩
abbrev S1x5000 : Shape := ⟨2, ![1, 5000]⟩
abbrev S256x5000 : Shape := ⟨2, ![256, 5000]⟩
abbrev S1x256x5000 : Shape := ⟨3, ![1, 256, 5000]⟩
abbrev S256x8 : Shape := ⟨2, ![256, 8]⟩
abbrev S256x120 : Shape := ⟨2, ![256, 120]⟩
abbrev S1x256x128 : Shape := ⟨3, ![1, 256, 128]⟩
abbrev S1x256x1 : Shape := ⟨3, ![1, 256, 1]⟩
abbrev S1 : Shape := ⟨1, ![1]⟩
abbrev S1x1x1 : Shape := ⟨3, ![1, 1, 1]⟩
abbrev S256x5016 : Shape := ⟨2, ![256, 5016]⟩

abbrev nBuf : Space → Nat
  | .hbm => 24
  | .vmem => 26
  | .smem => 1
  | _ => 0

abbrev bufTy : (tb : Table) → Fin (tcTables nBuf tb) → BufTy
  | .hbm, ⟨0, _⟩ => ⟨S256x128, .f32⟩
  | .hbm, ⟨1, _⟩ => ⟨S100000x128, .f32⟩
  | .hbm, ⟨2, _⟩ => ⟨S256x128, .f32⟩
  | .hbm, ⟨3, _⟩ => ⟨S_, .f32⟩
  | .hbm, ⟨4, _⟩ => ⟨S256, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S256x1, .f32⟩
  | .hbm, ⟨9, _⟩ => ⟨S20x1x5000, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x16, .f32⟩
  | .hbm, ⟨14, _⟩ => ⟨S256x16, .i32⟩
  | .hbm, ⟨15, _⟩ => ⟨S1x1, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S256x16, .f32⟩
  | .hbm, ⟨21, _⟩ => ⟨S256x16, .i32⟩
  | .hbm, ⟨22, _⟩ => ⟨S256x16, .f32⟩
  | .hbm, ⟨23, _⟩ => ⟨S256x16, .i32⟩
  | .local _ .vmem, ⟨0, _⟩ => ⟨S256x1, .f32⟩
  | .local _ .vmem, ⟨1, _⟩ => ⟨S256x128, .f32⟩
  | .local _ .vmem, ⟨2, _⟩ => ⟨S1x1x5000, .f32⟩
  | .local _ .vmem, ⟨3, _⟩ => ⟨S1x1x5000, .f32⟩
  | .local _ .vmem, ⟨4, _⟩ => ⟨S5000x128, .f32⟩
  | .local _ .vmem, ⟨5, _⟩ => ⟨S5000x128, .f32⟩
  | .local _ .vmem, ⟨6, _⟩ => ⟨S256x16, .f32⟩
  | .local _ .vmem, ⟨7, _⟩ => ⟨S256x16, .i32⟩
  | .local _ .vmem, ⟨8, _⟩ => ⟨S2x256x5000, .f32⟩
  | .local _ .vmem, ⟨9, _⟩ => ⟨S40x256x128, .f32⟩
  | .local _ .vmem, ⟨10, _⟩ => ⟨S40x256x128, .i32⟩
  | .local _ .vmem, ⟨11, _⟩ => ⟨S20x256x128, .f32⟩
  | .local _ .vmem, ⟨12, _⟩ => ⟨S5x256x128, .f32⟩
  | .local _ .vmem, ⟨13, _⟩ => ⟨S5x256x128, .i32⟩
  | .local _ .vmem, ⟨14, _⟩ => ⟨S16x256x1, .f32⟩
  | .local _ .vmem, ⟨15, _⟩ => ⟨S16x256x1, .i32⟩
  | .local _ .vmem, ⟨16, _⟩ => ⟨S256x1, .f32⟩
  | .local _ .vmem, ⟨17, _⟩ => ⟨S256x128, .f32⟩
  | .local _ .vmem, ⟨18, _⟩ => ⟨S1x1x5000, .f32⟩
  | .local _ .vmem, ⟨19, _⟩ => ⟨S1x1x5000, .f32⟩
  | .local _ .vmem, ⟨20, _⟩ => ⟨S5000x128, .f32⟩
  | .local _ .vmem, ⟨21, _⟩ => ⟨S5000x128, .f32⟩
  | .local _ .vmem, ⟨22, _⟩ => ⟨S256x16, .f32⟩
  | .local _ .vmem, ⟨23, _⟩ => ⟨S256x16, .i32⟩
  | .local _ .vmem, ⟨24, _⟩ => ⟨S256x16, .f32⟩
  | .local _ .vmem, ⟨25, _⟩ => ⟨S256x16, .i32⟩
  | .local _ .smem, ⟨0, _⟩ => ⟨S1x1, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_case0b1_v13_0 : Ref sig .tc := ⟨.hbm, 22, rfl⟩
abbrev main_case0b1_v13_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_scratch0 : Ref sig .tc := ⟨.vmem, 24, rfl⟩
abbrev cc1_scratch1 : Ref sig .tc := ⟨.vmem, 25, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c20_i32 : BitVec 32 := 20#32
  let v0 : BitVec 1 := Scalar.cmpi .slt arg0 c20_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let c0_i32_12 : BitVec 32 := 0#32
  let v21 : BitVec 1 := Scalar.cmpi .eq c2_i32 c0_i32_12
  let c1_i32 : BitVec 32 := 1#32
  let v22 : BitVec 32 := Scalar.select v21 c1_i32 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v31 : Index := Scalar.indexCast v30
  let c0_16 : Index := 0#32
  let c0_17 : Index := 0#32
  ![v31.toNat, 0, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32_4 : BitVec 32 := 1#32
  let v10 : BitVec 32 := Scalar.subi arg0 c1_i32_4
  let c2_i32 : BitVec 32 := 2#32
  let c0_i32_5 : BitVec 32 := 0#32
  let v11 : BitVec 1 := Scalar.cmpi .eq c2_i32 c0_i32_5
  let c1_i32_6 : BitVec 32 := 1#32
  let v12 : BitVec 32 := Scalar.select v11 c1_i32_6 c2_i32
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v21 : Index := Scalar.indexCast v20
  let c0 : Index := 0#32
  let c0_10 : Index := 0#32
  ![v21.toNat, 0, 0]
def k0_off3 (i : grid0.Coords) : Fin 3 → Nat :=
  let c2_i32_215 : BitVec 32 := 2#32
  let arg0 : BitVec 32 := BitVec.ofNat 32 (i 0).val
  let c1_i32 : BitVec 32 := 1#32
  let v9 : BitVec 32 := Scalar.subi arg0 c1_i32
  let v782 : BitVec 32 := Scalar.muli c2_i32_215 v9
  let v783 : Index := Scalar.indexCast v782
  let c0_216 : Index := 0#32
  let c0_217 : Index := 0#32
  ![v783.toNat, 0, 0]
def k0_off4 (i : grid0.Coords) : Fin 3 → Nat :=
  let c2_i32_221 : BitVec 32 := 2#32
  let arg0 : BitVec 32 := BitVec.ofNat 32 (i 0).val
  let c1_i32 : BitVec 32 := 1#32
  let v9 : BitVec 32 := Scalar.subi arg0 c1_i32
  let v795 : BitVec 32 := Scalar.muli c2_i32_221 v9
  let c1_i32_222 : BitVec 32 := 1#32
  let v796 : BitVec 32 := Scalar.addi v795 c1_i32_222
  let v797 : Index := Scalar.indexCast v796
  let c0_223 : Index := 0#32
  let c0_224 : Index := 0#32
  ![v797.toNat, 0, 0]
def k0_off5 (i : grid0.Coords) : Fin 3 → Nat :=
  let arg0 : BitVec 32 := BitVec.ofNat 32 (i 0).val
  let c1_i32 : BitVec 32 := 1#32
  let v9 : BitVec 32 := Scalar.subi arg0 c1_i32
  let v810 : Index := Scalar.indexCast v9
  let c0_230 : Index := 0#32
  let c0_231 : Index := 0#32
  ![v810.toNat, 0, 0]
def k0_cond3 (i : grid0.Coords) : BitVec 1 :=
  let arg0 : BitVec 32 := BitVec.ofNat 32 (i 0).val
  let c20_i32_2 : BitVec 32 := 20#32
  let v6 : BitVec 1 := Scalar.cmpi .eq arg0 c20_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_33 : BitVec 32 := 0#32
  let c40_i32 : BitVec 32 := 40#32
  let v45 : BitVec 32 := Scalar.addi c0_i32_33 c40_i32
  let c1_i32 : BitVec 32 := 1#32
  ⟨c0_i32_33, v45, c1_i32⟩
def k0_off6 (k0_t1 : Fin k0_t1_loop.trips) : Fin 3 → Nat :=
  let c0_i32_33 : BitVec 32 := 0#32
  let c1_i32 : BitVec 32 := 1#32
  let arg16 : BitVec 32 := Scf.iv c0_i32_33 c1_i32 k0_t1
  let v327 : Index := Scalar.indexCast arg16
  let c0_247 : Index := 0#32
  let c0_248 : Index := 0#32
  ![v327.toNat, 0, 0]
@[reducible] def k0_t2_loop : Scf.Loop 32 :=
  let c0_i32_70 : BitVec 32 := 0#32
  let c16_i32 : BitVec 32 := 16#32
  let v86 : BitVec 32 := Scalar.addi c0_i32_70 c16_i32
  let c1_i32_71 : BitVec 32 := 1#32
  ⟨c0_i32_70, v86, c1_i32_71⟩
def k0_off7 (k0_t2 : Fin k0_t2_loop.trips) : Fin 3 → Nat :=
  let c0_i32_70 : BitVec 32 := 0#32
  let c1_i32_71 : BitVec 32 := 1#32
  let arg16 : BitVec 32 := Scf.iv c0_i32_70 c1_i32_71 k0_t2
  let v409 : Index := Scalar.indexCast arg16
  let c0_293 : Index := 0#32
  let c0_294 : Index := 0#32
  ![v409.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v305 : BitVec 1 := Scalar.cmpi .eq arg0 c19_i32
  let v306 : BitVec 32 := Scalar.extui v305
  let c0_i32_112 : BitVec 32 := 0#32
  let v307 : BitVec 1 := Scalar.cmpi .ne v306 c0_i32_112
  v307

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x16 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== Proof.Tile.lean ====
/-
  One task of the gather: what it is handed, what it does, what it leaves.

  The call runs one task on every vector subcore of both SparseCores, 32 in all. Worker `2 s + c` (subcore `s` of
  SparseCore `c`) owns the 128 consecutive requests starting at `128 (2 s + c)`. Its task copies its 128 row numbers into
  its own memory, streams the named rows of `keys` and then the named entries of `key_classes` through that list, and
  copies both out to its own part of the two results. This module states what the two results hold when every request
  has been answered (`rowsOf`, `classesOf`), and proves, at a symbolic subcore, that the task leaves exactly that part
  of them (`task_run`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.ValueIdxCore
public import Idealize.ShloMosaic.Lib.ValueIdxCoords
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the results hold -/

/-- The table row a request word names: the word itself when it is below 100000. -/
def rowNo (w : BitVec 32) : Fin 100000 := ⟨w.toNat % 100000, Nat.mod_lt _ (by decide)⟩

theorem rowNo_val {w : BitVec 32} (h : w.toNat < 100000) : (rowNo w).val = w.toNat := Nat.mod_eq_of_lt h

/-- Request `p`'s row of `keys`, at every `p`: the first result, flat. -/
def rowsOf (keys : S100000x128.Idx → Elt F .f32) (req : S4096.Idx → Elt F .i32) : S4096x128.Idx → Elt F .f32 :=
  fun j => keys (ix2 (rowNo (req (ix1 (j 0)))) (j 1))

/-- Request `p`'s entry of `key_classes`, at every `p`: the second result, flat. -/
def classesOf (classes : S100000.Idx → Elt F .i32) (req : S4096.Idx → Elt F .i32) : S4096.Idx → Elt F .i32 :=
  fun j => classes (ix1 (rowNo (req j)))

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev keysLoc (d : Dev nD) : Loc nD τ sig := (SparseCore.T d).loc main_arg0
abbrev classLoc (d : Dev nD) : Loc nD τ sig := (SparseCore.T d).loc main_arg1
abbrev reqLoc (d : Dev nD) : Loc nD τ sig := (SparseCore.T d).loc main_v0
abbrev embLoc (d : Dev nD) : Loc nD τ sig := (SparseCore.T d).loc main_v1_0
abbrev clsLoc (d : Dev nD) : Loc nD τ sig := (SparseCore.T d).loc main_v1_1

abbrev keysM : Memref sig .scVector .hbm S100000x128 .f32 := Memref.whole main_arg0_scv
abbrev classM : Memref sig .scVector .hbm S100000 .i32 := Memref.whole main_arg1_scv
abbrev reqM : Memref sig .scVector .hbm S4096 .i32 := Memref.whole main_v0_scv
abbrev embM : Memref sig .scVector .hbm S4096x128 .f32 := Memref.whole main_v1_0_scv
abbrev clsM : Memref sig .scVector .hbm S4096 .i32 := Memref.whole main_v1_1_scv
abbrev listM : Memref sig .scVector .vmem S128 .i32 := Memref.whole cc0_scratch0
abbrev rowsM : Memref sig .scVector .vmem S128x128 .f32 := Memref.whole cc0_scratch1
abbrev entsM : Memref sig .scVector .vmem S128 .i32 := Memref.whole cc0_scratch2

/-! ## The 32 parts -/

theorem div1 : 32 ∣ S4096.size 0 := ⟨128, rfl⟩
theorem div2 : 32 ∣ S4096x128.size 0 := ⟨128, rfl⟩
/-- Requests `128 w … 128 w + 127`. -/
abbrev part1 (w : Fin 32) : Rect S4096 := Rect.part (s := S4096) (a₀ := 0) div1 w
/-- Rows `128 w … 128 w + 127` of the first result. -/
abbrev part2 (w : Fin 32) : Rect S4096x128 := Rect.part (s := S4096x128) (a₀ := 0) div2 w

/-- The worker number of subcore `s` of SparseCore `c`. -/
def worker (c : Fin 2) (s : Fin 16) : Fin 32 := ⟨2 * s.val + c.val, by omega⟩

/-- Worker `w`'s read share of a table every worker reads. -/
abbrev sh (w : Fin 32) : PosShare TreeShare := pieceOf fullShare 32 (by decide) w

variable (m : (ℓ : Loc nD τ sig) → Buf (Elt F) ℓ)
-- the requests as the call is handed them, per device
variable (req : Dev nD → S4096.Idx → Elt F .i32)

abbrev reqPart (d : Dev nD) (w : Fin 32) : sProp 𝕄 := reqLoc d ↦[(part1 w).set]{fullShare} (req d : Buf (Elt F) (reqLoc d))
abbrev keysPart (d : Dev nD) (w : Fin 32) : sProp 𝕄 := keysLoc d ↦{sh w} m (keysLoc d)
abbrev classPart (d : Dev nD) (w : Fin 32) : sProp 𝕄 := classLoc d ↦{sh w} m (classLoc d)
abbrev embPart (d : Dev nD) (w : Fin 32) (f : Buf (Elt F) (embLoc d)) : sProp 𝕄 := embLoc d ↦[(part2 w).set]{fullShare} f
abbrev clsPart (d : Dev nD) (w : Fin 32) (f : Buf (Elt F) (clsLoc d)) : sProp 𝕄 := clsLoc d ↦[(part1 w).set]{fullShare} f

/-- What worker `w` is handed: its requests, a read share of both tables, its part of both results at whatever they hold. -/
abbrev handed (d : Dev nD) (w : Fin 32) : sProp 𝕄 :=
  iprop(reqPart req d w ∗ keysPart m d w ∗ classPart m d w ∗ (∃ f, embPart d w f) ∗ ∃ f, clsPart d w f)

/-- What it brings back: the same, its part of both results at the answers. -/
abbrev answered (d : Dev nD) (w : Fin 32) : sProp 𝕄 :=
  iprop(reqPart req d w ∗ keysPart m d w ∗ classPart m d w ∗ embPart d w (rowsOf (m (keysLoc d)) (req d)) ∗ clsPart d w (classesOf (m (classLoc d)) (req d)))

/-- What the run asks of the requests: every one names a row of the tables. -/
def InRange : Prop := ∀ (d : Dev nD) (j : S4096.Idx), (req d j).toNat < 100000

/-! ## The task's own views of the buffers -/

section Task

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := worker (Fin.cast bound_zero (L 0)) (Fin.cast bound_one (L 1))

abbrev rect1 (L : grid0.Coords) : Rect S4096 := Rect.unit (s := S4096) (k0_off1 L) S128.size (k0_off1_inb L)
abbrev rect2 (L : grid0.Coords) : Rect S4096x128 := Rect.unit (s := S4096x128) (k0_off2 L) S128x128.size (k0_off2_inb L)
abbrev reqK (L : grid0.Coords) : Memref sig .scVector .hbm S128 .i32 := reqM.slice (rect1 L) (fun _ => rfl)
abbrev clsK (L : grid0.Coords) : Memref sig .scVector .hbm S128 .i32 := clsM.slice (rect1 L) (fun _ => rfl)
abbrev embK (L : grid0.Coords) : Memref sig .scVector .hbm S128x128 .f32 := embM.slice (rect2 L) (fun _ => rfl)
abbrev keysK : Memref sig .scVector .hbm S100000x128 .f32 :=
  keysM.slice (Rect.unit (s := S100000x128) ![0, 0] S100000x128.size inb_S100000x128_S100000x128_0_0) (fun _ => rfl)
abbrev classK : Memref sig .scVector .hbm S100000 .i32 :=
  classM.slice (Rect.unit (s := S100000) ![0] S100000.size inb_S100000_S100000_0) (fun _ => rfl)

theorem wL_val : 128 * (wL L).val = 256 * (L 1).val + 128 * (L 0).val := by
  show 128 * (2 * (L 1).val + (L 0).val) = _; omega

/-- The task's 128 requests are worker `wL`'s part, -/
theorem rect1_eq : rect1 L = part1 (wL L) := by
  have h := wL_val L
  unfold rect1 part1 Rect.part Rect.block
  congr 1 <;> funext a
  · rw [k0_off1_eq]
    match a with
    | 0 => simp [Shape.partIx, Shape.partSize]; omega
  · match a with
    | 0 => simp [Shape.partSize]
/-- and so are its 128 result rows. -/
theorem rect2_eq : rect2 L = part2 (wL L) := by
  have h := wL_val L
  unfold rect2 part2 Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_reqK : (reqK L).view.set = (part1 (wL L)).set := by
  show ((View.whole (main_v0_scv : Ref sig .scVector)).slice (rect1 L)).set = _
  rw [View.set_slice, rect1_eq]; exact Finset.map_refl
theorem set_clsK : (clsK L).view.set = (part1 (wL L)).set := by
  show ((View.whole (main_v1_1_scv : Ref sig .scVector)).slice (rect1 L)).set = _
  rw [View.set_slice, rect1_eq]; exact Finset.map_refl
theorem set_embK : (embK L).view.set = (part2 (wL L)).set := by
  show ((View.whole (main_v1_0_scv : Ref sig .scVector)).slice (rect2 L)).set = _
  rw [View.set_slice, rect2_eq]; exact Finset.map_refl

theorem pts_reqK (f : Buf (Elt F) (reqLoc d)) :
    ((reqK L).view.loc (V d (cV L) (jV L)) ↦[(reqK L).view.set]{fullShare} f : sProp 𝕄) = reqLoc d ↦[(part1 (wL L)).set]{fullShare} f := by
  rw [set_reqK]
theorem pts_clsK (f : Buf (Elt F) (clsLoc d)) :
    ((clsK L).view.loc (V d (cV L) (jV L)) ↦[(clsK L).view.set]{fullShare} f : sProp 𝕄) = clsLoc d ↦[(part1 (wL L)).set]{fullShare} f := by
  rw [set_clsK]
theorem pts_embK (f : Buf (Elt F) (embLoc d)) :
    ((embK L).view.loc (V d (cV L) (jV L)) ↦[(embK L).view.set]{fullShare} f : sProp 𝕄) = embLoc d ↦[(part2 (wL L)).set]{fullShare} f := by
  rw [set_embK]

/-- The slice of all of `keys` is all of it, -/
theorem set_keysK : (keysK).view.set = Finset.univ := by
  show ((View.whole (main_arg0_scv : Ref sig .scVector)).slice _).set = _
  rw [View.set_slice]
  refine Finset.map_refl.trans (Finset.eq_univ_iff_forall.mpr fun j => ?_)
  rw [Rect.mem_set_unit]
  intro a
  match a with
  | 0 => exact ⟨Nat.zero_le _, (j 0).isLt.trans_eq (Nat.zero_add _).symm⟩
  | 1 => exact ⟨Nat.zero_le _, (j 1).isLt.trans_eq (Nat.zero_add _).symm⟩
/-- and of `key_classes`. -/
theorem set_classK : (classK).view.set = Finset.univ := by
  show ((View.whole (main_arg1_scv : Ref sig .scVector)).slice _).set = _
  rw [View.set_slice]
  refine Finset.map_refl.trans (Finset.eq_univ_iff_forall.mpr fun j => ?_)
  rw [Rect.mem_set_unit]
  intro a
  match a with
  | 0 => exact ⟨Nat.zero_le _, (j 0).isLt.trans_eq (Nat.zero_add _).symm⟩

theorem pts_keysK (q : PosShare TreeShare) (f : Buf (Elt F) (keysLoc d)) :
    ((keysK).view.loc (V d (cV L) (jV L)) ↦[(keysK).view.set]{q} f : sProp 𝕄) = keysLoc d ↦{q} f := by rw [set_keysK]
theorem pts_classK (q : PosShare TreeShare) (f : Buf (Elt F) (classLoc d)) :
    ((classK).view.loc (V d (cV L) (jV L)) ↦[(classK).view.set]{q} f : sProp 𝕄) = classLoc d ↦{q} f := by rw [set_classK]

/-- A scratch buffer held whole, as its view names it. -/
theorem pts_listM (f : Buf (Elt F) ((V d (cV L) (jV L)).loc cc0_scratch0)) :
    (listM.view.loc (V d (cV L) (jV L)) ↦{fullShare} f : sProp 𝕄) = (V d (cV L) (jV L)).loc cc0_scratch0 ↦{fullShare} f := rfl
theorem pts_rowsM (f : Buf (Elt F) ((V d (cV L) (jV L)).loc cc0_scratch1)) :
    (rowsM.view.loc (V d (cV L) (jV L)) ↦{fullShare} f : sProp 𝕄) = (V d (cV L) (jV L)).loc cc0_scratch1 ↦{fullShare} f := rfl
theorem pts_entsM (f : Buf (Elt F) ((V d (cV L) (jV L)).loc cc0_scratch2)) :
    (entsM.view.loc (V d (cV L) (jV L)) ↦{fullShare} f : sProp 𝕄) = (V d (cV L) (jV L)).loc cc0_scratch2 ↦{fullShare} f := rfl

/-- The elements of a scratch buffer's whole view, held, is the buffer held. -/
theorem all_listM (f : Buf (Elt F) ((V d (cV L) (jV L)).loc cc0_scratch0)) :
    (listM.view.loc (V d (cV L) (jV L)) ↦[listM.view.set]{fullShare} f : sProp 𝕄) = listM.view.loc (V d (cV L) (jV L)) ↦{fullShare} f := by
  rw [show listM.view.set = Finset.univ from View.set_whole _]
theorem all_rowsM (f : Buf (Elt F) ((V d (cV L) (jV L)).loc cc0_scratch1)) :
    (rowsM.view.loc (V d (cV L) (jV L)) ↦[rowsM.view.set]{fullShare} f : sProp 𝕄) = rowsM.view.loc (V d (cV L) (jV L)) ↦{fullShare} f := by
  rw [show rowsM.view.set = Finset.univ from View.set_whole _]
theorem all_entsM (f : Buf (Elt F) ((V d (cV L) (jV L)).loc cc0_scratch2)) :
    (entsM.view.loc (V d (cV L) (jV L)) ↦[entsM.view.set]{fullShare} f : sProp 𝕄) = entsM.view.loc (V d (cV L) (jV L)) ↦{fullShare} f := by
  rw [show entsM.view.set = Finset.univ from View.set_whole _]

/-! ## The subcore's own semaphores and scratch -/

abbrev cell (d : Dev nD) (c : Fin τ.nSC) (i : Fin τ.nSub) (s : DmaSems sig S_) : GSem nD τ sig := (V d c i, .dma s.sem)

/-- The five completion counters are among the subcore's own: they are them and the rest. -/
theorem ownSems0_five :
    (ownSems0 (V d (cV L) (jV L)) : sProp 𝕄)
      = iprop(semVal (cell d (cV L) (jV L) cc0_scoped0) 0 ∗ semVal (cell d (cV L) (jV L) cc0_scratch3) 0 ∗ semVal (cell d (cV L) (jV L) cc0_scratch4) 0
          ∗ semVal (cell d (cV L) (jV L) cc0_scoped1) 0 ∗ semVal (cell d (cV L) (jV L) cc0_scoped2) 0
          ∗ bigSep ((((((ownCells (V d (cV L) (jV L))).erase (cell d (cV L) (jV L) cc0_scoped0)).erase (cell d (cV L) (jV L) cc0_scratch3)).erase
              (cell d (cV L) (jV L) cc0_scratch4)).erase (cell d (cV L) (jV L) cc0_scoped1)).erase (cell d (cV L) (jV L) cc0_scoped2)) fun g => semVal g 0) := by
  have own (s : DmaSems sig S_) (h : (SemLoc.dma s.sem : SemLoc sig).isScoped .scVector = true) : cell d (cV L) (jV L) s ∈ ownCells (V d (cV L) (jV L)) :=
    mem_ownCells.mpr ⟨rfl, h⟩
  have ne (s t : DmaSems sig S_) (h : (SemLoc.dma s.sem : SemLoc sig) ≠ .dma t.sem) : cell d (cV L) (jV L) s ≠ cell d (cV L) (jV L) t :=
    fun e => h (congrArg Prod.snd e)
  unfold SparseCore.Cfg.ownSems0
  rw [SparseCore.bigSep_erase' (own cc0_scoped0 (by decide)),
    SparseCore.bigSep_erase' (Finset.mem_erase.mpr ⟨ne cc0_scratch3 cc0_scoped0 (by decide), own cc0_scratch3 (by decide)⟩),
    SparseCore.bigSep_erase' (Finset.mem_erase.mpr ⟨ne cc0_scratch4 cc0_scratch3 (by decide), Finset.mem_erase.mpr ⟨ne cc0_scratch4 cc0_scoped0 (by decide),
      own cc0_scratch4 (by decide)⟩⟩),
    SparseCore.bigSep_erase' (Finset.mem_erase.mpr ⟨ne cc0_scoped1 cc0_scratch4 (by decide), Finset.mem_erase.mpr ⟨ne cc0_scoped1 cc0_scratch3 (by decide),
      Finset.mem_erase.mpr ⟨ne cc0_scoped1 cc0_scoped0 (by decide), own cc0_scoped1 (by decide)⟩⟩⟩),
    SparseCore.bigSep_erase' (Finset.mem_erase.mpr ⟨ne cc0_scoped2 cc0_scoped1 (by decide), Finset.mem_erase.mpr ⟨ne cc0_scoped2 cc0_scratch4 (by decide),
      Finset.mem_erase.mpr ⟨ne cc0_scoped2 cc0_scratch3 (by decide), Finset.mem_erase.mpr ⟨ne cc0_scoped2 cc0_scoped0 (by decide), own cc0_scoped2 (by decide)⟩⟩⟩⟩)]

abbrev scr (c : Fin τ.nSC) (i : Fin τ.nSub) (b : Ref sig .scVector) : DevRef τ sig := (Proc.scVector c i).devRef b

/-- The three scratch buffers are among the subcore's own: they are them, at some contents, and the rest. -/
theorem ownBufs_three :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (scr (cV L) (jV L) cc0_scratch0)).erase (scr (cV L) (jV L) cc0_scratch1)).erase
              (scr (cV L) (jV L) cc0_scratch2)) fun b => iprop(∃ f, ((d, b) : Loc nD τ sig) ↦{fullShare} f)) := by
  have ne (s t : Ref sig .scVector) (h : s ≠ t) : scr (cV L) (jV L) s ≠ scr (cV L) (jV L) t := fun e => h (Proc.devRef_injective _ e)
  unfold SparseCore.Cfg.ownBufs
  refine (SparseCore.bigSep_erase' (SparseCore.Cfg.mem_ownRefs_of_owner (p := Proc.scVector (cV L) (jV L)) (b := scr (cV L) (jV L) cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := scr (cV L) (jV L) cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := scr (cV L) (jV L) cc0_scratch2) rfl⟩⟩)]

/-! ## The values the task moves -/

/-- Where request `k` of the task lies among all of them. -/
theorem reqK_read (f : Buf (Elt F) (reqLoc d)) (k : S128.Idx) : (reqK L).view.read (Elt F) f k = f ((reqK L).view.emb k) :=
  (View.read_apply _ _).trans (cast_eq _ _)

/-- The list the streams read is the task's requests, all in range. -/
theorem list_inRange (hreq : InRange req) (fs : Buf (Elt F) ((V d (cV L) (jV L)).loc cc0_scratch0)) (z : ℕ) (hz : z = 100000) :
    ∀ x, (listM.view.read (Elt F) (View.write (Elt F) listM.view fs ((reqK L).view.read (Elt F) (req d : Buf (Elt F) (reqLoc d))) Finset.univ) x).toNat < z := by
  intro x
  rw [View.write_whole_univ]
  simp only [Memref.view_whole, View.read_whole]
  rw [reqK_read d, hz]
  exact hreq d _

/-- An element of a whole-array slice is the array's own. -/
theorem emb_keysK (j : S100000x128.Idx) : (keysK).view.emb j = j := by
  funext a; apply Fin.ext
  show ((Rect.unit (s := S100000x128) ![0, 0] S100000x128.size inb_S100000x128_S100000x128_0_0).emb j a).val = _
  rw [Rect.emb_apply]
  match a with
  | 0 => show 0 + 1 * _ = _; omega
  | 1 => show 0 + 1 * _ = _; omega
theorem emb_classK (j : S100000.Idx) : (classK).view.emb j = j := by
  funext a; apply Fin.ext
  show ((Rect.unit (s := S100000) ![0] S100000.size inb_S100000_S100000_0).emb j a).val = _
  rw [Rect.emb_apply]
  match a with
  | 0 => show 0 + 1 * _ = _; omega

/-- Row `j 0` of the task's result part is answered by its request `j 0`; the column is `j 1`. -/
theorem emb_embK (j : S128x128.Idx) : (embK L).view.emb j = (ix2 ((reqK L).view.emb (ix1 (j 0)) 0) (j 1) : S4096x128.Idx) := by
  funext a; apply Fin.ext
  show ((rect2 L).emb j a).val = _
  rw [Rect.emb_apply]
  match a with
  | 0 =>
    show k0_off2 L 0 + 1 * (j 0).val = ((rect1 L).emb (ix1 (j 0)) 0).val
    rw [Rect.emb_apply]
    show _ = k0_off1 L 0 + 1 * (j 0).val
    rw [k0_off1_eq, k0_off2_eq]; rfl
  | 1 =>
    show k0_off2 L 1 + 1 * (j 1).val = (j 1).val
    rw [k0_off2_eq]; show 0 + 1 * _ = _; omega

/-- Entry `k` of a list of 128 words in row-major order is its word at `k`. -/
theorem unflat (k : Fin S128.numel) : S128.rowMajor.symm k = (ix1 (k.cast rfl) : S128.Idx) := by
  rw [Equiv.symm_apply_eq]
  apply Fin.ext
  rw [Shape.rowMajor_val_one]; rfl

/-- The row a stream's list names for its `k`-th entry, when the list holds the task's requests. -/
theorem rows_val {z : ℕ} (lst : S128.Idx → Elt F .i32) (hn : S128.numel = 128) (hin : ∀ x, (lst x).toNat < z) (k : Fin 128)
    (hk : (lst (ix1 k)).toNat < 100000) : (SparseCore.rows lst hn hin k).val = (rowNo (lst (ix1 k))).val := by
  rw [rowNo_val hk]
  show (lst (S128.rowMajor.symm (k.cast hn.symm))).toNat = _
  rw [unflat]; rfl

/-- One write of a whole view, read back, is what was written. -/
theorem read_one {sp : Space} {s : Shape} {e : EltTy} (v : View sig .scVector sp s e) (f : v.ty.Contents (Elt F)) (w : s.Idx → Elt F e) :
    v.read (Elt F) (v.writes (Elt F) f [⟨Rect.whole s, w⟩]) = w :=
  funext fun j => View.read_writes_cons_hit v f (Rect.whole s) w [] j j (Rect.emb_whole_apply s j)

/-- What the row stream and the copy out leave in the task's part of the first result: the named rows of `keys`. -/
theorem emb_value (hreq : InRange req) (lst : S128.Idx → Elt F .i32) (hl : lst = (reqK L).view.read (Elt F) (req d : Buf (Elt F) (reqLoc d)))
    (hn : S128.numel = 128) (hin : ∀ x, (lst x).toNat < S100000x128.size gathers_S100000x128_S128x128.axis)
    (fe : Buf (Elt F) (embLoc d)) (fk : Buf (Elt F) (keysLoc d)) (pay : S128x128.Idx → Elt F .f32)
    (hpay : pay = SparseCore.gatherPayload gathers_S100000x128_S128x128 ((keysK).view.read (Elt F) fk) (SparseCore.rows lst hn hin)) :
    ∀ i ∈ (embK L).view.set, (embK L).view.writes (Elt F) fe [⟨Rect.whole _, pay⟩] i = rowsOf fk (req d) i := by
  intro i hi
  obtain ⟨j, -, rfl⟩ := Finset.mem_map.mp hi
  refine (((View.read_apply _ _).trans (cast_eq _ _)).symm.trans (congrFun (read_one (embK L).view fe pay) j)).trans ?_
  rw [hpay, emb_embK L j]
  show (keysK).view.read (Elt F) fk (gathers_S100000x128_S128x128.idx _ j) = fk (ix2 (rowNo (req d (ix1 ((reqK L).view.emb (ix1 (j 0)) 0)))) (j 1))
  rw [show ∀ x, (keysK).view.read (Elt F) fk x = fk ((keysK).view.emb x) from fun x => (View.read_apply _ _).trans (cast_eq _ _), emb_keysK]
  have hlj : lst (ix1 (j 0)) = req d (ix1 ((reqK L).view.emb (ix1 (j 0)) 0)) := by
    rw [hl, reqK_read d]; exact congrArg (req d) (eq_ix1 _)
  congr 1
  funext a; apply Fin.ext
  match a with
  | 0 =>
    refine (congrArg Fin.val (Shape.Gathers.idx_axis gathers_S100000x128_S128x128 (SparseCore.rows lst hn hin) j)).trans ?_
    refine (rows_val lst hn hin (j 0) ?_).trans ?_
    · rw [hlj]; exact hreq d _
    · rw [hlj]
  | 1 => exact Shape.Gathers.idx_of_ne gathers_S100000x128_S128x128 (SparseCore.rows lst hn hin) j 1 (by decide)

/-- What the entry stream and the copy out leave in the task's part of the second result: the named entries of
    `key_classes`. -/
theorem cls_value (hreq : InRange req) (lst : S128.Idx → Elt F .i32) (hl : lst = (reqK L).view.read (Elt F) (req d : Buf (Elt F) (reqLoc d)))
    (hn : S128.numel = 128) (hin : ∀ x, (lst x).toNat < S100000.size gathers_S100000_S128.axis)
    (fc : Buf (Elt F) (clsLoc d)) (fk : Buf (Elt F) (classLoc d)) (pay : S128.Idx → Elt F .i32)
    (hpay : pay = SparseCore.gatherPayload gathers_S100000_S128 ((classK).view.read (Elt F) fk) (SparseCore.rows lst hn hin)) :
    ∀ i ∈ (clsK L).view.set, (clsK L).view.writes (Elt F) fc [⟨Rect.whole _, pay⟩] i = classesOf fk (req d) i := by
  intro i hi
  obtain ⟨j, -, rfl⟩ := Finset.mem_map.mp hi
  refine (((View.read_apply _ _).trans (cast_eq _ _)).symm.trans (congrFun (read_one (clsK L).view fc pay) j)).trans ?_
  rw [hpay]
  show (classK).view.read (Elt F) fk (gathers_S100000_S128.idx _ j) = fk (ix1 (rowNo (req d ((reqK L).view.emb j))))
  rw [show ∀ x, (classK).view.read (Elt F) fk x = fk ((classK).view.emb x) from fun x => (View.read_apply _ _).trans (cast_eq _ _), emb_classK]
  have hlj : lst (ix1 (j 0)) = req d ((reqK L).view.emb j) := by
    rw [hl, reqK_read d]; exact congrArg (fun x => req d ((reqK L).view.emb x)) (eq_ix1 j).symm
  congr 1
  funext a; apply Fin.ext
  match a with
  | 0 =>
    refine (congrArg Fin.val (Shape.Gathers.idx_axis gathers_S100000_S128 (SparseCore.rows lst hn hin) j)).trans ?_
    refine (rows_val lst hn hin (j 0) ?_).trans ?_
    · rw [hlj]; exact hreq d _
    · rw [hlj]

set_option maxHeartbeats 4000000 in
/-- THE TASK on vector subcore `(L 0, L 1)` of device `d`: from what its worker is handed it ends with its part of both
    results at the answers, its scratch and semaphores as they were. -/
theorem task_run [FloatOps F] (hF : (K (F := F)).Facts) (hreq : InRange req) (O : CellTallies nD τ sig (HIx 1)) (W : Waits sig (HIx 1)) (hO : ∀ g, O g none = 0) :
    iprop(levAts (K (F := F)).L (K (F := F)).lev ∗ emp ∗ handed m req d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L keysM (Memref.isWhole_whole _) classM (Memref.isWhole_whole _) reqM (Memref.isWhole_whole _)
            embM (Memref.isWhole_whole _) clsM (Memref.isWhole_whole _)
            listM (Memref.isWhole_whole _) rowsM (Memref.isWhole_whole _) entsM (Memref.isWhole_whole _) cc0_scratch3 cc0_scratch4 cc0_scoped0 cc0_scoped1 cc0_scoped2)
          fun _ => iprop(answered m req d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_five, ownBufs_three]
  iintro ⟨#Hlv, -, ⟨Hq, Hk, Hc, ⟨%fe, He⟩, ⟨%fc, Hu⟩⟩, ⟨⟨%fl, Hl⟩, ⟨%fr, Hr⟩, ⟨%fn, Hn⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hq := (Entails.of_eq (pts_reqK (F := F) d L _).symm) $$ Hq
  ihave He := (Entails.of_eq (pts_embK (F := F) d L _).symm) $$ He
  ihave Hu := (Entails.of_eq (pts_clsK (F := F) d L _).symm) $$ Hu
  ihave Hk := (Entails.of_eq (pts_keysK (F := F) d L _ _).symm) $$ Hk
  ihave Hc := (Entails.of_eq (pts_classK (F := F) d L _ _).symm) $$ Hc
  ihave Hl := (Entails.of_eq (pts_listM (F := F) d L _).symm) $$ Hl
  ihave Hr := (Entails.of_eq (pts_rowsM (F := F) d L _).symm) $$ Hr
  ihave Hn := (Entails.of_eq (pts_entsM (F := F) d L _).symm) $$ Hn
  have hin := list_inRange req d L hreq fl _ rfl
  have hlist : listM.view.read (Elt F) (View.write (Elt F) listM.view fl ((reqK L).view.read (Elt F) (req d : Buf (Elt F) (reqLoc d))) Finset.univ)
      = (reqK L).view.read (Elt F) (req d : Buf (Elt F) (reqLoc d)) := by
    rw [View.write_whole_univ]; simp only [Memref.view_whole, View.read_whole]
  ihave Hr := (Entails.of_eq (all_rowsM (F := F) d L _).symm) $$ Hr
  ihave Hn := (Entails.of_eq (all_entsM (F := F) d L _).symm) $$ Hn
  -- the requests into the list, the two streams and their waits, the two copies out
  sl_exec
  sl_step
  have hpe : task_run.sl.dma0_1 m req d L fl fr hin = SparseCore.gatherPayload gathers_S100000x128_S128x128
      ((keysK).view.read (Elt F) (m (keysLoc d))) (SparseCore.rows _ rfl hin) := read_one rowsM.view fr _
  have hpc : task_run.sl.dma0_2 m req d L fl fn hin = SparseCore.gatherPayload gathers_S100000_S128
      ((classK).view.read (Elt F) (m (classLoc d))) (SparseCore.rows _ rfl hin) := read_one entsM.view fn _
  ihave He := (Entails.of_eq (pointsTo_congr (emb_value req d L hreq _ hlist rfl hin fe (m (keysLoc d)) _ hpe))) $$ He
  ihave Hu := (Entails.of_eq (pointsTo_congr (cls_value req d L hreq _ hlist rfl hin fc (m (classLoc d)) _ hpc))) $$ Hu
  ihave Hr := (Entails.of_eq (all_rowsM (F := F) d L _)) $$ Hr
  ihave Hn := (Entails.of_eq (all_entsM (F := F) d L _)) $$ Hn
  isplitl [Hq Hk Hc He Hu]
  · isplitl [Hq]; · iapply (Entails.of_eq (pts_reqK (F := F) d L _)); iexact Hq
    isplitl [Hk]; · iapply (Entails.of_eq (pts_keysK (F := F) d L _ _)); iexact Hk
    isplitl [Hc]; · iapply (Entails.of_eq (pts_classK (F := F) d L _ _)); iexact Hc
    isplitl [He]
    · iapply (Entails.of_eq (pts_embK (F := F) d L _)); iexact He
    · iapply (Entails.of_eq (pts_clsK (F := F) d L _)); iexact Hu
  isplitl [Hl Hr Hn Hbufs]
  · isplitl [Hl]; · iexists _; iapply (Entails.of_eq (pts_listM (F := F) d L _)); iexact Hl
    isplitl [Hr]; · iexists _; iapply (Entails.of_eq (pts_rowsM (F := F) d L _)); iexact Hr
    isplitl [Hn]; · iexists _; iapply (Entails.of_eq (pts_entsM (F := F) d L _)); iexact Hn
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

end Cert.Proof.Gather

end
-- ==== Proof.Run.lean ====
/-
  The whole program around the tasks: the requests flattened, the call over the 32 workers, the two results folded back
  to their shapes.

  Both arrays of requests and results divide into the 32 workers' parts, and each table into 32 read shares, so a
  SparseCore is handed exactly its sixteen workers' shares and brings back exactly their answers. The run's final memory
  is stated in full: the arguments as they were, the first result the requested rows of `keys`, the second the requested
  entries of `key_classes` (`run_main`).
-/
module

public import proofs.«01_k».proof.Defs
public import proofs.«01_k».proof.Proof.Tile

@[expose] public section

noncomputable section

namespace Cert.Proof.Gather

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds
open Idealize.ShloMosaic.Tactic

variable {F : FTy → Type}

local notation "𝕄" => MT nD τ sig (HIx 1) (Elt F) ℕ UU ℕ

/-! ## The arrays divide into the workers' parts -/

/-- A subcore of a SparseCore and a worker number are the same thing. -/
def workers : Fin 2 × Fin 16 ≃ Fin 32 where
  toFun p := worker p.1 p.2
  invFun w := (⟨w.val % 2, Nat.mod_lt _ (by decide)⟩, ⟨w.val / 2, by omega⟩)
  left_inv p := Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-- Holding something for every worker is holding it for every subcore of every SparseCore. -/
theorem over_workers (Φ : Fin 32 → sProp 𝕄) :
    bigSep Finset.univ Φ = bigSep Finset.univ fun c : Fin 2 => bigSep Finset.univ fun s : Fin 16 => Φ (worker c s) := by
  rw [bigSep_univ_equiv workers Φ, bigSep_univ_prod]; rfl

theorem parts1_disjoint : ∀ i ∈ (Finset.univ : Finset (Fin 32)), ∀ j ∈ (Finset.univ : Finset (Fin 32)), i ≠ j → Disjoint (part1 i).set (part1 j).set :=
  fun _ _ _ _ h => Rect.part_disjoint div1 h
theorem parts2_disjoint : ∀ i ∈ (Finset.univ : Finset (Fin 32)), ∀ j ∈ (Finset.univ : Finset (Fin 32)), i ≠ j → Disjoint (part2 i).set (part2 j).set :=
  fun _ _ _ _ h => Rect.part_disjoint div2 h

variable (m : (ℓ : Loc nD τ sig) → Buf (Elt F) ℓ) (ρ : Dev nD → PrngReg)
variable (req : Dev nD → S4096.Idx → Elt F .i32)

/-- Each array whole is its 32 parts; each table whole is its 32 read shares. -/
theorem reqs_parts (d : Dev nD) (f : Buf (Elt F) (reqLoc d)) :
    (reqLoc d ↦{fullShare} f : sProp 𝕄) = bigSep Finset.univ fun w : Fin 32 => reqLoc d ↦[(part1 w).set]{fullShare} f := by
  rw [← pointsTo_biUnion Finset.univ (ℓ := reqLoc d) (fun w => (part1 w).set) parts1_disjoint, Rect.biUnion_part div1]
theorem embs_parts (d : Dev nD) (f : Buf (Elt F) (embLoc d)) :
    (embLoc d ↦{fullShare} f : sProp 𝕄) = bigSep Finset.univ fun w : Fin 32 => embPart d w f := by
  rw [← pointsTo_biUnion Finset.univ (ℓ := embLoc d) (fun w => (part2 w).set) parts2_disjoint, Rect.biUnion_part div2]
theorem clss_parts (d : Dev nD) (f : Buf (Elt F) (clsLoc d)) :
    (clsLoc d ↦{fullShare} f : sProp 𝕄) = bigSep Finset.univ fun w : Fin 32 => clsPart d w f := by
  rw [← pointsTo_biUnion Finset.univ (ℓ := clsLoc d) (fun w => (part1 w).set) parts1_disjoint, Rect.biUnion_part div1]
theorem keys_shares (d : Dev nD) : (keysLoc d ↦{fullShare} m (keysLoc d) : sProp 𝕄) = bigSep Finset.univ fun w : Fin 32 => keysPart m d w :=
  pointsTo_piecesOf Finset.univ (m (keysLoc d)) (o := 32) (by decide) fullShare
theorem class_shares (d : Dev nD) : (classLoc d ↦{fullShare} m (classLoc d) : sProp 𝕄) = bigSep Finset.univ fun w : Fin 32 => classPart m d w :=
  pointsTo_piecesOf Finset.univ (m (classLoc d)) (o := 32) (by decide) fullShare

/-- A worker's share with its two result parts at any contents is what it is handed. -/
theorem handed_of (d : Dev nD) (w : Fin 32) (fe : Buf (Elt F) (embLoc d)) (fc : Buf (Elt F) (clsLoc d)) :
    (iprop(reqPart req d w ∗ keysPart m d w ∗ classPart m d w ∗ embPart d w fe ∗ clsPart d w fc) : sProp 𝕄) ⊢ handed m req d w := by
  iintro ⟨Hq, Hk, Hc, He, Hu⟩
  isplitl [Hq]; · iexact Hq
  isplitl [Hk]; · iexact Hk
  isplitl [Hc]; · iexact Hc
  isplitl [He]; · iexists fe; iexact He
  iexists fc; iexact Hu

/-- The call's operands whole are what the 32 workers are handed. -/
theorem deal (d : Dev nD) (fe : Buf (Elt F) (embLoc d)) (fc : Buf (Elt F) (clsLoc d)) :
    (iprop((reqLoc d ↦{fullShare} (req d : Buf (Elt F) (reqLoc d))) ∗ (keysLoc d ↦{fullShare} m (keysLoc d)) ∗ (classLoc d ↦{fullShare} m (classLoc d))
        ∗ (embLoc d ↦{fullShare} fe) ∗ (clsLoc d ↦{fullShare} fc)) : sProp 𝕄)
      ⊢ bigSep Finset.univ fun w : Fin 32 => handed m req d w := by
  rw [reqs_parts, keys_shares, class_shares, embs_parts, clss_parts, ← bigSep_sep', ← bigSep_sep', ← bigSep_sep', ← bigSep_sep']
  exact bigSep_mono fun w _ => handed_of m req d w fe fc

/-- What the 32 workers bring back is the operands whole, the two results at the answers. -/
theorem collect (d : Dev nD) :
    (bigSep Finset.univ fun w : Fin 32 => answered m req d w)
      = (iprop((reqLoc d ↦{fullShare} (req d : Buf (Elt F) (reqLoc d))) ∗ (keysLoc d ↦{fullShare} m (keysLoc d)) ∗ (classLoc d ↦{fullShare} m (classLoc d))
        ∗ (embLoc d ↦{fullShare} (rowsOf (m (keysLoc d)) (req d) : Buf (Elt F) (embLoc d)))
        ∗ (clsLoc d ↦{fullShare} (classesOf (m (classLoc d)) (req d) : Buf (Elt F) (clsLoc d)))) : sProp 𝕄) := by
  rw [reqs_parts, keys_shares, class_shares, embs_parts, clss_parts, bigSep_sep', bigSep_sep', bigSep_sep', bigSep_sep']

/-! ## What the call hands over -/

/-- The worker on subcore `i` of SparseCore `c`, as the call numbers them. -/
abbrev wk (c : Fin ((K (F := F)).nCore 0)) (i : Fin ((K (F := F)).nSub 0)) : Fin 32 := worker (Fin.cast nCore_zero c) (Fin.cast nSub_zero i)

/-- A SparseCore takes its sixteen workers' shares and brings back their answers. -/
def P : (K (F := F)).Pay (nD := nD) (Val := Elt F) (Name := ℕ) (U := UU) where
  st := fun q d c => match q with | 0 => bigSep Finset.univ fun i : Fin ((K (F := F)).nSub 0) => handed m req d (wk (F := F) c i)
  dn := fun q d c => match q with | 0 => bigSep Finset.univ fun i : Fin ((K (F := F)).nSub 0) => answered m req d (wk (F := F) c i)
  go := fun q d c i => match q with | 0 => handed m req d (wk (F := F) c i)
  td := fun q d c i => match q with | 0 => answered m req d (wk (F := F) c i)
  x := fun _ _ => iprop(emp)

instance P_storable : (P (F := F) m req).IsStorable where
  st q d c := match q with
    | 0 => (inferInstance : BI.Storable (upEmb : UEmb _ 𝕄) (bigSep Finset.univ fun i : Fin ((K (F := F)).nSub 0) => handed m req d (wk (F := F) c i)))
  dn q d c := match q with
    | 0 => (inferInstance : BI.Storable (upEmb : UEmb _ 𝕄) (bigSep Finset.univ fun i : Fin ((K (F := F)).nSub 0) => answered m req d (wk (F := F) c i)))
  go q d c i := match q with | 0 => (inferInstance : BI.Storable (upEmb : UEmb _ 𝕄) (handed m req d (wk (F := F) c i)))
  td q d c i := match q with | 0 => (inferInstance : BI.Storable (upEmb : UEmb _ 𝕄) (answered m req d (wk (F := F) c i)))

theorem vecSplit : (K (F := F)).VecSplit' (P m req) 0 := by
  intro d c
  show (bigSep Finset.univ fun i : Fin ((K (F := F)).nSub 0) => handed m req d (wk (F := F) c i)) ⊢ |={Set.univ}=> iprop(
      (bigSep Finset.univ fun i : Fin ((K (F := F)).nSub 0) => handed m req d (wk (F := F) c i))
      ∗ ((bigSep Finset.univ fun i : Fin ((K (F := F)).nSub 0) => answered m req d (wk (F := F) c i))
        -∗ bigSep Finset.univ fun i : Fin ((K (F := F)).nSub 0) => answered m req d (wk (F := F) c i)))
  iintro H; imodintro
  isplitl [H]; · iexact H
  iintro H; iexact H

/-- All of the call's operands for both SparseCores, and all it hands back. -/
theorem st_all (d : Dev nD) : (bigSep Finset.univ fun c : Fin ((K (F := F)).nCore 0) => (P m req).st 0 d c) = bigSep Finset.univ fun w : Fin 32 => handed m req d w :=
  (over_workers (F := F) fun w => handed m req d w).symm
theorem dn_all (d : Dev nD) : (bigSep Finset.univ fun c : Fin ((K (F := F)).nCore 0) => (P m req).dn 0 d c) = bigSep Finset.univ fun w : Fin 32 => answered m req d w :=
  (over_workers (F := F) fun w => answered m req d w).symm

/-! ## Every subcore's task -/

variable [FloatOps F]

def at_ (c : Fin (grid0.bound 0)) (s : Fin (grid0.bound 1)) : grid0.Coords :=
  fun | 0 => c | 1 => s | ⟨_ + 2, h⟩ => absurd h (Nat.not_lt.2 (Nat.le_add_left _ _))

/-- The call's program on vector subcore `s` of SparseCore `c` is the task there. -/
theorem defs_vector (c : Fin τ.nSC) (s : Fin τ.nSub) :
    defs₀ (F := F) (.scVector c s) 0 ()
      = SparseCore.onTile hcore0 hsub0 (fun c s => cc0__gather_body (at_ c s) keysM (Memref.isWhole_whole _) classM (Memref.isWhole_whole _)
          reqM (Memref.isWhole_whole _) embM (Memref.isWhole_whole _) clsM (Memref.isWhole_whole _)
          listM (Memref.isWhole_whole _) rowsM (Memref.isWhole_whole _) entsM (Memref.isWhole_whole _) cc0_scratch3 cc0_scratch4 cc0_scoped0 cc0_scoped1 cc0_scoped2) ⟨⟩ c s := rfl

set_option maxRecDepth 16384 in
theorem tileObl (hreq : InRange req) : (K (F := F)).TileObl (D (F := F)) 𝒱 (P m req) v₀ 0 := by
  intro d c i O W hO _ _
  simp only [show (P m req).ox = fun _ _ => 0 from rfl, add_zero]
  have hc : ((K (F := F)).core 0 c).val < grid0.bound 0 := c.isLt
  have hi : ((K (F := F)).sub 0 i).val < grid0.bound 1 := i.isLt
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector]; simp only [SparseCore.onTile, hc, hi, and_self, ↓reduceDIte]
  refine (task_run m req d (at_ ⟨_, hc⟩ ⟨_, hi⟩) facts hreq O W hO).trans (wp_mono frame _ _ fun _ => ?_)
  show iprop(answered m req d (wk (F := F) c i) ∗ _) ⊢ iprop(answered m req d (wk (F := F) c i) ∗ _)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The ghost state at launch: the handshakes' rounds, nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m req).x q thr) := by
  have hx : (bigSep Finset.univ fun thr : Thread nD τ => bigSep Finset.univ fun q : Fin 1 => (P (F := F) m req).x q thr) = (iprop(emp) : sProp 𝕄) :=
    (bigSep_congr fun _ _ => bigSep_emp_const _).trans (bigSep_emp_const _)
  rw [hx, show (bigSep Finset.univ fun _ : Dev nD => (iprop(emp) : sProp 𝕄)) = iprop(emp) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program -/

abbrev askLoc (d : Dev nD) : Loc nD τ sig := (SparseCore.T d).loc main_arg2
abbrev outLoc (d : Dev nD) : Loc nD τ sig := (SparseCore.T d).loc main_v2
abbrev outcLoc (d : Dev nD) : Loc nD τ sig := (SparseCore.T d).loc main_v3

/-- The requests flat: argument 2 in row-major order. -/
def flat (d : Dev nD) : S4096.Idx → Elt F .i32 := shapeCast S4096 (m (askLoc d) : S256x16.Idx → Elt F .i32) shapeCasts_S256x16_S4096
/-- The two results as the program returns them. -/
def outE (d : Dev nD) : S256x16x128.Idx → Elt F .f32 :=
  shapeCast S256x16x128 (rowsOf (m (keysLoc d)) (flat m d)) shapeCasts_S4096x128_S256x16x128
def outC (d : Dev nD) : S256x16.Idx → Elt F .i32 :=
  shapeCast S256x16 (classesOf (m (classLoc d)) (flat m d)) shapeCasts_S4096_S256x16

omit [FloatOps F] in
/-- The TensorCore's eight arrays at launch. -/
theorem arrays (d : Dev nD) (W : (b : Ref sig .tc) → Buf (Elt F) ((d.tc : Thread nD τ).loc b)) :
    (unscopedBufs d W : sProp 𝕄) = iprop((keysLoc d ↦{fullShare} W main_arg0) ∗ (classLoc d ↦{fullShare} W main_arg1) ∗ (askLoc d ↦{fullShare} W main_arg2)
      ∗ (reqLoc d ↦{fullShare} W main_v0) ∗ (embLoc d ↦{fullShare} W main_v1_0) ∗ (clsLoc d ↦{fullShare} W main_v1_1)
      ∗ (outLoc d ↦{fullShare} W main_v2) ∗ (outcLoc d ↦{fullShare} W main_v3)) := by
  unfold unscopedBufs
  rw [show (Finset.univ.filter fun b : Ref sig .tc => ¬ b.isScoped) = {main_arg0, main_arg1, main_arg2, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- A reshape of one array into another, holding the two: the first is kept, the second takes its elements in row-major
    order. -/
theorem wp_reshape (m₀ : (ℓ : Loc nD τ sig) → Buf (Elt F) ℓ) {Λ : Labels} {α : Type} {defs : Defs nD τ sig (Elt F) Λ} (𝒱' : Variants) (bd) (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : (Proc.devRef .tc x : DevRef τ sig) ≠ Proc.devRef .tc y) (f : Buf (Elt F) ((SparseCore.T d).loc x)) (g : Buf (Elt F) ((SparseCore.T d).loc y))
    (Q : α → sProp 𝕄) (k : Prog (TpuEff nD τ sig (Elt F) Λ (SparseCore.T d).2) α) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f)
            ∗ ((SparseCore.T d).loc y ↦{fullShare} (fun i => he ▸ shapeCast y.ty.shape f hn i)))
          -∗ wp frame (wpE defs 𝒱' (SparseCore.T d) bd) Set.univ k Q)
        -∗ wp frame (wpE defs 𝒱' (SparseCore.T d) bd) Set.univ (hlo rfl (StableHlo.reshape x y he hn hx hy) (fun _ => k)) Q) := by
  let V : Valuation τ sig (Elt F) := Function.update (Function.update (fun b => m₀ (d, b)) (Proc.devRef .tc y) g) (Proc.devRef .tc x) f
  have hVx : V (Proc.devRef .tc x) = f := Function.update_self _ _ _
  have hVy : V (Proc.devRef .tc y) = g := (Function.update_of_ne hxy.symm _ _).trans (Function.update_self _ _ _)
  have held2 : ∀ W : Valuation τ sig (Elt F), (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    intro W
    unfold held
    rw [SparseCore.bigSep_insert' (by rw [Finset.mem_singleton]; exact hxy), bigSep_singleton]
  iintro ⟨Hb, Hx, Hy⟩ Hk
  iapply (wp_hlo_within 𝒱' (SparseCore.T d) bd Set.univ (op := StableHlo.reshape x y he hn hx hy) (S := {Proc.devRef .tc x, Proc.devRef .tc y})
    (Finset.Subset.refl _) (V := V) (hf := rfl)) $$ [Hb Hx Hy]
  · isplitl [Hb]; · iexact Hb
    rw [held2, hVx, hVy]
    isplitl [Hx]; · iexact Hx
    iexact Hy
  iintro ⟨Hb, Hh⟩
  ihave Hh := (Entails.of_eq ((held2 _).trans (by rw [reshape_result, reshape_result_ne _ _ _ _ _ _ _ (fun h => hxy (congrArg _ h)), hVx]))) $$ Hh
  icases Hh with ⟨Hx, Hy⟩
  iapply Hk
  isplitl [Hb]; · iexact Hb
  isplitl [Hx]; · iexact Hx
  iexact Hy

/-- What the program leaves: the arguments as they were and the two results. -/
abbrev FIN (d : Dev nD) : sProp 𝕄 :=
  iprop((keysLoc d ↦{fullShare} m (keysLoc d)) ∗ (classLoc d ↦{fullShare} m (classLoc d)) ∗ (askLoc d ↦{fullShare} m (askLoc d))
    ∗ (outLoc d ↦{fullShare} (outE m d : Buf (Elt F) (outLoc d))) ∗ (outcLoc d ↦{fullShare} (outC m d : Buf (Elt F) (outcLoc d))))

/-- The program on device `d`'s TensorCore: the requests flattened, the call, the two results folded. -/
theorem hmain (κ : GSem nD τ sig → ℕ) (d : Dev nD) :
    iprop((K (F := F)).ctx EH (P m (flat m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hk, Hc, Ha, Hq, He, Hu, Ho, Hp⟩, Hts, -⟩, -⟩
  iapply (wp_reshape m 𝒱 none d main_arg2 main_v0 rfl shapeCasts_S256x16_S4096 _ _ (by decide) _ _ _ _) $$ [Hb Ha Hq]
  · isplitl [Hb]; · iexact Hb
    isplitl [Ha]; · iexact Ha
    iexact Hq
  iintro ⟨Hb, Ha, Hq⟩
  rw [wp_ret]; imodintro
  ihave Hall := (deal m (flat m) d _ _) $$ [Hq Hk Hc He Hu]
  · isplitl [Hq]; · iexact Hq
    isplitl [Hk]; · iexact Hk
    isplitl [Hc]; · iexact Hc
    isplitl [He]; · iexact He
    iexact Hu
  iapply ((K (F := F)).wp_run (D (F := F)) 𝒱 (EH := EH) (P := P m (flat m)) κ d 0) $$ [Hst Hall Hb Ha Ho Hp Hts]
  isplitr; · iexact Hctx
  isplitl [Hst]; · iexact Hst
  isplitl [Hall]; · rw [st_all]; iexact Hall
  iintro ⟨Hst, Hdn⟩
  ihave Hdn := (Entails.of_eq ((dn_all m (flat m) d).trans (collect m (flat m) d))) $$ Hdn
  icases Hdn with ⟨-, Hk, Hc, He, Hu⟩
  iapply (wp_reshape m 𝒱 none d main_v1_0 main_v2 rfl shapeCasts_S4096x128_S256x16x128 _ _ (by decide) _ _ _ _) $$ [Hb He Ho]
  · isplitl [Hb]; · iexact Hb
    isplitl [He]; · iexact He
    iexact Ho
  iintro ⟨Hb, -, Ho⟩
  rw [wp_ret]; imodintro
  iapply (wp_reshape m 𝒱 none d main_v1_1 main_v3 rfl shapeCasts_S4096_S256x16 _ _ (by decide) _ _ _ _) $$ [Hb Hu Hp]
  · isplitl [Hb]; · iexact Hb
    isplitl [Hu]; · iexact Hu
    iexact Hp
  iintro ⟨Hb, -, Hp⟩
  rw [wp_ret]; imodintro; imodintro
  isplitl [Hst]; · iexact Hst
  isplitr [Hb Hts]
  · isplitl [Hk]; · iexact Hk
    isplitl [Hc]; · iexact Hc
    isplitl [Ha]; · iexact Ha
    isplitl [Ho]; · iexact Ho
    iexact Hp
  isplitl [Hb] <;> iassumption

/-- The facts a final memory owes the claims. -/
def fq (d : Dev nD) (s' : Phys nD τ sig (Elt F)) : Prop :=
  s'.mem.mem (keysLoc d) = m (keysLoc d) ∧ s'.mem.mem (classLoc d) = m (classLoc d) ∧ s'.mem.mem (askLoc d) = m (askLoc d)
    ∧ s'.mem.mem (outLoc d) = outE m d ∧ s'.mem.mem (outcLoc d) = outC m d

omit [FloatOps F] in
/-- Memory holds what is owned of it, and stays owned. -/
theorem mem_of (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

omit [FloatOps F] in
theorem hfin (d : Dev nD) (s' : Phys nD τ sig (Elt F)) : iprop(FIN m d ∗ SI s') ⊢ (⌜fq m d s'⌝ : sProp 𝕄) := by
  iintro ⟨⟨Hk, Hc, Ha, Ho, Hp⟩, HSI⟩
  ihave H := (mem_of (F := F) s' (keysLoc d) _) $$ [HSI Hk]; · isplitl [Hk] <;> iassumption
  icases H with ⟨%h1, HSI⟩
  ihave H := (mem_of (F := F) s' (classLoc d) _) $$ [HSI Hc]; · isplitl [Hc] <;> iassumption
  icases H with ⟨%h2, HSI⟩
  ihave H := (mem_of (F := F) s' (askLoc d) _) $$ [HSI Ha]; · isplitl [Ha] <;> iassumption
  icases H with ⟨%h3, HSI⟩
  ihave H := (mem_of (F := F) s' (outLoc d) _) $$ [HSI Ho]; · isplitl [Ho] <;> iassumption
  icases H with ⟨%h4, HSI⟩
  ihave H := (mem_of (F := F) s' (outcLoc d) _) $$ [HSI Hp]; · isplitl [Hp] <;> iassumption
  icases H with ⟨%h5, -⟩
  ipureintro; exact ⟨h1, h2, h3, h4, h5⟩

/-! ## The run -/

/-- What every final state owes: the facts on every device, and every semaphore back at zero. -/
def Final : PUnit × MemSt nD τ sig (Elt F) → Prop := fun r =>
  (∀ d : Dev nD, r.2.mem (keysLoc d) = m (keysLoc d) ∧ r.2.mem (classLoc d) = m (classLoc d) ∧ r.2.mem (askLoc d) = m (askLoc d)
    ∧ r.2.mem (outLoc d) = outE m d ∧ r.2.mem (outcLoc d) = outC m d) ∧ r.2.sem = fun _ => 0

/-- THE RUN: when every request names a row of the tables, the program runs to its end from any memory, keeps its
    arguments, leaves the two results at the requested rows and entries, and every semaphore at zero. -/
theorem run_main [∀ e, Nonempty (Elt F e)] (hask : ∀ (d : Dev nD) (j : S256x16.Idx), ((m (askLoc d) : S256x16.Idx → Elt F .i32) j).toNat < 100000) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m (flat m)) (A := ∅) facts v₀
    (fun q hq => match q with | 0 => nomatch hq)
    (fun q _ => match q with | 0 => tileObl m (flat m) fun d j => hask d _)
    (fun q _ => match q with | 0 => SparseCore.Cfg.VecSplit.of_plain (vecSplit m (flat m)))
    m ρ main (fun _ => iprop(emp)) (FIN m) (u₀ (F := F)) (sep_elim_left.trans (hu₀ m (flat m))) (hmain m ρ) (fq m) (hfin m) (Final m) (fun _ h hz => ⟨h, hz⟩)

end Cert.Proof.Gather

end
-- ==== Proof.Ref.lean ====
/-
  The reference's two `take`s read index by index, and the precondition read as a bound on every request.

  A `take` wraps negative indices, gathers at the wrapped ones, and replaces by a filler whatever was out of range; for
  requests that all name a row, the wrap does nothing and no filler is written, so result `(t, j)` is the table at the row
  that `(t, j)` requests (`take_rows`, `take_entries`). The kernel's results, folded back from their flat form, are the same
  (`outE_apply`, `outC_apply`).
-/
module

public import proofs.«01_k».proof.Defs
public import proofs.«01_k».proof.Proof.Run
public import proofs.«01_k».proof.Proof.Gen.ReferenceIdeal
public import proofs.«01_k».proof.Proof.Gen.ReferenceIdeal.Run
public import proofs.«01_k».proof.Proof.Gen.Pre_names_rows

@[expose] public section

noncomputable section

namespace Cert.Proof.Take

open Cert.ReferenceIdeal Cert.ReferenceIdeal.Gen
open Cert.Proof.Gather (rowNo rowNo_val rowsOf classesOf)
open Idealize.ShloMosaic Idealize.ShloMosaic.ValueIdx

variable {F : FTy → Type}

/-! ## A conjunction of bits over an axis -/

/-- A running conjunction over bits that are all set stays set. -/
theorem foldl_and_set {β : Type} (x : β → BitVec 1) (hx : ∀ n, x n = 1#1) : ∀ l : List β, l.foldl (fun r n => IntOp.andi r (x n)) 1#1 = 1#1
  | [] => rfl
  | a :: l => by
    rw [List.foldl_cons, hx a]
    exact foldl_and_set x hx l

/-- A running conjunction that ends set started set and met only set bits. -/
theorem foldl_and_inv {β : Type} (x : β → BitVec 1) : ∀ (l : List β) (r : BitVec 1),
    l.foldl (fun r n => IntOp.andi r (x n)) r = 1#1 → r = 1#1 ∧ ∀ n ∈ l, x n = 1#1
  | [], r, h => ⟨h, fun n hn => absurd hn List.not_mem_nil⟩
  | a :: l, r, h => by
    obtain ⟨hr, hl⟩ := foldl_and_inv x l _ h
    have hb : r = 1#1 ∧ x a = 1#1 := by
      have hr' : r &&& x a = 1#1 := hr
      rcases BitVec.eq_zero_or_eq_one r with h0 | h0 <;> rcases BitVec.eq_zero_or_eq_one (x a) with h1 | h1 <;>
        rw [h0, h1] at hr' <;> first | exact ⟨h0, h1⟩ | exact absurd hr' (by decide)
    refine ⟨hb.1, fun n hn => ?_⟩
    rcases List.mem_cons.mp hn with rfl | hn
    · exact hb.2
    · exact hl n hn

/-- The conjunction of set bits along axes is set. -/
theorem reduce_set {s t u : Shape} {dims} (x : s.Idx → BitVec 1) (v : u.Idx → BitVec 1) (h : s.ReducesTo dims t) (hu : 0 < u.numel)
    (hv : ∀ i, v i = 1#1) (hx : ∀ i, x i = 1#1) (j : t.Idx) : Host.reduce IntOp.andi x v h hu j = 1#1 := by
  unfold Host.reduce
  rw [hv]
  exact foldl_and_set _ (fun n => hx _) _

/-- A conjunction along axes that is set had only set bits among those it ran over. -/
theorem reduce_inv {s t u : Shape} {dims} (x : s.Idx → BitVec 1) (v : u.Idx → BitVec 1) (h : s.ReducesTo dims t) (hu : 0 < u.numel)
    (j : t.Idx) (hr : Host.reduce IntOp.andi x v h hu j = 1#1) (i : s.Idx) (hi : h.drop i = j) : x i = 1#1 := by
  unfold Host.reduce at hr
  have h1 := (foldl_and_inv _ _ _ hr).2 (s.rowMajor i)
    (List.mem_filter.mpr ⟨List.mem_finRange _, decide_eq_true (by rw [Equiv.symm_apply_apply]; exact hi)⟩)
  rwa [Equiv.symm_apply_apply] at h1

/-! ## A gather of whole rows -/

section Rows
variable {α : Type}

/-- Row `idx[t, j]` of a table at every `(t, j)`: element `(t, j, c)` is the table at the start index `idx[t, j, 0]`, read signed
    and clamped to the last row, and column `c`. -/
theorem gather_rows (x : S100000x128.Idx → α) (idx : IVec S256x16x1 32) (y : S256x16x128.Idx) :
    Host.gather gather_S100000x128_S256x16x1_S256x16x128_2_0_n_n_0_2_1128 x idx y
      = x (ix2 (⟨min (idx (ix3 (y 0) (y 1) (0 : Fin 1))).toInt.toNat 99999, by omega⟩ : Fin 100000) (y 2)) := by
  unfold Host.gather
  congr 1
  funext a
  refine Fin.ext ?_
  show GatherDims.start _ y idx a + GatherDims.batchCoord _ y a + GatherDims.offCoord _ y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl : (0 : Fin 2) ∈ ([0] : List (Fin 2)))).trans ?_
    refine congrArg (fun z => min (idx z).toInt.toNat 99999) (?_ : _ = ix3 (y 0) (y 1) (0 : Fin 1))
    funext b; refine Fin.ext ?_
    match b with
    | ⟨0, _⟩ => rfl
    | ⟨1, _⟩ => rfl
    | ⟨2, _⟩ => rfl
  | ⟨1, _⟩ =>
    unfold GatherDims.start
    exact (congrArg (· + GatherDims.offCoord gather_S100000x128_S256x16x1_S256x16x128_2_0_n_n_0_2_1128 y (1 : Fin 2))
      (dif_neg (by decide : (1 : Fin 2) ∉ ([0] : List (Fin 2))))).trans (Nat.zero_add _)

end Rows

/-! ## The two takes -/

/-- The start indices of a `take` at the requests `ask`: a negative one counted from the table's end, as one column more. -/
abbrev starts (ask : S256x16.Idx → BitVec 32) : IVec S256x16x1 32 :=
  broadcastInDim S256x16x1 ![0, 1] bcast_S256x16_S256x16x1_0_1
    (select (cmpi .slt ask (broadcastInDim S256x16 ![] bcast_S_S256x16 (constantI S_ 32 0#32)))
      (addi ask (broadcastInDim S256x16 ![] bcast_S_S256x16 (constantI S_ 32 100000#32))) ask)

/-- Whether each start index names a row. -/
abbrev inRange (ask : S256x16.Idx → BitVec 32) : IVec S256x16 1 :=
  Host.reduce IntOp.andi (andi (cmpi .sge (starts ask) (broadcastInDim S256x16x1 ![] bcast_S_S256x16x1 (constantI S_ 32 0#32)))
      (cmpi .sle (starts ask) (broadcastInDim S256x16x1 ![0, 1, 2] bcast_S1x1x1_S256x16x1_0_1_2
        (broadcastInDim S1x1x1 ![2] bcast_S1_S1x1x1_2 (constantI S1 32 99999#32)))))
    (constantI S_ 1 1#1) reducesTo_S256x16x1_S256x16_d2 h_S_

/-- A word below 100000 read signed is the word. -/
theorem toInt_small {w : BitVec 32} (h : w.toNat < 100000) : w.toInt = w.toNat := by
  rw [BitVec.toInt_eq_toNat_cond, if_pos (by omega)]

theorem not_neg {w : BitVec 32} (h : w.toNat < 100000) : IntOp.cmpi .slt w 0#32 = 0#1 := by
  show BitVec.ofBool (w.slt 0#32) = 0#1
  have h1 : w.slt 0#32 = false := by
    rw [BitVec.slt, decide_eq_false_iff_not, toInt_small h]; simp
  rw [h1]; rfl

theorem both_set {w : BitVec 32} (h : w.toNat < 100000) : IntOp.andi (IntOp.cmpi .sge w 0#32) (IntOp.cmpi .sle w 99999#32) = 1#1 := by
  show BitVec.ofBool ((0#32).sle w) &&& BitVec.ofBool (w.sle 99999#32) = 1#1
  have h1 : (0#32).sle w = true := by
    rw [BitVec.sle, decide_eq_true_iff, toInt_small h]; simp
  have h2 : w.sle 99999#32 = true := by
    rw [BitVec.sle, decide_eq_true_iff, toInt_small h, show (99999#32).toInt = 99999 from by decide]; omega
  rw [h1, h2]; decide

variable {ask : S256x16.Idx → BitVec 32}

/-- Requests that name rows are their own start indices. -/
theorem starts_apply (hin : ∀ j, (ask j).toNat < 100000) (y : S256x16x1.Idx) : starts ask y = ask (ix2 (y 0) (y 1)) := by
  have e : ∀ z, select (cmpi .slt ask (broadcastInDim S256x16 ![] bcast_S_S256x16 (constantI S_ 32 0#32)))
      (addi ask (broadcastInDim S256x16 ![] bcast_S_S256x16 (constantI S_ 32 100000#32))) ask z = ask z := fun z => by
    show Scalar.select (IntOp.cmpi .slt (ask z) 0#32) _ _ = _
    rw [not_neg (hin z)]; exact select_zero _ _
  show select _ _ _ _ = _
  rw [e]
  congr 1
  funext a
  match a with
  | ⟨0, _⟩ => rfl
  | ⟨1, _⟩ => rfl

/-- Requests that name rows are all in range. -/
theorem inRange_apply (hin : ∀ j, (ask j).toNat < 100000) (z : S256x16.Idx) : inRange ask z = 1#1 := by
  refine reduce_set _ (constantI S_ 1 1#1) _ h_S_ (fun _ => rfl) (fun i => ?_) z
  show IntOp.andi (IntOp.cmpi .sge (starts ask i) 0#32) (IntOp.cmpi .sle (starts ask i) 99999#32) = 1#1
  rw [starts_apply hin]
  exact both_set (hin _)

theorem clamp_row {v w : BitVec 32} (e : v = w) (h : w.toNat < 100000) (p) : (⟨min v.toInt.toNat 99999, p⟩ : Fin 100000) = rowNo w := by
  subst e
  exact Fin.ext ((show min v.toInt.toNat 99999 = v.toNat by rw [toInt_small h, Int.toNat_natCast]; omega).trans (rowNo_val h).symm)

/-- `take` of the `keys` table along its rows, at requests that name rows: element `(t, j, c)` is column `c` of the row `(t, j)`
    requests. -/
theorem take_rows (hin : ∀ j, (ask j).toNat < 100000) {α : Type} (keys fill : _ → α) (y : S256x16x128.Idx) :
    select (broadcastInDim S256x16x128 ![0, 1] bcast_S256x16_S256x16x128_0_1 (inRange ask))
        (Host.gather gather_S100000x128_S256x16x1_S256x16x128_2_0_n_n_0_2_1128 keys (starts ask)) fill y
      = keys (ix2 (rowNo (ask (ix2 (y 0) (y 1)))) (y 2)) := by
  show Scalar.select (inRange ask _) _ _ = _
  rw [inRange_apply hin, select_one, gather_rows]
  exact congrArg (fun r => keys (ix2 r (y 2))) (clamp_row (starts_apply hin _) (hin _) _)

/-- `take` of the `key_classes` table, at requests that name entries: element `(t, j)` is the entry `(t, j)` requests. -/
theorem take_entries (hin : ∀ j, (ask j).toNat < 100000) {α : Type} (classes fill : _ → α) (y : S256x16.Idx) :
    select (inRange ask) (Host.gather gather_S100000_S256x16x1_S256x16_n_0_n_n_0_2_1 classes (starts ask)) fill y
      = classes (ix1 (rowNo (ask y))) := by
  show Scalar.select (inRange ask y) _ _ = _
  rw [inRange_apply hin, select_one]
  refine (gather_take_apply (N := 100000) (R := 256) (C := 16) (by decide) _ classes (starts ask) y).trans ?_
  exact congrArg (fun r => classes (ix1 r)) (clamp_row ((starts_apply hin _).trans (congrArg ask (eq_ix2 y).symm)) (hin _) _)

/-! ## The kernel's results at an index -/

section Kernel
open Cert.Proof.Gather

variable {m : (ℓ : Loc Cert.KernelIdeal.nD Cert.KernelIdeal.τ Cert.KernelIdeal.sig) → Buf (Elt F) ℓ} (d : Dev Cert.KernelIdeal.nD)

/-- Request `16 t + j` of the flat list is request `(t, j)`. -/
theorem flat_apply (p : Fin 4096) (t : Fin 256) (j : Fin 16) (hp : p.val = 16 * t.val + j.val) :
    flat m d (ix1 p) = m (askLoc d) (ix2 t j) := by
  show m (askLoc d) (Shape.reshapeEquiv _ (ix1 p)) = _
  congr 1
  refine Shape.reshapeEquiv_eq_of_rowMajor _ ?_
  refine (Shape.rowMajor_val_two (d := ![256, 16]) (ix2 t j)).trans (Eq.trans ?_ (Shape.rowMajor_val_one (d := ![4096]) (ix1 p)).symm)
  show t.val * 16 + j.val = p.val
  omega

theorem outE_apply (y : S256x16x128.Idx) : outE m d y = m (keysLoc d) (ix2 (rowNo (m (askLoc d) (ix2 (y 0) (y 1)))) (y 2)) := by
  have hp : 16 * (y 0).val + (y 1).val < 4096 := by
    have h0 : (y 0).val < 256 := (y 0).isLt
    have h1 : (y 1).val < 16 := (y 1).isLt
    omega
  refine (congrArg (rowsOf (m (keysLoc d)) (flat m d)) (Shape.reshapeEquiv_eq_of_rowMajor _ (y := ix2 (⟨_, hp⟩ : Fin 4096) (y 2)) ?_)).trans ?_
  · refine (Shape.rowMajor_val_two (d := ![4096, 128]) _).trans (Eq.trans ?_ (Shape.rowMajor_val_three (d := ![256, 16, 128]) y).symm)
    show (16 * (y 0).val + (y 1).val) * 128 + (y 2).val = ((y 0).val * 16 + (y 1).val) * 128 + (y 2).val
    omega
  · exact congrArg (fun w => m (keysLoc d) (ix2 (rowNo w) (y 2))) (flat_apply d _ (y 0) (y 1) rfl)

theorem outC_apply (y : S256x16.Idx) : outC m d y = m (classLoc d) (ix1 (rowNo (m (askLoc d) y))) := by
  have hp : 16 * (y 0).val + (y 1).val < 4096 := by
    have h0 : (y 0).val < 256 := (y 0).isLt
    have h1 : (y 1).val < 16 := (y 1).isLt
    omega
  refine (congrArg (classesOf (m (classLoc d)) (flat m d)) (Shape.reshapeEquiv_eq_of_rowMajor _ (y := ix1 (⟨_, hp⟩ : Fin 4096)) ?_)).trans ?_
  · refine (Shape.rowMajor_val_one (d := ![4096]) _).trans (Eq.trans ?_ (Shape.rowMajor_val_two (d := ![256, 16]) y).symm)
    show 16 * (y 0).val + (y 1).val = (y 0).val * 16 + (y 1).val
    omega
  · exact congrArg (fun w => m (classLoc d) (ix1 (rowNo w))) ((flat_apply d _ (y 0) (y 1) rfl).trans (congrArg (m (askLoc d)) (eq_ix2 y).symm))

end Kernel

/-! ## The precondition -/

/-- A word that is at least 0 and below 100000, read signed, is below 100000. -/
theorem bound_of_bits {w : BitVec 32} (h : IntOp.andi (IntOp.cmpi .sge w 0#32) (IntOp.cmpi .slt w 100000#32) = 1#1) : w.toNat < 100000 := by
  have h' : BitVec.ofBool ((0#32).sle w) &&& BitVec.ofBool (w.slt 100000#32) = 1#1 := h
  have h2 : (0#32).sle w = true ∧ w.slt 100000#32 = true := by
    revert h'; cases (0#32).sle w <;> cases w.slt 100000#32 <;> decide
  obtain ⟨a, b⟩ := h2
  rw [BitVec.sle, decide_eq_true_iff, show (0#32).toInt = 0 from rfl] at a
  rw [BitVec.slt, decide_eq_true_iff, show (100000#32).toInt = 100000 from by decide] at b
  rw [BitVec.toInt_eq_toNat_cond] at a b
  have := w.isLt
  split at a <;> omega

/-- The precondition says that every request names a row. -/
theorem bound_of_pre [FloatOps F] [Cert.Pre_names_rows.Facts] (keys : FVec F Cert.Pre_names_rows.S100000x128 .f32) (classes : IVec Cert.Pre_names_rows.S100000 32) (ask : IVec Cert.Pre_names_rows.S256x16 32)
    (h : Cert.Pre_names_rows.fn keys classes ask = fun _ => 1#1) (j : Cert.Pre_names_rows.S256x16.Idx) : (ask j).toNat < 100000 :=
  bound_of_bits (reduce_inv _ (constantI Cert.Pre_names_rows.S_ 1 1#1) _ Cert.Pre_names_rows.Facts.h_S_ (fun a => a.elim0) (congrFun h _) j (funext fun a => a.elim0))

end Cert.Proof.Take

end
-- ==== Proof.Select.lean ====
/-
  THE SIXTEEN NEAREST, as a statement about a function from positions to extended reals: an order on
  positions (smaller value first, then smaller position), what it is to be the first sixteen in that order, that
  sixteen rounds of "take the first, overwrite it with infinity" find them, that the first sixteen of a longer
  range are found among the first sixteen of a shorter one and the positions added, and that a stable sort
  puts them first.
-/
module

public import Idealize.ShloMosaic.Lib.SortPrefix
public import Idealize.ShloMosaic.PureOps.Ideal.Laws

@[expose] public section

namespace Cert.Select

open Idealize.ShloMosaic

/-- Position `a` comes before position `b`: its value is smaller, or the values are equal and `a` is the smaller. -/
def Before (d : ℕ → EReal) (a b : ℕ) : Prop := d a < d b ∨ (d a = d b ∧ a < b)

theorem Before.trans {d : ℕ → EReal} {a b c : ℕ} (h : Before d a b) (h' : Before d b c) : Before d a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem Before.irrefl {d : ℕ → EReal} {a : ℕ} : ¬ Before d a a := by
  rintro (h | ⟨_, h⟩)
  · exact lt_irrefl _ h
  · exact lt_irrefl _ h

theorem Before.asymm {d : ℕ → EReal} {a b : ℕ} (h : Before d a b) : ¬ Before d b a := fun h' => Before.irrefl (h.trans h')

theorem Before.total {d : ℕ → EReal} {a b : ℕ} (h : a ≠ b) : Before d a b ∨ Before d b a := by
  rcases lt_trichotomy (d a) (d b) with h1 | h1 | h1
  · exact Or.inl (Or.inl h1)
  · rcases Nat.lt_or_gt_of_ne h with h2 | h2
    · exact Or.inl (Or.inr ⟨h1, h2⟩)
    · exact Or.inr (Or.inr ⟨h1.symm, h2⟩)
  · exact Or.inr (Or.inl h1)

/-- `s` lists, in order, the first sixteen of the positions below `M`. -/
structure IsTop (d : ℕ → EReal) (M : ℕ) (s : Fin 16 → ℕ) : Prop where
  /-- Each is a position below `M`. -/
  lt : ∀ j, s j < M
  /-- They are in order. -/
  inc : ∀ i j, i < j → Before d (s i) (s j)
  /-- Each comes before every position not listed. -/
  least : ∀ n, n < M → (∀ j, s j ≠ n) → ∀ j, Before d (s j) n

theorem IsTop.injective {d : ℕ → EReal} {M : ℕ} {s : Fin 16 → ℕ} (h : IsTop d M s) : Function.Injective s := by
  intro i j e
  by_contra hne
  rcases lt_or_gt_of_ne hne with hlt | hlt
  · exact Before.irrefl (e ▸ h.inc i j hlt)
  · exact Before.irrefl (e ▸ h.inc j i hlt)

/-- `p` is the first of the positions below `W`. -/
structure IsFirst (g : ℕ → EReal) (W : ℕ) (p : ℕ) : Prop where
  lt : p < W
  least : ∀ q, q < W → q ≠ p → Before g p q

/-- `k` rounds, at each of which the first position is overwritten with infinity: the values left. -/
structure IsRounds (W : ℕ) (g : ℕ → ℕ → EReal) (p : ℕ → ℕ) : Prop where
  first : ∀ k, k < 16 → IsFirst (g k) W (p k)
  next : ∀ k, k < 16 → ∀ q, q < W → g (k + 1) q = if q = p k then ⊤ else g k q

/-- After `k` rounds a position's value is infinite if it has been taken, and as at the start otherwise. -/
theorem IsRounds.value {W : ℕ} {g : ℕ → ℕ → EReal} {p : ℕ → ℕ} (h : IsRounds W g p) (k : ℕ) (hk : k ≤ 16) (q : ℕ) (hq : q < W) :
    ((∃ i, i < k ∧ p i = q) → g k q = ⊤) ∧ ((∀ i, i < k → p i ≠ q) → g k q = g 0 q) := by
  induction k with
  | zero => exact ⟨fun ⟨i, hi, _⟩ => absurd hi (Nat.not_lt_zero i), fun _ => rfl⟩
  | succ k ih =>
    obtain ⟨ih1, ih2⟩ := ih (by omega)
    rw [h.next k (by omega) q hq]
    constructor
    · rintro ⟨i, hi, e⟩
      split_ifs with hqk
      · rfl
      · refine ih1 ⟨i, ?_, e⟩
        rcases Nat.lt_succ_iff_lt_or_eq.mp hi with h1 | rfl
        · exact h1
        · exact absurd e.symm hqk
    · intro hi
      rw [if_neg fun e => hi k (Nat.lt_succ_self k) e.symm]
      exact ih2 fun i hik => hi i (by omega)

/-- If at least sixteen positions hold a finite value then at every round a position not yet taken does. -/
theorem IsRounds.exists_left {p : ℕ → ℕ} (c : Fin 16 → ℕ) (hc : Function.Injective c) (k : ℕ) (hk : k < 16) :
    ∃ j, ∀ i, i < k → p i ≠ c j := by
  classical
  by_contra hcon
  have hcon : ∀ j, ∃ i, i < k ∧ p i = c j := by
    intro j
    by_contra h'
    exact hcon ⟨j, fun i hi e => h' ⟨i, hi, e⟩⟩
  choose f hf hpf using hcon
  have hinj : Function.Injective fun j => (⟨f j, hf j⟩ : Fin k) := by
    intro i j e
    apply hc
    have e' : f i = f j := congrArg Fin.val e
    rw [← hpf i, ← hpf j, e']
  have := Fintype.card_le_of_injective _ hinj
  simp at this
  omega

/-- Sixteen rounds take the first sixteen positions, if at least sixteen hold a finite value; and at its round a
    position's value is the one it started with, finite. -/
theorem IsRounds.isTop {W : ℕ} {g : ℕ → ℕ → EReal} {p : ℕ → ℕ} (h : IsRounds W g p) (c : Fin 16 → ℕ)
    (hc : Function.Injective c) (hcW : ∀ j, c j < W) (hfin : ∀ j, g 0 (c j) < ⊤) :
    IsTop (g 0) W (fun j => p j) ∧ ∀ j : Fin 16, g j (p j) = g 0 (p j) ∧ g 0 (p j) < ⊤ := by
  have hlt : ∀ k, k < 16 → g k (p k) < ⊤ := by
    intro k hk
    obtain ⟨j, hj⟩ := IsRounds.exists_left (p := p) c hc k hk
    have e := (h.value k (by omega) (c j) (hcW j)).2 hj
    by_cases hp : c j = p k
    · rw [← hp, e]; exact hfin j
    · rcases (h.first k hk).least (c j) (hcW j) hp with h1 | ⟨h1, _⟩
      · rw [e] at h1; exact h1.trans (hfin j)
      · rw [h1, e]; exact hfin j
  have hnew : ∀ k, k < 16 → ∀ i, i < k → p i ≠ p k := by
    intro k hk i hi e
    have := (h.value k (by omega) (p k) (h.first k hk).lt).1 ⟨i, hi, e⟩
    exact absurd (hlt k hk) (by rw [this]; exact lt_irrefl _)
  have hval : ∀ k, k < 16 → g k (p k) = g 0 (p k) := fun k hk =>
    (h.value k (by omega) (p k) (h.first k hk).lt).2 (hnew k hk)
  have hbef : ∀ k, k < 16 → ∀ q, q < W → q ≠ p k → (∀ i, i < k → p i ≠ q) → Before (g 0) (p k) q := by
    intro k hk q hq hne hun
    have := (h.first k hk).least q hq hne
    unfold Before at this ⊢
    rwa [hval k hk, (h.value k (by omega) q hq).2 hun] at this
  refine ⟨⟨fun j => (h.first j j.isLt).lt, fun i j hij => ?_, fun n hn hj j => ?_⟩, fun j => ?_⟩
  · exact hbef i i.isLt (p j) (h.first j j.isLt).lt (fun e => hnew j j.isLt i hij e.symm)
      (fun l hl => hnew j j.isLt l (lt_trans hl hij))
  · exact hbef j j.isLt n hn (fun e => hj j e.symm) (fun i hi => hj ⟨i, by omega⟩)
  · exact ⟨hval j j.isLt, hval j j.isLt ▸ hlt j j.isLt⟩

/-- A step over a further block. `d` are the values of all positions; `s` lists the first sixteen below `B`. Of the
    candidates `g`, the first sixteen hold the values at `s` and the rest those of the block of positions from `B`. The
    first sixteen candidates, each read as the position it stands for, are then the first sixteen below `B + L`. -/
theorem IsTop.step {d : ℕ → EReal} {B L : ℕ} {s : Fin 16 → ℕ} (hs : IsTop d B s) {g : ℕ → EReal} {φ : ℕ → ℕ} {p : Fin 16 → ℕ}
    (hφs : ∀ j : Fin 16, φ j = s j) (hφb : ∀ l, l < L → φ (16 + l) = B + l) (hg : ∀ q, q < 16 + L → g q = d (φ q))
    (hp : IsTop g (16 + L) p) : IsTop d (B + L) (fun j => φ (p j)) := by
  classical
  have hφ1 : ∀ q (hq : q < 16), φ q = s ⟨q, hq⟩ := fun q hq => hφs ⟨q, hq⟩
  have hφ2 : ∀ q, 16 ≤ q → q < 16 + L → φ q = B + (q - 16) := by
    intro q h1 h2
    have := hφb (q - 16) (by omega)
    rwa [Nat.add_sub_cancel' h1] at this
  have hmono : ∀ q q', q < 16 + L → q' < 16 + L → Before g q q' → Before d (φ q) (φ q') := by
    intro q q' hq hq' hb
    rcases hb with hb | ⟨hb, hlt⟩
    · exact Or.inl (by rwa [← hg q hq, ← hg q' hq'])
    · have e : d (φ q) = d (φ q') := by rwa [← hg q hq, ← hg q' hq']
      by_cases h1 : q < 16
      · by_cases h2 : q' < 16
        · rw [hφ1 q h1, hφ1 q' h2]
          exact hs.inc ⟨q, h1⟩ ⟨q', h2⟩ hlt
        · refine Or.inr ⟨e, ?_⟩
          rw [hφ1 q h1, hφ2 q' (by omega) hq']
          have := hs.lt ⟨q, h1⟩
          omega
      · refine Or.inr ⟨e, ?_⟩
        rw [hφ2 q (by omega) hq, hφ2 q' (by omega) hq']
        omega
  have hold : ∀ (j : Fin 16) n, n < B → (∀ i, s i ≠ n) → Before d (φ (p j)) n := by
    intro j n hn hi
    by_cases hall : ∀ i : Fin 16, ∃ j', p j' = i
    · choose f hf using hall
      have hinj : Function.Injective f := by
        intro a b e
        apply Fin.ext
        rw [← hf a, ← hf b, e]
      obtain ⟨i, hfi⟩ := (Finite.injective_iff_surjective.mp hinj) j
      have e : p j = i := by rw [← hfi]; exact hf i
      rw [e, hφs i]
      exact hs.least n hn hi i
    · obtain ⟨i, hni⟩ := not_forall.mp hall
      have hb := hp.least i (by omega) (fun j' e => hni ⟨j', e⟩) j
      have := hmono _ _ (hp.lt j) (by omega) hb
      rw [hφs i] at this
      exact this.trans (hs.least n hn hi i)
  refine ⟨fun j => ?_, fun i j hij => hmono _ _ (hp.lt i) (hp.lt j) (hp.inc i j hij), fun n hn hne j => ?_⟩
  · have := hp.lt j
    by_cases h1 : p j < 16
    · simp only [hφ1 _ h1]
      have := hs.lt ⟨p j, h1⟩
      omega
    · simp only [hφ2 _ (Nat.le_of_not_lt h1) this]
      omega
  · by_cases hnB : n < B
    · by_cases hns : ∃ i, s i = n
      · obtain ⟨i, rfl⟩ := hns
        rw [← hφs i]
        refine hmono _ _ (hp.lt j) (by omega) (hp.least i (by omega) (fun j' e => hne j' ?_) j)
        show φ (p j') = s i
        rw [e, hφs i]
      · exact hold j n hnB fun i e => hns ⟨i, e⟩
    · have e : n = φ (16 + (n - B)) := by rw [hφb (n - B) (by omega)]; omega
      rw [e]
      refine hmono _ _ (hp.lt j) (by omega) (hp.least _ (by omega) (fun j' e' => hne j' ?_) j)
      show φ (p j') = n
      rw [e', ← e]

/-- The first block. The first sixteen candidates are infinite and the rest hold a block's values, the positions from
    zero; at least the listed candidates are finite. Less sixteen, the first candidates are the first positions. -/
theorem IsTop.start {d : ℕ → EReal} {L : ℕ} {g : ℕ → EReal} {p : Fin 16 → ℕ} (hg0 : ∀ q, q < 16 → g q = ⊤)
    (hg : ∀ l, l < L → g (16 + l) = d l) (hp : IsTop g (16 + L) p) (hfin : ∀ j, g (p j) < ⊤) :
    (∀ j, 16 ≤ p j) ∧ IsTop d L (fun j => p j - 16) := by
  have h16 : ∀ j, 16 ≤ p j := by
    intro j
    by_contra hlt
    have := hfin j
    rw [hg0 _ (by omega)] at this
    exact lt_irrefl _ this
  have hg' : ∀ q, 16 ≤ q → q < 16 + L → g q = d (q - 16) := by
    intro q h1 h2
    have := hg (q - 16) (by omega)
    rwa [Nat.add_sub_cancel' h1] at this
  have hmono : ∀ q q', 16 ≤ q → 16 ≤ q' → q < 16 + L → q' < 16 + L → Before g q q' → Before d (q - 16) (q' - 16) := by
    intro q q' h1 h1' h2 h2' hb
    unfold Before at hb ⊢
    rw [hg' q h1 h2, hg' q' h1' h2'] at hb
    exact hb.imp_right fun h => ⟨h.1, by omega⟩
  refine ⟨h16, ⟨fun j => ?_, fun i j hij => hmono _ _ (h16 i) (h16 j) (hp.lt i) (hp.lt j) (hp.inc i j hij), fun n hn hne j => ?_⟩⟩
  · have := hp.lt j
    have := h16 j
    show p j - 16 < L
    omega
  · have hb := hp.least (16 + n) (by omega) (fun j' e => hne j' (by show p j' - 16 = n; omega)) j
    have := hmono _ _ (h16 j) (by omega) (hp.lt j) (by omega) hb
    rwa [Nat.add_sub_cancel_left] at this

/-! ## A stable sort -/

/-- A stable sort of a list in increasing order asks its comparison only of a larger and a smaller element, in that
    order: two comparisons that agree on those sort alike. -/
theorem stableSort_congr_inc {n : ℕ} (R R' : Fin n → Fin n → Bool) (h : ∀ a b, a < b → R b a = R' b a) :
    ∀ l : List (Fin n), l.Pairwise (· < ·) → stableSort R l = stableSort R' l
  | [], _ => rfl
  | a :: l, hl => by
    obtain ⟨h1, h2⟩ := List.pairwise_cons.mp hl
    have ih := stableSort_congr_inc R R' h l h2
    show insertBefore R a (stableSort R l) = insertBefore R' a (stableSort R' l)
    rw [ih]
    exact insertBefore_congr R R' a _ fun b hb => h a b (h1 b ((perm_stableSort R' l).mem_iff.mp hb))

/-- A sort of the positions below `n` by their values alone, the smaller first, puts the first sixteen first. -/
theorem sortedFrom_eq {n : ℕ} (hn : 16 ≤ n) (d : ℕ → EReal) {s : Fin 16 → ℕ} (hs : IsTop d n s) (R : Fin n → Fin n → Bool)
    (hR : ∀ a b, R a b = decide (d a < d b)) (i : Fin 16) : (sortedFrom R (i.castLE hn)).val = s i := by
  classical
  set B : Fin n → Fin n → Bool := fun a b =>
    (decide (d a < d b)) || (decide (d a = d b) && decide (a < b)) with hBdef
  have hBiff : ∀ a b : Fin n, B a b = true ↔ Before d a b := by
    intro a b
    simp [hBdef, Before]
  have hBnot : ∀ a b : Fin n, Before d b a → B a b = false := by
    intro a b h
    rw [← Bool.not_eq_true, hBiff]
    exact h.asymm
  have hB : StrictTotalBefore B := by
    refine StrictTotalBefore.of_key_then_position (fun x y : EReal => decide (x < y)) (fun a : Fin n => d a) ?_ ?_ ?_
    · intro a; simp
    · intro a b c h1 h2
      simp only [decide_eq_true_eq] at h1 h2 ⊢
      exact h1.trans h2
    · intro a b
      simp only [decide_eq_true_eq]
      exact lt_trichotomy a b
  have hsort : sortPositions n R = sortPositions n B := by
    refine stableSort_congr_inc R B (fun a b hab => ?_) _ (List.pairwise_lt_finRange n)
    rw [hR, hBdef]
    have : ¬ b < a := not_lt.mpr hab.le
    simp [this]
  have e : sortedFrom R (i.castLE hn) = sortedFrom B (i.castLE hn) := by
    unfold sortedFrom
    rw [List.get_of_eq hsort]
    rfl
  rw [e, StrictTotalBefore.sortedFrom_eq_of_prefix hB hn (fun j => ⟨s j, hs.lt j⟩) ?_ ?_ ?_ i]
  · intro a b h
    exact hs.injective (congrArg Fin.val h)
  · intro a b hab
    exact hBnot _ _ (hs.inc a b hab)
  · intro a q hq
    exact hBnot _ _ (hs.least q q.isLt (fun j h => hq j (Fin.ext h)) a)

end Cert.Select

end
-- ==== Proof.Rounds.lean ====
/-
  THE ROUNDS OF THE SELECTION as vector operations: of a block of candidates, one row a query, the row minima, the mask of each
  row's first candidate that attains its minimum, the candidates with those overwritten by infinity, and the column of the
  taken candidates' numbers. Each is read at a row, and sixteen of them in turn make `IsRounds`.
-/
module

public import proofs.«01_k».proof.Proof.Select
public import Idealize.ShloMosaic.Lib.Pointwise
public import Idealize.ShloMosaic.Lib.WordCmp

@[expose] public section

noncomputable section

namespace Cert.Rounds

open Idealize.ShloMosaic Cert.Select

/-- One row of candidates a query. -/
abbrev Wide : Shape := ⟨2, ![256, 5016]⟩
/-- One entry a query, as a column. -/
abbrev Col : Shape := ⟨2, ![256, 1]⟩
/-- One entry a query. -/
abbrev Line : Shape := ⟨1, ![256]⟩
/-- Sixteen entries a query. -/
abbrev Out : Shape := ⟨2, ![256, 16]⟩

theorem red : Wide.Reduces [1] Line := by decide
theorem col : Line.ShapeCasts Col := by decide
theorem bro : Col.Broadcasts Wide := by decide

/-- The row minima. -/
def rowMin (cv : FVec Ideal Wide .f32) : FVec Ideal Line .f32 :=
  multiReduction .minimumf [1] Line cv 0x7F800000#32 red (.inl rfl) rfl

/-- The first position at which each row attains its minimum. -/
def rowPos (io : IVec Wide 32) (cv : FVec Ideal Wide .f32) : IVec Line 32 :=
  multiReductionI .minsi [1] Line
    (select (cmpf .oeq cv (broadcastTo Wide (shapeCast Col (rowMin cv) col) bro)) io (broadcast Wide 5016#32))
    2147483647#32 red rfl

/-- One where that position is, zero elsewhere. -/
def mask (io : IVec Wide 32) (cv : FVec Ideal Wide .f32) : IVec Wide 1 :=
  cmpi .eq io (broadcastTo Wide (shapeCast Col (rowPos io cv) col) bro)

/-- The candidates left. -/
def next (io : IVec Wide 32) (cv : FVec Ideal Wide .f32) : FVec Ideal Wide .f32 :=
  select (mask io cv) (broadcast Wide (Scalar.ofBits (F := Ideal) .f32 0x7F800000#32)) cv

/-- The minima as a column. -/
def valCol (cv : FVec Ideal Wide .f32) : FVec Ideal Col .f32 := shapeCast Col (rowMin cv) col

/-- The numbers, in `ci`, of the candidates taken, as a column. -/
def idxCol (io ci : IVec Wide 32) (cv : FVec Ideal Wide .f32) : IVec Col 32 :=
  shapeCast Col (multiReductionI .maxsi [1] Line (select (mask io cv) ci (broadcast Wide 0#32)) 2147483648#32 red rfl) col

/-- A candidate's own position. -/
def pos : IVec Wide 32 := iota .tc Wide 32 [1] (by decide)

/-! ## Folds -/

/-- A fold by an operation that returns one of its two operands, of the smaller key: its key is at most the start's and every
    operand's, and it is the start or an operand. -/
theorem fold_pick {ι α κ : Type} [DecidableEq ι] [LinearOrder κ] (op : α → α → α) [Std.Commutative op] [Std.Associative op]
    (key : α → κ) (hop : ∀ a b, (op a b = a ∧ key a ≤ key b) ∨ (op a b = b ∧ key b ≤ key a)) (s : Finset ι) (f : ι → α) (z : α) :
    key (s.fold op z f) ≤ key z ∧ (∀ i ∈ s, key (s.fold op z f) ≤ key (f i)) ∧
      (s.fold op z f = z ∨ ∃ i ∈ s, s.fold op z f = f i) := by
  induction s using Finset.induction_on with
  | empty => exact ⟨le_of_eq (by rw [Finset.fold_empty]), fun i hi => absurd hi (Finset.notMem_empty i), Or.inl (by rw [Finset.fold_empty])⟩
  | insert a s has ih =>
    obtain ⟨h1, h2, h3⟩ := ih
    rw [Finset.fold_insert has]
    rcases hop (f a) (s.fold op z f) with ⟨e, hle⟩ | ⟨e, hle⟩ <;> rw [e]
    · refine ⟨hle.trans h1, fun i hi => ?_, Or.inr ⟨a, Finset.mem_insert_self a s, rfl⟩⟩
      rcases Finset.mem_insert.mp hi with rfl | hi
      · exact le_rfl
      · exact hle.trans (h2 i hi)
    · refine ⟨h1, fun i hi => ?_, ?_⟩
      · rcases Finset.mem_insert.mp hi with rfl | hi
        · exact hle
        · exact h2 i hi
      · rcases h3 with h3 | ⟨i, hi, h3⟩
        · exact Or.inl h3
        · exact Or.inr ⟨i, Finset.mem_insert_of_mem hi, h3⟩

theorem minsi_pick (a b : BitVec 32) : (IntOp.minsi a b = a ∧ a.toInt ≤ b.toInt) ∨ (IntOp.minsi a b = b ∧ b.toInt ≤ a.toInt) := by
  unfold IntOp.minsi
  by_cases h : a.slt b = true
  · rw [if_pos h]; rw [BitVec.slt_iff_toInt_lt] at h; exact Or.inl ⟨rfl, h.le⟩
  · rw [if_neg h]; rw [BitVec.slt_iff_toInt_lt] at h; exact Or.inr ⟨rfl, not_lt.mp h⟩

theorem maxsi_pick (a b : BitVec 32) : (IntOp.maxsi a b = a ∧ -a.toInt ≤ -b.toInt) ∨ (IntOp.maxsi a b = b ∧ -b.toInt ≤ -a.toInt) := by
  unfold IntOp.maxsi
  by_cases h : b.slt a = true
  · rw [if_pos h]; rw [BitVec.slt_iff_toInt_lt] at h; exact Or.inl ⟨rfl, by omega⟩
  · rw [if_neg h]; rw [BitVec.slt_iff_toInt_lt] at h; exact Or.inr ⟨rfl, by omega⟩

theorem min_pick (a b : EReal) : (min a b = a ∧ a ≤ b) ∨ (min a b = b ∧ b ≤ a) := by
  rcases le_total a b with h | h
  · exact Or.inl ⟨min_eq_left h, h⟩
  · exact Or.inr ⟨min_eq_right h, h⟩

theorem ofBits_inf : Ideal.ofBits .f32 0x7F800000#32 = ⊤ := by simp [Ideal.ofBits, Ideal.ieee]

theorem toInt_ofNat {q : ℕ} (hq : q < 2 ^ 31) : (BitVec.ofNat 32 q).toInt = q := by
  rw [BitVec.toInt_eq_toNat_of_lt] <;> rw [BitVec.toNat_ofNat, Nat.mod_eq_of_lt (by omega)]
  omega

/-! ## A round read at a row -/

/-- Row `r`'s candidate at position `q`; infinity past the end. -/
def cell (cv : FVec Ideal Wide .f32) (r : Fin 256) (q : ℕ) : EReal := if h : q < 5016 then cv (ix2 r ⟨q, h⟩) else ⊤

theorem cell_val (cv : FVec Ideal Wide .f32) (r : Fin 256) (q : Fin 5016) : cell cv r q = cv (ix2 r q) := dif_pos q.isLt

/-- The least of finitely many, from infinity: at most each, and infinity or one of them. -/
theorem fold_min {ι : Type} [Fintype ι] [DecidableEq ι] (f : ι → EReal) (m : EReal) (e : m = Finset.univ.fold min (⊤ : EReal) f) :
    (∀ i, m ≤ f i) ∧ (m = ⊤ ∨ ∃ i, m = f i) := by
  obtain ⟨-, h2, h3⟩ := fold_pick (α := EReal) min (fun x : EReal => x) min_pick Finset.univ f ⊤
  subst e
  exact ⟨fun i => h2 i (Finset.mem_univ i), h3.imp_right fun ⟨i, _, h⟩ => ⟨i, h⟩⟩

/-- The row minimum is at most every candidate and is one of them. -/
theorem rowMin_spec (cv : FVec Ideal Wide .f32) (r : Fin 256) :
    (∀ q : Fin 5016, rowMin cv (ix1 r) ≤ cv (ix2 r q)) ∧ ∃ q : Fin 5016, rowMin cv (ix1 r) = cv (ix2 r q) := by
  have e : rowMin cv (ix1 r) = Finset.univ.fold min (⊤ : EReal) (fun q : Fin 5016 => cv (ix2 r q)) := by
    pointwise [rowMin]
    rw [ofBits_inf]
  obtain ⟨h2, h3⟩ := fold_min _ _ e
  refine ⟨h2, ?_⟩
  rcases h3 with h3 | h3
  · exact ⟨⟨0, by omega⟩, le_antisymm (h2 _) (by rw [h3]; exact le_top)⟩
  · exact h3

/-- The position found is the row's first, and its candidate is the row minimum. -/
theorem rowPos_spec (cv : FVec Ideal Wide .f32) (r : Fin 256) :
    ∃ p : ℕ, p < 5016 ∧ rowPos pos cv (ix1 r) = BitVec.ofNat 32 p ∧ IsFirst (cell cv r) 5016 p ∧ rowMin cv (ix1 r) = cell cv r p := by
  obtain ⟨m1, q0, m2⟩ := rowMin_spec cv r
  set f : Fin 5016 → BitVec 32 := fun q => if cv (ix2 r q) = rowMin cv (ix1 r) then BitVec.ofNat 32 q else 5016#32 with hf
  have e : rowPos pos cv (ix1 r) = Finset.univ.fold IntOp.minsi 2147483647#32 f := by
    pointwise [rowPos, pos]
    rw [hf]
  obtain ⟨h1, h2, h3⟩ := fold_pick IntOp.minsi BitVec.toInt minsi_pick Finset.univ f 2147483647#32
  rw [← e] at h1 h2 h3
  have hq0 : f q0 = BitVec.ofNat 32 q0 := by rw [hf]; simp only; rw [if_pos m2.symm]
  have hle0 : (rowPos pos cv (ix1 r)).toInt ≤ q0.val := by
    have := h2 q0 (Finset.mem_univ _)
    rwa [hq0, toInt_ofNat (by omega)] at this
  have hb1 : (2147483647#32).toInt = 2147483647 := by decide
  have hb2 : (5016#32).toInt = 5016 := by decide
  rcases h3 with h3 | ⟨p, _, h3⟩
  · rw [h3, hb1] at hle0; omega
  · by_cases hp : cv (ix2 r p) = rowMin cv (ix1 r)
    · have hfp : f p = BitVec.ofNat 32 p := by rw [hf]; simp only; rw [if_pos hp]
      refine ⟨p, p.isLt, h3.trans hfp, ⟨p.isLt, fun q hq hne => ?_⟩, by rw [cell_val, hp]⟩
      have hq1 : cell cv r q = cv (ix2 r ⟨q, hq⟩) := cell_val cv r ⟨q, hq⟩
      unfold Before
      rw [cell_val, hp, hq1]
      rcases lt_or_eq_of_le (m1 ⟨q, hq⟩) with hlt | heq
      · exact Or.inl hlt
      · refine Or.inr ⟨heq, ?_⟩
        have hfq : f ⟨q, hq⟩ = BitVec.ofNat 32 q := by rw [hf]; simp only; rw [if_pos heq.symm]
        have := h2 ⟨q, hq⟩ (Finset.mem_univ _)
        rw [h3, hfp, hfq, toInt_ofNat (by omega), toInt_ofNat (by omega)] at this
        omega
    · have hfp : f p = 5016#32 := by rw [hf]; simp only; rw [if_neg hp]
      rw [h3, hfp, hb2] at hle0; omega

/-- A round at row `r`: there is a position, the row's first; the minimum found is its candidate; what is left is the
    candidates with that one overwritten; and the number found is the one in `ci` there, if that is not negative. -/
theorem round_spec (cv : FVec Ideal Wide .f32) (r : Fin 256) :
    ∃ p : Fin 5016, IsFirst (cell cv r) 5016 p ∧ valCol cv (ix2 r 0) = cell cv r p
      ∧ (∀ q, q < 5016 → cell (next pos cv) r q = if q = p then ⊤ else cell cv r q)
      ∧ (∀ ci : IVec Wide 32, 0 ≤ (ci (ix2 r p)).toInt → idxCol pos ci cv (ix2 r 0) = ci (ix2 r p)) := by
  obtain ⟨p, hp, e, hfirst, hmin⟩ := rowPos_spec cv r
  have hmask : ∀ q : Fin 5016, mask pos cv (ix2 r q) = BitVec.ofBool (decide (q.val = p)) := by
    intro q
    have e1 : mask pos cv (ix2 r q) = IntOp.cmpi .eq (BitVec.ofNat 32 q) (rowPos pos cv (ix1 r)) := by
      pointwise [mask, pos]
    rw [e1, e, WordCmp.cmpi_eq_ofNat (by omega) (by omega)]
  refine ⟨⟨p, hp⟩, hfirst, ?_, fun q hq => ?_, fun ci hci => ?_⟩
  · rw [← hmin]
    pointwise [valCol]
  · have e1 : next pos cv (ix2 r ⟨q, hq⟩) = Scalar.select (mask pos cv (ix2 r ⟨q, hq⟩)) ⊤ (cv (ix2 r ⟨q, hq⟩)) := by
      pointwise [next]
      rw [ofBits_inf]
    have e2 : cell (next pos cv) r q = next pos cv (ix2 r ⟨q, hq⟩) := cell_val _ r ⟨q, hq⟩
    have e3 : cell cv r q = cv (ix2 r ⟨q, hq⟩) := cell_val _ r ⟨q, hq⟩
    rw [e2, e3, e1, hmask]
    unfold Scalar.select
    by_cases h : q = p
    · simp [h]
    · simp [h]
  · set f : Fin 5016 → BitVec 32 := fun q => if q.val = p then ci (ix2 r q) else 0#32 with hf
    have e1 : idxCol pos ci cv (ix2 r 0) = Finset.univ.fold IntOp.maxsi 2147483648#32 f := by
      have e2 : f = fun q => Scalar.select (mask pos cv (ix2 r q)) (ci (ix2 r q)) 0#32 := by
        funext q
        rw [hmask, hf]
        unfold Scalar.select
        by_cases h : q.val = p
        · simp [h]
        · simp [h]
      rw [e2]
      pointwise [idxCol]
    obtain ⟨h1, h2, h3⟩ := fold_pick IntOp.maxsi (fun b : BitVec 32 => -b.toInt) maxsi_pick Finset.univ f 2147483648#32
    rw [← e1] at h1 h2 h3
    have hfp : f ⟨p, hp⟩ = ci (ix2 r ⟨p, hp⟩) := by rw [hf]; simp
    have hge := h2 ⟨p, hp⟩ (Finset.mem_univ _)
    simp only [hfp] at hge
    rcases h3 with h3 | ⟨q, _, h3⟩
    · rw [h3] at hge
      have : (2147483648#32).toInt = -2147483648 := by decide
      rw [this] at hge
      omega
    · by_cases h : q.val = p
      · have : q = ⟨p, hp⟩ := Fin.ext h
        rw [h3, this, hfp]
      · have hfq : f q = 0#32 := by rw [hf]; simp [h]
        rw [h3, hfq] at hge
        have h0 : (0#32).toInt = 0 := by decide
        rw [h0] at hge
        rw [h3, hfq]
        apply BitVec.eq_of_toInt_eq
        rw [h0]
        omega

/-! ## Sixteen columns side by side -/

/-- The list of sixteen columns. -/
abbrev cols {α : Type} (f : ℕ → Col.Idx → α) : List ((s : Shape) × (s.Idx → α)) :=
  [⟨Col, f 0⟩, ⟨Col, f 1⟩, ⟨Col, f 2⟩, ⟨Col, f 3⟩, ⟨Col, f 4⟩, ⟨Col, f 5⟩, ⟨Col, f 6⟩, ⟨Col, f 7⟩, ⟨Col, f 8⟩, ⟨Col, f 9⟩,
    ⟨Col, f 10⟩, ⟨Col, f 11⟩, ⟨Col, f 12⟩, ⟨Col, f 13⟩, ⟨Col, f 14⟩, ⟨Col, f 15⟩]

/-- Laid side by side, they read at a place as the column the place names, at its row. -/
theorem concat_cols {α : Type} (f : ℕ → Col.Idx → α) (h : Shape.Concatenates ((cols f).map (·.1)) Out 1) :
    concatenate Out 1 (cols f) h = fun j => f (j 1).val (ix2 (j 0) 0) := by
  have e : cols f = List.ofFn fun n : Fin 16 => (⟨Col, f n⟩ : (s : Shape) × (s.Idx → α)) := rfl
  have key : ∀ (l : List ((s : Shape) × (s.Idx → α))) (hl : Shape.Concatenates (l.map (·.1)) Out 1), l = cols f →
      concatenate Out 1 l hl = concatenate Out 1 (cols f) h := by
    intro l hl el
    subst el
    rfl
  have h' : Shape.Concatenates ((List.ofFn fun n : Fin 16 => (⟨Col, f n⟩ : (s : Shape) × (s.Idx → α))).map (·.1)) Out 1 := e ▸ h
  rw [← key _ h' e.symm]
  funext j
  have h1 : Col.size ((1 : Fin Out.rank).cast h'.ofFn_fits.rank_eq.symm) = 1 := rfl
  refine (concatenate_ofFn_unit_apply' (s₁ := Col) (t := Out) 1 (fun n : Fin 16 => f n) h' h1 j).trans ?_
  congr 1
  pointwise

/-! ## Sixteen rounds -/

/-- The candidates left after `k` rounds. -/
def after (cv : FVec Ideal Wide .f32) : ℕ → FVec Ideal Wide .f32
  | 0 => cv
  | k + 1 => next pos (after cv k)

/-- The values taken, in order. -/
def vals (cv : FVec Ideal Wide .f32) : FVec Ideal Out .f32 := fun j => valCol (after cv (j 1).val) (ix2 (j 0) 0)

/-- The numbers taken, in order. -/
def idxs (ci : IVec Wide 32) (cv : FVec Ideal Wide .f32) : IVec Out 32 := fun j => idxCol pos ci (after cv (j 1).val) (ix2 (j 0) 0)

/-- If at least sixteen of row `r`'s candidates are finite, the values and the numbers taken are those of the row's first sixteen
    candidates, which are finite. -/
theorem taken (cv : FVec Ideal Wide .f32) (r : Fin 256) (hfin : ∀ j : Fin 16, cell cv r (16 + j) < ⊤) :
    ∃ p : Fin 16 → Fin 5016, IsTop (cell cv r) 5016 (fun j => (p j).val)
      ∧ ∀ j, vals cv (ix2 r j) = cell cv r (p j) ∧ cell cv r (p j) < ⊤
        ∧ ∀ ci : IVec Wide 32, 0 ≤ (ci (ix2 r (p j))).toInt → idxs ci cv (ix2 r j) = ci (ix2 r (p j)) := by
  choose p h1 h2 h3 h4 using fun k => round_spec (after cv k) r
  have hr : IsRounds 5016 (fun k => cell (after cv k) r) (fun k => (p k).val) :=
    ⟨fun k _ => h1 k, fun k _ q hq => h3 k q hq⟩
  obtain ⟨t1, t2⟩ := hr.isTop (fun j => 16 + j.val) (fun i j e => Fin.ext (by simpa using e)) (fun j => by omega) hfin
  refine ⟨fun j => p j.val, t1, fun j => ⟨?_, (t2 j).2, fun ci hci => h4 j ci hci⟩⟩
  exact (h2 j).trans (t2 j).1

end Cert.Rounds

end
-- ==== Proof.ExactValue.lean ====
/-
  WHAT THE EXACT SELECTION'S BODY LEAVES at a grid point: of the scratch it carries, the values and the numbers of sixteen
  rounds over the candidates of that point.
-/
module

public import proofs.«01_k».proof.Proof.Rounds
public import proofs.«01_k».proof.Proof.Gen.ExactIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.ExactIdeal.Value

open Cert.ExactIdeal Cert.ExactIdeal.Gen Cert.Rounds

theorem hz2 : (![0, 0] : Fin 2 → Nat) = fun _ => 0 := funext fun a => by fin_cases a <;> rfl
theorem hz3 : (![0, 0, 0] : Fin 3 → Nat) = fun _ => 0 := funext fun a => by fin_cases a <;> rfl

/-- The first round's mask. -/
theorem pay7_eq (x1 : Vec Ideal S256x128 .f32) (x3 : Vec Ideal S5000x128 .f32) (x2 : Vec Ideal S1x1x5000 .f32) (x0 : Vec Ideal S256x1 .f32)
    (xs0 : Vec Ideal S256x16 .f32) : k0_pay7 x1 x3 x2 x0 xs0 = mask pos (k0_pay4 x1 x3 x2 x0 xs0) := rfl

/-- The first round's minima. -/
theorem pay8_eq (x1 : Vec Ideal S256x128 .f32) (x3 : Vec Ideal S5000x128 .f32) (x2 : Vec Ideal S1x1x5000 .f32) (x0 : Vec Ideal S256x1 .f32)
    (xs0 : Vec Ideal S256x16 .f32) : k0_pay8 (k0_pay6 x1 x3 x2 x0 xs0) = valCol (k0_pay4 x1 x3 x2 x0 xs0) := rfl

/-- The first round's numbers. -/
theorem pay9_eq (ci : IVec S256x5016 32) (cv : FVec Ideal S256x5016 .f32) : k0_pay9 ci (mask pos cv) = idxCol pos ci cv := rfl

/-- The values stored are those of sixteen rounds. -/
theorem vals_of_cols (cv : FVec Ideal S256x5016 .f32) {v : FVec Ideal S256x16 .f32}
    (h : v = concatenate S256x16 1 (cols fun k => valCol (after cv k)) concatenates_S256x1_S256x1_S256x1_S256x1_S256x1_S256x1_S256x1_S256x1_S256x1_S256x1_S256x1_S256x1_S256x1_S256x1_S256x1_S256x1_S256x16_d1) : v = vals cv :=
  h.trans (concat_cols (fun k => valCol (after cv k)) concatenates_S256x1_S256x1_S256x1_S256x1_S256x1_S256x1_S256x1_S256x1_S256x1_S256x1_S256x1_S256x1_S256x1_S256x1_S256x1_S256x1_S256x16_d1)

/-- The numbers stored are those of sixteen rounds. -/
theorem idxs_of_cols (ci : IVec S256x5016 32) (cv : FVec Ideal S256x5016 .f32) {v : IVec S256x16 32}
    (h : v = concatenate S256x16 1 (cols fun k => idxCol pos ci (after cv k)) concatenates_S256x1_S256x1_S256x1_S256x1_S256x1_S256x1_S256x1_S256x1_S256x1_S256x1_S256x1_S256x1_S256x1_S256x1_S256x1_S256x1_S256x16_d1) : v = idxs ci cv :=
  h.trans (concat_cols (fun k => idxCol pos ci (after cv k)) concatenates_S256x1_S256x1_S256x1_S256x1_S256x1_S256x1_S256x1_S256x1_S256x1_S256x1_S256x1_S256x1_S256x1_S256x1_S256x1_S256x1_S256x16_d1)

/-- At the first point the values carried on are those of sixteen rounds over the point's candidates. -/
theorem sout_A_0 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : cond0_0 i) (hc1 : ¬cond0_1 i)
    (x0 : Vec Ideal S256x1 .f32) (x1 : Vec Ideal S256x128 .f32) (x2 : Vec Ideal S1x1x5000 .f32) (x3 : Vec Ideal S5000x128 .f32) :
    sout0_A_0 (F := Ideal) c i arg1 harg1 arg2 harg2 arg3 harg3 arg4 harg4 arg5 harg5 arg6 harg6 arg7 harg7 arg8 harg8 hc0 hc1 x0 x1 x2 x3
      = vals (k0_pay4 x1 x3 x2 x0 (k0_pay2 (F := Ideal))) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x16) hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 (k0_pay2 (F := Ideal)) = cv
  exact (shapeCast_self _ _).trans (vals_of_cols cv rfl)

/-- At the first point the numbers carried on are those of sixteen rounds over the point's candidates. -/
theorem sout_A_1 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : cond0_0 i) (hc1 : ¬cond0_1 i)
    (x0 : Vec Ideal S256x1 .f32) (x1 : Vec Ideal S256x128 .f32) (x2 : Vec Ideal S1x1x5000 .f32) (x3 : Vec Ideal S5000x128 .f32) :
    sout0_A_1 (F := Ideal) c i arg1 harg1 arg2 harg2 arg3 harg3 arg4 harg4 arg5 harg5 arg6 harg6 arg7 harg7 arg8 harg8 hc0 hc1 x0 x1 x2 x3
      = idxs (k0_pay5 (F := Ideal) i k0_pay3) (k0_pay4 x1 x3 x2 x0 (k0_pay2 (F := Ideal))) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x16) hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 (k0_pay2 (F := Ideal)) = cv
  generalize k0_pay5 (F := Ideal) i k0_pay3 = ci
  exact (shapeCast_self _ _).trans (idxs_of_cols ci cv rfl)

/-- At a point between the values carried on are those of sixteen rounds over the point's candidates. -/
theorem sout_B_0 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : ¬cond0_0 i) (hc1 : ¬cond0_1 i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    sout0_B_0 (F := Ideal) c i arg1 harg1 arg2 harg2 arg3 harg3 arg4 harg4 arg5 harg5 arg6 harg6 arg7 harg7 arg8 harg8 hc0 hc1 x0 x1 x2 x3 xs0 xs1
      = vals (k0_pay4 x1 x3 x2 x0 xs0) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 xs0 = cv
  exact (shapeCast_self _ _).trans (vals_of_cols cv rfl)

/-- At a point between the numbers carried on are those of sixteen rounds over the point's candidates. -/
theorem sout_B_1 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : ¬cond0_0 i) (hc1 : ¬cond0_1 i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    sout0_B_1 (F := Ideal) c i arg1 harg1 arg2 harg2 arg3 harg3 arg4 harg4 arg5 harg5 arg6 harg6 arg7 harg7 arg8 harg8 hc0 hc1 x0 x1 x2 x3 xs0 xs1
      = idxs (k0_pay5 (F := Ideal) i xs1) (k0_pay4 x1 x3 x2 x0 xs0) := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 xs0 = cv
  generalize k0_pay5 (F := Ideal) i xs1 = ci
  exact (shapeCast_self _ _).trans (idxs_of_cols ci cv rfl)

/-- At the last point the values put out are those of sixteen rounds over the point's candidates. -/
theorem out_C_4 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : ¬cond0_0 i) (hc1 : cond0_1 i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    out0_C_4 (F := Ideal) c i arg1 harg1 arg2 harg2 arg3 harg3 arg4 harg4 arg5 harg5 arg6 harg6 arg7 harg7 arg8 harg8 hc0 hc1 x0 x1 x2 x3 xs0 xs1
      = vals (k0_pay4 x1 x3 x2 x0 xs0) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 xs0 = cv
  exact (shapeCast_self _ _).trans (vals_of_cols cv rfl)

/-- At the last point the numbers put out are those of sixteen rounds over the point's candidates. -/
theorem out_C_5 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole)
    (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole)
    (arg7 : Memref sig .tc .vmem S256x16 .f32) (harg7 : arg7.IsWhole) (arg8 : Memref sig .tc .vmem S256x16 .i32) (harg8 : arg8.IsWhole) (hc0 : ¬cond0_0 i) (hc1 : cond0_1 i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    out0_C_5 (F := Ideal) c i arg1 harg1 arg2 harg2 arg3 harg3 arg4 harg4 arg5 harg5 arg6 harg6 arg7 harg7 arg8 harg8 hc0 hc1 x0 x1 x2 x3 xs0 xs1
      = idxs (k0_pay5 (F := Ideal) i xs1) (k0_pay4 x1 x3 x2 x0 xs0) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, pay7_eq, pay8_eq, pay9_eq]
  generalize k0_pay4 x1 x3 x2 x0 xs0 = cv
  generalize k0_pay5 (F := Ideal) i xs1 = ci
  exact (shapeCast_self _ _).trans (idxs_of_cols ci cv rfl)

end Cert.ExactIdeal.Value

end
-- ==== Proof.Carry.lean ====
/-
  A list of sixteen best keys carried from block to block of a table of distances: after the blocks below `n` it holds, in
  order, the first sixteen keys below `n` and their distances, and sixteen rounds over it and the next block's distances keep
  that true (`Held.first`, `Held.more`).
-/
module

public import proofs.«01_k».proof.Proof.Select
public import proofs.«01_k».proof.Proof.Rounds

@[expose] public section

noncomputable section

namespace Cert.Rounds

open Idealize.ShloMosaic Cert.Select

/-- Row `r` of `bv` and `bi` holds the first sixteen keys below `n` by the distances `d`: the distances and the numbers. -/
def Held (d : ℕ → EReal) (n : ℕ) (r : Fin 256) (bv : FVec Ideal Out .f32) (bi : IVec Out 32) : Prop :=
  ∃ s : Fin 16 → ℕ, IsTop d n s ∧ ∀ j : Fin 16, bv (ix2 r j) = d (s j) ∧ bi (ix2 r j) = BitVec.ofNat 32 (s j)

/-- A key number read signed is the number. -/
theorem key_nonneg {n : ℕ} (h : n < 100000) : 0 ≤ (BitVec.ofNat 32 n).toInt := by
  rw [toInt_ofNat (by omega)]; omega

/-- The first block: rounds over sixteen infinities and the block's distances. -/
theorem Held.first {d : ℕ → EReal} {r : Fin 256} {cv : FVec Ideal Wide .f32} {ci : IVec Wide 32} (hd : ∀ l, l < 5000 → d l < ⊤)
    (h0 : ∀ q : Fin 5016, q.val < 16 → cv (ix2 r q) = ⊤) (h1 : ∀ q : Fin 5016, 16 ≤ q.val → cv (ix2 r q) = d (q.val - 16))
    (hi : ∀ q : Fin 5016, 16 ≤ q.val → ci (ix2 r q) = BitVec.ofNat 32 (q.val - 16)) : Held d 5000 r (vals cv) (idxs ci cv) := by
  have c0 : ∀ q, q < 16 → cell cv r q = ⊤ := fun q hq => (dif_pos (by omega)).trans (h0 ⟨q, by omega⟩ hq)
  have c1 : ∀ l, l < 5000 → cell cv r (16 + l) = d l := fun l hl =>
    (dif_pos (by omega)).trans ((h1 ⟨16 + l, by omega⟩ (Nat.le_add_right _ _)).trans (congrArg d (Nat.add_sub_cancel_left 16 l)))
  obtain ⟨p, hp, hv⟩ := taken cv r (fun j => by rw [c1 _ (by omega)]; exact hd _ (by omega))
  obtain ⟨h16, htop⟩ := IsTop.start (d := d) (L := 5000) c0 c1 hp (fun j => (hv j).2.1)
  refine ⟨_, htop, fun j => ⟨?_, ?_⟩⟩
  · rw [(hv j).1, cell_val, h1 _ (h16 j)]
  · rw [(hv j).2.2 ci (by rw [hi _ (h16 j)]; exact key_nonneg (by omega)), hi _ (h16 j)]

/-- A further block: rounds over the list carried and the block's distances. -/
theorem Held.more {d : ℕ → EReal} {B : ℕ} (hB : B + 5000 ≤ 100000) {r : Fin 256} {bv : FVec Ideal Out .f32} {bi : IVec Out 32}
    (hs : Held d B r bv bi) {cv : FVec Ideal Wide .f32} {ci : IVec Wide 32} (hd : ∀ l, l < B + 5000 → d l < ⊤)
    (h0 : ∀ (q : Fin 5016) (h : q.val < 16), cv (ix2 r q) = bv (ix2 r ⟨q.val, h⟩))
    (h1 : ∀ q : Fin 5016, 16 ≤ q.val → cv (ix2 r q) = d (B + (q.val - 16)))
    (i0 : ∀ (q : Fin 5016) (h : q.val < 16), ci (ix2 r q) = bi (ix2 r ⟨q.val, h⟩))
    (i1 : ∀ q : Fin 5016, 16 ≤ q.val → ci (ix2 r q) = BitVec.ofNat 32 (B + (q.val - 16))) :
    Held d (B + 5000) r (vals cv) (idxs ci cv) := by
  obtain ⟨s, htop, hs⟩ := hs
  set φ : ℕ → ℕ := fun q => if h : q < 16 then s ⟨q, h⟩ else B + (q - 16) with hφ
  have f0 : ∀ q (h : q < 16), φ q = s ⟨q, h⟩ := fun q h => dif_pos h
  have f1 : ∀ q, 16 ≤ q → φ q = B + (q - 16) := fun q h => dif_neg (by omega)
  have hc : ∀ q : Fin 5016, cv (ix2 r q) = d (φ q) ∧ ci (ix2 r q) = BitVec.ofNat 32 (φ q) := fun q => by
    by_cases h : q.val < 16
    · rw [h0 q h, i0 q h, f0 q h]; exact hs _
    · rw [h1 q (by omega), i1 q (by omega), f1 q (by omega)]; exact ⟨rfl, rfl⟩
  have hb : ∀ q : Fin 5016, φ q < 100000 := fun q => by
    by_cases h : q.val < 16
    · rw [f0 q h]; have := htop.lt ⟨q, h⟩; omega
    · rw [f1 q (by omega)]; omega
  have hcell : ∀ q, q < 16 + 5000 → cell cv r q = d (φ q) := fun q hq => (dif_pos (by omega)).trans (hc ⟨q, by omega⟩).1
  obtain ⟨p, hp, hv⟩ := taken cv r (fun j => by
    rw [hcell _ (by omega), f1 _ (by omega)]; exact hd _ (by omega))
  refine ⟨fun j => φ (p j), htop.step (L := 5000) (fun j => f0 j j.isLt) (fun l _ => ?_) hcell hp, fun j => ⟨?_, ?_⟩⟩
  · rw [f1 _ (by omega), Nat.add_sub_cancel_left]
  · rw [(hv j).1, cell_val]; exact (hc _).1
  · rw [(hv j).2.2 ci (by rw [(hc _).2]; exact key_nonneg (hb _)), (hc _).2]

end Cert.Rounds

end
-- ==== Proof.Dist.lean ====
/-
  The distance of a query to a key, and two facts of it at finite inputs: doubling and negating the query before the sum of
  products is subtracting twice the sum, and the distance is finite.
-/
module

public import Idealize.ShloMosaic.Lib.Pointwise
public import Idealize.ShloMosaic.PureOps.Ideal.Laws

@[expose] public section

noncomputable section

namespace Cert.Dist

open Idealize.ShloMosaic

/-- 256 queries of 128 coordinates. -/
abbrev Queries : Shape := ⟨2, ![256, 128]⟩
/-- 100000 keys of 128 coordinates. -/
abbrev Keys : Shape := ⟨2, ![100000, 128]⟩

/-- The distance of query `r` to key `l`: the root of the two squared lengths less twice the sum of products, held above a
    small constant. -/
def dist (x : Queries.Idx → EReal) (k : Keys.Idx → EReal) (r : Fin 256) (l : Fin 100000) : EReal :=
  Ideal.sqrt (max (∑ a : Fin 128, x (ix2 r a) * x (ix2 r a) + ∑ a : Fin 128, k (ix2 l a) * k (ix2 l a)
    - Ideal.ofBits .f32 0x40000000#32 * ∑ a : Fin 128, x (ix2 r a) * k (ix2 l a)) (Ideal.ofBits .f32 0x2B8CBCCC#32))

/-- The distances of query `r` by key number, infinite past the last key. -/
def table (x : Queries.Idx → EReal) (k : Keys.Idx → EReal) (r : Fin 256) (n : ℕ) : EReal :=
  if h : n < 100000 then dist x k r ⟨n, h⟩ else ⊤

theorem table_of (x : Queries.Idx → EReal) (k : Keys.Idx → EReal) (r : Fin 256) (l : Fin 100000) : table x k r l = dist x k r l :=
  dif_pos l.isLt

/-- A finite sum of reals is a real. -/
theorem coe_sum {ι : Type} (s : Finset ι) (f : ι → ℝ) : ((∑ a ∈ s, f a : ℝ) : EReal) = ∑ a ∈ s, (f a : EReal) :=
  map_sum (⟨⟨Real.toEReal, EReal.coe_zero⟩, EReal.coe_add⟩ : ℝ →+ EReal) f s

theorem two : Ideal.ofBits .f32 0x40000000#32 = ((2 : ℝ) : EReal) := by
  simp [Ideal.ofBits, Ideal.ieee, -EReal.coe_mul]
  norm_num

theorem minus_two : Ideal.ofBits .f32 0xC0000000#32 = ((-2 : ℝ) : EReal) := by
  simp [Ideal.ofBits, Ideal.ieee, -EReal.coe_mul]
  norm_num

/-- The small constant is a nonnegative real. -/
theorem floor_real : ∃ c : ℝ, 0 ≤ c ∧ Ideal.ofBits .f32 0x2B8CBCCC#32 = (c : EReal) := by
  refine ⟨_, ?_, by simp [Ideal.ofBits, Ideal.ieee, -EReal.coe_mul]; rfl⟩
  positivity

variable {x : Queries.Idx → EReal} {k : Keys.Idx → EReal}

/-- At finite inputs, the sum of products with the query times minus two gives the distance. -/
theorem folded (hx : ∀ i, ∃ v : ℝ, x i = v) (hk : ∀ i, ∃ v : ℝ, k i = v) (r : Fin 256) (l : Fin 100000) :
    Ideal.sqrt (max (∑ a : Fin 128, x (ix2 r a) * x (ix2 r a) + ∑ a : Fin 128, k (ix2 l a) * k (ix2 l a)
      + ∑ a : Fin 128, Ideal.ofBits .f32 0xC0000000#32 * x (ix2 r a) * k (ix2 l a)) (Ideal.ofBits .f32 0x2B8CBCCC#32))
      = dist x k r l := by
  choose x' hx' using hx
  choose k' hk' using hk
  unfold dist
  congr 2
  simp only [hx', hk', two, minus_two, ← EReal.coe_mul, ← coe_sum, ← EReal.coe_add, ← EReal.coe_sub]
  congr 1
  simp only [mul_assoc, ← Finset.mul_sum]
  ring

/-- At finite inputs every distance is finite. -/
theorem dist_lt_top (hx : ∀ i, ∃ v : ℝ, x i = v) (hk : ∀ i, ∃ v : ℝ, k i = v) (r : Fin 256) (l : Fin 100000) : dist x k r l < ⊤ := by
  choose x' hx' using hx
  choose k' hk' using hk
  obtain ⟨c, hc, e⟩ := floor_real
  unfold dist
  simp only [hx', hk', two, e, ← EReal.coe_mul, ← coe_sum, ← EReal.coe_add, ← EReal.coe_sub]
  rw [← EReal.coe_strictMono.monotone.map_max]
  show (if _ < 0 then ⊥ else (Real.sqrt _ : EReal)) < ⊤
  split
  · exact bot_lt_top
  · exact EReal.coe_lt_top _

end Cert.Dist

end
-- ==== Proof.ExactResult.lean ====
/-
  What the exact search's two results end holding: for each query, in order, the distances of its sixteen nearest keys and
  their numbers (`held`, by induction on the point over the list carried; `final_values`, `final_numbers`, the one write-back).
-/
module

public import proofs.«01_k».proof.Proof.ExactValue
public import proofs.«01_k».proof.Proof.Carry
public import proofs.«01_k».proof.Proof.Dist
public import Idealize.ShloMosaic.Lib.StableHlo.Run

@[expose] public section

set_option maxRecDepth 16384

noncomputable section

namespace Cert.ExactIdeal.Value

open Cert.ExactIdeal Cert.ExactIdeal.Gen Cert.Rounds Cert.Dist
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The queries. -/
abbrev qs : FVec Ideal S256x128 .f32 := m ((c.tc : Thread nD τ).loc main_arg0)
/-- The keys. -/
abbrev ks : FVec Ideal S100000x128 .f32 := m ((c.tc : Thread nD τ).loc main_arg1)

/-! ## The operands as the search finds them -/

theorem V_v7 : @Eq (FVec Ideal S256x128 .f32) (V m c main_v7)
    (mulf (broadcastInDim S256x128 ![] bcast_S_S256x128 (constant S_ .f32 0xC0000000#32)) (qs m c)) := by
  unfold V
  after_results
theorem V_v4 : @Eq (FVec Ideal S256x1 .f32) (V m c main_v4)
    (broadcastInDim S256x1 ![0] bcast_S256_S256x1_0
      (Host.reduceAdd (mulf (qs m c) (qs m c)) (constant S_ .f32 0x00000000#32) reducesTo_S256x128_S256_d1 h_S_)) := by
  unfold V
  after_results
theorem V_v5 : @Eq (FVec Ideal S20x1x5000 .f32) (V m c main_v5)
    (shapeCast S20x1x5000
      (Host.reduceAdd (mulf (ks m c) (ks m c)) (constant S_ .f32 0x00000000#32) reducesTo_S100000x128_S100000_d1 h_S_)
      shapeCasts_S100000_S20x1x5000) := by
  unfold V
  after_results
  rfl

/-- The queries times minus two. -/
theorem v7_apply (r : Fin 256) (a : Fin 128) : (V m c main_v7 : FVec Ideal S256x128 .f32) (ix2 r a)
    = Ideal.ofBits .f32 0xC0000000#32 * qs m c (ix2 r a) := by
  rw [V_v7]; generalize qs m c = x; pointwise

/-- A query's squared length. -/
theorem v4_apply (r : Fin 256) : (V m c main_v4 : FVec Ideal S256x1 .f32) (ix2 r 0) = ∑ a : Fin 128, qs m c (ix2 r a) * qs m c (ix2 r a) := by
  rw [V_v4]; generalize qs m c = x; pointwise

/-- A key's squared length, the keys in twenty rows of 5000. -/
theorem v5_apply (t : Fin 20) (l : Fin 5000) (n : Fin 100000) (hn : n.val = t.val * 5000 + l.val) :
    (V m c main_v5 : FVec Ideal S20x1x5000 .f32) (ix3 t 0 l) = ∑ a : Fin 128, ks m c (ix2 n a) * ks m c (ix2 n a) := by
  have hlt : t.val * 5000 + l.val < 100000 := by have := t.isLt; have := l.isLt; omega
  obtain rfl : n = ⟨t.val * 5000 + l.val, hlt⟩ := Fin.ext hn
  rw [V_v5]; generalize ks m c = x; pointwise

/-! ## The blocks of a point -/

theorem index_2 : ∀ t : Fin cfg0.N, win0_2.index t 0 = t.val ∧ win0_2.index t 1 = 0 ∧ win0_2.index t 2 = 0 := by decide +kernel
theorem index_3 : ∀ t : Fin cfg0.N, win0_3.index t 0 = t.val ∧ win0_3.index t 1 = 0 := by decide +kernel
theorem index_0 : ∀ t : Fin cfg0.N, win0_0.index t 0 = 0 ∧ win0_0.index t 1 = 0 := by decide +kernel
theorem index_1 : ∀ t : Fin cfg0.N, win0_1.index t 0 = 0 ∧ win0_1.index t 1 = 0 := by decide +kernel

theorem iblk_0 (t : Fin cfg0.N) (r : Fin 256) : (iblk m c 0 t : FVec Ideal S256x1 .f32) (ix2 r 0) = ∑ a : Fin 128, qs m c (ix2 r a) * qs m c (ix2 r a) := by
  refine Eq.trans ?_ (v4_apply m c r)
  unfold iblk
  rw [View.read_apply]
  show (V m c main_v4 : FVec Ideal S256x1 .f32) _ = _
  congr 1
  funext a
  apply Fin.ext
  match a with
  | ⟨0, _⟩ => show win0_0.index t 0 * 256 + 1 * r.val = r.val; rw [(index_0 t).1]; omega
  | ⟨1, _⟩ => show win0_0.index t 1 * 1 + 1 * 0 = 0; rw [(index_0 t).2]

theorem iblk_1 (t : Fin cfg0.N) (r : Fin 256) (a : Fin 128) : (iblk m c 1 t : FVec Ideal S256x128 .f32) (ix2 r a)
    = Ideal.ofBits .f32 0xC0000000#32 * qs m c (ix2 r a) := by
  refine Eq.trans ?_ (v7_apply m c r a)
  unfold iblk
  rw [View.read_apply]
  show (V m c main_v7 : FVec Ideal S256x128 .f32) _ = _
  congr 1
  funext b
  apply Fin.ext
  match b with
  | ⟨0, _⟩ => show win0_1.index t 0 * 256 + 1 * r.val = r.val; rw [(index_1 t).1]; omega
  | ⟨1, _⟩ => show win0_1.index t 1 * 128 + 1 * a.val = a.val; rw [(index_1 t).2]; omega

theorem iblk_2 (t : Fin cfg0.N) (l : Fin 5000) (n : Fin 100000) (hn : n.val = 5000 * t.val + l.val) :
    (iblk m c 2 t : FVec Ideal S1x1x5000 .f32) (ix3 0 0 l) = ∑ a : Fin 128, ks m c (ix2 n a) * ks m c (ix2 n a) := by
  have hN : cfg0.N = 20 := N_0
  have ht : t.val < 20 := by have := t.isLt; omega
  refine Eq.trans ?_ (v5_apply m c ⟨t.val, ht⟩ l n (by show n.val = t.val * 5000 + l.val; omega))
  unfold iblk
  rw [View.read_apply]
  show (V m c main_v5 : FVec Ideal S20x1x5000 .f32) _ = _
  congr 1
  funext b
  apply Fin.ext
  match b with
  | ⟨0, _⟩ => show win0_2.index t 0 * 1 + 1 * 0 = t.val; rw [(index_2 t).1]; omega
  | ⟨1, _⟩ => show win0_2.index t 1 * 1 + 1 * 0 = 0; rw [(index_2 t).2.1]
  | ⟨2, _⟩ => show win0_2.index t 2 * 5000 + 1 * l.val = l.val; rw [(index_2 t).2.2]; omega

theorem iblk_3 (t : Fin cfg0.N) (l : Fin 5000) (a : Fin 128) (n : Fin 100000) (hn : n.val = 5000 * t.val + l.val) :
    (iblk m c 3 t : FVec Ideal S5000x128 .f32) (ix2 l a) = ks m c (ix2 n a) := by
  have e : @Eq (FVec Ideal S100000x128 .f32) (V m c main_arg1) (ks m c) := V_main_arg1 m c
  rw [← e]
  unfold iblk
  rw [View.read_apply]
  show (V m c main_arg1 : FVec Ideal S100000x128 .f32) _ = _
  congr 1
  funext b
  apply Fin.ext
  match b with
  | ⟨0, _⟩ => show win0_3.index t 0 * 5000 + 1 * l.val = n.val; rw [(index_3 t).1]; omega
  | ⟨1, _⟩ => show win0_3.index t 1 * 128 + 1 * a.val = a.val; rw [(index_3 t).2]; omega

/-! ## A point's candidates -/

theorem coord : ∀ t : Fin cfg0.N, ((grid0.coords t) 0).val = t.val := by decide +kernel

/-- The candidates of a point: the list carried, then the point's distances. -/
theorem cand_low (x0 : Vec Ideal S256x1 .f32) (x1 : Vec Ideal S256x128 .f32) (x2 : Vec Ideal S1x1x5000 .f32) (x3 : Vec Ideal S5000x128 .f32)
    (xs0 : Vec Ideal S256x16 .f32) (r : Fin 256) (q : Fin 5016) (h : q.val < 16) :
    k0_pay4 x1 x3 x2 x0 xs0 (ix2 r q) = xs0 (ix2 r ⟨q.val, h⟩) := by
  pointwise [k0_pay4]
  exact dif_pos h

theorem cand_high (hx : ∀ i, ∃ v : ℝ, qs m c i = v) (hk : ∀ i, ∃ v : ℝ, ks m c i = v) (t : Fin cfg0.N)
    (xs0 : Vec Ideal S256x16 .f32) (r : Fin 256) (q : Fin 5016) (h : 16 ≤ q.val) :
    k0_pay4 (F := Ideal) (iblk m c 1 t) (iblk m c 3 t) (iblk m c 2 t) (iblk m c 0 t) xs0 (ix2 r q)
      = table (qs m c) (ks m c) r (5000 * t.val + (q.val - 16)) := by
  have hN : cfg0.N = 20 := N_0
  have hn : 5000 * t.val + (q.val - 16) < 100000 := by have := t.isLt; have := q.isLt; omega
  have hl : q.val - 16 < 5000 := by have := q.isLt; omega
  refine Eq.trans ?_ (table_of (qs m c) (ks m c) r ⟨_, hn⟩).symm
  refine Eq.trans ?_ (folded hx hk r ⟨_, hn⟩)
  have e0 := iblk_0 m c t r
  have e1 := iblk_1 m c t r
  have e2 := iblk_2 m c t ⟨_, hl⟩ ⟨_, hn⟩ rfl
  have e3 := fun a => iblk_3 m c t ⟨_, hl⟩ a ⟨_, hn⟩ rfl
  generalize (iblk m c 0 t : FVec Ideal S256x1 .f32) = b0 at *
  generalize (iblk m c 1 t : FVec Ideal S256x128 .f32) = b1 at *
  generalize (iblk m c 2 t : FVec Ideal S1x1x5000 .f32) = b2 at *
  generalize (iblk m c 3 t : FVec Ideal S5000x128 .f32) = b3 at *
  rw [← e0, ← e2]
  simp only [← e1, ← e3]
  pointwise [k0_pay4]
  exact dif_neg (by omega)

/-- The candidates' numbers: those carried, then the point's key numbers. -/
theorem num_low (i : grid0.Coords) (xs1 : Vec Ideal S256x16 .i32) (r : Fin 256) (q : Fin 5016) (h : q.val < 16) :
    k0_pay5 (F := Ideal) i xs1 (ix2 r q) = xs1 (ix2 r ⟨q.val, h⟩) := by
  pointwise [k0_pay5]
  exact dif_pos h

theorem num_high (t : Fin cfg0.N) (xs1 : Vec Ideal S256x16 .i32) (r : Fin 256) (q : Fin 5016) (h : 16 ≤ q.val) :
    k0_pay5 (F := Ideal) (grid0.coords t) xs1 (ix2 r q) = BitVec.ofNat 32 (5000 * t.val + (q.val - 16)) := by
  pointwise [k0_pay5]
  refine (dif_neg (by omega)).trans ?_
  rw [coord]
  show BitVec.ofNat 32 (q.val - 16) + BitVec.ofNat 32 t.val * BitVec.ofNat 32 5000 = _
  rw [← BitVec.ofNat_mul, ← BitVec.ofNat_add]
  congr 1
  omega

/-! ## The list carried -/

variable (hx : ∀ i, ∃ v : ℝ, qs m c i = v) (hk : ∀ i, ∃ v : ℝ, ks m c i = v)

include hx hk in
theorem table_lt (r : Fin 256) (l : ℕ) (h : l < 100000) : table (qs m c) (ks m c) r l < ⊤ := by
  rw [show table (qs m c) (ks m c) r l = _ from table_of (qs m c) (ks m c) r ⟨l, h⟩]
  exact dist_lt_top hx hk r _

include hx hk in
/-- Sixteen rounds at a point, over a list that holds the nearest of the keys met before it. -/
theorem step (r : Fin 256) (t : Fin cfg0.N) (n : ℕ) (ht : t.val = n + 1) (xs0 : Vec Ideal S256x16 .f32) (xs1 : Vec Ideal S256x16 .i32)
    (ih : Held (table (qs m c) (ks m c) r) (5000 * n + 5000) r xs0 xs1) :
    Held (table (qs m c) (ks m c) r) (5000 * (n + 1) + 5000) r
      (vals (k0_pay4 (F := Ideal) (iblk m c 1 t) (iblk m c 3 t) (iblk m c 2 t) (iblk m c 0 t) xs0))
      (idxs (k0_pay5 (F := Ideal) (grid0.coords t) xs1)
        (k0_pay4 (F := Ideal) (iblk m c 1 t) (iblk m c 3 t) (iblk m c 2 t) (iblk m c 0 t) xs0)) := by
  have hN : cfg0.N = 20 := N_0
  have hn : n + 1 < 20 := by have := t.isLt; omega
  refine Held.more (B := 5000 * n + 5000) (by omega) ih (fun l hl => table_lt m c hx hk r l (by omega)) (fun q hq => ?_) (fun q hq => ?_)
    (fun q hq => ?_) (fun q hq => ?_)
  · exact cand_low _ _ _ _ _ _ _ hq
  · rw [cand_high m c hx hk _ _ _ _ hq, ht]; rfl
  · exact num_low _ _ _ _ hq
  · rw [num_high _ _ _ _ hq, ht]; rfl

include hx hk in
/-- Before the last point, the list carried after point `n` holds every query's sixteen nearest of the keys met. -/
theorem held (r : Fin 256) : ∀ (n : ℕ) (hn : n < cfg0.N), n < 19 →
    Held (table (qs m c) (ks m c) r) (5000 * n + 5000) r (outsAt0 m c n hn).2.2.1 (outsAt0 m c n hn).2.2.2
  | 0, hn, _ => by
    rw [outsAt0_A m c ⟨0, hn⟩ rfl (show ¬0 % 20 = 19 by decide)]
    dsimp only
    rw [sout_A_0, sout_A_1]
    refine Held.first (fun l hl => table_lt m c hx hk r l (by omega)) (fun q hq => ?_) (fun q hq => ?_) (fun q hq => ?_)
    · rw [cand_low _ _ _ _ _ _ _ hq]
      pointwise [k0_pay2]
      exact ofBits_inf
    · rw [cand_high m c hx hk _ _ _ _ hq]; congr 1; show 5000 * 0 + _ = _; omega
    · rw [num_high _ _ _ _ hq]; congr 1; show 5000 * 0 + _ = _; omega
  | n + 1, hn, h19 => by
    have h0 : ¬(⟨n + 1, hn⟩ : Fin cfg0.N).val % 20 = 0 := by dsimp only; omega
    have h1 : ¬(⟨n + 1, hn⟩ : Fin cfg0.N).val % 20 = 19 := by dsimp only; omega
    rw [outsAt0_B m c ⟨n + 1, hn⟩ h0 h1]
    dsimp only
    rw [sout_B_0, sout_B_1]
    exact step m c hx hk r ⟨n + 1, hn⟩ n rfl _ _ (held r n (Nat.lt_of_succ_lt hn) (by omega))

include hx hk in
/-- What the last point puts out holds every query's sixteen nearest keys. -/
theorem held_last (r : Fin 256) : ∀ (n : ℕ) (hn : n < cfg0.N), n = 19 →
    Held (table (qs m c) (ks m c) r) (5000 * n + 5000) r (outsAt0 m c n hn).1 (outsAt0 m c n hn).2.1
  | 0, _, h => absurd h (by decide)
  | n + 1, hn, h => by
    have h0 : ¬(⟨n + 1, hn⟩ : Fin cfg0.N).val % 20 = 0 := by dsimp only; omega
    have h1 : (⟨n + 1, hn⟩ : Fin cfg0.N).val % 20 = 19 := by dsimp only; omega
    rw [outsAt0_C m c ⟨n + 1, hn⟩ h0 h1]
    dsimp only
    rw [out_C_4, out_C_5]
    exact step m c hx hk r ⟨n + 1, hn⟩ n rfl _ _ (held m c hx hk r n (Nat.lt_of_succ_lt hn) (by omega))

/-! ## The results -/

theorem last_lt : 19 < cfg0.N := by rw [show cfg0.N = 20 from N_0]; decide

/-- The distances put out. -/
abbrev values : Buf (Elt Ideal) ((c : Thread nD τ).loc main_v8_0) := (outsAt0 m c 19 last_lt).1
/-- The numbers put out. -/
abbrev numbers : Buf (Elt Ideal) ((c : Thread nD τ).loc main_v8_1) := (outsAt0 m c 19 last_lt).2.1

include hx hk in
/-- They hold every query's sixteen nearest keys. -/
theorem results (r : Fin 256) : Held (table (qs m c) (ks m c) r) 100000 r (values m c) (numbers m c) :=
  held_last m c hx hk r 19 last_lt rfl

theorem flushed_4 (t : Fin cfg0.N) (hf : (cfg0.win 4).flush t = true) :
    (dats m 0 c).flushed 4 t = ((cfg0.win 4).blk t).view.read (Elt Ideal) (values m c) := by
  have hN : cfg0.N = 20 := N_0
  have h3 : t.val = 19 := by have := (flush0_4 t).mp hf; have := t.isLt; omega
  obtain rfl : t = ⟨19, last_lt⟩ := Fin.ext h3
  show (cfg0.win 4).cut (grid0.coords ⟨19, last_lt⟩) ((dats m 0 c).after 4 ⟨19, last_lt⟩) = _
  rw [after0_4]
  have hz' : (fun a => win0_4.index ⟨19, last_lt⟩ a * main_v8_0.ty.shape.size a) = fun _ => 0 := funext fun a => by fin_cases a <;> decide +kernel
  exact (Memref.read_access_unit_zero (Elt Ideal) main_v8_0 hz' (fun a => by rw [congrFun hz' a]; simp) (values m c)).symm

theorem flushed_5 (t : Fin cfg0.N) (hf : (cfg0.win 5).flush t = true) :
    (dats m 0 c).flushed 5 t = ((cfg0.win 5).blk t).view.read (Elt Ideal) (numbers m c) := by
  have hN : cfg0.N = 20 := N_0
  have h3 : t.val = 19 := by have := (flush0_5 t).mp hf; have := t.isLt; omega
  obtain rfl : t = ⟨19, last_lt⟩ := Fin.ext h3
  show (cfg0.win 5).cut (grid0.coords ⟨19, last_lt⟩) ((dats m 0 c).after 5 ⟨19, last_lt⟩) = _
  rw [after0_5]
  have hz' : (fun a => win0_5.index ⟨19, last_lt⟩ a * main_v8_1.ty.shape.size a) = fun _ => 0 := funext fun a => by fin_cases a <;> decide +kernel
  exact (Memref.read_access_unit_zero (Elt Ideal) main_v8_1 hz' (fun a => by rw [congrFun hz' a]; simp) (numbers m c)).symm

/-- The result of the distances ends at the distances put out by the last point. -/
theorem final_4 : (dats m 0 c).arrAt 4 cfg0.N = values m c :=
  (dats m 0 c).arrAt_eq_of_cover 4 (values m c) (flushed_4 m c) fun i =>
    ⟨⟨19, last_lt⟩, (flush0_4 _).mpr (by decide), by
      show i ∈ ((View.whole main_v8_0).slice (win0_4.rect ⟨19, last_lt⟩)).set
      rw [View.set_slice_whole, Rect.mem_set_unit]
      intro a
      have h0 : (i 0 : Nat) < 256 := (i 0).isLt
      have h1 : (i 1 : Nat) < 16 := (i 1).isLt
      match a with
      | ⟨0, _⟩ => show win0_4.index ⟨19, last_lt⟩ 0 * win0_4.size 0 ≤ (i 0 : Nat) ∧ (i 0 : Nat) < win0_4.index ⟨19, last_lt⟩ 0 * win0_4.size 0 + win0_4.xsize (grid0.coords ⟨19, last_lt⟩) 0
                  rw [show win0_4.index ⟨19, last_lt⟩ 0 * win0_4.size 0 = 0 from by decide +kernel, show win0_4.xsize (grid0.coords ⟨19, last_lt⟩) 0 = 256 from by decide +kernel]; omega
      | ⟨1, _⟩ => show win0_4.index ⟨19, last_lt⟩ 1 * win0_4.size 1 ≤ (i 1 : Nat) ∧ (i 1 : Nat) < win0_4.index ⟨19, last_lt⟩ 1 * win0_4.size 1 + win0_4.xsize (grid0.coords ⟨19, last_lt⟩) 1
                  rw [show win0_4.index ⟨19, last_lt⟩ 1 * win0_4.size 1 = 0 from by decide +kernel, show win0_4.xsize (grid0.coords ⟨19, last_lt⟩) 1 = 16 from by decide +kernel]; omega⟩

/-- The result of the numbers ends at the numbers put out by the last point. -/
theorem final_5 : (dats m 0 c).arrAt 5 cfg0.N = numbers m c :=
  (dats m 0 c).arrAt_eq_of_cover 5 (numbers m c) (flushed_5 m c) fun i =>
    ⟨⟨19, last_lt⟩, (flush0_5 _).mpr (by decide), by
      show i ∈ ((View.whole main_v8_1).slice (win0_5.rect ⟨19, last_lt⟩)).set
      rw [View.set_slice_whole, Rect.mem_set_unit]
      intro a
      have h0 : (i 0 : Nat) < 256 := (i 0).isLt
      have h1 : (i 1 : Nat) < 16 := (i 1).isLt
      match a with
      | ⟨0, _⟩ => show win0_5.index ⟨19, last_lt⟩ 0 * win0_5.size 0 ≤ (i 0 : Nat) ∧ (i 0 : Nat) < win0_5.index ⟨19, last_lt⟩ 0 * win0_5.size 0 + win0_5.xsize (grid0.coords ⟨19, last_lt⟩) 0
                  rw [show win0_5.index ⟨19, last_lt⟩ 0 * win0_5.size 0 = 0 from by decide +kernel, show win0_5.xsize (grid0.coords ⟨19, last_lt⟩) 0 = 256 from by decide +kernel]; omega
      | ⟨1, _⟩ => show win0_5.index ⟨19, last_lt⟩ 1 * win0_5.size 1 ≤ (i 1 : Nat) ∧ (i 1 : Nat) < win0_5.index ⟨19, last_lt⟩ 1 * win0_5.size 1 + win0_5.xsize (grid0.coords ⟨19, last_lt⟩) 1
                  rw [show win0_5.index ⟨19, last_lt⟩ 1 * win0_5.size 1 = 0 from by decide +kernel, show win0_5.xsize (grid0.coords ⟨19, last_lt⟩) 1 = 16 from by decide +kernel]; omega⟩

/-- The run, read: the two results as put out by the last point, the arguments unchanged. -/
theorem run : θ_run defs (onTc (τ := τ) (main (F := Ideal))) ⟨m, fun _ => 0, ρ⟩ fun r => ∀ c : Dev nD,
      r.2.mem ((c.tc : Thread nD τ).loc main_v8_0) = values m c
      ∧ r.2.mem ((c.tc : Thread nD τ).loc main_v8_1) = numbers m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 4).trans (final_4 m c), ((h.1 c).1 5).trans (final_5 m c), h.2 c⟩)
    (θ_run_and (run_main m ρ) (unchanged m ρ))

end Cert.ExactIdeal.Value

end
-- ==== Proof.Nearest.lean ====
/-
  The reference's sixteen nearest keys, read: its top sixteen of the negated distances are, per query, the first sixteen keys by
  distance, equal distances in key order (`top_values`, `top_numbers`), whatever list of sixteen satisfies that.
-/
module

public import proofs.«01_k».proof.Proof.Select
public import proofs.«01_k».proof.Proof.Dist
public import proofs.«01_k».proof.Proof.Gen.NearestIdeal
public import proofs.«01_k».proof.Proof.Gen.Pre_finite
public import proofs.«01_k».proof.Proof.Ref
public import Idealize.ShloMosaic.Lib.Pointwise

@[expose] public section

set_option maxRecDepth 16384

noncomputable section

namespace Cert.Nearest

open Cert.NearestIdeal Cert.NearestIdeal.Gen Cert.Select Cert.Dist
open Idealize.ShloMosaic

/-- The negated distances, as the reference computes them. -/
abbrev scores (x : FVec Ideal S256x128 .f32) (k : FVec Ideal S100000x128 .f32) : FVec Ideal S256x100000 .f32 :=
  Host.negf (Host.sqrt (maximumf (subf (addf (broadcastInDim S256x100000 ![0, 1] bcast_S256x1_S256x100000_0_1 (broadcastInDim S256x1 ![0] bcast_S256_S256x1_0 (Host.reduceAdd (mulf x x) (constant S_ .f32 0x00000000#32) reducesTo_S256x128_S256_d1 h_S_))) (broadcastInDim S256x100000 ![0, 1] bcast_S1x100000_S256x100000_0_1 (broadcastInDim S1x100000 ![1] bcast_S100000_S1x100000_1 (Host.reduceAdd (mulf k k) (constant S_ .f32 0x00000000#32) reducesTo_S100000x128_S100000_d1 h_S_)))) (mulf (broadcastInDim S256x100000 ![] bcast_S_S256x100000 (constant S_ .f32 0x40000000#32)) (Host.dotGeneral dot_S256x128_S128x100000_S256x100000_1_0_0_1_n_n none x (transpose S128x100000 [1, 0] k transposes_S100000x128_S128x100000_1_0)))) (broadcastInDim S256x100000 ![] bcast_S_S256x100000 (constant S_ .f32 0x2B8CBCCC#32))))

/-- The reference's score of a query and a key is the distance, negated. -/
theorem scores_apply (x : FVec Ideal S256x128 .f32) (k : FVec Ideal S100000x128 .f32) (r : Fin 256) (l : Fin 100000) :
    scores x k (ix2 r l) = -dist x k r l := by
  unfold Cert.Dist.dist
  pointwise [scores]

/-- The order of the positions of row `r` in a top-k by `>`. -/
abbrev rank (v : FVec Ideal S256x100000 .f32) (r : Fin 256) : Fin 100000 → Fin 100000 → Bool :=
  fun a b => (FloatOps.cmpfTotal .gt (v (ix2 r a)) (v (ix2 r b)) : BitVec 1) == 1#1

theorem along_eq (r : Fin 256) (a l : Fin 100000) : (ix2 r a : S256x100000.Idx).along (1 : Fin 2) l = ix2 r l := by
  funext b
  match b with
  | ⟨0, _⟩ => rfl
  | ⟨1, _⟩ => rfl

/-- A sort of pairs along the keys, at a place: each row permuted by the row's order. -/
theorem sort2_apply {α β : Type} (cmp : α × β → α × β → BitVec 1) (v : S256x100000.Idx → α) (w : S256x100000.Idx → β) (r : Fin 256)
    (q : Fin 100000) :
    (Host.sort2 S256x100000 1 cmp v w).1 (ix2 r q)
        = v (ix2 r (sortedFrom (fun a b => cmp (v (ix2 r a), w (ix2 r a)) (v (ix2 r b), w (ix2 r b)) == 1#1) q))
      ∧ (Host.sort2 S256x100000 1 cmp v w).2 (ix2 r q)
        = w (ix2 r (sortedFrom (fun a b => cmp (v (ix2 r a), w (ix2 r a)) (v (ix2 r b), w (ix2 r b)) == 1#1) q)) := by
  have e : (fun a b : Fin 100000 => cmp (v ((ix2 r q : S256x100000.Idx).along (1 : Fin 2) a), w ((ix2 r q : S256x100000.Idx).along (1 : Fin 2) a))
      (v ((ix2 r q : S256x100000.Idx).along (1 : Fin 2) b), w ((ix2 r q : S256x100000.Idx).along (1 : Fin 2) b)) == 1#1)
      = fun a b => cmp (v (ix2 r a), w (ix2 r a)) (v (ix2 r b), w (ix2 r b)) == 1#1 := by
    funext a b
    rw [along_eq, along_eq]
  unfold Host.sort2
  rw [dif_pos (show 1 < S256x100000.rank by decide)]
  constructor
  · show v ((ix2 r q : S256x100000.Idx).along (1 : Fin 2) (sortedFrom (fun a b : Fin 100000 => cmp (v ((ix2 r q : S256x100000.Idx).along (1 : Fin 2) a), w ((ix2 r q : S256x100000.Idx).along (1 : Fin 2) a))
      (v ((ix2 r q : S256x100000.Idx).along (1 : Fin 2) b), w ((ix2 r q : S256x100000.Idx).along (1 : Fin 2) b)) == 1#1) q)) = _
    rw [e]
    exact congrArg v (along_eq r q _)
  · show w ((ix2 r q : S256x100000.Idx).along (1 : Fin 2) (sortedFrom (fun a b : Fin 100000 => cmp (v ((ix2 r q : S256x100000.Idx).along (1 : Fin 2) a), w ((ix2 r q : S256x100000.Idx).along (1 : Fin 2) a))
      (v ((ix2 r q : S256x100000.Idx).along (1 : Fin 2) b), w ((ix2 r q : S256x100000.Idx).along (1 : Fin 2) b)) == 1#1) q)) = _
    rw [e]
    exact congrArg w (along_eq r q _)

/-- A top sixteen at a place: the entry, and the number, of the place's position in the row's order. -/
theorem topK_apply (v : FVec Ideal S256x100000 .f32) (r : Fin 256) (i : Fin 16) :
    (Host.topK S256x16 1 (FloatOps.cmpfTotal .gt) v sliceFits_S256x100000_S256x16).1 (ix2 r i)
        = v (ix2 r (sortedFrom (rank v r) (i.castLE (by decide))))
      ∧ (Host.topK S256x16 1 (FloatOps.cmpfTotal .gt) v sliceFits_S256x100000_S256x16).2 (ix2 r i)
        = BitVec.ofNat 32 (sortedFrom (rank v r) (i.castLE (by decide))).val := by
  have e : ∀ h : S256x100000.Slices (fun _ => 0) S256x16, ∀ {α : Type} (w : S256x100000.Idx → α),
      extractStridedSlice S256x16 (fun _ => 0) w h (ix2 r i) = w (ix2 r (i.castLE (by decide))) := by
    intro h α w
    unfold extractStridedSlice
    congr 1
    funext b
    match b with
    | ⟨0, _⟩ => exact Fin.ext (Nat.zero_add _)
    | ⟨1, _⟩ => exact Fin.ext (Nat.zero_add _)
  unfold Host.topK
  dsimp only
  rw [e, e]
  obtain ⟨h1, h2⟩ := sort2_apply (fun l r : EReal × BitVec 32 => (FloatOps.cmpfTotal (F := Ideal) (φ := .f32) .gt l.1 r.1 : BitVec 1)) v
    (fun i => if hd : 1 < S256x100000.rank then iotaInDim S256x100000 32 ⟨1, hd⟩ i else 0#32) r (i.castLE (by decide))
  refine ⟨h1, h2.trans ?_⟩
  rw [dif_pos (show 1 < S256x100000.rank by decide)]
  rfl

variable (x : FVec Ideal S256x128 .f32) (k : FVec Ideal S100000x128 .f32)

/-- The order by negated distance, greater first, is the order by distance. -/
theorem rank_eq (r : Fin 256) (a b : Fin 100000) : rank (scores x k) r a b = decide (table x k r a < table x k r b) := by
  unfold rank
  rw [scores_apply, scores_apply, table_of, table_of]
  show (BitVec.ofBool (decide (-dist x k r b < -dist x k r a)) == 1#1) = _
  rw [decide_eq_decide.mpr (EReal.neg_lt_neg_iff (a := dist x k r b) (b := dist x k r a))]
  cases decide (dist x k r a < dist x k r b) <;> rfl

/-- The reference's distances and numbers of row `r`, given the first sixteen keys by distance. -/
theorem top (r : Fin 256) {s : Fin 16 → ℕ} (hs : IsTop (table x k r) 100000 s) (i : Fin 16) :
    Host.negf (Host.topK S256x16 1 (FloatOps.cmpfTotal .gt) (scores x k) sliceFits_S256x100000_S256x16).1 (ix2 r i) = table x k r (s i)
      ∧ (Host.topK S256x16 1 (FloatOps.cmpfTotal .gt) (scores x k) sliceFits_S256x100000_S256x16).2 (ix2 r i) = BitVec.ofNat 32 (s i) := by
  obtain ⟨h1, h2⟩ := topK_apply (scores x k) r i
  have hsf := sortedFrom_eq (by decide) (table x k r) hs (rank (scores x k) r) (rank_eq x k r) i
  constructor
  · show -((Host.topK S256x16 1 (FloatOps.cmpfTotal .gt) (scores x k) sliceFits_S256x100000_S256x16).1 (ix2 r i)) = _
    rw [h1, scores_apply, neg_neg, ← table_of, hsf]
  · rw [h2, hsf]

/-! ## Finite inputs -/

/-- An extended real whose absolute value is below infinity is a real. -/
theorem real_of_bit (a : EReal) (h : (FloatOps.cmpf (F := Ideal) (φ := .f32) .olt (FloatOps.hostAbsf (F := Ideal) (φ := .f32) a)
    (Ideal.ofBits .f32 0x7F800000#32) : BitVec 1) = 1#1) : ∃ v : ℝ, a = v := by
  have h1 : BitVec.ofBool (decide (max a (-a) < ⊤)) = 1#1 := by
    rw [← show Ideal.ofBits .f32 0x7F800000#32 = (⊤ : EReal) by simp [Ideal.ofBits, Ideal.ieee]]
    exact h
  have h2 : max a (-a) < ⊤ := by
    by_contra hn
    rw [decide_eq_false hn] at h1
    exact absurd h1 (by decide)
  induction a with
  | bot => simp at h2
  | top => simp at h2
  | coe v => exact ⟨v, rfl⟩

/-- The precondition, read: every coordinate of every query and every key is a real. -/
theorem real_of_pre [Cert.Pre_finite.Facts] (h : Cert.Pre_finite.fn (F := Ideal) x k = fun _ => 1#1) :
    (∀ i, ∃ v : ℝ, x i = v) ∧ ∀ i, ∃ v : ℝ, k i = v := by
  have h0 := congrFun h (fun a => a.elim0)
  have hand : ∀ a b : BitVec 1, IntOp.andi a b = 1#1 → a = 1#1 ∧ b = 1#1 := by decide
  obtain ⟨hx, hk⟩ := hand _ _ h0
  exact ⟨fun i => real_of_bit _ (Cert.Proof.Take.reduce_inv _ _ _ _ _ hx i (funext fun a => a.elim0)),
    fun i => real_of_bit _ (Cert.Proof.Take.reduce_inv _ _ _ _ _ hk i (funext fun a => a.elim0))⟩

end Cert.Nearest

end
-- ==== Proof.FastOff.lean ====
/-
  Which rows of its scratch the fast search's body touches at a grid point, and which of its three parts run there.
-/
module

public import proofs.«01_k».proof.Proof.Gen.SearchIdeal.Launch
public import proofs.«01_k».proof.Proof.Gen.SearchIdeal.Skeleton
public import proofs.«01_k».proof.Proof.Gen.SearchIdeal.Points
public import Idealize.ShloMosaic.Lib.Exec
public import Idealize.ShloMosaic.Lib.Tactic

@[expose] public section

set_option maxRecDepth 16384

noncomputable section

namespace Cert.Search.Fast

open Cert.SearchIdeal Cert.SearchIdeal.Gen
open Idealize.ShloMosaic Idealize.ShloMosaic.TcCoe Idealize.ShloMosaic.Tactic

/-- The squared distances of the point's own block go to the row of its parity. -/
theorem off1_eq (i : grid0.Coords) : k0_off1 i = ![(i 0).val % 2, 0, 0] := by
  unfold k0_off1; generalize (i 0) = m; revert m; decide +kernel

/-- The block before lies in the other row. -/
theorem off2_eq (i : grid0.Coords) : k0_off2 i = ![((i 0).val + 1) % 2, 0, 0] := by
  unfold k0_off2; generalize (i 0) = m; revert m; decide +kernel

theorem off3_eq (i : grid0.Coords) : k0_off3 i = ![2 * ((i 0).val - 1), 0, 0] ∨ (i 0).val = 0 := by
  unfold k0_off3; generalize (i 0) = m; revert m; decide +kernel

theorem off4_eq (i : grid0.Coords) : k0_off4 i = ![2 * ((i 0).val - 1) + 1, 0, 0] ∨ (i 0).val = 0 := by
  unfold k0_off4; generalize (i 0) = m; revert m; decide +kernel

theorem off5_eq (i : grid0.Coords) : k0_off5 i = ![(i 0).val - 1, 0, 0] ∨ (i 0).val = 0 := by
  unfold k0_off5; generalize (i 0) = m; revert m; decide +kernel

theorem off6_eq (k : Fin k0_t1_loop.trips) : k0_off6 k = ![k.val, 0, 0] := by
  revert k; decide +kernel

theorem off7_eq (k : Fin k0_t2_loop.trips) : k0_off7 k = ![k.val, 0, 0] := by
  revert k; decide +kernel

theorem cond1_iff (i : grid0.Coords) : k0_cond1 i = 1#1 ↔ (i 0).val < 20 := by
  unfold k0_cond1; generalize (i 0) = m; revert m; decide +kernel

theorem cond2_iff (i : grid0.Coords) : k0_cond2 i = 1#1 ↔ 0 < (i 0).val := by
  unfold k0_cond2; generalize (i 0) = m; revert m; decide +kernel

theorem cond3_iff (i : grid0.Coords) : k0_cond3 i = 1#1 ↔ (i 0).val = 20 := by
  unfold k0_cond3; generalize (i 0) = m; revert m; decide +kernel

/-- The last grid point. -/
def lastPt : grid0.Coords := fun a => ⟨20, by fin_cases a; decide⟩

theorem off3_last : k0_off3 lastPt = ![38, 0, 0] := by decide +kernel
theorem off4_last : k0_off4 lastPt = ![39, 0, 0] := by decide +kernel
theorem off5_last : k0_off5 lastPt = ![19, 0, 0] := by decide +kernel

instance closedOff3_last : ClosedOff (k0_off3 lastPt) := ⟨![38, 0, 0], off3_last⟩
instance closedOff4_last : ClosedOff (k0_off4 lastPt) := ⟨![39, 0, 0], off4_last⟩
instance closedOff5_last : ClosedOff (k0_off5 lastPt) := ⟨![19, 0, 0], off5_last⟩

instance closedOff1 (i : grid0.Coords) : ClosedOff (k0_off1 i) := ⟨![(i 0).val % 2, 0, 0], off1_eq i⟩

instance closedOff2 (i : grid0.Coords) : ClosedOff (k0_off2 i) := ⟨![((i 0).val + 1) % 2, 0, 0], off2_eq i⟩

instance closedOff6 (k : Fin k0_t1_loop.trips) : ClosedOff (k0_off6 k) := ⟨![k.val, 0, 0], off6_eq k⟩

instance closedOff7 (k : Fin k0_t2_loop.trips) : ClosedOff (k0_off7 k) := ⟨![k.val, 0, 0], off7_eq k⟩

end Cert.Search.Fast

end
-- ==== Proof.FastLast.lean ====
/-
  The last grid point of the fast search's body: the last block is folded, the forty kept candidates of a lane are inserted
  one after another into five slots, sixteen are extracted, and it is checked whether anything that was dropped may belong.
-/
module

public import proofs.«01_k».proof.Proof.FastOff
public import proofs.«01_k».proof.Proof.Gen.SearchIdeal.Loops
public import proofs.«01_k».proof.Proof.Gen.SearchIdeal.Launch
public import proofs.«01_k».proof.Proof.Gen.SearchIdeal.Skeleton
public import proofs.«01_k».proof.Proof.Gen.SearchIdeal.Points
public import Idealize.ShloMosaic.Lib.Exec
public import Idealize.ShloMosaic.Lib.Pipeline.FrameBody
public import Idealize.ShloMosaic.Lib.Tactic
public import Idealize.ShloMosaic.Lib.WordCmp

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {Ix U : Type} [DecidableEq Ix] [URA U]

local notation "𝕄" => MT nD τ sig Ix (Elt F) ℕ U ℕ

set_option maxHeartbeats 2000000 in
/-- One insertion, at any number of insertions done before. -/
@[irreducible] noncomputable def insTrip (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (k : Fin k0_t1_loop.trips) (g : BufTy.Contents (Elt F) arg12.view.ty × BufTy.Contents (Elt F) arg13.view.ty) :
    Σ' (g12 : BufTy.Contents (Elt F) arg12.view.ty), { g13 : BufTy.Contents (Elt F) arg13.view.ty // ∀ (E : Set ℕ),
        (iprop((arg9.view.loc (c : Thread nD τ) ↦[arg9.view.set]{fullShare} X9) ∗ (arg10.view.loc (c : Thread nD τ) ↦[arg10.view.set]{fullShare} X10) ∗ (arg12.view.loc (c : Thread nD τ) ↦[arg12.view.set]{fullShare} g.1) ∗ (arg13.view.loc (c : Thread nD τ) ↦[arg13.view.set]{fullShare} g.2)) : sProp 𝕄)
        ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 k ())
          (fun _ => iprop((arg9.view.loc (c : Thread nD τ) ↦[arg9.view.set]{fullShare} X9) ∗ (arg10.view.loc (c : Thread nD τ) ↦[arg10.view.set]{fullShare} X10) ∗ (arg12.view.loc (c : Thread nD τ) ↦[arg12.view.set]{fullShare} g12) ∗ (arg13.view.loc (c : Thread nD τ) ↦[arg13.view.set]{fullShare} g13))) } := by
  have hk : k.val < 40 := Nat.lt_of_lt_of_le k.isLt k0_t1_abs.2.1
  refine ⟨?_, ?_, fun E => ?run⟩
  case run =>
    unfold k0_t1_body
    iintro ⟨H9, H10, H12, H13⟩
    sl_exec
    sl_step
    isplitl [H9]; · iexact H9
    isplitl [H10]; · iexact H10
    isplitl [H12]; · iexact H12
    iexact H13

/-- The slots after the first `k` insertions. -/
noncomputable def insAt (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (G : BufTy.Contents (Elt F) arg12.view.ty × BufTy.Contents (Elt F) arg13.view.ty) : ℕ → BufTy.Contents (Elt F) arg12.view.ty × BufTy.Contents (Elt F) arg13.view.ty
  | 0 => G
  | k + 1 =>
    if h : k < k0_t1_loop.trips then
      let t := insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 ⟨k, h⟩ (insAt c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k)
      (t.1, t.2.1)
    else insAt c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k

/-- The slots' values after the first `k` insertions. -/
noncomputable def insV (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (G12 : BufTy.Contents (Elt F) arg12.view.ty) (G13 : BufTy.Contents (Elt F) arg13.view.ty) : ℕ → BufTy.Contents (Elt F) arg12.view.ty
  | 0 => G12
  | k + 1 => (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 (G12, G13) (k + 1)).1

/-- The slots' key numbers after the first `k` insertions. -/
noncomputable def insI (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (G12 : BufTy.Contents (Elt F) arg12.view.ty) (G13 : BufTy.Contents (Elt F) arg13.view.ty) : ℕ → BufTy.Contents (Elt F) arg13.view.ty
  | 0 => G13
  | k + 1 => (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 (G12, G13) (k + 1)).2

theorem insV_eq (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (G12 : BufTy.Contents (Elt F) arg12.view.ty) (G13 : BufTy.Contents (Elt F) arg13.view.ty) (k : ℕ) :
    (insV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k, insI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k)
      = insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 (G12, G13) k := by
  cases k <;> rfl

set_option warn.classDefReducibility false in
/-- The insertion loop. -/
@[sl_loop] def insLoop (E : Set ℕ) (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty) (G12 : BufTy.Contents (Elt F) arg12.view.ty) (G13 : BufTy.Contents (Elt F) arg13.view.ty) :
    LoopInvTy_k0_t1 (F := F) Ix ℕ U ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 where
  inv k _ := iprop((arg9.view.loc (c : Thread nD τ) ↦[arg9.view.set]{fullShare} X9) ∗ (arg10.view.loc (c : Thread nD τ) ↦[arg10.view.set]{fullShare} X10) ∗ (∃ f, (arg12.view.loc (c : Thread nD τ) ↦[arg12.view.set]{fullShare} f) ∗ ⌜f = insV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k⌝)
      ∗ (∃ f, (arg13.view.loc (c : Thread nD τ) ↦[arg13.view.set]{fullShare} f) ∗ ⌜f = insI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k⌝))
  step k _ := by
    have e0 := insV_eq (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k.val
    have e : insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 (G12, G13) (k.val + 1)
        = (let t := insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 k (insV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k.val, insI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k.val)
          (t.1, t.2.1)) := by
      rw [insAt, dif_pos k.isLt, e0]
    simp only [insV, insI]
    rw [e]
    iintro ⟨H9, H10, ⟨%f, H12, %h12⟩, ⟨%g, H13, %h13⟩⟩
    subst h12; subst h13
    iapply (wp_wand_r Idealize.ShloMosaic.frame (wpE (defs₀ (F := F)) Variants.none (c : Thread nD τ) none) E)
    isplitl [H9 H10 H12 H13]
    · iapply (insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 k (insV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k.val, insI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G12 G13 k.val)).2.2 E
      isplitl [H9]; · iexact H9
      isplitl [H10]; · iexact H10
      isplitl [H12]; · iexact H12
      iexact H13
    · iintro %_ ⟨H9, H10, H12, H13⟩
      isplitl [H9]; · iexact H9
      isplitl [H10]; · iexact H10
      isplitl [H12]
      · iexists _; isplitl [H12]; · iexact H12
        ipureintro; rfl
      · iexists _; isplitl [H13]; · iexact H13
        ipureintro; rfl

set_option maxHeartbeats 2000000 in
/-- One extraction, at any number of extractions done before. -/
@[irreducible] noncomputable def extTrip (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (k : Fin k0_t2_loop.trips) (g : BufTy.Contents (Elt F) arg12.view.ty × BufTy.Contents (Elt F) arg13.view.ty × BufTy.Contents (Elt F) arg14.view.ty × BufTy.Contents (Elt F) arg15.view.ty) :
    Σ' (g12 : BufTy.Contents (Elt F) arg12.view.ty), Σ' (g13 : BufTy.Contents (Elt F) arg13.view.ty), Σ' (g14 : BufTy.Contents (Elt F) arg14.view.ty), { g15 : BufTy.Contents (Elt F) arg15.view.ty // ∀ (E : Set ℕ),
        (iprop((arg12.view.loc (c : Thread nD τ) ↦[arg12.view.set]{fullShare} (g).1) ∗ (arg13.view.loc (c : Thread nD τ) ↦[arg13.view.set]{fullShare} (g).2.1) ∗ (arg14.view.loc (c : Thread nD τ) ↦[arg14.view.set]{fullShare} (g).2.2.1) ∗ (arg15.view.loc (c : Thread nD τ) ↦[arg15.view.set]{fullShare} (g).2.2.2)) : sProp 𝕄)
        ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k ())
          (fun _ => iprop((arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15))) } := by
  have hk : k.val < 16 := Nat.lt_of_lt_of_le k.isLt k0_t2_abs.2.1
  refine ⟨?_, ?_, ?_, ?_, fun E => ?run⟩
  case run =>
    unfold k0_t2_body
    iintro ⟨H12, H13, H14, H15⟩
    sl_exec
    sl_step
    isplitl [H12]; · iexact H12
    isplitl [H13]; · iexact H13
    isplitl [H14]; · iexact H14
    iexact H15

/-- The slots and the results after the first `k` extractions. -/
noncomputable def extAt (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G : BufTy.Contents (Elt F) arg12.view.ty × BufTy.Contents (Elt F) arg13.view.ty × BufTy.Contents (Elt F) arg14.view.ty × BufTy.Contents (Elt F) arg15.view.ty) : ℕ → BufTy.Contents (Elt F) arg12.view.ty × BufTy.Contents (Elt F) arg13.view.ty × BufTy.Contents (Elt F) arg14.view.ty × BufTy.Contents (Elt F) arg15.view.ty
  | 0 => G
  | k + 1 =>
    if h : k < k0_t2_loop.trips then
      let t := extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, h⟩ (extAt c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k)
      (t.1, t.2.1, t.2.2.1, t.2.2.2.1)
    else extAt c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k

/-- The slots' values after the first `k` extractions. -/
noncomputable def extV (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg12.view.ty
  | 0 => G12
  | k + 1 => (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) (k + 1)).1

/-- The slots' key numbers after the first `k` extractions. -/
noncomputable def extI (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg13.view.ty
  | 0 => G13
  | k + 1 => (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) (k + 1)).2.1

/-- The distances found after the first `k` extractions. -/
noncomputable def extRV (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg14.view.ty
  | 0 => G14
  | k + 1 => (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) (k + 1)).2.2.1

/-- The key numbers found after the first `k` extractions. -/
noncomputable def extRI (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G12 : BufTy.Contents (Elt F) arg12.view.ty) (G13 : BufTy.Contents (Elt F) arg13.view.ty) (G14 : BufTy.Contents (Elt F) arg14.view.ty) (G15 : BufTy.Contents (Elt F) arg15.view.ty) : ℕ → BufTy.Contents (Elt F) arg15.view.ty
  | 0 => G15
  | k + 1 => (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) (k + 1)).2.2.2

theorem extV_eq (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G12 : BufTy.Contents (Elt F) arg12.view.ty) (G13 : BufTy.Contents (Elt F) arg13.view.ty) (G14 : BufTy.Contents (Elt F) arg14.view.ty) (G15 : BufTy.Contents (Elt F) arg15.view.ty) (k : ℕ) :
    (extV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k, extI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k, extRV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k, extRI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k)
      = extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k := by
  cases k <;> rfl

set_option warn.classDefReducibility false in
/-- The extraction loop. -/
@[sl_loop] def extLoop (E : Set ℕ) (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (G12 : BufTy.Contents (Elt F) arg12.view.ty) (G13 : BufTy.Contents (Elt F) arg13.view.ty) (G14 : BufTy.Contents (Elt F) arg14.view.ty) (G15 : BufTy.Contents (Elt F) arg15.view.ty) :
    LoopInvTy_k0_t2 (F := F) Ix ℕ U ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 where
  inv k _ := iprop((∃ f, (arg12.view.loc (c : Thread nD τ) ↦[arg12.view.set]{fullShare} f) ∗ ⌜f = extV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k⌝) ∗ (∃ f, (arg13.view.loc (c : Thread nD τ) ↦[arg13.view.set]{fullShare} f) ∗ ⌜f = extI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k⌝) ∗ (∃ f, (arg14.view.loc (c : Thread nD τ) ↦[arg14.view.set]{fullShare} f) ∗ ⌜f = extRV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k⌝) ∗ (∃ f, (arg15.view.loc (c : Thread nD τ) ↦[arg15.view.set]{fullShare} f) ∗ ⌜f = extRI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k⌝))
  step k _ := by
    have e0 := extV_eq (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val
    have e : extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) (k.val + 1)
        = (let t := extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k (extV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extRV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extRI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val)
          (t.1, t.2.1, t.2.2.1, t.2.2.2.1)) := by
      rw [extAt, dif_pos k.isLt, e0]
    simp only [extV, extI, extRV, extRI]
    rw [e]
    iintro ⟨⟨%a, H12, %h12⟩, ⟨%b, H13, %h13⟩, ⟨%f, H14, %h14⟩, ⟨%g, H15, %h15⟩⟩
    subst h12; subst h13; subst h14; subst h15
    iapply (wp_wand_r Idealize.ShloMosaic.frame (wpE (defs₀ (F := F)) Variants.none (c : Thread nD τ) none) E)
    isplitl [H12 H13 H14 H15]
    · iapply (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k (extV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extRV (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val, extRI (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G12 G13 G14 G15 k.val)).2.2.2.2 E
      isplitl [H12]; · iexact H12
      isplitl [H13]; · iexact H13
      isplitl [H14]; · iexact H14
      iexact H15
    · iintro %_ ⟨H12, H13, H14, H15⟩
      isplitl [H12]
      · iexists _; isplitl [H12]; · iexact H12
        ipureintro; rfl
      isplitl [H13]
      · iexists _; isplitl [H13]; · iexact H13
        ipureintro; rfl
      isplitl [H14]
      · iexists _; isplitl [H14]; · iexact H14
        ipureintro; rfl
      · iexists _; isplitl [H15]; · iexact H15
        ipureintro; rfl

set_option maxHeartbeats 8000000 in
/-- At the last point: what every buffer holds after it. -/
noncomputable def lastRun (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f5 : BufTy.Contents (Elt F) arg5.view.ty) (f6 : BufTy.Contents (Elt F) arg6.view.ty) (f7 : BufTy.Contents (Elt F) arg7.view.ty) :
    Σ' (g9 : BufTy.Contents (Elt F) arg9.view.ty), Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g5 : BufTy.Contents (Elt F) arg5.view.ty), Σ' (g6 : BufTy.Contents (Elt F) arg6.view.ty), { g7 : BufTy.Contents (Elt F) arg7.view.ty //
      ∀ (E : Set ℕ) (K : PUnit → sProp 𝕄),
        iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (iprop((arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7)) -∗ K ⟨⟩))
          ⊢ wp frame (wpE (defs₀ (F := F)) Variants.none c none) E (cc0__fast_body lastPt arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun E K => ?run⟩
  case run =>
    simp only [cc0__fast_body_eq_skeleton]; unfold cc0__fast_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H8, H9, H10, H11, H12, H13, H14, H15, H5, H6, H7, Hk⟩
    sl_exec (disch := first | sl_exact hc1 | sl_exact hc2 | sl_exact hc3)
    sl_step
    iapply Hk
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H5]; · iexact H5
    isplitl [H6]; · iexact H6
    iexact H7

end Cert.Search.Fast

end
-- ==== Proof.Lanes.lean ====
/-
  The fast search in mathematics alone: forty candidates merged by a tree; the two smallest of forty and a bound on the
  rest; insertion into five slots, in which what is dropped is no smaller than the fifth; and the extraction of sixteen from
  four slots of each lane, which finds the sixteen nearest if everything not held lies beyond the sixteenth.
-/
module

public import proofs.«01_k».proof.Proof.Select
public import Mathlib.Tactic.IntervalCases

@[expose] public section

namespace Cert.Lanes

open Cert.Select

/-! ## A tree of forty -/

section Tree

variable {α : Type}

/-- Neighbours merged. -/
def level (mrg : α → α → α) (f : ℕ → α) (j : ℕ) : α := mrg (f (2 * j)) (f (2 * j + 1))

/-- Five candidates merged. -/
def five (mrg : α → α → α) (g : ℕ → α) : α := mrg (mrg (mrg (g 0) (g 1)) (mrg (g 2) (g 3))) (g 4)

/-- Forty candidates merged. -/
def tree (mrg : α → α → α) (f : ℕ → α) : α := five mrg (level mrg (level mrg (level mrg f)))

/-- What holds of each candidate and is kept by a merge holds of the result. -/
theorem tree_mem {mrg : α → α → α} {P : α → Prop} (h : ∀ a b, P a → P b → P (mrg a b)) {f : ℕ → α} (hf : ∀ c, c < 40 → P (f c)) :
    P (tree mrg f) := by
  have l1 : ∀ j, j < 20 → P (level mrg f j) := fun j hj => h _ _ (hf _ (by omega)) (hf _ (by omega))
  have l2 : ∀ j, j < 10 → P (level mrg (level mrg f) j) := fun j hj => h _ _ (l1 _ (by omega)) (l1 _ (by omega))
  have l3 : ∀ j, j < 5 → P (level mrg (level mrg (level mrg f)) j) := fun j hj => h _ _ (l2 _ (by omega)) (l2 _ (by omega))
  exact h _ _ (h _ _ (h _ _ (l3 0 (by omega)) (l3 1 (by omega))) (h _ _ (l3 2 (by omega)) (l3 3 (by omega)))) (l3 4 (by omega))

/-- If a merge is no larger than either, the result is no larger than any. -/
theorem tree_le {β : Type} [Preorder β] (val : α → β) {mrg : α → α → α} (h1 : ∀ a b, val (mrg a b) ≤ val a)
    (h2 : ∀ a b, val (mrg a b) ≤ val b) (f : ℕ → α) (c : ℕ) (hc : c < 40) : val (tree mrg f) ≤ val (f c) := by
  have lv : ∀ (g : ℕ → α) (j : ℕ), val (level mrg g (j / 2)) ≤ val (g j) := by
    intro g j
    rcases Nat.mod_two_eq_zero_or_one j with e | e
    · have : j = 2 * (j / 2) := by omega
      exact (h1 _ _).trans (le_of_eq (congrArg (fun x => val (g x)) this.symm))
    · have : j = 2 * (j / 2) + 1 := by omega
      exact (h2 _ _).trans (le_of_eq (congrArg (fun x => val (g x)) this.symm))
  have fv : ∀ (g : ℕ → α) (j : ℕ), j < 5 → val (five mrg g) ≤ val (g j) := by
    intro g j hj
    have hj' : j = 0 ∨ j = 1 ∨ j = 2 ∨ j = 3 ∨ j = 4 := by omega
    rcases hj' with rfl | rfl | rfl | rfl | rfl
    · exact (h1 _ _).trans ((h1 _ _).trans (h1 _ _))
    · exact (h1 _ _).trans ((h1 _ _).trans (h2 _ _))
    · exact (h1 _ _).trans ((h2 _ _).trans (h1 _ _))
    · exact (h1 _ _).trans ((h2 _ _).trans (h2 _ _))
    · exact h2 _ _
  exact (fv _ (c / 2 / 2 / 2) (by omega)).trans ((lv _ _).trans ((lv _ _).trans (lv _ _)))

end Tree

/-! ## The two smallest of forty -/

/-- The smallest of forty candidates, the smallest of the rest, and a bound on what is left then. -/
theorem two_least {f f1 f2 : ℕ → EReal} {m1 m2 m3 : EReal} {r1 r2 : ℕ} (hv : ∀ c, c < 40 → f c < ⊤)
    (e1 : m1 = f r1) (hf1 : ∀ c, c < 40 → f1 c = if c = r1 then ⊤ else f c)
    (h2 : r2 < 40) (e2 : m2 = f1 r2) (l2 : ∀ c, c < 40 → m2 ≤ f1 c) (hf2 : ∀ c, c < 40 → f2 c = if c = r2 then ⊤ else f1 c)
    (l3 : ∀ c, c < 40 → m3 ≤ f2 c) :
    r1 ≠ r2 ∧ m1 = f r1 ∧ m2 = f r2 ∧ ∀ c, c < 40 → c ≠ r1 → c ≠ r2 → m3 ≤ f c := by
  have a2 : m2 < ⊤ := by
    by_cases h : r1 = 0
    · have := l2 1 (by omega)
      rw [hf1 1 (by omega), if_neg (by omega)] at this
      exact this.trans_lt (hv 1 (by omega))
    · have := l2 0 (by omega)
      rw [hf1 0 (by omega), if_neg (by omega)] at this
      exact this.trans_lt (hv 0 (by omega))
  have a3 : r2 ≠ r1 := by
    intro h
    rw [e2, hf1 r2 h2, if_pos h] at a2
    exact absurd a2 (not_lt.mpr le_top)
  refine ⟨a3.symm, e1, by rw [e2, hf1 r2 h2, if_neg a3], fun c hc n1 n2 => ?_⟩
  have := l3 c hc
  rwa [hf2 c hc, if_neg n2, hf1 c hc, if_neg n1] at this

/-! ## Insertion into five slots -/

/-- Five slots after the candidates below `k` have been inserted; `x none` is what an empty slot holds. -/
def Inserted (x : Option ℕ → EReal × BitVec 32) (k : ℕ) (S : ℕ → EReal × BitVec 32) : Prop :=
  ∃ σ : ℕ → Option ℕ, (∀ s, s < 5 → S s = x (σ s)) ∧ (∀ s j, s < 5 → σ s = some j → j < k)
    ∧ (∀ s s', s < 5 → s' < 5 → σ s = σ s' → σ s = none ∨ s = s')
    ∧ (∀ j, j < k → (∃ s, s < 5 ∧ σ s = some j) ∨ (S 4).1 ≤ (x (some j)).1)
    ∧ ∀ j, j < k → (S 0).1 ≤ (x (some j)).1

theorem Inserted.zero {x : Option ℕ → EReal × BitVec 32} {S : ℕ → EReal × BitVec 32} (h : ∀ s, s < 5 → S s = x none) : Inserted x 0 S :=
  ⟨fun _ => none, h, fun _ _ _ e => (by simp at e), fun _ _ _ _ _ => Or.inl rfl, fun _ hj => absurd hj (Nat.not_lt_zero _),
    fun _ hj => absurd hj (Nat.not_lt_zero _)⟩

/-- One candidate more: at each slot in turn the smaller of the slot and of what is carried stays and the other goes on. -/
theorem Inserted.succ {x : Option ℕ → EReal × BitVec 32} {k : ℕ} {S S' v : ℕ → EReal × BitVec 32} (h : Inserted x k S)
    (h0 : v 0 = x (some k)) (hS : ∀ s, s < 5 → S' s = if (v s).1 < (S s).1 then v s else S s)
    (hv : ∀ s, s < 5 → v (s + 1) = if (v s).1 < (S s).1 then S s else v s) : Inserted x (k + 1) S' := by
  obtain ⟨σ, hσ, hb, hi, hc, hz⟩ := h
  have main : ∀ s, s ≤ 5 → ∃ ρ : ℕ → Option ℕ, (∀ a b, ρ a = ρ b → ρ a = none ∨ a = b) ∧ (∀ i, i < s → S' i = x (ρ i))
      ∧ (∀ i, s ≤ i → i < 5 → S i = x (ρ i)) ∧ v s = x (ρ 5) ∧ (∀ i j, ρ i = some j → j < k + 1 ∧ i ≤ 5)
      ∧ ∀ j, j < k + 1 → (∃ i, ρ i = some j) ∨ (S 4).1 ≤ (x (some j)).1 := by
    intro s
    induction s with
    | zero =>
      intro _
      refine ⟨fun i => if i < 5 then σ i else if i = 5 then some k else none, ?_, fun i hi => absurd hi (Nat.not_lt_zero _), ?_, ?_, ?_, ?_⟩
      · intro a b e
        dsimp only at e ⊢
        by_cases a5 : a < 5
        · rw [if_pos a5] at e ⊢
          by_cases b5 : b < 5
          · rw [if_pos b5] at e; exact hi a b a5 b5 e
          · rw [if_neg b5] at e
            by_cases b6 : b = 5
            · rw [if_pos b6] at e; exact absurd (hb a k a5 e) (lt_irrefl _)
            · rw [if_neg b6] at e; exact Or.inl e
        · rw [if_neg a5] at e ⊢
          by_cases a6 : a = 5
          · rw [if_pos a6] at e ⊢
            by_cases b5 : b < 5
            · rw [if_pos b5] at e; exact absurd (hb b k b5 e.symm) (lt_irrefl _)
            · rw [if_neg b5] at e
              by_cases b6 : b = 5
              · exact Or.inr (a6.trans b6.symm)
              · rw [if_neg b6] at e; cases e
          · rw [if_neg a6]; exact Or.inl rfl
      · intro i _ hi5
        dsimp only
        rw [if_pos hi5]; exact hσ i hi5
      · exact h0
      · intro i j e
        dsimp only at e
        split_ifs at e with a5 a5'
        · exact ⟨Nat.lt_succ_of_lt (hb i j a5 e), by omega⟩
        · cases e; exact ⟨Nat.lt_succ_self _, by omega⟩
      · intro j hj
        rcases Nat.lt_succ_iff_lt_or_eq.mp hj with hj | rfl
        · rcases hc j hj with ⟨s, hs, e⟩ | h
          · exact Or.inl ⟨s, by dsimp only; rw [if_pos hs]; exact e⟩
          · exact Or.inr h
        · exact Or.inl ⟨5, rfl⟩
    | succ s ih =>
      intro hs
      obtain ⟨ρ, g, d, u, e, b, c⟩ := ih (by omega)
      by_cases hlt : (v s).1 < (S s).1
      · refine ⟨fun i => ρ (Equiv.swap s 5 i), ?_, ?_, ?_, ?_, ?_, ?_⟩
        · intro a b' e'
          rcases g _ _ e' with h | h
          · exact Or.inl h
          · exact Or.inr ((Equiv.swap s 5).injective h)
        · intro i hi
          rcases Nat.lt_succ_iff_lt_or_eq.mp hi with hi | rfl
          · dsimp only
            rw [Equiv.swap_apply_of_ne_of_ne (by omega) (by omega)]; exact d i hi
          · dsimp only
            rw [Equiv.swap_apply_left, hS i (by omega), if_pos hlt]; exact e
        · intro i hi hi5
          dsimp only
          rw [Equiv.swap_apply_of_ne_of_ne (by omega) (by omega)]; exact u i (by omega) hi5
        · dsimp only
          rw [Equiv.swap_apply_right, hv s (by omega), if_pos hlt]; exact u s le_rfl (by omega)
        · intro i j e'
          obtain ⟨h1, h2⟩ := b _ j e'
          refine ⟨h1, ?_⟩
          by_contra hi
          rw [Equiv.swap_apply_of_ne_of_ne (by omega) (by omega)] at h2
          exact hi h2
        · intro j hj
          rcases c j hj with ⟨i, e'⟩ | h
          · exact Or.inl ⟨Equiv.swap s 5 i, by dsimp only; rw [Equiv.swap_apply_self]; exact e'⟩
          · exact Or.inr h
      · refine ⟨ρ, g, ?_, fun i hi hi5 => u i (by omega) hi5, ?_, b, c⟩
        · intro i hi
          rcases Nat.lt_succ_iff_lt_or_eq.mp hi with hi | rfl
          · exact d i hi
          · rw [hS i (by omega), if_neg hlt]; exact u i le_rfl (by omega)
        · rw [hv s (by omega), if_neg hlt]; exact e
  obtain ⟨ρ, g, d, _, e, b, c⟩ := main 5 le_rfl
  have m4 : (S' 4).1 ≤ (S 4).1 ∧ (S' 4).1 ≤ (v 5).1 := by
    rw [hS 4 (by omega), hv 4 (by omega)]
    split_ifs with h
    · exact ⟨h.le, h.le⟩
    · exact ⟨le_rfl, not_lt.mp h⟩
  have m0 : (S' 0).1 ≤ (S 0).1 ∧ (S' 0).1 ≤ (v 0).1 := by
    rw [hS 0 (by omega)]
    split_ifs with h
    · exact ⟨h.le, le_rfl⟩
    · exact ⟨le_rfl, not_lt.mp h⟩
  refine ⟨ρ, d, fun s j _ e' => (b s j e').1, fun s s' _ _ e' => g s s' e', fun j hj => ?_, fun j hj => ?_⟩
  · rcases c j hj with ⟨i, e'⟩ | h
    · rcases Nat.lt_or_eq_of_le (b i j e').2 with h5 | rfl
      · exact Or.inl ⟨i, h5, e'⟩
      · right; rw [← e', ← e]; exact m4.2
    · exact Or.inr (m4.1.trans h)
  · rcases Nat.lt_succ_iff_lt_or_eq.mp hj with hj | rfl
    · exact m0.1.trans (hz j hj)
    · rw [← h0]; exact m0.2

/-! ## Extraction of sixteen from four slots of each lane -/

/-- What the slots hold at the start: some of the positions below 100000, each at most once, with their distances; a slot
    that holds no position holds at least `P`. -/
structure Entries (P : EReal) (D : ℕ → EReal) (N : Fin 4 → Fin 128 → Option ℕ) (V : Fin 4 → Fin 128 → EReal) (W : Fin 4 → Fin 128 → BitVec 32) : Prop where
  empty : ∀ s l, N s l = none → P ≤ V s l
  lt : ∀ s l n, N s l = some n → n < 100000
  val : ∀ s l n, N s l = some n → V s l = D n
  num : ∀ s l n, N s l = some n → W s l = BitVec.ofNat 32 n
  inj : ∀ s l s' l' n, N s l = some n → N s' l' = some n → s = s' ∧ l = l'

/-- A round: the smallest value, among the slots that hold it the smallest number, and the slots after it. -/
structure Round (V : Fin 4 → Fin 128 → EReal) (W : Fin 4 → Fin 128 → BitVec 32) (m : EReal) (g : BitVec 32) (V' : Fin 4 → Fin 128 → EReal) : Prop where
  mem : ∃ s l, V s l = m
  le : ∀ s l, m ≤ V s l
  gmem : ∃ s l, g = if V s l = m then W s l else 0x40000000#32
  gle : ∀ s l, g.toInt ≤ (if V s l = m then W s l else 0x40000000#32).toInt
  next : ∀ s l, V' s l = if V s l = m ∧ W s l = g then ⊤ else V s l

/-- After `t` rounds that each found a position. -/
def Found (D : ℕ → EReal) (N : Fin 4 → Fin 128 → Option ℕ) (V0 : Fin 4 → Fin 128 → EReal) (t : ℕ) (V : Fin 4 → Fin 128 → EReal)
    (rv : ℕ → EReal) (ri : ℕ → BitVec 32) : Prop :=
  ∃ p : ℕ → ℕ, (∀ i, i < t → rv i = D (p i) ∧ ri i = BitVec.ofNat 32 (p i) ∧ (∃ s l, N s l = some (p i)) ∧ (∀ j, j < i → p j ≠ p i)
      ∧ ∀ n, (∃ s l, N s l = some n) → (∀ j, j ≤ i → p j ≠ n) → Before D (p i) n)
    ∧ ∀ s l, ((∃ i, i < t ∧ N s l = some (p i)) → V s l = ⊤) ∧ ((∀ i, i < t → N s l ≠ some (p i)) → V s l = V0 s l)

/-- After `t` rounds: each found a position, or the last of them found `P` or more and no slot holds less. -/
def Extracted (P : EReal) (D : ℕ → EReal) (N : Fin 4 → Fin 128 → Option ℕ) (V0 : Fin 4 → Fin 128 → EReal) (t : ℕ) (V : Fin 4 → Fin 128 → EReal)
    (rv : ℕ → EReal) (ri : ℕ → BitVec 32) : Prop :=
  Found D N V0 t V rv ri ∨ (∃ i, t = i + 1 ∧ P ≤ rv i) ∧ ∀ s l, P ≤ V s l

theorem Extracted.zero {P : EReal} {D : ℕ → EReal} {N : Fin 4 → Fin 128 → Option ℕ} {V0 : Fin 4 → Fin 128 → EReal} {rv : ℕ → EReal} {ri : ℕ → BitVec 32} :
    Extracted P D N V0 0 V0 rv ri :=
  Or.inl ⟨fun _ => 0, fun _ hi => absurd hi (Nat.not_lt_zero _), fun _ _ => ⟨fun ⟨_, hi, _⟩ => absurd hi (Nat.not_lt_zero _), fun _ => rfl⟩⟩

theorem toInt_small {n : ℕ} (h : n < 100000) : (BitVec.ofNat 32 n).toInt = n := by
  rw [BitVec.toInt_eq_toNat_of_lt (by rw [BitVec.toNat_ofNat]; omega), BitVec.toNat_ofNat]; omega

theorem ofNat_inj {a b : ℕ} (ha : a < 100000) (hb : b < 100000) (h : BitVec.ofNat 32 a = BitVec.ofNat 32 b) : a = b := by
  have := congrArg BitVec.toInt h
  rw [toInt_small ha, toInt_small hb] at this
  omega

theorem Found.succ {P : EReal} {D : ℕ → EReal} {N : Fin 4 → Fin 128 → Option ℕ} {V0 V V' : Fin 4 → Fin 128 → EReal} {W : Fin 4 → Fin 128 → BitVec 32} {t : ℕ}
    {rv rv' : ℕ → EReal} {ri ri' : ℕ → BitVec 32} {m : EReal} {g : BitVec 32} (h0 : Entries P D N V0 W) (h : Found D N V0 t V rv ri) (hm : m < P)
    (hr : Round V W m g V') (hv : ∀ i, i < t → rv' i = rv i) (hi : ∀ i, i < t → ri' i = ri i) (hvt : rv' t = m) (hit : ri' t = g) :
    Found D N V0 (t + 1) V' rv' ri' := by
  obtain ⟨p, hp, hV⟩ := h
  -- a slot that holds less than `P` is live
  have live : ∀ s l, V s l < P → ∃ n, N s l = some n ∧ (∀ i, i < t → p i ≠ n) ∧ V s l = D n ∧ W s l = BitVec.ofNat 32 n := by
    intro s l hlt
    have hno : ∀ i, i < t → N s l ≠ some (p i) := fun i hi' e => absurd hlt (by rw [(hV s l).1 ⟨i, hi', e⟩]; exact not_lt.mpr le_top)
    have e0 := (hV s l).2 hno
    cases hN : N s l with
    | none => rw [e0] at hlt; exact absurd hlt (not_lt.mpr (h0.empty s l hN))
    | some n =>
      exact ⟨n, rfl, fun i hi' e => hno i hi' (by rw [hN, e]), by rw [e0, h0.val s l n hN], h0.num s l n hN⟩
  have back : ∀ s l n, N s l = some n → (∀ i, i < t → p i ≠ n) → V s l = D n := by
    intro s l n e hn
    rw [(hV s l).2 fun i hi' e' => hn i hi' (by rw [e] at e'; exact (Option.some.inj e').symm), h0.val s l n e]
  obtain ⟨s0, l0, e0⟩ := hr.mem
  obtain ⟨n0, hn0, _, _, hw0⟩ := live s0 l0 (e0 ▸ hm)
  have g0 := hr.gle s0 l0
  rw [if_pos e0, hw0, toInt_small (h0.lt _ _ _ hn0)] at g0
  obtain ⟨s1, l1, e1⟩ := hr.gmem
  have hV1 : V s1 l1 = m := by
    by_contra hne
    rw [if_neg hne] at e1
    have h3 := h0.lt _ _ _ hn0
    rw [e1] at g0
    have : (0x40000000#32 : BitVec 32).toInt = 1073741824 := by decide
    rw [this] at g0
    omega
  rw [if_pos hV1] at e1
  obtain ⟨n1, hn1, hp1, hd1, hw1⟩ := live s1 l1 (hV1 ▸ hm)
  have hD1 : D n1 = m := hd1 ▸ hV1
  have hl1 := h0.lt _ _ _ hn1
  have hg1 : g = BitVec.ofNat 32 n1 := e1.trans hw1
  let p' : ℕ → ℕ := fun i => if i = t then n1 else p i
  have p't : p' t = n1 := if_pos rfl
  have p'lt : ∀ i, i < t → p' i = p i := fun i hi' => if_neg (by omega)
  refine ⟨p', fun i hi' => ?_, fun s l => ⟨?_, ?_⟩⟩
  · rcases Nat.lt_succ_iff_lt_or_eq.mp hi' with hi' | rfl
    · obtain ⟨a, b, c, d, e⟩ := hp i hi'
      rw [p'lt i hi', hv i hi', hi i hi']
      refine ⟨a, b, c, fun j hj => ?_, fun n hn hj => e n hn fun j hji => ?_⟩
      · rw [p'lt j (by omega)]; exact d j hj
      · rw [← p'lt j (by omega)]; exact hj j hji
    · rw [p't, hvt, hit]
      refine ⟨hD1.symm, hg1, ⟨s1, l1, hn1⟩, fun j hj => ?_, fun n ⟨s, l, hn⟩ hj => ?_⟩
      · rw [p'lt j hj]; exact hp1 j hj
      · have hnp : ∀ j, j < i → p j ≠ n := fun j hji => by rw [← p'lt j hji]; exact hj j (by omega)
        have hne : n1 ≠ n := by have := hj i le_rfl; rwa [p't] at this
        have hVn := back s l n hn hnp
        rcases lt_or_eq_of_le (hr.le s l) with hlt | heq
        · exact Or.inl (by rw [hD1, ← hVn]; exact hlt)
        · refine Or.inr ⟨by rw [hD1, ← hVn]; exact heq, ?_⟩
          have := hr.gle s l
          rw [if_pos heq.symm, h0.num s l n hn, hg1, toInt_small hl1, toInt_small (h0.lt _ _ _ hn)] at this
          omega
  · rintro ⟨i, hi', e⟩
    rw [hr.next s l]
    split_ifs with hc
    · rfl
    · rcases Nat.lt_succ_iff_lt_or_eq.mp hi' with hi' | rfl
      · rw [p'lt i hi'] at e; exact (hV s l).1 ⟨i, hi', e⟩
      · rw [p't] at e
        obtain ⟨rfl, rfl⟩ := h0.inj _ _ _ _ _ e hn1
        exact absurd ⟨hV1, hw1.trans hg1.symm⟩ hc
  · intro hno
    rw [hr.next s l]
    split_ifs with hc
    · exfalso
      obtain ⟨n, hn, _, _, hw⟩ := live s l (hc.1 ▸ hm)
      have : n = n1 := ofNat_inj (h0.lt _ _ _ hn) hl1 (by rw [← hw, hc.2, hg1])
      exact hno t (Nat.lt_succ_self _) (by rw [hn, p't, this])
    · exact (hV s l).2 fun i hi' => by rw [← p'lt i hi']; exact hno i (by omega)

theorem Extracted.succ {P : EReal} {D : ℕ → EReal} {N : Fin 4 → Fin 128 → Option ℕ} {V0 V V' : Fin 4 → Fin 128 → EReal} {W : Fin 4 → Fin 128 → BitVec 32} {t : ℕ}
    {rv rv' : ℕ → EReal} {ri ri' : ℕ → BitVec 32} {m : EReal} {g : BitVec 32} (h0 : Entries P D N V0 W) (h : Extracted P D N V0 t V rv ri)
    (hr : Round V W m g V') (hv : ∀ i, i < t → rv' i = rv i) (hi : ∀ i, i < t → ri' i = ri i) (hvt : rv' t = m) (hit : ri' t = g) :
    Extracted P D N V0 (t + 1) V' rv' ri' := by
  have up : P ≤ m → Extracted P D N V0 (t + 1) V' rv' ri' := fun hm =>
    Or.inr ⟨⟨t, rfl, by rw [hvt]; exact hm⟩, fun s l => by
      rw [hr.next s l]
      split_ifs
      · exact le_top
      · exact hm.trans (hr.le s l)⟩
  rcases h with h | ⟨-, h⟩
  · rcases lt_or_ge m P with hm | hm
    · exact Or.inl (h.succ h0 hm hr hv hi hvt hit)
    · exact up hm
  · obtain ⟨s, l, e⟩ := hr.mem
    exact up (e ▸ h s l)

/-- Sixteen rounds find the sixteen nearest, if the last of them lies below `P` and every position not held beyond it. -/
theorem Extracted.isTop {P : EReal} {D : ℕ → EReal} {N : Fin 4 → Fin 128 → Option ℕ} {V0 V : Fin 4 → Fin 128 → EReal} {W : Fin 4 → Fin 128 → BitVec 32}
    {rv : ℕ → EReal} {ri : ℕ → BitVec 32} (h0 : Entries P D N V0 W) (h : Extracted P D N V0 16 V rv ri) (hP : rv 15 < P)
    (hout : ∀ n, n < 100000 → (∃ s l, N s l = some n) ∨ rv 15 < D n) :
    ∃ s : Fin 16 → ℕ, IsTop D 100000 s ∧ ∀ j : Fin 16, rv j = D (s j) ∧ ri j = BitVec.ofNat 32 (s j) := by
  rcases h with ⟨p, hp, _⟩ | ⟨⟨i, e, h⟩, -⟩
  swap
  · obtain rfl : i = 15 := by omega
    exact absurd hP (not_lt.mpr h)
  have hlt : ∀ i, i < 16 → p i < 100000 := fun i hi => by
    obtain ⟨_, _, ⟨s, l, e⟩, _⟩ := hp i hi
    exact h0.lt _ _ _ e
  have hinc : ∀ i j, i < j → j < 16 → Before D (p i) (p j) := by
    intro i j hij hj
    obtain ⟨_, _, hpres, hne, _⟩ := hp j hj
    exact (hp i (by omega)).2.2.2.2 (p j) hpres fun k hk => hne k (by omega)
  refine ⟨fun j => p j, ⟨fun j => hlt j j.isLt, fun i j hij => hinc i j hij j.isLt, fun n hn hj j => ?_⟩, fun j => ⟨(hp j j.isLt).1, (hp j j.isLt).2.1⟩⟩
  rcases hout n hn with hpres | hbig
  · exact (hp j j.isLt).2.2.2.2 n hpres fun k hk => hj ⟨k, by omega⟩
  · rw [(hp 15 (by omega)).1] at hbig
    have hj15 : D (p j) ≤ D (p 15) := by
      rcases Nat.lt_or_eq_of_le (Nat.le_of_lt_succ j.isLt : j.val ≤ 15) with hjl | e
      · rcases hinc j 15 hjl (by omega) with h | ⟨h, _⟩
        · exact h.le
        · exact h.le
      · rw [e]
    exact Or.inl (hj15.trans_lt hbig)

end Cert.Lanes

end
-- ==== Proof.FastTree.lean ====
/-
  The fold of a block in vectors: a block's 5000 columns as forty chunks of 128 lanes (the last filled up with a large
  constant), the smallest of the forty per lane and the chunk it came from by a tree of comparisons, the same again with
  that chunk's entry at infinity, and the third smallest.
-/
module

public import proofs.«01_k».proof.Proof.FastOff
public import proofs.«01_k».proof.Proof.Lanes

@[expose] public section

set_option maxRecDepth 16384

noncomputable section

namespace Cert.Search.Fast

open Cert.SearchIdeal Cert.SearchIdeal.Gen
open Idealize.ShloMosaic Idealize.ShloMosaic.TcCoe
open Cert.Lanes

variable {F : FTy → Type} [FloatOps F]

/-- Two candidates, lane by lane: the second where it is smaller, and the first elsewhere. -/
def merge (a b : FVec F S256x128 .f32 × IVec S256x128 32) : FVec F S256x128 .f32 × IVec S256x128 32 :=
  (select (cmpf .olt b.1 a.1) b.1 a.1, select (cmpf .olt b.1 a.1) b.2 a.2)

/-- The same of values alone. -/
def merge₁ (a b : FVec F S256x128 .f32) : FVec F S256x128 .f32 := select (cmpf .olt b a) b a

theorem slices_chunk (c : ℕ) (h : c < 39) : S256x5000.Slices ![0, 128 * c] S256x128 :=
  (by decide +kernel : ∀ c : Fin 39, S256x5000.Slices ![0, 128 * c.val] S256x128) ⟨c, h⟩

/-- Chunk `c` of a block. -/
def chunk (v : FVec F S256x5000 .f32) (c : ℕ) : FVec F S256x128 .f32 :=
  if h : c < 39 then extractStridedSlice S256x128 ![0, 128 * c] v (slices_chunk c h) else k0_pay43 v

/-- Chunks with the chunk `r` names at infinity, lane by lane. -/
def without (r : IVec S256x128 32) (f : ℕ → FVec F S256x128 .f32) (c : ℕ) : FVec F S256x128 .f32 :=
  select (cmpi .eq r (broadcast S256x128 (BitVec.ofNat 32 c))) (broadcast S256x128 (Scalar.ofBits .f32 0x7F800000#32)) (f c)

/-- Each candidate with its number. -/
def numbered (f : ℕ → FVec F S256x128 .f32) (c : ℕ) : FVec F S256x128 .f32 × IVec S256x128 32 :=
  (f c, broadcast S256x128 (BitVec.ofNat 32 c))

/-- The smallest of forty candidates and its number. -/
def least (f : ℕ → FVec F S256x128 .f32) : FVec F S256x128 .f32 × IVec S256x128 32 := tree merge (numbered f)

def first (v : FVec F S256x5000 .f32) : FVec F S256x128 .f32 × IVec S256x128 32 := least (chunk v)

def rest₁ (v : FVec F S256x5000 .f32) : ℕ → FVec F S256x128 .f32 := without (first v).2 (chunk v)

def second (v : FVec F S256x5000 .f32) : FVec F S256x128 .f32 × IVec S256x128 32 := least (rest₁ v)

def rest₂ (v : FVec F S256x5000 .f32) : ℕ → FVec F S256x128 .f32 := without (second v).2 (rest₁ v)

def third (v : FVec F S256x5000 .f32) : FVec F S256x128 .f32 := tree merge₁ (rest₂ v)

end Cert.Search.Fast

end
-- ==== Proof.FastSpec.lean ====
/-
  The fold of a block read lane by lane over the extended reals: the two smallest of a lane's forty candidates, the chunks
  they come from, and a bound on the rest.
-/
module

public import proofs.«01_k».proof.Proof.FastTree
public import proofs.«01_k».proof.Proof.Rounds

@[expose] public section

set_option maxRecDepth 16384

noncomputable section

namespace Cert.Search.Fast

open Cert.SearchIdeal Cert.SearchIdeal.Gen
open Idealize.ShloMosaic Idealize.ShloMosaic.TcCoe
open Cert.Lanes

/-- A choice between two by a comparison. -/
theorem pick {α : Type} (a b : EReal) (x y : α) :
    Scalar.select (FloatOps.cmpf (F := Ideal) (φ := .f32) .olt b a) x y = if b < a then x else y := by
  show (if BitVec.ofBool (decide (b < a)) = 1#1 then x else y) = _
  by_cases h : b < a <;> simp [h]

theorem merge_fst (a b : FVec Ideal S256x128 .f32 × IVec S256x128 32) (r : Fin 256) (l : Fin 128) :
    (merge a b).1 (ix2 r l) = if b.1 (ix2 r l) < a.1 (ix2 r l) then b.1 (ix2 r l) else a.1 (ix2 r l) := pick _ _ _ _

theorem merge_snd (a b : FVec Ideal S256x128 .f32 × IVec S256x128 32) (r : Fin 256) (l : Fin 128) :
    (merge a b).2 (ix2 r l) = if b.1 (ix2 r l) < a.1 (ix2 r l) then b.2 (ix2 r l) else a.2 (ix2 r l) := pick _ _ _ _

theorem merge₁_apply (a b : FVec Ideal S256x128 .f32) (r : Fin 256) (l : Fin 128) :
    merge₁ a b (ix2 r l) = if b (ix2 r l) < a (ix2 r l) then b (ix2 r l) else a (ix2 r l) := pick _ _ _ _

/-- The smallest of forty is one of them, its number is that one's, and it is no larger than any. -/
theorem least_spec (f : ℕ → FVec Ideal S256x128 .f32) (r : Fin 256) (l : Fin 128) :
    (∃ c, c < 40 ∧ (least f).1 (ix2 r l) = f c (ix2 r l) ∧ (least f).2 (ix2 r l) = BitVec.ofNat 32 c)
      ∧ ∀ c, c < 40 → ((least f).1 (ix2 r l) : EReal) ≤ f c (ix2 r l) := by
  refine ⟨?_, ?_⟩
  · refine tree_mem (mrg := merge) (P := fun a => ∃ c, c < 40 ∧ a.1 (ix2 r l) = f c (ix2 r l) ∧ a.2 (ix2 r l) = BitVec.ofNat 32 c) ?_ ?_
    · intro a b ha hb
      rw [merge_fst, merge_snd]
      split_ifs
      · exact hb
      · exact ha
    · exact fun c hc => ⟨c, hc, rfl, rfl⟩
  · intro c hc
    refine tree_le (β := EReal) (fun a => a.1 (ix2 r l)) (mrg := merge) ?_ ?_ (numbered f) c hc
    · intro a b
      rw [merge_fst]
      split_ifs with h
      · exact h.le
      · exact le_rfl
    · intro a b
      rw [merge_fst]
      split_ifs with h
      · exact le_rfl
      · exact not_lt.mp h

theorem third_le (v : FVec Ideal S256x5000 .f32) (r : Fin 256) (l : Fin 128) (c : ℕ) (hc : c < 40) :
    (third v (ix2 r l) : EReal) ≤ rest₂ v c (ix2 r l) := by
  refine tree_le (β := EReal) (fun a => a (ix2 r l)) (mrg := merge₁) ?_ ?_ (rest₂ v) c hc
  · intro a b
    rw [merge₁_apply]
    split_ifs with h
    · exact h.le
    · exact le_rfl
  · intro a b
    rw [merge₁_apply]
    split_ifs with h
    · exact le_rfl
    · exact not_lt.mp h

theorem without_apply (q : IVec S256x128 32) (f : ℕ → FVec Ideal S256x128 .f32) (r : Fin 256) (l : Fin 128) (k : ℕ) (hk : k < 40)
    (e : q (ix2 r l) = BitVec.ofNat 32 k) (c : ℕ) (hc : c < 40) :
    (without q f c (ix2 r l) : EReal) = if c = k then ⊤ else f c (ix2 r l) := by
  have h : without q f c (ix2 r l) = Scalar.select (IntOp.cmpi .eq (BitVec.ofNat 32 k) (BitVec.ofNat 32 c)) (⊤ : EReal) (f c (ix2 r l)) := by
    rw [← e]
    pointwise [without]
    rw [Cert.Rounds.ofBits_inf]
  rw [h, WordCmp.cmpi_eq_ofNat (by omega) (by omega)]
  unfold Scalar.select
  by_cases hkc : k = c
  · simp [hkc]
  · simp [hkc, Ne.symm hkc]

/-- The large constant. -/
abbrev pad : EReal := Ideal.ofBits .f32 0x7149F2CA#32

/-- Chunk `c`, lane `l` is column `128 * c + l` where the block has one, and the large constant elsewhere. -/
theorem chunk_in (v : FVec Ideal S256x5000 .f32) (r : Fin 256) (l : Fin 128) (c : ℕ) (hc : c < 40) (h : 128 * c + l.val < 5000) :
    chunk v c (ix2 r l) = v (ix2 r ⟨128 * c + l.val, h⟩) := by
  unfold chunk
  by_cases h39 : c < 39
  · rw [dif_pos h39]
    pointwise
  · rw [dif_neg h39]
    have e : c = 39 := by omega
    subst e
    pointwise [k0_pay43]
    exact dif_pos (by omega)

theorem chunk_out (v : FVec Ideal S256x5000 .f32) (r : Fin 256) (l : Fin 128) (c : ℕ) (hc : c < 40) (h : ¬ 128 * c + l.val < 5000) :
    chunk v c (ix2 r l) = pad := by
  unfold chunk
  have := l.isLt
  rw [dif_neg (by omega)]
  pointwise [k0_pay43]
  exact dif_neg (by omega)

/-- Chunk `c`'s entry in lane `l` where the block has one, and the large constant elsewhere. -/
def entry (s : ℕ → EReal) (l c : ℕ) : EReal := if 128 * c + l < 5000 then s (128 * c + l) else pad

theorem entry_in {s : ℕ → EReal} {l c : ℕ} (h : 128 * c + l < 5000) : entry s l c = s (128 * c + l) := if_pos h
theorem entry_out {s : ℕ → EReal} {l c : ℕ} (h : ¬ 128 * c + l < 5000) : entry s l c = pad := if_neg h

/-- A chunk, lane by lane. -/
theorem chunk_entry (v : FVec Ideal S256x5000 .f32) (s : ℕ → EReal) (r : Fin 256) (hV : ∀ q : Fin 5000, v (ix2 r q) = s q.val) (l : Fin 128) (c : ℕ) (hc : c < 40) :
    chunk v c (ix2 r l) = entry s l.val c := by
  by_cases h : 128 * c + l.val < 5000
  · rw [entry_in h, chunk_in v r l c hc h]; exact hV _
  · rw [entry_out h, chunk_out v r l c hc h]

/-- What a block's fold leaves in a lane: two different chunks' entries, the first of them the smallest, and a bound on the
    other chunks'. -/
theorem fold_spec (v : FVec Ideal S256x5000 .f32) (s : ℕ → EReal) (r : Fin 256) (hV : ∀ q : Fin 5000, v (ix2 r q) = s q.val) (hs : ∀ n, s n < ⊤) (hp : pad < ⊤)
    (l : Fin 128) :
    ∃ a b : ℕ, a < 40 ∧ b < 40 ∧ a ≠ b
      ∧ (first v).1 (ix2 r l) = entry s l.val a ∧ (first v).2 (ix2 r l) = BitVec.ofNat 32 a
      ∧ (second v).1 (ix2 r l) = entry s l.val b ∧ (second v).2 (ix2 r l) = BitVec.ofNat 32 b
      ∧ (∀ c, c < 40 → ((first v).1 (ix2 r l) : EReal) ≤ entry s l.val c)
      ∧ ∀ c, c < 40 → c ≠ a → c ≠ b → (third v (ix2 r l) : EReal) ≤ entry s l.val c := by
  obtain ⟨⟨a, ha, ea, na⟩, la⟩ := least_spec (chunk v) r l
  obtain ⟨⟨b, hb, eb, nb⟩, lb⟩ := least_spec (rest₁ v) r l
  have hc := fun c hc => chunk_entry v s r hV l c hc
  obtain ⟨p3, p4, p5, p6⟩ := two_least (f := fun c => chunk v c (ix2 r l)) (f1 := fun c => rest₁ v c (ix2 r l)) (f2 := fun c => rest₂ v c (ix2 r l))
    (m1 := (first v).1 (ix2 r l)) (m2 := (second v).1 (ix2 r l)) (m3 := third v (ix2 r l)) (r1 := a) (r2 := b)
    (fun c h => by
      rw [hc c h]
      unfold entry
      split_ifs
      · exact hs _
      · exact hp)
    ea (fun c hc => without_apply _ _ r l a ha na c hc) hb eb lb (fun c hc => without_apply _ _ r l b hb nb c hc) (third_le v r l)
  exact ⟨a, b, ha, hb, p3, p4.trans (hc a ha), na, p5.trans (hc b hb), nb, fun c h => (la c h).trans (le_of_eq (hc c h)),
    fun c h n1 n2 => (p6 c h n1 n2).trans (le_of_eq (hc c h))⟩

end Cert.Search.Fast

end
-- ==== Proof.FastIns.lean ====
/-
  The insertion of a lane's forty kept candidates into its five slots, in vectors and then lane by lane.
-/
module

public import proofs.«01_k».proof.Proof.FastLast
public import proofs.«01_k».proof.Proof.FastSpec
public import Idealize.ShloMosaic.Lib.WritesUnit
public import Idealize.ShloMosaic.Lib.Pipeline.Regions

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes

section Slots

variable {Val : EltTy → Type} {e : EltTy}

theorem inb_slot (s : ℕ) (h : s < 5) : ∀ a, (![s, 0, 0] : Fin 3 → ℕ) a + S1x256x128.size a ≤ S5x256x128.size a :=
  (by decide : ∀ s : Fin 5, ∀ a, (![s.val, 0, 0] : Fin 3 → ℕ) a + S1x256x128.size a ≤ S5x256x128.size a) ⟨s, h⟩

/-- One slot, loaded. -/
def slot (v : View sig .tc .vmem S5x256x128 e) (f : v.ty.Contents Val) (s : ℕ) (h : s < 5) : S1x256x128.Idx → Val e :=
  v.readAt Val (Rect.unit (s := S5x256x128) ![s, 0, 0] S1x256x128.size (inb_slot s h)).toLoadRect f

theorem slot_apply (v : View sig .tc .vmem S5x256x128 e) (f : v.ty.Contents Val) (s : ℕ) (h : s < 5) (r : Fin 256) (l : Fin 128) :
    slot v f s h (ix3 0 r l) = v.read Val f (ix3 ⟨s, h⟩ r l) := by
  unfold slot
  rw [View.readAt_apply]
  congr 1
  funext a
  apply Fin.ext
  match a with
  | ⟨0, _⟩ => show s + 1 * 0 = s; omega
  | ⟨1, _⟩ => show 0 + 1 * r.val = r.val; omega
  | ⟨2, _⟩ => show 0 + 1 * l.val = l.val; omega

/-- A store to one slot. -/
abbrev put (s : ℕ) (h : s < 5) (p : S1x256x128.Idx → Val e) : View.Piece Val S5x256x128 e :=
  ⟨Rect.unit (s := S5x256x128) ![s, 0, 0] S1x256x128.size (inb_slot s h), p⟩

theorem read_put_same (v : View sig .tc .vmem S5x256x128 e) (f : v.ty.Contents Val) (s : ℕ) (h : s < 5) (p : S1x256x128.Idx → Val e)
    (L : List (View.Piece Val S5x256x128 e)) (r : Fin 256) (l : Fin 128) :
    v.read Val (v.writes Val f (put s h p :: L)) (ix3 ⟨s, h⟩ r l) = p (ix3 0 r l) :=
  View.read_writes_cons_unit_of_mem v f (inb_slot s h) p L (ix3 ⟨s, h⟩ r l) (ix3 0 r l) rfl fun a => by
    match a with
    | ⟨0, _⟩ => show s = s + 0; omega
    | ⟨1, _⟩ => show r.val = 0 + r.val; omega
    | ⟨2, _⟩ => show l.val = 0 + l.val; omega

theorem read_put_other (v : View sig .tc .vmem S5x256x128 e) (f : v.ty.Contents Val) (s : ℕ) (h : s < 5) (p : S1x256x128.Idx → Val e)
    (L : List (View.Piece Val S5x256x128 e)) (s' : ℕ) (h' : s' < 5) (hne : s' ≠ s) (r : Fin 256) (l : Fin 128) :
    v.read Val (v.writes Val f (put s h p :: L)) (ix3 ⟨s', h'⟩ r l) = v.read Val (v.writes Val f L) (ix3 ⟨s', h'⟩ r l) :=
  View.read_writes_cons_unit_of_not_mem v f (inb_slot s h) p L (ix3 ⟨s', h'⟩ r l) rfl 0 (by
    show s' < s ∨ s + 1 ≤ s'; omega)

/-- Stores to the five slots. -/
def five5 (p : ℕ → S1x256x128.Idx → Val e) : List (View.Piece Val S5x256x128 e) :=
  [put 4 (by decide) (p 4), put 3 (by decide) (p 3), put 2 (by decide) (p 2), put 1 (by decide) (p 1), put 0 (by decide) (p 0)]

theorem read_five5 (v : View sig .tc .vmem S5x256x128 e) (f : v.ty.Contents Val) (p : ℕ → S1x256x128.Idx → Val e) (s : ℕ) (h : s < 5)
    (r : Fin 256) (l : Fin 128) : v.read Val (v.writes Val f (five5 p)) (ix3 ⟨s, h⟩ r l) = p s (ix3 0 r l) := by
  unfold five5
  have hs : s = 0 ∨ s = 1 ∨ s = 2 ∨ s = 3 ∨ s = 4 := by omega
  rcases hs with rfl | rfl | rfl | rfl | rfl
  · rw [read_put_other _ _ _ _ _ _ _ _ (by decide), read_put_other _ _ _ _ _ _ _ _ (by decide), read_put_other _ _ _ _ _ _ _ _ (by decide),
      read_put_other _ _ _ _ _ _ _ _ (by decide)]
    exact read_put_same _ _ _ _ _ _ _ _
  · rw [read_put_other _ _ _ _ _ _ _ _ (by decide), read_put_other _ _ _ _ _ _ _ _ (by decide), read_put_other _ _ _ _ _ _ _ _ (by decide)]
    exact read_put_same _ _ _ _ _ _ _ _
  · rw [read_put_other _ _ _ _ _ _ _ _ (by decide), read_put_other _ _ _ _ _ _ _ _ (by decide)]
    exact read_put_same _ _ _ _ _ _ _ _
  · rw [read_put_other _ _ _ _ _ _ _ _ (by decide)]
    exact read_put_same _ _ _ _ _ _ _ _
  · exact read_put_same _ _ _ _ _ _ _ _

end Slots

/-! ## One insertion in vectors -/

section Chain

variable {F : FTy → Type} [FloatOps F]

/-- A plane of values with their key numbers. -/
abbrev Plane (F : FTy → Type) : Type := FVec F S256x128 .f32 × IVec S256x128 32

/-- What is carried past the first `s` slots. -/
def past (S : ℕ → Plane F) (v : Plane F) : ℕ → Plane F
  | 0 => v
  | s + 1 => (select (cmpf .olt (past S v s).1 (S s).1) (S s).1 (past S v s).1, select (cmpf .olt (past S v s).1 (S s).1) (S s).2 (past S v s).2)

/-- What stays in slot `s`. -/
def stay (S : ℕ → Plane F) (v : Plane F) (s : ℕ) : Plane F :=
  (select (cmpf .olt (past S v s).1 (S s).1) (past S v s).1 (S s).1, select (cmpf .olt (past S v s).1 (S s).1) (past S v s).2 (S s).2)

/-- The five slots, as planes. -/
def slots (v12 : View sig .tc .vmem S5x256x128 .f32) (v13 : View sig .tc .vmem S5x256x128 .i32) (f : v12.ty.Contents (Elt F)) (g : v13.ty.Contents (Elt F))
    (s : ℕ) : Plane F :=
  if h : s < 5 then
    (shapeCast S256x128 (slot v12 f s h : FVec F S1x256x128 .f32) shapeCasts_S1x256x128_S256x128,
      shapeCast S256x128 (slot v13 g s h : IVec S1x256x128 32) shapeCasts_S1x256x128_S256x128)
  else (broadcast S256x128 (Scalar.ofBits .f32 0#32), broadcast S256x128 0#32)

theorem inb_off6 (k : Fin k0_t1_loop.trips) : ∀ a, k0_off6 k a + S1x256x128.size a ≤ S40x256x128.size a := by
  have hk : k.val < 40 := Nat.lt_of_lt_of_le k.isLt k0_t1_abs.2.1
  rw [off6_eq]
  intro a
  match a with
  | ⟨0, _⟩ => show k.val + 1 ≤ 40; omega
  | ⟨1, _⟩ => show 0 + 256 ≤ 256; omega
  | ⟨2, _⟩ => show 0 + 128 ≤ 128; omega

/-- The candidate inserted. -/
def cand (v9 : View sig .tc .vmem S40x256x128 .f32) (v10 : View sig .tc .vmem S40x256x128 .i32) (f : v9.ty.Contents (Elt F)) (g : v10.ty.Contents (Elt F))
    (k : Fin k0_t1_loop.trips) : Plane F :=
  (shapeCast S256x128 (v9.readAt (Elt F) (Rect.unit (s := S40x256x128) (k0_off6 k) S1x256x128.size (inb_off6 k)).toLoadRect f : FVec F S1x256x128 .f32) shapeCasts_S1x256x128_S256x128,
    shapeCast S256x128 (v10.readAt (Elt F) (Rect.unit (s := S40x256x128) (k0_off6 k) S1x256x128.size (inb_off6 k)).toLoadRect g : IVec S1x256x128 32) shapeCasts_S1x256x128_S256x128)

variable {Ix U : Type} [DecidableEq Ix] [URA U]

theorem insTrip_fst (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (k : Fin k0_t1_loop.trips) (g : BufTy.Contents (Elt F) arg12.view.ty × BufTy.Contents (Elt F) arg13.view.ty) :
    (insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 k g).1
      = arg12.view.writes (Elt F) g.1 (five5 fun s => shapeCast S1x256x128 (stay (slots arg12.view arg13.view g.1 g.2) (cand arg9.view arg10.view X9 X10 k) s).1 shapeCasts_S256x128_S1x256x128) := by
  unfold insTrip
  dsimp only
  refine congrArg (arg12.view.writes (Elt F) g.1) ?_
  chain_rfl

theorem insTrip_snd (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec F S256x128 .f32) (v34 : IVec S256x128 32) (X9 : BufTy.Contents (Elt F) arg9.view.ty) (X10 : BufTy.Contents (Elt F) arg10.view.ty)
    (k : Fin k0_t1_loop.trips) (g : BufTy.Contents (Elt F) arg12.view.ty × BufTy.Contents (Elt F) arg13.view.ty) :
    (insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 k g).2.1
      = arg13.view.writes (Elt F) g.2 (five5 fun s => shapeCast S1x256x128 (stay (slots arg12.view arg13.view g.1 g.2) (cand arg9.view arg10.view X9 X10 k) s).2 shapeCasts_S256x128_S1x256x128) := by
  unfold insTrip
  dsimp only
  refine congrArg (arg13.view.writes (Elt F) g.2) ?_
  chain_rfl

end Chain

/-! ## Lane by lane -/

section Lane

variable {Ix U : Type} [DecidableEq Ix] [URA U]

/-- What a lane's slot holds. -/
def held5 (v12 : View sig .tc .vmem S5x256x128 .f32) (v13 : View sig .tc .vmem S5x256x128 .i32) (f : v12.ty.Contents (Elt Ideal)) (g : v13.ty.Contents (Elt Ideal))
    (r : Fin 256) (l : Fin 128) (s : ℕ) : EReal × BitVec 32 :=
  if h : s < 5 then (v12.read (Elt Ideal) f (ix3 ⟨s, h⟩ r l), v13.read (Elt Ideal) g (ix3 ⟨s, h⟩ r l)) else (0, 0)

/-- A plane at a lane. -/
def Plane.at' (p : Plane Ideal) (r : Fin 256) (l : Fin 128) : EReal × BitVec 32 := (p.1 (ix2 r l), p.2 (ix2 r l))

theorem slots_at (v12 : View sig .tc .vmem S5x256x128 .f32) (v13 : View sig .tc .vmem S5x256x128 .i32) (f : v12.ty.Contents (Elt Ideal)) (g : v13.ty.Contents (Elt Ideal))
    (r : Fin 256) (l : Fin 128) (s : ℕ) (h : s < 5) : (slots v12 v13 f g s).at' r l = held5 v12 v13 f g r l s := by
  unfold slots held5 Plane.at'
  rw [dif_pos h, dif_pos h]
  rw [← slot_apply v12 f s h r l, ← slot_apply v13 g s h r l]
  generalize slot v12 f s h = a
  generalize slot v13 g s h = b
  dsimp only
  refine Prod.ext ?_ ?_
  · dsimp only
    pointwise
  · dsimp only
    pointwise

theorem past_at (S : ℕ → Plane Ideal) (v : Plane Ideal) (s : ℕ) (r : Fin 256) (l : Fin 128) :
    (past S v (s + 1)).at' r l = if ((past S v s).at' r l).1 < ((S s).at' r l).1 then (S s).at' r l else (past S v s).at' r l := by
  refine Prod.ext ?_ ?_
  · refine (pick _ _ _ _).trans ?_
    unfold Plane.at'
    dsimp only
    split_ifs <;> rfl
  · refine (pick _ _ _ _).trans ?_
    unfold Plane.at'
    dsimp only
    split_ifs <;> rfl

theorem stay_at (S : ℕ → Plane Ideal) (v : Plane Ideal) (s : ℕ) (r : Fin 256) (l : Fin 128) :
    (stay S v s).at' r l = if ((past S v s).at' r l).1 < ((S s).at' r l).1 then (past S v s).at' r l else (S s).at' r l := by
  refine Prod.ext ?_ ?_
  · refine (pick _ _ _ _).trans ?_
    unfold Plane.at'
    dsimp only
    split_ifs <;> rfl
  · refine (pick _ _ _ _).trans ?_
    unfold Plane.at'
    dsimp only
    split_ifs <;> rfl

theorem cast_down (a : FVec Ideal S1x256x128 .f32) (r : Fin 256) (l : Fin 128) :
    shapeCast S256x128 a shapeCasts_S1x256x128_S256x128 (ix2 r l) = a (ix3 0 r l) := by pointwise
theorem cast_downI (a : IVec S1x256x128 32) (r : Fin 256) (l : Fin 128) :
    shapeCast S256x128 a shapeCasts_S1x256x128_S256x128 (ix2 r l) = a (ix3 0 r l) := by pointwise
theorem cast_up (a : FVec Ideal S256x128 .f32) (r : Fin 256) (l : Fin 128) :
    shapeCast S1x256x128 a shapeCasts_S256x128_S1x256x128 (ix3 0 r l) = a (ix2 r l) := by pointwise
theorem cast_upI (a : IVec S256x128 32) (r : Fin 256) (l : Fin 128) :
    shapeCast S1x256x128 a shapeCasts_S256x128_S1x256x128 (ix3 0 r l) = a (ix2 r l) := by pointwise

theorem cand_at (v9 : View sig .tc .vmem S40x256x128 .f32) (v10 : View sig .tc .vmem S40x256x128 .i32) (f : v9.ty.Contents (Elt Ideal)) (g : v10.ty.Contents (Elt Ideal))
    (k : Fin k0_t1_loop.trips) (hk : k.val < 40) (r : Fin 256) (l : Fin 128) :
    (cand v9 v10 f g k).at' r l = (v9.read (Elt Ideal) f (ix3 ⟨k.val, hk⟩ r l), v10.read (Elt Ideal) g (ix3 ⟨k.val, hk⟩ r l)) := by
  have e : (Rect.unit (s := S40x256x128) (k0_off6 k) S1x256x128.size (inb_off6 k)).toLoadRect.idx (ix3 0 r l) = ix3 ⟨k.val, hk⟩ r l := by
    funext a
    apply Fin.ext
    have eo := off6_eq k
    match a with
    | ⟨0, _⟩ => show k0_off6 k 0 + 1 * 0 = k.val; rw [eo]; show k.val + 1 * 0 = _; omega
    | ⟨1, _⟩ => show k0_off6 k 1 + 1 * r.val = r.val; rw [eo]; show 0 + 1 * r.val = _; omega
    | ⟨2, _⟩ => show k0_off6 k 2 + 1 * l.val = l.val; rw [eo]; show 0 + 1 * l.val = _; omega
  unfold cand Plane.at'
  rw [← e, ← View.readAt_apply, ← View.readAt_apply]
  exact congrArg₂ Prod.mk
    (cast_down (v9.readAt (Elt Ideal) (Rect.unit (s := S40x256x128) (k0_off6 k) S1x256x128.size (inb_off6 k)).toLoadRect f) r l)
    (cast_downI (v10.readAt (Elt Ideal) (Rect.unit (s := S40x256x128) (k0_off6 k) S1x256x128.size (inb_off6 k)).toLoadRect g) r l)

theorem held5_writes (v12 : View sig .tc .vmem S5x256x128 .f32) (v13 : View sig .tc .vmem S5x256x128 .i32) (f : v12.ty.Contents (Elt Ideal)) (g : v13.ty.Contents (Elt Ideal))
    (p : ℕ → Plane Ideal) (r : Fin 256) (l : Fin 128) (s : ℕ) (h : s < 5) :
    held5 v12 v13 (v12.writes (Elt Ideal) f (five5 fun s => shapeCast S1x256x128 (p s).1 shapeCasts_S256x128_S1x256x128))
      (v13.writes (Elt Ideal) g (five5 fun s => shapeCast S1x256x128 (p s).2 shapeCasts_S256x128_S1x256x128)) r l s = (p s).at' r l := by
  unfold held5 Plane.at'
  rw [dif_pos h, read_five5, read_five5]
  generalize p s = q
  refine Prod.ext ?_ ?_
  · dsimp only
    pointwise
  · dsimp only
    pointwise

theorem insAt_succ (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec Ideal S256x128 .f32) (v34 : IVec S256x128 32) (X9 : BufTy.Contents (Elt Ideal) arg9.view.ty) (X10 : BufTy.Contents (Elt Ideal) arg10.view.ty)
    (G : BufTy.Contents (Elt Ideal) arg12.view.ty × BufTy.Contents (Elt Ideal) arg13.view.ty) (k : ℕ) (h : k < k0_t1_loop.trips) :
    insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G (k + 1) = ((insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 ⟨k, h⟩ (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k)).1,
      (insTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 ⟨k, h⟩ (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k)).2.1) := by
  rw [insAt, dif_pos h]

/-- One insertion in a lane, from what it stores. -/
theorem ins_step (v9 : View sig .tc .vmem S40x256x128 .f32) (v10 : View sig .tc .vmem S40x256x128 .i32) (X9 : v9.ty.Contents (Elt Ideal)) (X10 : v10.ty.Contents (Elt Ideal))
    (v12 : View sig .tc .vmem S5x256x128 .f32) (v13 : View sig .tc .vmem S5x256x128 .i32) (f g12 : v12.ty.Contents (Elt Ideal)) (g g13 : v13.ty.Contents (Elt Ideal))
    (k : Fin k0_t1_loop.trips) (r : Fin 256) (l : Fin 128) (x : Option ℕ → EReal × BitVec 32) (hk : k.val < 40)
    (hx : (v9.read (Elt Ideal) X9 (ix3 ⟨k.val, hk⟩ r l), v10.read (Elt Ideal) X10 (ix3 ⟨k.val, hk⟩ r l)) = x (some k.val))
    (ih : Inserted x k.val (held5 v12 v13 f g r l))
    (e1 : g12 = v12.writes (Elt Ideal) f (five5 fun s => shapeCast S1x256x128 (stay (slots v12 v13 f g) (cand v9 v10 X9 X10 k) s).1 shapeCasts_S256x128_S1x256x128))
    (e2 : g13 = v13.writes (Elt Ideal) g (five5 fun s => shapeCast S1x256x128 (stay (slots v12 v13 f g) (cand v9 v10 X9 X10 k) s).2 shapeCasts_S256x128_S1x256x128)) :
    Inserted x (k.val + 1) (held5 v12 v13 g12 g13 r l) := by
  subst e1 e2
  refine ih.succ (v := fun s => (past (slots v12 v13 f g) (cand v9 v10 X9 X10 k) s).at' r l) ?_ (fun s hs => ?_) fun s hs => ?_
  · exact (cand_at _ _ _ _ k hk r l).trans hx
  · rw [held5_writes _ _ _ _ _ _ _ _ hs, stay_at, slots_at _ _ _ _ _ _ _ hs]
  · rw [past_at, slots_at _ _ _ _ _ _ _ hs]

theorem ins_inserted (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (v9 : FVec Ideal S256x128 .f32) (v34 : IVec S256x128 32) (X9 : BufTy.Contents (Elt Ideal) arg9.view.ty) (X10 : BufTy.Contents (Elt Ideal) arg10.view.ty)
    (G : BufTy.Contents (Elt Ideal) arg12.view.ty × BufTy.Contents (Elt Ideal) arg13.view.ty) (r : Fin 256) (l : Fin 128) (x : Option ℕ → EReal × BitVec 32)
    (h0 : ∀ s, s < 5 → held5 arg12.view arg13.view G.1 G.2 r l s = x none)
    (hx : ∀ k (hk : k < 40), (arg9.view.read (Elt Ideal) X9 (ix3 ⟨k, hk⟩ r l), arg10.view.read (Elt Ideal) X10 (ix3 ⟨k, hk⟩ r l)) = x (some k))
    (k : ℕ) (hk : k ≤ 40) : Inserted x k (held5 arg12.view arg13.view (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k).1 (insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k).2 r l) := by
  induction k with
  | zero => exact Inserted.zero h0
  | succ k ih =>
    have ih := ih (by omega)
    have hkt : k < k0_t1_loop.trips := Nat.lt_of_lt_of_le (by omega) (by decide +kernel : 40 ≤ k0_t1_loop.trips)
    rw [insAt_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k hkt]
    generalize insAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 G k = g at ih ⊢
    exact ins_step arg9.view arg10.view X9 X10 arg12.view arg13.view g.1 _ g.2 _ ⟨k, hkt⟩ r l x (show k < 40 by omega) (hx k (by omega)) ih
      (insTrip_fst (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 ⟨k, hkt⟩ g) (insTrip_snd (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 v9 v34 X9 X10 ⟨k, hkt⟩ g)

end Lane

end Cert.Search.Fast

end
-- ==== Proof.FastExt.lean ====
/-
  The extraction of the sixteen nearest from a lane's first four slots, in vectors and then row by row.
-/
module

public import proofs.«01_k».proof.Proof.FastIns

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes

section Chain

variable {F : FTy → Type} [FloatOps F]

/-- The smallest value of a row. -/
def rowLeast (S : ℕ → Plane F) : FVec F S256x1 .f32 :=
  shapeCast S256x1 (multiReduction .minimumf [1] S256 (minimumf (minimumf (S 0).1 (S 1).1) (minimumf (S 2).1 (S 3).1)) 0x7F800000#32
    reduces_S256x128_S256 (.inl rfl) rfl) shapeCasts_S256_S256x1

/-- The numbers where the value is the row's smallest. -/
def atLeast (m : FVec F S256x1 .f32) (p : Plane F) : IVec S256x128 32 :=
  select (cmpf .oeq p.1 (broadcastTo S256x128 m broadcasts_S256x1_S256x128)) p.2 (broadcast S256x128 1073741824#32)

/-- The smallest such number of a row. -/
def rowNumber (S : ℕ → Plane F) : IVec S256x1 32 :=
  shapeCast S256x1 (multiReductionI .minsi [1] S256
    (minsi (minsi (atLeast (rowLeast S) (S 0)) (atLeast (rowLeast S) (S 1))) (minsi (atLeast (rowLeast S) (S 2)) (atLeast (rowLeast S) (S 3))))
    2147483647#32 reduces_S256x128_S256 rfl) shapeCasts_S256_S256x1

/-- A slot without the entry taken. -/
def drop (S : ℕ → Plane F) (s : ℕ) : FVec F S256x128 .f32 :=
  select (andi (cmpf .oeq (S s).1 (broadcastTo S256x128 (rowLeast S) broadcasts_S256x1_S256x128))
    (cmpi .eq (S s).2 (broadcastTo S256x128 (rowNumber S) broadcasts_S256x1_S256x128)))
    (broadcast S256x128 (Scalar.ofBits .f32 0x7F800000#32)) (S s).1

section
variable {Val : EltTy → Type} {e : EltTy}
/-- Stores to the first four slots. -/
def four5 (p : ℕ → S1x256x128.Idx → Val e) : List (View.Piece Val S5x256x128 e) :=
  [put 3 (by decide) (p 3), put 2 (by decide) (p 2), put 1 (by decide) (p 1), put 0 (by decide) (p 0)]

theorem read_four5 (v : View sig .tc .vmem S5x256x128 e) (f : v.ty.Contents Val) (p : ℕ → S1x256x128.Idx → Val e) (s : ℕ) (h : s < 4)
    (r : Fin 256) (l : Fin 128) : v.read Val (v.writes Val f (four5 p)) (ix3 ⟨s, by omega⟩ r l) = p s (ix3 0 r l) := by
  unfold four5
  have hs : s = 0 ∨ s = 1 ∨ s = 2 ∨ s = 3 := by omega
  rcases hs with rfl | rfl | rfl | rfl
  · rw [read_put_other _ _ _ _ _ _ _ _ (by decide), read_put_other _ _ _ _ _ _ _ _ (by decide), read_put_other _ _ _ _ _ _ _ _ (by decide)]
    exact read_put_same _ _ _ _ _ _ _ _
  · rw [read_put_other _ _ _ _ _ _ _ _ (by decide), read_put_other _ _ _ _ _ _ _ _ (by decide)]
    exact read_put_same _ _ _ _ _ _ _ _
  · rw [read_put_other _ _ _ _ _ _ _ _ (by decide)]
    exact read_put_same _ _ _ _ _ _ _ _
  · exact read_put_same _ _ _ _ _ _ _ _

theorem inb_off7 (k : Fin k0_t2_loop.trips) : ∀ a, k0_off7 k a + S1x256x1.size a ≤ S16x256x1.size a := by
  have hk : k.val < 16 := Nat.lt_of_lt_of_le k.isLt k0_t2_abs.2.1
  rw [off7_eq]
  intro a
  match a with
  | ⟨0, _⟩ => show k.val + 1 ≤ 16; omega
  | ⟨1, _⟩ => show 0 + 256 ≤ 256; omega
  | ⟨2, _⟩ => show 0 + 1 ≤ 1; omega

/-- The store of one round's result. -/
abbrev putk (k : Fin k0_t2_loop.trips) (p : S1x256x1.Idx → Val e) : View.Piece Val S16x256x1 e :=
  ⟨Rect.unit (s := S16x256x1) (k0_off7 k) S1x256x1.size (inb_off7 k), p⟩

theorem read_putk_same (v : View sig .tc .vmem S16x256x1 e) (f : v.ty.Contents Val) (k : Fin k0_t2_loop.trips) (p : S1x256x1.Idx → Val e)
    (L : List (View.Piece Val S16x256x1 e)) (h : k.val < 16) (r : Fin 256) :
    v.read Val (v.writes Val f (putk k p :: L)) (ix3 ⟨k.val, h⟩ r 0) = p (ix3 0 r 0) :=
  View.read_writes_cons_unit_of_mem v f (inb_off7 k) p L (ix3 ⟨k.val, h⟩ r 0) (ix3 0 r 0) (off7_eq k) fun a => by
    match a with
    | ⟨0, _⟩ => show k.val = k.val + 0; omega
    | ⟨1, _⟩ => show r.val = 0 + r.val; omega
    | ⟨2, _⟩ => show 0 = 0 + 0; omega

theorem read_putk_other (v : View sig .tc .vmem S16x256x1 e) (f : v.ty.Contents Val) (k : Fin k0_t2_loop.trips) (p : S1x256x1.Idx → Val e)
    (j : ℕ) (hj : j < 16) (hne : j < k.val) (r : Fin 256) :
    v.read Val (v.writes Val f [putk k p]) (ix3 ⟨j, hj⟩ r 0) = v.read Val f (ix3 ⟨j, hj⟩ r 0) :=
  View.read_writes_cons_unit_of_not_mem v f (inb_off7 k) p [] (ix3 ⟨j, hj⟩ r 0) (off7_eq k) 0 (by
    show j < k.val ∨ k.val + 1 ≤ j; omega)
end

variable {Ix U : Type} [DecidableEq Ix] [URA U]

theorem extTrip_12 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (k : Fin k0_t2_loop.trips) (g : BufTy.Contents (Elt F) arg12.view.ty × BufTy.Contents (Elt F) arg13.view.ty × BufTy.Contents (Elt F) arg14.view.ty × BufTy.Contents (Elt F) arg15.view.ty) :
    (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k g).1
      = arg12.view.writes (Elt F) g.1 (four5 fun s => shapeCast S1x256x128 (drop (slots arg12.view arg13.view g.1 g.2.1) s) shapeCasts_S256x128_S1x256x128) := by
  unfold extTrip
  dsimp only
  refine congrArg (arg12.view.writes (Elt F) g.1) ?_
  chain_rfl

theorem extTrip_13 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (k : Fin k0_t2_loop.trips) (g : BufTy.Contents (Elt F) arg12.view.ty × BufTy.Contents (Elt F) arg13.view.ty × BufTy.Contents (Elt F) arg14.view.ty × BufTy.Contents (Elt F) arg15.view.ty) :
    (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k g).2.1 = g.2.1 := by
  unfold extTrip
  rfl

theorem extTrip_14 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (k : Fin k0_t2_loop.trips) (g : BufTy.Contents (Elt F) arg12.view.ty × BufTy.Contents (Elt F) arg13.view.ty × BufTy.Contents (Elt F) arg14.view.ty × BufTy.Contents (Elt F) arg15.view.ty) :
    (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k g).2.2.1
      = arg14.view.writes (Elt F) g.2.2.1 [putk k (shapeCast S1x256x1 (rowLeast (slots arg12.view arg13.view g.1 g.2.1)) shapeCasts_S256x1_S1x256x1)] := by
  unfold extTrip
  dsimp only
  refine congrArg (arg14.view.writes (Elt F) g.2.2.1) ?_
  chain_rfl

theorem extTrip_15 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (k : Fin k0_t2_loop.trips) (g : BufTy.Contents (Elt F) arg12.view.ty × BufTy.Contents (Elt F) arg13.view.ty × BufTy.Contents (Elt F) arg14.view.ty × BufTy.Contents (Elt F) arg15.view.ty) :
    (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 k g).2.2.2.1
      = arg15.view.writes (Elt F) g.2.2.2 [putk k (shapeCast S1x256x1 (rowNumber (slots arg12.view arg13.view g.1 g.2.1)) shapeCasts_S256x1_S1x256x1)] := by
  unfold extTrip
  dsimp only
  refine congrArg (arg15.view.writes (Elt F) g.2.2.2) ?_
  chain_rfl

end Chain

/-! ## Row by row -/

section Lane

theorem pick_eq {α : Type} (a b : EReal) (x y : α) :
    Scalar.select (FloatOps.cmpf (F := Ideal) (φ := .f32) .oeq a b) x y = if a = b then x else y := by
  show (if BitVec.ofBool (decide (a = b)) = 1#1 then x else y) = _
  by_cases h : a = b <;> simp [h]

/-- The values and the numbers of a row's slots. -/
def valAt (S : ℕ → Plane Ideal) (r : Fin 256) (s : Fin 4) (l : Fin 128) : EReal := (S s.val).1 (ix2 r l)
def numAt (S : ℕ → Plane Ideal) (r : Fin 256) (s : Fin 4) (l : Fin 128) : BitVec 32 := (S s.val).2 (ix2 r l)

theorem forall4 {P : Fin 4 → Prop} : (∀ s, P s) ↔ P 0 ∧ P 1 ∧ P 2 ∧ P 3 :=
  ⟨fun h => ⟨h 0, h 1, h 2, h 3⟩, fun ⟨a, b, c, d⟩ s => by
    match s with
    | ⟨0, _⟩ => exact a
    | ⟨1, _⟩ => exact b
    | ⟨2, _⟩ => exact c
    | ⟨3, _⟩ => exact d⟩

theorem rowLeast_spec (S : ℕ → Plane Ideal) (r : Fin 256) :
    (∀ s l, (rowLeast S (ix2 r 0) : EReal) ≤ valAt S r s l) ∧ ∃ s l, valAt S r s l = rowLeast S (ix2 r 0) := by
  have e : (rowLeast S (ix2 r 0) : EReal) = Finset.univ.fold min (⊤ : EReal)
      (fun l : Fin 128 => min (min (valAt S r 0 l) (valAt S r 1 l)) (min (valAt S r 2 l) (valAt S r 3 l))) := by
    pointwise [rowLeast]
    rw [Cert.Rounds.ofBits_inf]
    rfl
  obtain ⟨h1, h2⟩ := Cert.Rounds.fold_min _ _ e
  have hle : ∀ s l, (rowLeast S (ix2 r 0) : EReal) ≤ valAt S r s l := by
    intro s l
    revert s
    rw [forall4]
    have := h1 l
    simp only [le_min_iff] at this
    exact ⟨this.1.1, this.1.2, this.2.1, this.2.2⟩
  refine ⟨hle, ?_⟩
  rcases h2 with h2 | ⟨l, h2⟩
  · exact ⟨0, 0, le_antisymm (by rw [h2]; exact le_top) (hle 0 0)⟩
  · rcases min_choice (min (valAt S r 0 l) (valAt S r 1 l)) (min (valAt S r 2 l) (valAt S r 3 l)) with h | h <;> rw [h] at h2
    · rcases min_choice (valAt S r 0 l) (valAt S r 1 l) with h | h <;> rw [h] at h2
      · exact ⟨0, l, h2.symm⟩
      · exact ⟨1, l, h2.symm⟩
    · rcases min_choice (valAt S r 2 l) (valAt S r 3 l) with h | h <;> rw [h] at h2
      · exact ⟨2, l, h2.symm⟩
      · exact ⟨3, l, h2.symm⟩

theorem atLeast_apply (m : FVec Ideal S256x1 .f32) (p : Plane Ideal) (r : Fin 256) (l : Fin 128) :
    atLeast m p (ix2 r l) = if (p.1 (ix2 r l) : EReal) = m (ix2 r 0) then p.2 (ix2 r l) else 0x40000000#32 := by
  refine Eq.trans ?_ (pick_eq _ _ _ _)
  pointwise [atLeast]

theorem rowNumber_spec (S : ℕ → Plane Ideal) (r : Fin 256) (f : Fin 4 → Fin 128 → BitVec 32)
    (hf : f = fun s l => if valAt S r s l = rowLeast S (ix2 r 0) then numAt S r s l else 0x40000000#32) :
    (∀ s l, (rowNumber S (ix2 r 0)).toInt ≤ (f s l).toInt) ∧ ∃ s l, rowNumber S (ix2 r 0) = f s l := by
  have hfa : ∀ (s : Fin 4) l, atLeast (rowLeast S) (S s.val) (ix2 r l) = f s l := fun s l => by
    rw [hf]; exact atLeast_apply _ _ r l
  have e : rowNumber S (ix2 r 0) = Finset.univ.fold IntOp.minsi 2147483647#32
      (fun l : Fin 128 => IntOp.minsi (IntOp.minsi (f 0 l) (f 1 l)) (IntOp.minsi (f 2 l) (f 3 l))) := by
    simp only [← hfa]
    pointwise [rowNumber]
  obtain ⟨h1, h2, h3⟩ := Cert.Rounds.fold_pick IntOp.minsi BitVec.toInt Cert.Rounds.minsi_pick Finset.univ
    (fun l : Fin 128 => IntOp.minsi (IntOp.minsi (f 0 l) (f 1 l)) (IntOp.minsi (f 2 l) (f 3 l))) 2147483647#32
  rw [← e] at h1 h2 h3
  have hm : ∀ a b : BitVec 32, (IntOp.minsi a b).toInt ≤ a.toInt ∧ (IntOp.minsi a b).toInt ≤ b.toInt := fun a b => by
    rcases Cert.Rounds.minsi_pick a b with ⟨h, h'⟩ | ⟨h, h'⟩ <;> rw [h]
    · exact ⟨le_rfl, h'⟩
    · exact ⟨h', le_rfl⟩
  have hc : ∀ a b : BitVec 32, IntOp.minsi a b = a ∨ IntOp.minsi a b = b := fun a b => by
    rcases Cert.Rounds.minsi_pick a b with ⟨h, _⟩ | ⟨h, _⟩
    · exact Or.inl h
    · exact Or.inr h
  have hle : ∀ s l, (rowNumber S (ix2 r 0)).toInt ≤ (f s l).toInt := by
    intro s l
    have h := h2 l (Finset.mem_univ l)
    revert s
    rw [forall4]
    have a1 := hm (IntOp.minsi (f 0 l) (f 1 l)) (IntOp.minsi (f 2 l) (f 3 l))
    have a2 := hm (f 0 l) (f 1 l)
    have a3 := hm (f 2 l) (f 3 l)
    exact ⟨h.trans (a1.1.trans a2.1), h.trans (a1.1.trans a2.2), h.trans (a1.2.trans a3.1), h.trans (a1.2.trans a3.2)⟩
  refine ⟨hle, ?_⟩
  rcases h3 with h3 | ⟨l, _, h3⟩
  · refine ⟨0, 0, ?_⟩
    have h0 := hle 0 0
    rw [h3] at h0 ⊢
    have : (2147483647#32 : BitVec 32).toInt = 2147483647 := by decide
    have hb := BitVec.toInt_lt (x := f 0 0)
    refine BitVec.eq_of_toInt_eq ?_
    rw [this] at h0 ⊢
    norm_num at hb
    omega
  · rcases hc (IntOp.minsi (f 0 l) (f 1 l)) (IntOp.minsi (f 2 l) (f 3 l)) with h | h <;> rw [h] at h3
    · rcases hc (f 0 l) (f 1 l) with h | h <;> rw [h] at h3
      · exact ⟨0, l, h3⟩
      · exact ⟨1, l, h3⟩
    · rcases hc (f 2 l) (f 3 l) with h | h <;> rw [h] at h3
      · exact ⟨2, l, h3⟩
      · exact ⟨3, l, h3⟩

theorem drop_apply (S : ℕ → Plane Ideal) (s : ℕ) (r : Fin 256) (l : Fin 128) :
    (drop S s (ix2 r l) : EReal) = if ((S s).1 (ix2 r l) : EReal) = rowLeast S (ix2 r 0) ∧ (S s).2 (ix2 r l) = rowNumber S (ix2 r 0) then ⊤ else (S s).1 (ix2 r l) := by
  have e : (drop S s (ix2 r l) : EReal) = Scalar.select (IntOp.andi (FloatOps.cmpf (F := Ideal) (φ := .f32) .oeq ((S s).1 (ix2 r l)) (rowLeast S (ix2 r 0)))
      (IntOp.cmpi .eq ((S s).2 (ix2 r l)) (rowNumber S (ix2 r 0)))) (⊤ : EReal) ((S s).1 (ix2 r l)) := by
    pointwise [drop]
    rw [Cert.Rounds.ofBits_inf]
  rw [e]
  show (if BitVec.ofBool (decide (((S s).1 (ix2 r l) : EReal) = rowLeast S (ix2 r 0))) &&& BitVec.ofBool ((S s).2 (ix2 r l) == rowNumber S (ix2 r 0)) = 1#1 then (⊤ : EReal) else _) = _
  by_cases h2 : (S s).2 (ix2 r l) = rowNumber S (ix2 r 0)
  · rw [show ((S s).2 (ix2 r l) == rowNumber S (ix2 r 0)) = true from beq_iff_eq.mpr h2]
    by_cases h1 : ((S s).1 (ix2 r l) : EReal) = rowLeast S (ix2 r 0) <;> simp [h1, h2]
  · rw [show ((S s).2 (ix2 r l) == rowNumber S (ix2 r 0)) = false from beq_eq_false_iff_ne.mpr h2]
    by_cases h1 : ((S s).1 (ix2 r l) : EReal) = rowLeast S (ix2 r 0) <;> simp [h1, h2]

/-- A round of the extraction in a row. -/
theorem ext_round (S : ℕ → Plane Ideal) (r : Fin 256) (V' : Fin 4 → Fin 128 → EReal) (hV : ∀ s l, V' s l = drop S s.val (ix2 r l)) :
    Round (valAt S r) (numAt S r) (rowLeast S (ix2 r 0)) (rowNumber S (ix2 r 0)) V' := by
  obtain ⟨a, b⟩ := rowLeast_spec S r
  obtain ⟨c, d⟩ := rowNumber_spec S r _ rfl
  exact ⟨b, a, d, c, fun s l => (hV s l).trans (drop_apply S s.val r l)⟩

/-- What a row's first four slots hold. -/
def val4 (v12 : View sig .tc .vmem S5x256x128 .f32) (f : v12.ty.Contents (Elt Ideal)) (r : Fin 256) (s : Fin 4) (l : Fin 128) : EReal :=
  v12.read (Elt Ideal) f (ix3 ⟨s.val, by omega⟩ r l)
def num4 (v13 : View sig .tc .vmem S5x256x128 .i32) (g : v13.ty.Contents (Elt Ideal)) (r : Fin 256) (s : Fin 4) (l : Fin 128) : BitVec 32 :=
  v13.read (Elt Ideal) g (ix3 ⟨s.val, by omega⟩ r l)

theorem valAt_slots (v12 : View sig .tc .vmem S5x256x128 .f32) (v13 : View sig .tc .vmem S5x256x128 .i32) (f : v12.ty.Contents (Elt Ideal)) (g : v13.ty.Contents (Elt Ideal))
    (r : Fin 256) : valAt (slots v12 v13 f g) r = val4 v12 f r := by
  funext s l
  have h := congrArg Prod.fst (slots_at v12 v13 f g r l s.val (by omega))
  unfold held5 at h
  rw [dif_pos (show s.val < 5 by omega)] at h
  exact h

theorem numAt_slots (v12 : View sig .tc .vmem S5x256x128 .f32) (v13 : View sig .tc .vmem S5x256x128 .i32) (f : v12.ty.Contents (Elt Ideal)) (g : v13.ty.Contents (Elt Ideal))
    (r : Fin 256) : numAt (slots v12 v13 f g) r = num4 v13 g r := by
  funext s l
  have h := congrArg Prod.snd (slots_at v12 v13 f g r l s.val (by omega))
  unfold held5 at h
  rw [dif_pos (show s.val < 5 by omega)] at h
  exact h

/-- The rounds' results of a row. -/
def resAt {e : EltTy} (d : Elt Ideal e) (v : View sig .tc .vmem S16x256x1 e) (f : v.ty.Contents (Elt Ideal)) (r : Fin 256) (i : ℕ) : Elt Ideal e :=
  if h : i < 16 then v.read (Elt Ideal) f (ix3 ⟨i, h⟩ r 0) else d

theorem cast_col (a : FVec Ideal S256x1 .f32) (r : Fin 256) : shapeCast S1x256x1 a shapeCasts_S256x1_S1x256x1 (ix3 0 r 0) = a (ix2 r 0) := by pointwise
theorem cast_colI (a : IVec S256x1 32) (r : Fin 256) : shapeCast S1x256x1 a shapeCasts_S256x1_S1x256x1 (ix3 0 r 0) = a (ix2 r 0) := by pointwise

/-- One extraction in a row, from what it stores. -/
theorem ext_step (v12 : View sig .tc .vmem S5x256x128 .f32) (v13 : View sig .tc .vmem S5x256x128 .i32) (v14 : View sig .tc .vmem S16x256x1 .f32) (v15 : View sig .tc .vmem S16x256x1 .i32)
    (f g12 : v12.ty.Contents (Elt Ideal)) (g : v13.ty.Contents (Elt Ideal)) (f14 g14 : v14.ty.Contents (Elt Ideal)) (f15 g15 : v15.ty.Contents (Elt Ideal))
    (k : Fin k0_t2_loop.trips) (hk : k.val < 16) (r : Fin 256) {P : EReal} (D : ℕ → EReal) (N : Fin 4 → Fin 128 → Option ℕ) (V0 : Fin 4 → Fin 128 → EReal)
    (h0 : Entries P D N V0 (num4 v13 g r)) (d0 : EReal) (i0 : BitVec 32)
    (ih : Extracted P D N V0 k.val (val4 v12 f r) (resAt (e := .f32) d0 v14 f14 r) (resAt (e := .i32) i0 v15 f15 r))
    (e12 : g12 = v12.writes (Elt Ideal) f (four5 fun s => shapeCast S1x256x128 (drop (slots v12 v13 f g) s) shapeCasts_S256x128_S1x256x128))
    (e14 : g14 = v14.writes (Elt Ideal) f14 [putk k (shapeCast S1x256x1 (rowLeast (slots v12 v13 f g)) shapeCasts_S256x1_S1x256x1)])
    (e15 : g15 = v15.writes (Elt Ideal) f15 [putk k (shapeCast S1x256x1 (rowNumber (slots v12 v13 f g)) shapeCasts_S256x1_S1x256x1)]) :
    Extracted P D N V0 (k.val + 1) (val4 v12 g12 r) (resAt (e := .f32) d0 v14 g14 r) (resAt (e := .i32) i0 v15 g15 r) := by
  subst e12 e14 e15
  have hround := ext_round (slots v12 v13 f g) r
    (val4 v12 (v12.writes (Elt Ideal) f (four5 fun s => shapeCast S1x256x128 (drop (slots v12 v13 f g) s) shapeCasts_S256x128_S1x256x128)) r)
    (fun s l => (read_four5 v12 f _ s.val s.isLt r l).trans (cast_up _ r l))
  rw [valAt_slots, numAt_slots] at hround
  refine ih.succ h0 hround (fun i hi => ?_) (fun i hi => ?_) ?_ ?_
  · unfold resAt
    rw [dif_pos (by omega), dif_pos (by omega)]
    exact read_putk_other v14 f14 k _ i (by omega) hi r
  · unfold resAt
    rw [dif_pos (by omega), dif_pos (by omega)]
    exact read_putk_other v15 f15 k _ i (by omega) hi r
  · unfold resAt
    rw [dif_pos hk]
    exact (read_putk_same v14 f14 k _ [] hk r).trans (cast_col _ r)
  · unfold resAt
    rw [dif_pos hk]
    exact (read_putk_same v15 f15 k _ [] hk r).trans (cast_colI _ r)

variable {Ix U : Type} [DecidableEq Ix] [URA U]

theorem extAt_succ (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G : BufTy.Contents (Elt Ideal) arg12.view.ty × BufTy.Contents (Elt Ideal) arg13.view.ty × BufTy.Contents (Elt Ideal) arg14.view.ty × BufTy.Contents (Elt Ideal) arg15.view.ty) (k : ℕ) (h : k < k0_t2_loop.trips) :
    extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G (k + 1) = ((extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, h⟩ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k)).1,
      (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, h⟩ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k)).2.1,
      (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, h⟩ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k)).2.2.1,
      (extTrip (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, h⟩ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k)).2.2.2.1) := by
  rw [extAt, dif_pos h]

/-- The fifth slot's values are as before. -/
theorem ext_slot4 (v12 : View sig .tc .vmem S5x256x128 .f32) (f : v12.ty.Contents (Elt Ideal)) (p : ℕ → S1x256x128.Idx → Elt Ideal .f32) (r : Fin 256) (l : Fin 128) :
    v12.read (Elt Ideal) (v12.writes (Elt Ideal) f (four5 p)) (ix3 4 r l) = v12.read (Elt Ideal) f (ix3 4 r l) := by
  unfold four5
  exact (read_put_other v12 f 3 (by decide) _ _ 4 (by decide) (by decide) r l).trans ((read_put_other v12 f 2 (by decide) _ _ 4 (by decide) (by decide) r l).trans
    ((read_put_other v12 f 1 (by decide) _ _ 4 (by decide) (by decide) r l).trans (read_put_other v12 f 0 (by decide) _ _ 4 (by decide) (by decide) r l)))

theorem ext_extracted (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1)
    (G : BufTy.Contents (Elt Ideal) arg12.view.ty × BufTy.Contents (Elt Ideal) arg13.view.ty × BufTy.Contents (Elt Ideal) arg14.view.ty × BufTy.Contents (Elt Ideal) arg15.view.ty) (r : Fin 256) {P : EReal} (D : ℕ → EReal) (N : Fin 4 → Fin 128 → Option ℕ)
    (h0 : Entries P D N (val4 arg12.view G.1 r) (num4 arg13.view G.2.1 r)) (d0 : EReal) (i0 : BitVec 32) (k : ℕ) (hk : k ≤ 16) :
    Extracted P D N (val4 arg12.view G.1 r) k (val4 arg12.view (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k).1 r)
      (resAt (e := .f32) d0 arg14.view (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k).2.2.1 r) (resAt (e := .i32) i0 arg15.view (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k).2.2.2 r)
      ∧ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k).2.1 = G.2.1
      ∧ ∀ l, arg12.view.read (Elt Ideal) (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k).1 (ix3 4 r l) = arg12.view.read (Elt Ideal) G.1 (ix3 4 r l) := by
  induction k with
  | zero => exact ⟨Extracted.zero, rfl, fun _ => rfl⟩
  | succ k ih =>
    obtain ⟨ih, ih2, ih3⟩ := ih (by omega)
    have hkt : k < k0_t2_loop.trips := Nat.lt_of_lt_of_le (by omega) (by decide +kernel : 16 ≤ k0_t2_loop.trips)
    rw [extAt_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k hkt]
    generalize extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 G k = g at ih ih2 ih3 ⊢
    refine ⟨?_, ?_, fun l => ?_⟩
    · exact ext_step arg12.view arg13.view arg14.view arg15.view g.1 _ g.2.1 g.2.2.1 _ g.2.2.2 _ ⟨k, hkt⟩ (show k < 16 by omega) r D N _ (ih2 ▸ h0) d0 i0 ih
        (extTrip_12 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g) (extTrip_14 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g)
        (extTrip_15 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g)
    · exact (extTrip_13 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g).trans ih2
    · exact (congrArg (fun f => arg12.view.read (Elt Ideal) f (ix3 4 r l)) (extTrip_12 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g)).trans
        ((ext_slot4 arg12.view g.1 _ r l).trans (ih3 l))

end Lane

end Cert.Search.Fast

end
-- ==== Proof.FastKeep.lean ====
/-
  What the fast search keeps of a block: of each lane two different entries with their numbers, and a bound on the others.
-/
module

public import proofs.«01_k».proof.Proof.FastIns
public import proofs.«01_k».proof.Proof.FastOff

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes

section Rows

variable {Val : EltTy → Type} {e : EltTy} {n : ℕ}

/-- A buffer of planes. -/
abbrev planes (n : ℕ) : Shape := ⟨3, ![n, 256, 128]⟩

theorem read_row_same (v : View sig .tc .vmem (planes n) e) (f : v.ty.Contents Val) (o : Fin 3 → ℕ) (a : ℕ) (ha : a < n) (ho : o = ![a, 0, 0])
    (inb : ∀ x, o x + S1x256x128.size x ≤ (planes n).size x) (p : S1x256x128.Idx → Val e) (L : List (View.Piece Val (planes n) e))
    (r : Fin 256) (l : Fin 128) :
    v.read Val (v.writes Val f (⟨Rect.unit (s := planes n) o S1x256x128.size inb, p⟩ :: L)) (ix3 ⟨a, ha⟩ r l) = p (ix3 0 r l) :=
  View.read_writes_cons_unit_of_mem v f inb p L (ix3 ⟨a, ha⟩ r l) (ix3 0 r l) ho fun x => by
    match x with
    | ⟨0, _⟩ => show a = a + 0; omega
    | ⟨1, _⟩ => show r.val = 0 + r.val; omega
    | ⟨2, _⟩ => show l.val = 0 + l.val; omega

theorem read_row_other (v : View sig .tc .vmem (planes n) e) (f : v.ty.Contents Val) (o : Fin 3 → ℕ) (a : ℕ) (ho : o = ![a, 0, 0])
    (inb : ∀ x, o x + S1x256x128.size x ≤ (planes n).size x) (p : S1x256x128.Idx → Val e) (L : List (View.Piece Val (planes n) e))
    (b : ℕ) (hb : b < n) (hne : b ≠ a) (r : Fin 256) (l : Fin 128) :
    v.read Val (v.writes Val f (⟨Rect.unit (s := planes n) o S1x256x128.size inb, p⟩ :: L)) (ix3 ⟨b, hb⟩ r l)
      = v.read Val (v.writes Val f L) (ix3 ⟨b, hb⟩ r l) :=
  View.read_writes_cons_unit_of_not_mem v f inb p L (ix3 ⟨b, hb⟩ r l) ho 0 (by
    show b < a ∨ a + 1 ≤ b; omega)

end Rows

/-- Lane `l` of row `r` keeps of block `b`, whose entries are `s (5000 * b + ·)`: the entries of two of its chunks, the first of
    them the smallest, and a bound on the others. -/
def Kept (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal))
    (s : ℕ → EReal) (b : ℕ) (hb : b < 20) (r : Fin 256) (l : Fin 128) : Prop :=
  ∃ c d : ℕ, c ≠ d ∧ c < 40 ∧ d < 40
    ∧ v9.read (Elt Ideal) f9 (ix3 ⟨2 * b, by omega⟩ r l) = entry (fun q => s (5000 * b + q)) l.val c
    ∧ v10.read (Elt Ideal) f10 (ix3 ⟨2 * b, by omega⟩ r l) = BitVec.ofNat 32 (5000 * b + (128 * c + l.val))
    ∧ v9.read (Elt Ideal) f9 (ix3 ⟨2 * b + 1, by omega⟩ r l) = entry (fun q => s (5000 * b + q)) l.val d
    ∧ v10.read (Elt Ideal) f10 (ix3 ⟨2 * b + 1, by omega⟩ r l) = BitVec.ofNat 32 (5000 * b + (128 * d + l.val))
    ∧ (∀ e : ℕ, e < 40 → (v9.read (Elt Ideal) f9 (ix3 ⟨2 * b, by omega⟩ r l) : EReal) ≤ entry (fun q => s (5000 * b + q)) l.val e)
    ∧ ∀ e : ℕ, e < 40 → e ≠ c → e ≠ d →
        (v11.read (Elt Ideal) f11 (ix3 ⟨b, hb⟩ r l) : EReal) ≤ entry (fun q => s (5000 * b + q)) l.val e

theorem number_at (w : BitVec 32) (p : IVec S256x128 32) (r : Fin 256) (l : Fin 128) :
    k0_pay353 w p (ix3 0 r l) = (w * 5000#32 + BitVec.ofNat 32 l.val) + p (ix2 r l) * 128#32 := by
  pointwise [k0_pay353, k0_pay351]
  rfl

theorem number_at' (w : BitVec 32) (p : IVec S256x128 32) (r : Fin 256) (l : Fin 128) :
    k0_pay355 w p (ix3 0 r l) = (w * 5000#32 + BitVec.ofNat 32 l.val) + p (ix2 r l) * 128#32 := by
  pointwise [k0_pay355, k0_pay351]
  rfl

theorem number_eq (b l c : ℕ) (w : BitVec 32) (hw : w = BitVec.ofNat 32 b) (p : BitVec 32) (hp : p = BitVec.ofNat 32 c) :
    (w * 5000#32 + BitVec.ofNat 32 l) + p * 128#32 = BitVec.ofNat 32 (5000 * b + (128 * c + l)) := by
  subst hw hp
  apply BitVec.eq_of_toNat_eq
  simp only [BitVec.toNat_add, BitVec.toNat_mul, BitVec.toNat_ofNat]
  omega

/-- What a block's stores put in the three buffers. -/
def st9 (i : grid0.Coords) (hc2 : k0_cond2 i = 1#1) {F : FTy → Type} [FloatOps F] (V : FVec F S256x5000 .f32) : List (View.Piece (Elt F) S40x256x128 .f32) :=
  [⟨Rect.unit (s := S40x256x128) (k0_off4 i) S1x256x128.size (k0_off4_inb i hc2), k0_pay354 (second V).1⟩,
   ⟨Rect.unit (s := S40x256x128) (k0_off3 i) S1x256x128.size (k0_off3_inb i hc2), k0_pay352 (first V).1⟩]

def st10 (i : grid0.Coords) (hc2 : k0_cond2 i = 1#1) {F : FTy → Type} [FloatOps F] (w : BitVec 32) (V : FVec F S256x5000 .f32) : List (View.Piece (Elt F) S40x256x128 .i32) :=
  [⟨Rect.unit (s := S40x256x128) (k0_off4 i) S1x256x128.size (k0_off4_inb i hc2), k0_pay355 w (second V).2⟩,
   ⟨Rect.unit (s := S40x256x128) (k0_off3 i) S1x256x128.size (k0_off3_inb i hc2), k0_pay353 w (first V).2⟩]

def st11 (i : grid0.Coords) (hc2 : k0_cond2 i = 1#1) {F : FTy → Type} [FloatOps F] (V : FVec F S256x5000 .f32) : List (View.Piece (Elt F) S20x256x128 .f32) :=
  [⟨Rect.unit (s := S20x256x128) (k0_off5 i) S1x256x128.size (k0_off5_inb i hc2), k0_pay356 (third V)⟩]

theorem pay352_at (a : FVec Ideal S256x128 .f32) (r : Fin 256) (l : Fin 128) : k0_pay352 a (ix3 0 r l) = a (ix2 r l) := cast_up a r l
theorem pay354_at (a : FVec Ideal S256x128 .f32) (r : Fin 256) (l : Fin 128) : k0_pay354 a (ix3 0 r l) = a (ix2 r l) := cast_up a r l
theorem pay356_at (a : FVec Ideal S256x128 .f32) (r : Fin 256) (l : Fin 128) : k0_pay356 a (ix3 0 r l) = a (ix2 r l) := cast_up a r l

/-- A block's own stores keep it. -/
theorem kept_store (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal))
    (i : grid0.Coords) (hc2 : k0_cond2 i = 1#1) (b : ℕ) (hb : b < 20) (hi : (i 0).val = b + 1) (w : BitVec 32) (hw : w = BitVec.ofNat 32 b)
    (V : FVec Ideal S256x5000 .f32) (s : ℕ → EReal) (r : Fin 256) (hV : ∀ q : Fin 5000, V (ix2 r q) = s (5000 * b + q.val))
    (hs : ∀ n, s n < ⊤) (hp : pad < ⊤) (l : Fin 128) :
    Kept v9 v10 v11 (v9.writes (Elt Ideal) f9 (st9 i hc2 V)) (v10.writes (Elt Ideal) f10 (st10 i hc2 w V)) (v11.writes (Elt Ideal) f11 (st11 i hc2 V)) s b hb r l := by
  obtain ⟨c, d, hc, hd, hcd, e1, n1, e2, n2, h0, h3⟩ := fold_spec V (fun q => s (5000 * b + q)) r hV (fun n => hs _) hp l
  have o3 : k0_off3 i = ![2 * b, 0, 0] := by
    rcases off3_eq i with h | h
    · rw [h, hi]; congr 1
    · omega
  have o4 : k0_off4 i = ![2 * b + 1, 0, 0] := by
    rcases off4_eq i with h | h
    · rw [h, hi]; congr 1
    · omega
  have o5 : k0_off5 i = ![b, 0, 0] := by
    rcases off5_eq i with h | h
    · rw [h, hi]; congr 1
    · omega
  have r9 := (read_row_other (n := 40) v9 f9 _ (2 * b + 1) o4 (k0_off4_inb i hc2) (k0_pay354 (second V).1) _ (2 * b) (by omega) (by omega) r l).trans
    ((read_row_same (n := 40) v9 f9 _ (2 * b) (by omega) o3 (k0_off3_inb i hc2) (k0_pay352 (first V).1) [] r l).trans (pay352_at _ r l))
  refine ⟨c, d, hcd, hc, hd, r9.trans e1, ?_, ?_, ?_, fun e he => (le_of_eq r9).trans (h0 e he), fun e he ne1 ne2 => ?_⟩
  · refine (read_row_other (n := 40) v10 f10 _ (2 * b + 1) o4 _ _ _ (2 * b) (by omega) (by omega) r l).trans ?_
    refine (read_row_same (n := 40) v10 f10 _ (2 * b) (by omega) o3 _ _ _ r l).trans ?_
    exact (number_at _ _ r l).trans (number_eq b l.val c w hw _ n1)
  · refine (read_row_same (n := 40) v9 f9 _ (2 * b + 1) (by omega) o4 _ _ _ r l).trans ?_
    exact (pay354_at _ r l).trans e2
  · refine (read_row_same (n := 40) v10 f10 _ (2 * b + 1) (by omega) o4 _ _ _ r l).trans ?_
    exact (number_at' _ _ r l).trans (number_eq b l.val d w hw _ n2)
  · have h := (read_row_same (n := 20) v11 f11 _ b hb o5 (k0_off5_inb i hc2) (k0_pay356 (third V)) [] r l).trans (pay356_at _ r l)
    exact (le_of_eq h).trans (h3 e he ne1 ne2)

/-- The stores of a later block leave what was kept. -/
theorem kept_other (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal))
    (i : grid0.Coords) (hc2 : k0_cond2 i = 1#1) (b : ℕ) (hb : b < 20) (hi : b + 1 < (i 0).val) (w : BitVec 32)
    (V : FVec Ideal S256x5000 .f32) (s : ℕ → EReal) (r : Fin 256) (l : Fin 128) (h : Kept v9 v10 v11 f9 f10 f11 s b hb r l) :
    Kept v9 v10 v11 (v9.writes (Elt Ideal) f9 (st9 i hc2 V)) (v10.writes (Elt Ideal) f10 (st10 i hc2 w V)) (v11.writes (Elt Ideal) f11 (st11 i hc2 V)) s b hb r l := by
  obtain ⟨c, d, hcd, hc, hd, e1, n1, e2, n2, h0, h3⟩ := h
  obtain ⟨m, hm⟩ : ∃ m, (i 0).val = m + 1 := ⟨(i 0).val - 1, by omega⟩
  have o3 : k0_off3 i = ![2 * m, 0, 0] := by
    rcases off3_eq i with h | h
    · rw [h, hm]; congr 1
    · omega
  have o4 : k0_off4 i = ![2 * m + 1, 0, 0] := by
    rcases off4_eq i with h | h
    · rw [h, hm]; congr 1
    · omega
  have o5 : k0_off5 i = ![m, 0, 0] := by
    rcases off5_eq i with h | h
    · rw [h, hm]; congr 1
    · omega
  have k9 : ∀ a (ha : a < 40), a < 2 * m → v9.read (Elt Ideal) (v9.writes (Elt Ideal) f9 (st9 i hc2 V)) (ix3 ⟨a, ha⟩ r l) = v9.read (Elt Ideal) f9 (ix3 ⟨a, ha⟩ r l) := by
    intro a ha hlt
    refine (read_row_other (n := 40) v9 f9 _ (2 * m + 1) o4 _ _ _ a ha (by omega) r l).trans ?_
    exact (read_row_other (n := 40) v9 f9 _ (2 * m) o3 _ _ _ a ha (by omega) r l)
  have k10 : ∀ a (ha : a < 40), a < 2 * m → v10.read (Elt Ideal) (v10.writes (Elt Ideal) f10 (st10 i hc2 w V)) (ix3 ⟨a, ha⟩ r l) = v10.read (Elt Ideal) f10 (ix3 ⟨a, ha⟩ r l) := by
    intro a ha hlt
    refine (read_row_other (n := 40) v10 f10 _ (2 * m + 1) o4 _ _ _ a ha (by omega) r l).trans ?_
    exact (read_row_other (n := 40) v10 f10 _ (2 * m) o3 _ _ _ a ha (by omega) r l)
  refine ⟨c, d, hcd, hc, hd, (k9 _ _ (by omega)).trans e1, (k10 _ _ (by omega)).trans n1, (k9 _ _ (by omega)).trans e2, (k10 _ _ (by omega)).trans n2,
    fun e he => (le_of_eq (k9 _ _ (by omega))).trans (h0 e he), fun e he ne1 ne2 => ?_⟩
  have h := read_row_other (n := 20) v11 f11 _ m o5 (k0_off5_inb i hc2) (k0_pay356 (third V)) [] b hb (by omega) r l
  exact (le_of_eq h).trans (h3 e he ne1 ne2)

end Cert.Search.Fast

end
-- ==== Proof.FastEnd.lean ====
/-
  What the last point of the fast search puts out, in vectors.
-/
module

public import proofs.«01_k».proof.Proof.FastExt
public import proofs.«01_k».proof.Proof.FastKeep
public import proofs.«01_k».proof.Proof.Rounds

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA

variable {F : FTy → Type} [FloatOps F] {Ix U : Type} [DecidableEq Ix] [URA U]

/-- The last block's squared distances. -/
def lastV (v8 : View sig .tc .vmem S2x256x5000 .f32) (hc2 : k0_cond2 lastPt = 1#1) (f8 : v8.ty.Contents (Elt F)) : FVec F S256x5000 .f32 :=
  k0_pay3 (v8.readAt (Elt F) (Rect.unit (s := S2x256x5000) (k0_off2 lastPt) S1x256x5000.size (k0_off2_inb lastPt hc2)).toLoadRect f8)

/-- The slots before the insertions: values above every distance, and a large number. -/
def start12 (v : View sig .tc .vmem S5x256x128 .f32) : v.ty.Contents (Elt F) :=
  v.writes (Elt F) v.junk (five5 fun _ => (shapeCast S1x256x128 (broadcast S256x128 (Scalar.ofBits .f32 0x7F800000#32)) shapeCasts_S256x128_S1x256x128 : FVec F S1x256x128 .f32))

def start13 (v : View sig .tc .vmem S5x256x128 .i32) : v.ty.Contents (Elt F) :=
  v.writes (Elt F) v.junk (five5 fun _ => (shapeCast S1x256x128 (broadcast S256x128 1073741824#32) shapeCasts_S256x128_S1x256x128 : IVec S1x256x128 32))

/-- A plane's distances. -/
def root (p : FVec F S256x128 .f32) : FVec F S256x128 .f32 := sqrt (maximumf p (broadcast S256x128 (Scalar.ofBits .f32 0x2B8CBCCC#32)))

/-- The slots with the distances instead of their squares. -/
def rooted (v12 : View sig .tc .vmem S5x256x128 .f32) (v13 : View sig .tc .vmem S5x256x128 .i32) (f : v12.ty.Contents (Elt F)) (g : v13.ty.Contents (Elt F)) :
    v12.ty.Contents (Elt F) :=
  v12.writes (Elt F) v12.junk (five5 fun s => shapeCast S1x256x128 (root (slots v12 v13 f g s).1) shapeCasts_S256x128_S1x256x128)

section
variable {Val : EltTy → Type} {e : EltTy}
theorem inb_res (k : ℕ) (h : k < 16) : ∀ a, (![k, 0, 0] : Fin 3 → ℕ) a + S1x256x1.size a ≤ S16x256x1.size a :=
  (by decide : ∀ s : Fin 16, ∀ a, (![s.val, 0, 0] : Fin 3 → ℕ) a + S1x256x1.size a ≤ S16x256x1.size a) ⟨k, h⟩

/-- One result, loaded. -/
def res (v : View sig .tc .vmem S16x256x1 e) (f : v.ty.Contents Val) (k : ℕ) (h : k < 16) : S1x256x1.Idx → Val e :=
  v.readAt Val (Rect.unit (s := S16x256x1) ![k, 0, 0] S1x256x1.size (inb_res k h)).toLoadRect f

theorem inb_bnd (k : ℕ) (h : k < 20) : ∀ a, (![k, 0, 0] : Fin 3 → ℕ) a + S1x256x128.size a ≤ S20x256x128.size a :=
  (by decide : ∀ s : Fin 20, ∀ a, (![s.val, 0, 0] : Fin 3 → ℕ) a + S1x256x128.size a ≤ S20x256x128.size a) ⟨k, h⟩

/-- One block's bounds, loaded. -/
def bnd (v : View sig .tc .vmem S20x256x128 e) (f : v.ty.Contents Val) (k : ℕ) (h : k < 20) : S1x256x128.Idx → Val e :=
  v.readAt Val (Rect.unit (s := S20x256x128) ![k, 0, 0] S1x256x128.size (inb_bnd k h)).toLoadRect f
end

def colV (v : View sig .tc .vmem S16x256x1 .f32) (f : v.ty.Contents (Elt F)) (k : ℕ) : FVec F S256x1 .f32 :=
  if h : k < 16 then shapeCast S256x1 (res v f k h : FVec F S1x256x1 .f32) shapeCasts_S1x256x1_S256x1 else broadcast S256x1 (Scalar.ofBits .f32 0#32)

def colI (v : View sig .tc .vmem S16x256x1 .i32) (f : v.ty.Contents (Elt F)) (k : ℕ) : IVec S256x1 32 :=
  if h : k < 16 then shapeCast S256x1 (res v f k h : IVec S1x256x1 32) shapeCasts_S1x256x1_S256x1 else broadcast S256x1 0#32

/-- Where a bound does not exceed the sixteenth distance. -/
def low (p : FVec F S256x128 .f32) (kth : FVec F S256x1 .f32) : IVec S256x128 1 := cmpf .ole p (broadcastTo S256x128 kth broadcasts_S256x1_S256x128)

/-- The comparisons of the first `k` blocks and of the last slot, together. -/
def lows (t : FVec F S256x128 .f32) (m : ℕ → FVec F S256x128 .f32) (kth : FVec F S256x1 .f32) : ℕ → IVec S256x128 1
  | 0 => low t kth
  | k + 1 => ori (lows t m kth k) (low (root (m k)) kth)

/-- The bounds with the last block's. -/
def bounds (v11 : View sig .tc .vmem S20x256x128 .f32) (f11 : v11.ty.Contents (Elt F)) (hc2 : k0_cond2 lastPt = 1#1) (V : FVec F S256x5000 .f32) (k : ℕ) : FVec F S1x256x128 .f32 :=
  if h : k < 19 then bnd v11 f11 k (by omega) else v11.readCov (st11 lastPt hc2 V) (Rect.unit (s := S20x256x128) ![19, 0, 0] S1x256x128.size (inb_bnd 19 (by decide))).toLoadRect

/-- The word put out. -/
def word (x : IVec S256x128 1) : BitVec 32 :=
  extractAt ![0, 0, 0] (k0_pay2 (multiReductionI .maxsi [1, 2] S1 (shapeCast S1x256x128 (extui 32 x) shapeCasts_S256x128_S1x256x128) 2147483648#32 reduces_S1x256x128_S1 rfl)) inpos_S1x1x1_p0_0_0

theorem bounds_last (v11 : View sig .tc .vmem S20x256x128 .f32) (f11 : v11.ty.Contents (Elt F)) (hc2 : k0_cond2 lastPt = 1#1) (V : FVec F S256x5000 .f32) :
    bounds v11 f11 hc2 V 19 = v11.readCov (st11 lastPt hc2 V) (Rect.unit (s := S20x256x128) ![19, 0, 0] S1x256x128.size (inb_bnd 19 (by decide))).toLoadRect :=
  dif_neg (by decide)

/-- A plane, flat. -/
abbrev down (p : FVec F S1x256x128 .f32) : FVec F S256x128 .f32 := shapeCast S256x128 p shapeCasts_S1x256x128_S256x128

section
variable (q : FVec F S256x1 .f32) (x : IVec S256x128 1) (a b c d e : FVec F S1x256x128 .f32)

/-- Five blocks' comparisons more. -/
def lows5 : IVec S256x128 1 :=
  ori (ori (ori (ori (ori x (low (root (down a)) q)) (low (root (down b)) q)) (low (root (down c)) q)) (low (root (down d)) q)) (low (root (down e)) q)

theorem pay453_eq : k0_pay453 q x a b c d e = lows5 q x a b c d e := rfl
theorem pay454_eq : k0_pay454 q x a b c d e = lows5 q x a b c d e := rfl
theorem pay455_eq : k0_pay455 q x a b c d e = lows5 q x a b c d e := rfl
theorem pay456_eq : k0_pay456 q x a b c d e
    = multiReductionI .maxsi [1, 2] S1 (shapeCast S1x256x128 (extui 32 (lows5 q x a b c d e)) shapeCasts_S256x128_S1x256x128) 2147483648#32 reduces_S1x256x128_S1 rfl := rfl
end

theorem lows_add (t : FVec F S256x128 .f32) (m : ℕ → FVec F S1x256x128 .f32) (q : FVec F S256x1 .f32) (k : ℕ) :
    lows t (fun k => down (m k)) q (k + 5) = lows5 q (lows t (fun k => down (m k)) q k) (m k) (m (k + 1)) (m (k + 2)) (m (k + 3)) (m (k + 4)) := rfl

section
variable {q q' : FVec F S256x1 .f32} {x x' : IVec S256x128 1} {a b c d e a' b' c' d' e' : FVec F S1x256x128 .f32}
theorem pay453_congr (hq : q = q') (hx : x = x') (ha : a = a') (hb : b = b') (hc : c = c') (hd : d = d') (he : e = e') :
    k0_pay453 q x a b c d e = k0_pay453 q' x' a' b' c' d' e' := by subst hq hx ha hb hc hd he; rfl
theorem pay454_congr (hq : q = q') (hx : x = x') (ha : a = a') (hb : b = b') (hc : c = c') (hd : d = d') (he : e = e') :
    k0_pay454 q x a b c d e = k0_pay454 q' x' a' b' c' d' e' := by subst hq hx ha hb hc hd he; rfl
theorem pay455_congr (hq : q = q') (hx : x = x') (ha : a = a') (hb : b = b') (hc : c = c') (hd : d = d') (he : e = e') :
    k0_pay455 q x a b c d e = k0_pay455 q' x' a' b' c' d' e' := by subst hq hx ha hb hc hd he; rfl
theorem pay456_congr (hq : q = q') (hx : x = x') (ha : a = a') (hb : b = b') (hc : c = c') (hd : d = d') (he : e = e') :
    k0_pay456 q x a b c d e = k0_pay456 q' x' a' b' c' d' e' := by subst hq hx ha hb hc hd he; rfl
end

theorem word_congr {z z' : IVec S1 32} (h : z = z') :
    extractAt ![0, 0, 0] (k0_pay2 z) inpos_S1x1x1_p0_0_0 = extractAt ![0, 0, 0] (k0_pay2 z') inpos_S1x1x1_p0_0_0 := by subst h; rfl

/-- The word as the body computes it. -/
def wordRaw (y : FVec F S1x256x1 .f32) (t : FVec F S1x256x128 .f32) (m : ℕ → FVec F S1x256x128 .f32) : BitVec 32 :=
  extractAt ![0, 0, 0] (k0_pay2 (k0_pay456 (k0_pay451 y) (k0_pay455 (k0_pay451 y) (k0_pay454 (k0_pay451 y) (k0_pay453 (k0_pay451 y) (k0_pay452 y t)
    (m 0) (m 1) (m 2) (m 3) (m 4)) (m 5) (m 6) (m 7) (m 8) (m 9)) (m 10) (m 11) (m 12) (m 13) (m 14)) (m 15) (m 16) (m 17) (m 18) (m 19))) inpos_S1x1x1_p0_0_0

theorem wordRaw_eq (y : FVec F S1x256x1 .f32) (t : FVec F S1x256x128 .f32) (m : ℕ → FVec F S1x256x128 .f32) :
    wordRaw y t m = word (lows (down t) (fun k => down (m k)) (shapeCast S256x1 y shapeCasts_S1x256x1_S256x1) 20) := by
  unfold wordRaw word
  rw [pay456_eq, pay455_eq, pay454_eq, pay453_eq]
  have e : lows (down t) (fun k => down (m k)) (k0_pay451 y) 0 = k0_pay452 y t := rfl
  rw [← e, ← lows_add, ← lows_add (k := 5), ← lows_add (k := 10), ← lows_add (k := 15)]
  rfl

theorem last_v  (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f5 : BufTy.Contents (Elt F) arg5.view.ty) (f6 : BufTy.Contents (Elt F) arg6.view.ty) (f7 : BufTy.Contents (Elt F) arg7.view.ty)  :
    (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.1 = arg5.view.writes (Elt F) f5 [⟨Rect.unit ![0, 0] ![256, 16] inb_S256x16_S256x16_0_0,
      concatenate S256x16 1 (Cert.Rounds.cols (colV arg14.view (extRV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 (rooted arg12.view arg13.view (insV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips)) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) f14 f15 k0_t2_loop.trips))) concatenates_S256x1_S256x1_S256x1_S256x1_S256x1_S256x1_S256x1_S256x1_S256x1_S256x1_S256x1_S256x1_S256x1_S256x1_S256x1_S256x1_S256x16_d1⟩] := by
  unfold lastRun
  dsimp only
  refine congrArg (arg5.view.writes (Elt F) f5) ?_
  chain_rfl

theorem last_i  (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f5 : BufTy.Contents (Elt F) arg5.view.ty) (f6 : BufTy.Contents (Elt F) arg6.view.ty) (f7 : BufTy.Contents (Elt F) arg7.view.ty)  :
    (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.1 = arg6.view.writes (Elt F) f6 [⟨Rect.unit ![0, 0] ![256, 16] inb_S256x16_S256x16_0_0,
      concatenate S256x16 1 (Cert.Rounds.cols (colI arg15.view (extRI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 (rooted arg12.view arg13.view (insV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips)) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) f14 f15 k0_t2_loop.trips))) concatenates_S256x1_S256x1_S256x1_S256x1_S256x1_S256x1_S256x1_S256x1_S256x1_S256x1_S256x1_S256x1_S256x1_S256x1_S256x1_S256x1_S256x16_d1⟩] := by
  unfold lastRun
  dsimp only
  refine congrArg (arg6.view.writes (Elt F) f6) ?_
  chain_rfl

theorem last_w  (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f5 : BufTy.Contents (Elt F) arg5.view.ty) (f6 : BufTy.Contents (Elt F) arg6.view.ty) (f7 : BufTy.Contents (Elt F) arg7.view.ty)  :
    (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1 = arg7.view.writes (Elt F) f7 [⟨Rect.unit ![0, 0] ![1, 1] inb_S1x1_S1x1_0_0, fun _ =>
      wordRaw (res arg14.view (extRV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 (rooted arg12.view arg13.view (insV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips)) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) f14 f15 k0_t2_loop.trips) 15 (by decide)) (slot arg12.view (extV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 (rooted arg12.view arg13.view (insV (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips)) (insI (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 (arg9.view.writes (Elt F) f9 (st9 lastPt hc2 (lastV arg8.view hc2 f8))) (arg10.view.writes (Elt F) f10 (st10 lastPt hc2 19#32 (lastV arg8.view hc2 f8))) (start12 (F := F) arg12.view) (start13 (F := F) arg13.view) k0_t1_loop.trips) f14 f15 k0_t2_loop.trips) 4 (by decide)) (bounds arg11.view f11 hc2 (lastV arg8.view hc2 f8))⟩] := by
  unfold lastRun
  dsimp only
  unfold lastRun.sl.r_269 lastRun.sl.r_268 lastRun.sl.r_267 lastRun.sl.r_266 wordRaw
  refine congrArg (arg7.view.writes (Elt F) f7) (congrArg (fun w : BitVec 32 => ([⟨Rect.unit ![0, 0] ![1, 1] inb_S1x1_S1x1_0_0, fun _ => w⟩] : List (View.Piece (Elt F) S1x1 .i32))) ?_)
  refine word_congr ?_
  refine pay456_congr ?_ (pay455_congr ?_ (pay454_congr ?_ (pay453_congr ?_ ?_ ?_ ?_ ?_ ?_ ?_) ?_ ?_ ?_ ?_ ?_) ?_ ?_ ?_ ?_ ?_) ?_ ?_ ?_ ?_ ?_
  · chain_rfl
  · chain_rfl
  · chain_rfl
  · chain_rfl
  · chain_rfl
  iterate 19 (rotate_left 1)
  · refine Eq.trans ?_ (bounds_last arg11.view f11 hc2 (lastV arg8.view hc2 f8)).symm
    unfold lastRun.sl.v313
    refine congrArg (fun L : List (View.Piece (Elt F) S20x256x128 .f32) => arg11.view.readCov L (Rect.unit (s := S20x256x128) ![19, 0, 0] S1x256x128.size (inb_bnd 19 (by decide))).toLoadRect) ?_
    chain_rfl
  all_goals rfl

end Cert.Search.Fast

end
-- ==== Proof.FastTop.lean ====
/-
  The last point of the fast search, row by row: if no comparison of the check holds, what is put out is the row's first sixteen
  keys.
-/
module

public import proofs.«01_k».proof.Proof.FastEnd
public import proofs.«01_k».proof.Proof.Dist
public import proofs.«01_k».proof.Proof.Carry

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes Cert.Select

/-! ## The distance of a squared distance -/

abbrev eps : EReal := Ideal.ofBits .f32 0x2B8CBCCC#32

/-- A distance. -/
def dst (a : EReal) : EReal := Ideal.sqrt (max a eps)

theorem dst_top : dst ⊤ = ⊤ := by
  unfold dst
  rw [max_eq_left le_top]; rfl

theorem sqrt_mono {a b : ℝ} (ha : 0 ≤ a) (h : a ≤ b) : Ideal.sqrt (a : EReal) ≤ Ideal.sqrt (b : EReal) := by
  show (if a < 0 then ⊥ else (Real.sqrt a : EReal)) ≤ (if b < 0 then ⊥ else (Real.sqrt b : EReal))
  rw [if_neg (not_lt.mpr ha), if_neg (not_lt.mpr (ha.trans h))]
  exact EReal.coe_le_coe_iff.mpr (Real.sqrt_le_sqrt h)

/-- Below infinity, what is under the root is a nonnegative real. -/
theorem under_real {a : EReal} (h : a < ⊤) : ∃ v : ℝ, 0 ≤ v ∧ max a eps = (v : EReal) := by
  obtain ⟨c, hc, e⟩ := Cert.Dist.floor_real
  unfold eps
  rw [e]
  induction a with
  | bot => exact ⟨c, hc, max_eq_right bot_le⟩
  | top => exact absurd h (lt_irrefl _)
  | coe a => exact ⟨max a c, le_max_of_le_right hc, (EReal.coe_strictMono.monotone.map_max).symm⟩

theorem dst_lt_top {a : EReal} (h : a < ⊤) : dst a < ⊤ := by
  obtain ⟨v, hv, e⟩ := under_real h
  unfold dst
  rw [e]
  show (if v < 0 then ⊥ else (Real.sqrt v : EReal)) < ⊤
  rw [if_neg (not_lt.mpr hv)]
  exact EReal.coe_lt_top _

theorem dst_mono {a b : EReal} (h : a ≤ b) : dst a ≤ dst b := by
  rcases eq_or_lt_of_le (le_top : b ≤ ⊤) with e | hb
  · rw [e, dst_top]; exact le_top
  · obtain ⟨v, hv, e1⟩ := under_real (lt_of_le_of_lt h hb)
    obtain ⟨w, hw, e2⟩ := under_real hb
    have hvw : v ≤ w := by
      have := max_le_max h (le_refl eps)
      rw [e1, e2] at this
      exact EReal.coe_le_coe_iff.mp this
    unfold dst
    rw [e1, e2]
    exact sqrt_mono hv hvw

theorem root_at (p : FVec Ideal S256x128 .f32) (r : Fin 256) (l : Fin 128) : root p (ix2 r l) = dst (p (ix2 r l)) := rfl

/-! ## From what is kept to the row's first sixteen -/

/-- The candidates of a lane as the insertion sees them. -/
def cands (a : ℕ → EReal) (m : ℕ → BitVec 32) : Option ℕ → EReal × BitVec 32
  | none => (⊤, 1073741824#32)
  | some j => (a j, m j)

theorem row_top (s : ℕ → EReal)
    (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal)) (r : Fin 256)
    (hk : ∀ b (hb : b < 20) l, Kept v9 v10 v11 f9 f10 f11 s b hb r l)
    (S : Fin 128 → ℕ → EReal × BitVec 32)
    (hS : ∀ l a m, (∀ k (h : k < 40), (v9.read (Elt Ideal) f9 (ix3 ⟨k, h⟩ r l), v10.read (Elt Ideal) f10 (ix3 ⟨k, h⟩ r l)) = cands a m (some k)) →
      Inserted (cands a m) 40 (S l))
    (V : Fin 4 → Fin 128 → EReal) (W : Fin 4 → Fin 128 → BitVec 32) (hV : ∀ t l, V t l = dst (S l t.val).1) (hW : ∀ t l, W t l = (S l t.val).2)
    (V' : Fin 4 → Fin 128 → EReal) (rv : ℕ → EReal) (ri : ℕ → BitVec 32)
    (hE : ∀ N, Entries (dst pad) (fun n => dst (s n)) N V W → Extracted (dst pad) (fun n => dst (s n)) N V 16 V' rv ri ∧ ∀ l, rv 15 < dst (S l 4).1)
    (h3 : ∀ b (hb : b < 20) l, rv 15 < dst (v11.read (Elt Ideal) f11 (ix3 ⟨b, hb⟩ r l))) :
    ∃ t : Fin 16 → ℕ, IsTop (fun n => dst (s n)) 100000 t ∧ ∀ j : Fin 16, rv j = dst (s (t j)) ∧ ri j = BitVec.ofNat 32 (t j) := by
  have hk' : ∀ (b : Fin 20) (l : Fin 128), Kept v9 v10 v11 f9 f10 f11 s b.val b.isLt r l := fun b l => hk b.val b.isLt l
  unfold Kept at hk'
  choose c d hcd hc hd e1 n1 e2 n2 hz hb using hk'
  -- the chunk and the number of a lane's candidate, which counts where the block has that chunk's entry
  let ch : Fin 128 → ℕ → ℕ := fun l k => if h : k < 40 then (if k % 2 = 0 then c ⟨k / 2, by omega⟩ l else d ⟨k / 2, by omega⟩ l) else 0
  let num : Fin 128 → ℕ → ℕ := fun l k => 5000 * (k / 2) + (128 * ch l k + l.val)
  let val : Fin 128 → ℕ → EReal := fun l k => entry (fun q => s (5000 * (k / 2) + q)) l.val (ch l k)
  have hnum : ∀ l k, k < 40 → 128 * ch l k + l.val < 5000 → num l k < 100000 := by
    intro l k h hg
    simp only [num]; omega
  have hval : ∀ l k, 128 * ch l k + l.val < 5000 → val l k = s (num l k) := fun l k hg => entry_in hg
  have hinj : ∀ l k l' k', k < 40 → k' < 40 → 128 * ch l k + l.val < 5000 → 128 * ch l' k' + l'.val < 5000 → num l k = num l' k' → l = l' ∧ k = k' := by
    intro l k l' k' h h' a1 a2 e
    simp only [num] at e
    have hl := l.isLt
    have hl' := l'.isLt
    have hbb : k / 2 = k' / 2 := by omega
    have hll : l = l' := Fin.ext (by omega)
    subst hll
    have hcc : ch l k = ch l k' := by omega
    refine ⟨rfl, ?_⟩
    by_contra hne
    have hb2 : (⟨k / 2, by omega⟩ : Fin 20) = ⟨k' / 2, by omega⟩ := Fin.ext hbb
    simp only [ch, dif_pos h, dif_pos h', hb2] at hcc
    split_ifs at hcc with p p'
    · omega
    · exact hcd _ _ hcc
    · exact hcd _ _ hcc.symm
    · omega
  have hcand : ∀ l k (h : k < 40), (v9.read (Elt Ideal) f9 (ix3 ⟨k, h⟩ r l), v10.read (Elt Ideal) f10 (ix3 ⟨k, h⟩ r l))
      = cands (val l) (fun k => BitVec.ofNat 32 (num l k)) (some k) := by
    intro l k h
    show _ = (val l k, BitVec.ofNat 32 (num l k))
    rcases Nat.mod_two_eq_zero_or_one k with p | p
    · have hn : ch l k = c ⟨k / 2, by omega⟩ l := by
        simp only [ch, dif_pos h, if_pos p]
      have hi : (⟨k, h⟩ : Fin 40) = ⟨2 * (k / 2), by omega⟩ := Fin.ext (by show k = 2 * (k / 2); omega)
      simp only [val, num]
      rw [hn, hi]
      exact Prod.ext (e1 ⟨k / 2, by omega⟩ l) (n1 ⟨k / 2, by omega⟩ l)
    · have hn : ch l k = d ⟨k / 2, by omega⟩ l := by
        simp only [ch, dif_pos h, if_neg (by omega : ¬ k % 2 = 0)]
      have hi : (⟨k, h⟩ : Fin 40) = ⟨2 * (k / 2) + 1, by omega⟩ := Fin.ext (by show k = 2 * (k / 2) + 1; omega)
      simp only [val, num]
      rw [hn, hi]
      exact Prod.ext (e2 ⟨k / 2, by omega⟩ l) (n2 ⟨k / 2, by omega⟩ l)
  have hins := fun l => hS l _ _ (hcand l)
  choose σ hσ hlt hσi hall hfirst using hins
  -- the positions held
  let N : Fin 4 → Fin 128 → Option ℕ := fun t l => (σ l t.val).bind fun k => if 128 * ch l k + l.val < 5000 then some (num l k) else none
  have hN : ∀ t l n, N t l = some n → ∃ k, σ l t.val = some k ∧ k < 40 ∧ 128 * ch l k + l.val < 5000 ∧ num l k = n := by
    intro t l n e
    obtain ⟨k, ek, e⟩ := Option.bind_eq_some_iff.mp e
    split_ifs at e with hg
    exact ⟨k, ek, hlt l t.val k (by omega) ek, hg, Option.some.inj e⟩
  have hE' : Entries (dst pad) (fun n => dst (s n)) N V W := by
    refine ⟨?_, ?_, ?_, ?_, ?_⟩
    · intro t l e
      rw [hV, hσ l t.val (by omega)]
      cases ek : σ l t.val with
      | none => exact le_top.trans (le_of_eq dst_top.symm)
      | some k =>
        by_cases hg : 128 * ch l k + l.val < 5000
        · have : N t l = some (num l k) := by simp only [N, ek, Option.bind_some, if_pos hg]
          rw [this] at e
          cases e
        · exact le_of_eq (congrArg dst (show pad = val l k from (entry_out hg).symm))
    · intro t l n e
      obtain ⟨k, ek, hk, hg, rfl⟩ := hN t l n e
      exact hnum l k hk hg
    · intro t l n e
      obtain ⟨k, ek, hk, hg, rfl⟩ := hN t l n e
      rw [hV, hσ l t.val (by omega), ek]
      exact congrArg dst (hval l k hg)
    · intro t l n e
      obtain ⟨k, ek, hk, hg, rfl⟩ := hN t l n e
      rw [hW, hσ l t.val (by omega), ek]
      rfl
    · intro t l t' l' n e e'
      obtain ⟨k, ek, hk, hg, rfl⟩ := hN t l n e
      obtain ⟨k', ek', hk', hg', en⟩ := hN t' l' _ e'
      obtain ⟨rfl, rfl⟩ := hinj l' k' l k hk' hk hg' hg en
      rcases hσi l' t.val t'.val (by omega) (by omega) (ek.trans ek'.symm) with h | h
      · rw [h] at ek; simp at ek
      · exact ⟨Fin.ext h, rfl⟩
  obtain ⟨hX, h4⟩ := hE _ hE'
  -- the last lane's fifth slot holds no more than the large constant: of its forty candidates twenty hold no more
  have hpad : ((S 127 4).1 : EReal) ≤ pad := by
    by_contra hcon
    have hheld : ∀ b : Fin 20, ∃ t, t < 5 ∧ σ 127 t = some (2 * b.val) := fun b => by
      have hh : 2 * b.val < 40 := by omega
      rcases hall 127 (2 * b.val) hh with h | h
      · exact h
      · refine absurd (h.trans ?_) hcon
        have h1 := congrArg Prod.fst (hcand 127 (2 * b.val) hh)
        refine (le_of_eq h1.symm).trans ((hz b 127 39 (by omega)).trans (le_of_eq (entry_out (by decide))))
    choose f hf5 hf using hheld
    have hfi : Function.Injective fun b => (⟨f b, hf5 b⟩ : Fin 5) := by
      intro a b e
      have e' : f a = f b := congrArg Fin.val e
      have := (hf a).symm.trans ((congrArg (σ 127) e').trans (hf b))
      exact Fin.ext (by have := Option.some.inj this; omega)
    have := Fintype.card_le_of_injective _ hfi
    simp at this
  refine Extracted.isTop hE' hX (lt_of_lt_of_le (h4 127) (dst_mono hpad)) fun n hn => ?_
  -- every position is held, or above the bounds
  have hq : n % 5000 < 5000 := Nat.mod_lt _ (by decide)
  let b : Fin 20 := ⟨n / 5000, by omega⟩
  let l : Fin 128 := ⟨n % 5000 % 128, Nat.mod_lt _ (by decide)⟩
  have hn' : n = 5000 * b.val + (128 * (n % 5000 / 128) + l.val) := by show n = 5000 * (n / 5000) + (128 * (n % 5000 / 128) + n % 5000 % 128); omega
  have he : 128 * (n % 5000 / 128) + l.val < 5000 := by show 128 * (n % 5000 / 128) + n % 5000 % 128 < 5000; omega
  have from_cand : ∀ j, j < 40 → 128 * ch l j + l.val < 5000 → num l j = n → (∃ (t : Fin 4) (l : Fin 128), N t l = some n) ∨ rv 15 < dst (s n) := by
    intro j hj hg ej
    rcases hall l j hj with ⟨t, ht, e⟩ | h
    · by_cases h4' : t < 4
      · exact Or.inl ⟨⟨t, h4'⟩, l, by simp only [N, e, Option.bind_some, if_pos hg, ej]⟩
      · have : t = 4 := by omega
        subst this
        have := h4 l
        rw [hσ l 4 (by omega), e] at this
        rw [← ej, ← hval l j hg]
        exact Or.inr this
    · rw [← ej, ← hval l j hg]
      exact Or.inr (lt_of_lt_of_le (h4 l) (dst_mono h))
  by_cases q1 : n % 5000 / 128 = c b l
  · have hh : 2 * b.val < 40 := by omega
    have hi : (⟨2 * b.val / 2, by omega⟩ : Fin 20) = b := Fin.ext (by show 2 * b.val / 2 = b.val; omega)
    have hcc : ch l (2 * b.val) = n % 5000 / 128 := by simp only [ch, dif_pos hh, if_pos (by omega : 2 * b.val % 2 = 0), hi, q1]
    refine from_cand (2 * b.val) (by omega) (by rw [hcc]; exact he) ?_
    simp only [num, hcc]
    omega
  · by_cases q2 : n % 5000 / 128 = d b l
    · have hh : 2 * b.val + 1 < 40 := by omega
      have hi : (⟨(2 * b.val + 1) / 2, by omega⟩ : Fin 20) = b := Fin.ext (by show (2 * b.val + 1) / 2 = b.val; omega)
      have hcc : ch l (2 * b.val + 1) = n % 5000 / 128 := by simp only [ch, dif_pos hh, if_neg (by omega : ¬ (2 * b.val + 1) % 2 = 0), hi, q2]
      refine from_cand (2 * b.val + 1) (by omega) (by rw [hcc]; exact he) ?_
      simp only [num, hcc]
      omega
    · have h := (hb b l _ (by omega) q1 q2).trans (le_of_eq (entry_in he))
      rw [← hn'] at h
      exact Or.inr (lt_of_lt_of_le (h3 b.val b.isLt l) (dst_mono h))

/-! ## The check's word -/

theorem drop_all (h : S1x256x128.Reduces [1, 2] S1) (i : S1x256x128.Idx) (j : S1.Idx) : h.drop i = j := by
  funext a
  apply Fin.ext
  have h1 := (h.drop i a).isLt
  have h2 := (j a).isLt
  match a with
  | ⟨0, _⟩ =>
    have h1' : (h.drop i 0).val < 1 := h1
    have h2' : (j 0).val < 1 := h2
    show (h.drop i 0).val = (j 0).val
    omega

theorem one_idx (a b : S1.Idx) : a = b := by
  funext x
  apply Fin.ext
  match x with
  | ⟨0, _⟩ =>
    have h1 : (a 0).val < 1 := (a 0).isLt
    have h2 : (b 0).val < 1 := (b 0).isLt
    show (a 0).val = (b 0).val
    omega

theorem word_read (y : IVec S1 32) : extractAt ![0, 0, 0] (k0_pay2 y) inpos_S1x1x1_p0_0_0 = y (ix1 0) := by
  unfold k0_pay2 extractAt shapeCast
  exact congrArg y (one_idx _ _)

theorem max_zero (y : IVec S1x256x128 32) (hacc : (2147483648#32 : BitVec 32) = IKind.maxsi.neutral)
    (h : multiReductionI .maxsi [1, 2] S1 y 2147483648#32 reduces_S1x256x128_S1 hacc (ix1 0) = 0#32) (i : S1x256x128.Idx) : (y i).toInt ≥ 0 → (y i).toInt = 0 := by
  intro h0
  rw [multiReductionI_eq_fold] at h
  have hp := (Cert.Rounds.fold_pick IntOp.maxsi (fun w => -w.toInt) Cert.Rounds.maxsi_pick
    (Finset.univ.filter fun i => reduces_S1x256x128_S1.drop i = ix1 0) y 2147483648#32).2.1
    i (Finset.mem_filter.mpr ⟨Finset.mem_univ _, drop_all _ _ _⟩)
  have h' : (Finset.univ.filter fun i => reduces_S1x256x128_S1.drop i = ix1 0).fold IntOp.maxsi 2147483648#32 y = 0#32 := h
  simp only [h'] at hp
  have z : (0#32 : BitVec 32).toInt = 0 := by decide
  omega

theorem bit_zero (w : BitVec 1) : (BitVec.setWidth 32 w).toInt ≥ 0 ∧ ((BitVec.setWidth 32 w).toInt = 0 → w = 0#1) := by
  revert w; decide

theorem word_zero (x : IVec S256x128 1) (h : word x = 0#32) (r : Fin 256) (l : Fin 128) : x (ix2 r l) = 0#1 := by
  unfold word at h
  rw [word_read] at h
  have hm := max_zero _ _ h (ix3 0 r l)
  rw [cast_upI] at hm
  have hx : (extui 32 x : IVec S256x128 32) (ix2 r l) = BitVec.setWidth 32 (x (ix2 r l)) := rfl
  rw [hx] at hm
  exact (bit_zero _).2 (hm (bit_zero _).1)

theorem low_zero (p : FVec Ideal S256x128 .f32) (q : FVec Ideal S256x1 .f32) (r : Fin 256) (l : Fin 128) (h : low p q (ix2 r l) = 0#1) :
    (q (ix2 r 0) : EReal) < p (ix2 r l) := by
  have e : low p q (ix2 r l) = BitVec.ofBool (decide ((p (ix2 r l) : EReal) ≤ q (ix2 r 0))) := by
    pointwise [low]
  rw [e] at h
  by_contra hn
  rw [decide_eq_true (not_lt.mp hn)] at h
  exact absurd h (by decide)

theorem ori_zero (a b : BitVec 1) (h : IntOp.ori a b = 0#1) : a = 0#1 ∧ b = 0#1 := by
  revert h; revert a b; decide

theorem lows_zero (t : FVec Ideal S256x128 .f32) (m : ℕ → FVec Ideal S256x128 .f32) (q : FVec Ideal S256x1 .f32) (r : Fin 256) (l : Fin 128) (k : ℕ)
    (h : lows t m q k (ix2 r l) = 0#1) : (q (ix2 r 0) : EReal) < t (ix2 r l) ∧ ∀ b, b < k → (q (ix2 r 0) : EReal) < dst (m b (ix2 r l)) := by
  induction k with
  | zero => exact ⟨low_zero t q r l h, fun b hb => absurd hb (Nat.not_lt_zero _)⟩
  | succ k ih =>
    obtain ⟨h1, h2⟩ := ori_zero (lows t m q k (ix2 r l)) (low (root (m k)) q (ix2 r l)) h
    obtain ⟨a, c⟩ := ih h1
    refine ⟨a, fun b hb => ?_⟩
    rcases Nat.lt_succ_iff_lt_or_eq.mp hb with hb | rfl
    · exact c b hb
    · exact low_zero (root (m b)) q r l h2

end Cert.Search.Fast

end
-- ==== Proof.FastHeld.lean ====
/-
  The last point of the fast search: if the word put out is zero, every row of the two results is the row's first sixteen keys.
-/
module

public import proofs.«01_k».proof.Proof.FastTop

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes Cert.Select

variable {Ix U : Type} [DecidableEq Ix] [URA U]

section
variable {e : EltTy}
theorem res_apply {Val : EltTy → Type} (v : View sig .tc .vmem S16x256x1 e) (f : v.ty.Contents Val) (s : ℕ) (h : s < 16) (r : Fin 256) :
    res v f s h (ix3 0 r 0) = v.read Val f (ix3 ⟨s, h⟩ r 0) := by
  unfold res
  rw [View.readAt_apply]
  congr 1
  funext a
  apply Fin.ext
  match a with
  | ⟨0, _⟩ => show s + 1 * 0 = s; omega
  | ⟨1, _⟩ => show 0 + 1 * r.val = r.val; omega
  | ⟨2, _⟩ => show 0 + 1 * 0 = 0; omega

theorem bnd_apply {Val : EltTy → Type} (v : View sig .tc .vmem S20x256x128 e) (f : v.ty.Contents Val) (s : ℕ) (h : s < 20) (r : Fin 256) (l : Fin 128) :
    bnd v f s h (ix3 0 r l) = v.read Val f (ix3 ⟨s, h⟩ r l) := by
  unfold bnd
  rw [View.readAt_apply]
  congr 1
  funext a
  apply Fin.ext
  match a with
  | ⟨0, _⟩ => show s + 1 * 0 = s; omega
  | ⟨1, _⟩ => show 0 + 1 * r.val = r.val; omega
  | ⟨2, _⟩ => show 0 + 1 * l.val = l.val; omega
end

theorem flat_col (a : FVec Ideal S1x256x1 .f32) (r : Fin 256) : shapeCast S256x1 a shapeCasts_S1x256x1_S256x1 (ix2 r 0) = a (ix3 0 r 0) := by pointwise
theorem flat_colI (a : IVec S1x256x1 32) (r : Fin 256) : shapeCast S256x1 a shapeCasts_S1x256x1_S256x1 (ix2 r 0) = a (ix3 0 r 0) := by pointwise

theorem colV_at (v : View sig .tc .vmem S16x256x1 .f32) (f : v.ty.Contents (Elt Ideal)) (d : EReal) (r : Fin 256) (k : ℕ) (hk : k < 16) :
    colV v f k (ix2 r 0) = resAt (e := .f32) d v f r k := by
  unfold colV resAt
  rw [dif_pos hk, dif_pos hk, flat_col]
  exact res_apply v f k hk r

theorem colI_at (v : View sig .tc .vmem S16x256x1 .i32) (f : v.ty.Contents (Elt Ideal)) (d : BitVec 32) (r : Fin 256) (k : ℕ) (hk : k < 16) :
    colI (F := Ideal) v f k (ix2 r 0) = resAt (e := .i32) d v f r k := by
  unfold colI resAt
  rw [dif_pos hk, dif_pos hk, flat_colI]
  exact res_apply v f k hk r

/-- The bound of a block, whichever store it comes from. -/
theorem bounds_at (v : View sig .tc .vmem S20x256x128 .f32) (f : v.ty.Contents (Elt Ideal)) (hc2 : k0_cond2 lastPt = 1#1) (V : FVec Ideal S256x5000 .f32)
    (b : ℕ) (hb : b < 20) (r : Fin 256) (l : Fin 128) :
    bounds v f hc2 V b (ix3 0 r l) = v.read (Elt Ideal) (v.writes (Elt Ideal) f (st11 lastPt hc2 V)) (ix3 ⟨b, hb⟩ r l) := by
  by_cases h : b < 19
  · have e := read_row_other (n := 20) v f (k0_off5 lastPt) 19 off5_last (k0_off5_inb lastPt hc2) (k0_pay356 (third V)) [] b hb (by omega) r l
    refine Eq.trans ?_ e.symm
    have e2 : bounds v f hc2 V b = bnd v f b (by omega) := dif_pos h
    rw [e2]
    exact bnd_apply v f b hb r l
  · have : b = 19 := by omega
    subst this
    rw [bounds_last]
    have e1 := bnd_apply v (v.writes (Elt Ideal) v.junk (st11 lastPt hc2 V)) 19 hb r l
    have e2 := read_row_same (Val := Elt Ideal) (n := 20) v v.junk (k0_off5 lastPt) 19 (by decide) off5_last (k0_off5_inb lastPt hc2) (k0_pay356 (third V) : FVec Ideal S1x256x128 .f32) [] r l
    have e3 := read_row_same (n := 20) v f (k0_off5 lastPt) 19 (by decide) off5_last (k0_off5_inb lastPt hc2) (k0_pay356 (third V)) [] r l
    exact e1.trans (e2.trans e3.symm)

theorem start_held (v12 : View sig .tc .vmem S5x256x128 .f32) (v13 : View sig .tc .vmem S5x256x128 .i32) (r : Fin 256) (l : Fin 128) (s : ℕ) (h : s < 5) :
    held5 v12 v13 (start12 (F := Ideal) v12) (start13 (F := Ideal) v13) r l s = (⊤, 1073741824#32) := by
  unfold held5 start12 start13
  rw [dif_pos h, read_five5 v12 _ _ s h r l, read_five5 v13 _ _ s h r l, cast_up, cast_upI]
  exact Prod.ext Cert.Rounds.ofBits_inf rfl

theorem rooted_at (v12 : View sig .tc .vmem S5x256x128 .f32) (v13 : View sig .tc .vmem S5x256x128 .i32) (f : v12.ty.Contents (Elt Ideal)) (g : v13.ty.Contents (Elt Ideal))
    (r : Fin 256) (l : Fin 128) (s : ℕ) (h : s < 5) :
    v12.read (Elt Ideal) (rooted v12 v13 f g) (ix3 ⟨s, h⟩ r l) = dst (held5 v12 v13 f g r l s).1 := by
  unfold rooted
  rw [read_five5 v12 _ _ s h r l, cast_up, root_at]
  exact congrArg dst (congrArg Prod.fst (slots_at v12 v13 f g r l s h))

/-- A row of the last point, from what its parts do. -/
theorem row_end (s : ℕ → EReal) (hs : ∀ n, s n < ⊤) (hp : pad < ⊤)
    (v9 : View sig .tc .vmem S40x256x128 .f32) (v10 : View sig .tc .vmem S40x256x128 .i32) (v11 : View sig .tc .vmem S20x256x128 .f32)
    (v12 : View sig .tc .vmem S5x256x128 .f32) (v13 : View sig .tc .vmem S5x256x128 .i32) (v14 : View sig .tc .vmem S16x256x1 .f32) (v15 : View sig .tc .vmem S16x256x1 .i32)
    (f9 : v9.ty.Contents (Elt Ideal)) (f10 : v10.ty.Contents (Elt Ideal)) (f11 : v11.ty.Contents (Elt Ideal)) (r : Fin 256)
    (hc2 : k0_cond2 lastPt = 1#1) (V : FVec Ideal S256x5000 .f32) (hV : ∀ q : Fin 5000, V (ix2 r q) = s (5000 * 19 + q.val))
    (hk : ∀ b (hb : b < 20), b < 19 → ∀ l, Kept v9 v10 v11 f9 f10 f11 s b hb r l)
    (I12 : v12.ty.Contents (Elt Ideal)) (I13 : v13.ty.Contents (Elt Ideal))
    (hI : ∀ (l : Fin 128) (x : Option ℕ → EReal × BitVec 32), (∀ t, t < 5 → held5 v12 v13 (start12 (F := Ideal) v12) (start13 (F := Ideal) v13) r l t = x none) →
      (∀ k (h : k < 40), (v9.read (Elt Ideal) (v9.writes (Elt Ideal) f9 (st9 lastPt hc2 V)) (ix3 ⟨k, h⟩ r l),
        v10.read (Elt Ideal) (v10.writes (Elt Ideal) f10 (st10 lastPt hc2 19#32 V)) (ix3 ⟨k, h⟩ r l)) = x (some k)) → Inserted x 40 (held5 v12 v13 I12 I13 r l))
    (R12 : v12.ty.Contents (Elt Ideal)) (R14 : v14.ty.Contents (Elt Ideal)) (R15 : v15.ty.Contents (Elt Ideal)) (d0 : EReal) (i0 : BitVec 32)
    (hR : ∀ N, Entries (dst pad) (fun n => dst (s n)) N (val4 v12 (rooted v12 v13 I12 I13) r) (num4 v13 I13 r) →
      Extracted (dst pad) (fun n => dst (s n)) N (val4 v12 (rooted v12 v13 I12 I13) r) 16 (val4 v12 R12 r) (resAt (e := .f32) d0 v14 R14 r) (resAt (e := .i32) i0 v15 R15 r)
        ∧ ∀ l, v12.read (Elt Ideal) R12 (ix3 4 r l) = v12.read (Elt Ideal) (rooted v12 v13 I12 I13) (ix3 4 r l))
    (hw : wordRaw (res v14 R14 15 (by decide)) (slot v12 R12 4 (by decide)) (bounds v11 f11 hc2 V) = 0#32) :
    ∃ t : Fin 16 → ℕ, IsTop (fun n => dst (s n)) 100000 t
      ∧ ∀ j : Fin 16, colV v14 R14 j.val (ix2 r 0) = dst (s (t j)) ∧ colI (F := Ideal) v15 R15 j.val (ix2 r 0) = BitVec.ofNat 32 (t j) := by
  have hc := fun l => lows_zero _ _ _ r l 20 (word_zero _ ((wordRaw_eq _ _ _).symm.trans hw) r l)
  have e15 : (shapeCast S256x1 (res v14 R14 15 (by decide) : FVec Ideal S1x256x1 .f32) shapeCasts_S1x256x1_S256x1 (ix2 r 0) : EReal) = resAt (e := .f32) d0 v14 R14 r 15 := by
    rw [flat_col]
    exact (res_apply v14 R14 15 (by decide) r).trans (by unfold resAt; rfl)
  rw [e15] at hc
  obtain ⟨t, h1, h2⟩ := row_top s v9 v10 v11 (v9.writes (Elt Ideal) f9 (st9 lastPt hc2 V))
    (v10.writes (Elt Ideal) f10 (st10 lastPt hc2 19#32 V)) (v11.writes (Elt Ideal) f11 (st11 lastPt hc2 V)) r
    (fun b hb l => by
      by_cases h : b < 19
      · exact kept_other v9 v10 v11 f9 f10 f11 lastPt hc2 b hb (by show b + 1 < 20; omega) 19#32 V s r l (hk b hb h l)
      · have : b = 19 := by omega
        subst this
        exact kept_store v9 v10 v11 f9 f10 f11 lastPt hc2 19 hb rfl 19#32 rfl V s r hV hs hp l)
    (fun l => held5 v12 v13 I12 I13 r l)
    (fun l a m hx => hI l (cands a m) (fun t ht => start_held v12 v13 r l t ht) hx)
    (val4 v12 (rooted v12 v13 I12 I13) r) (num4 v13 I13 r)
    (fun t l => rooted_at v12 v13 I12 I13 r l t.val (by omega))
    (fun t l => by
      unfold num4 held5
      rw [dif_pos (show t.val < 5 by omega)])
    (val4 v12 R12 r) (resAt (e := .f32) d0 v14 R14 r) (resAt (e := .i32) i0 v15 R15 r)
    (fun N hN => by
      obtain ⟨hX, hs4⟩ := hR N hN
      refine ⟨hX, fun l => ?_⟩
      have h4 := (hc l).1
      unfold down at h4
      rw [cast_down] at h4
      rw [← rooted_at v12 v13 I12 I13 r l 4 (by decide)]
      have e4 := (slot_apply v12 R12 4 (by decide) r l).trans (hs4 l)
      exact lt_of_lt_of_le h4 (le_of_eq e4))
    (fun b hb l => by
      have h3 := (hc l).2 b hb
      have e3 : down (bounds v11 f11 hc2 V b) (ix2 r l) = _ := (cast_down _ r l).trans (bounds_at v11 f11 hc2 V b hb r l)
      rw [e3] at h3
      exact h3)
  exact ⟨t, h1, fun j => ⟨(colV_at v14 R14 d0 r j.val j.isLt).trans (h2 j).1, (colI_at v15 R15 i0 r j.val j.isLt).trans (h2 j).2⟩⟩

theorem lastV_at (v8 : View sig .tc .vmem S2x256x5000 .f32) (hc2 : k0_cond2 lastPt = 1#1) (f8 : v8.ty.Contents (Elt Ideal)) (r : Fin 256) (q : Fin 5000) :
    lastV v8 hc2 f8 (ix2 r q) = v8.read (Elt Ideal) f8 (ix3 1 r q) := by
  have e : ∀ a : FVec Ideal S1x256x5000 .f32, k0_pay3 a (ix2 r q) = a (ix3 0 r q) := fun a => by pointwise [k0_pay3]
  unfold lastV
  refine (e _).trans ?_
  rw [View.readAt_apply]
  congr 1
  funext a
  apply Fin.ext
  have ho : k0_off2 lastPt = ![1, 0, 0] := off2_eq lastPt
  show (k0_off2 lastPt) a + 1 * _ = _
  refine (congrArg (fun o : Fin 3 → ℕ => o a + 1 * ((ix3 0 r q : S1x256x5000.Idx) a).val) ho).trans ?_
  match a with
  | ⟨0, _⟩ => show 1 + 1 * 0 = 1; omega
  | ⟨1, _⟩ => show 0 + 1 * r.val = r.val; omega
  | ⟨2, _⟩ => show 0 + 1 * q.val = q.val; omega

theorem ins_all (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (hc3 : k0_cond3 lastPt = 1#1) (p : FVec Ideal S256x128 .f32) (w : IVec S256x128 32) (X9 : BufTy.Contents (Elt Ideal) arg9.view.ty) (X10 : BufTy.Contents (Elt Ideal) arg10.view.ty)
    (G12 : BufTy.Contents (Elt Ideal) arg12.view.ty) (G13 : BufTy.Contents (Elt Ideal) arg13.view.ty) (k : ℕ) (hk : k = 40) (r : Fin 256) (l : Fin 128) (x : Option ℕ → EReal × BitVec 32)
    (h0 : ∀ t, t < 5 → held5 arg12.view arg13.view G12 G13 r l t = x none)
    (hx : ∀ k (h : k < 40), (arg9.view.read (Elt Ideal) X9 (ix3 ⟨k, h⟩ r l), arg10.view.read (Elt Ideal) X10 (ix3 ⟨k, h⟩ r l)) = x (some k)) :
    Inserted x 40 (held5 arg12.view arg13.view (insV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 G12 G13 k) (insI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 G12 G13 k) r l) := by
  subst hk
  exact ins_inserted (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 (G12, G13) r l x h0 hx 40 le_rfl

theorem ext_all (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (hc3 : k0_cond3 lastPt = 1#1)
    (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (k : ℕ) (hk : k = 16) (r : Fin 256) {P : EReal} (D : ℕ → EReal) (N : Fin 4 → Fin 128 → Option ℕ) (h0 : Entries P D N (val4 arg12.view G12 r) (num4 arg13.view G13 r)) (d0 : EReal) (i0 : BitVec 32) :
    Extracted P D N (val4 arg12.view G12 r) 16 (val4 arg12.view (extV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) r)
        (resAt (e := .f32) d0 arg14.view (extRV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) r) (resAt (e := .i32) i0 arg15.view (extRI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) r)
      ∧ ∀ l, arg12.view.read (Elt Ideal) (extV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) (ix3 4 r l) = arg12.view.read (Elt Ideal) G12 (ix3 4 r l) := by
  subst hk
  have h := ext_extracted (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 (G12, G13, G14, G15) r D N h0 d0 i0 16 le_rfl
  exact ⟨h.1, h.2.2⟩

theorem trips1 : k0_t1_loop.trips = 40 := by decide +kernel
theorem trips2 : k0_t2_loop.trips = 16 := by decide +kernel

/-- The two results and the word, from what the last point stores. -/
theorem row_out (s : ℕ → EReal) (v5 : View sig .tc .vmem S256x16 .f32) (v6 : View sig .tc .vmem S256x16 .i32) (v7 : View sig .tc .smem S1x1 .i32)
    (v14 : View sig .tc .vmem S16x256x1 .f32) (v15 : View sig .tc .vmem S16x256x1 .i32) (f5 g5 : v5.ty.Contents (Elt Ideal)) (f6 g6 : v6.ty.Contents (Elt Ideal)) (f7 g7 : v7.ty.Contents (Elt Ideal))
    (R14 : v14.ty.Contents (Elt Ideal)) (R15 : v15.ty.Contents (Elt Ideal)) (r : Fin 256) (w : BitVec 32)
    (e5 : g5 = v5.writes (Elt Ideal) f5 [⟨Rect.unit (s := S256x16) ![0, 0] ![256, 16] inb_S256x16_S256x16_0_0,
      concatenate S256x16 1 (Cert.Rounds.cols (colV v14 R14)) concatenates_S256x1_S256x1_S256x1_S256x1_S256x1_S256x1_S256x1_S256x1_S256x1_S256x1_S256x1_S256x1_S256x1_S256x1_S256x1_S256x1_S256x16_d1⟩])
    (e6 : g6 = v6.writes (Elt Ideal) f6 [⟨Rect.unit (s := S256x16) ![0, 0] ![256, 16] inb_S256x16_S256x16_0_0,
      concatenate S256x16 1 (Cert.Rounds.cols (colI (F := Ideal) v15 R15)) concatenates_S256x1_S256x1_S256x1_S256x1_S256x1_S256x1_S256x1_S256x1_S256x1_S256x1_S256x1_S256x1_S256x1_S256x1_S256x1_S256x1_S256x16_d1⟩])
    (e7 : g7 = v7.writes (Elt Ideal) f7 [⟨Rect.unit (s := S1x1) ![0, 0] ![1, 1] inb_S1x1_S1x1_0_0, fun _ => w⟩])
    (hw : v7.read (Elt Ideal) g7 (ix2 0 0) = 0#32)
    (h : w = 0#32 → ∃ t : Fin 16 → ℕ, IsTop (fun n => dst (s n)) 100000 t
      ∧ ∀ j : Fin 16, colV v14 R14 j.val (ix2 r 0) = dst (s (t j)) ∧ colI (F := Ideal) v15 R15 j.val (ix2 r 0) = BitVec.ofNat 32 (t j)) :
    ∃ t : Fin 16 → ℕ, IsTop (fun n => dst (s n)) 100000 t
      ∧ ∀ j : Fin 16, v5.read (Elt Ideal) g5 (ix2 r j) = dst (s (t j)) ∧ v6.read (Elt Ideal) g6 (ix2 r j) = BitVec.ofNat 32 (t j) := by
  subst e5 e6 e7
  have hw' := (View.read_writes_cons_unit_of_mem v7 f7 inb_S1x1_S1x1_0_0 (fun _ => w) [] (ix2 0 0) (ix2 0 0) rfl (fun a => by fin_cases a <;> rfl)).symm.trans hw
  obtain ⟨t, h1, h2⟩ := h hw'
  refine ⟨t, h1, fun j => ⟨?_, ?_⟩⟩
  · refine Eq.trans ?_ (h2 j).1
    refine (View.read_writes_cons_unit_of_mem v5 f5 inb_S256x16_S256x16_0_0 _ [] (ix2 r j) (ix2 r j) rfl (fun a => by fin_cases a <;> exact (Nat.zero_add _).symm)).trans ?_
    rw [Cert.Rounds.concat_cols]
    rfl
  · refine Eq.trans ?_ (h2 j).2
    refine (View.read_writes_cons_unit_of_mem v6 f6 inb_S256x16_S256x16_0_0 _ [] (ix2 r j) (ix2 r j) rfl (fun a => by fin_cases a <;> exact (Nat.zero_add _).symm)).trans ?_
    rw [Cert.Rounds.concat_cols]
    rfl

theorem last_row  (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f5 : BufTy.Contents (Elt Ideal) arg5.view.ty) (f6 : BufTy.Contents (Elt Ideal) arg6.view.ty) (f7 : BufTy.Contents (Elt Ideal) arg7.view.ty)  (s : ℕ → EReal) (hs : ∀ n, s n < ⊤) (hp : pad < ⊤) (r : Fin 256)
    (h8 : ∀ q : Fin 5000, arg8.view.read (Elt Ideal) f8 (ix3 1 r q) = s (5000 * 19 + q.val))
    (hk : ∀ b (hb : b < 20), b < 19 → ∀ l, Kept arg9.view arg10.view arg11.view f9 f10 f11 s b hb r l)
    (hw : arg7.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1) (ix2 0 0) = 0#32) :
    ∃ t : Fin 16 → ℕ, IsTop (fun n => dst (s n)) 100000 t
      ∧ ∀ j : Fin 16, arg5.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.1) (ix2 r j) = dst (s (t j))
        ∧ arg6.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.1) (ix2 r j) = BitVec.ofNat 32 (t j) :=
  row_out s arg5.view arg6.view arg7.view arg14.view arg15.view f5 _ f6 _ f7 _ _ _ r _ (last_v (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7) (last_i (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7) (last_w (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7) hw fun hw =>
    row_end s hs hp arg9.view arg10.view arg11.view arg12.view arg13.view arg14.view arg15.view f9 f10 f11 r hc2 (lastV arg8.view hc2 f8)
      (fun q => (lastV_at arg8.view hc2 f8 r q).trans (h8 q)) hk _ _
      (fun l x h0 hx => ins_all (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc3 _ _ _ _ _ _ _ trips1 r l x h0 hx) _ _ _ 0 0
      (fun N hN => ext_all (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc3 _ _ _ _ _ trips2 r _ N hN 0 0) hw

end Cert.Search.Fast

end
-- ==== Proof.FastWord.lean ====
/-
  What the fast search has stored before its last point, exactly; and that the word of the last point depends on nothing else.
-/
module

public import proofs.«01_k».proof.Proof.FastHeld

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA
open Cert.Lanes Cert.Select

/-- Block `b` of the squared distances. -/
def blk (s : Fin 256 → ℕ → EReal) (b : ℕ) : FVec Ideal S256x5000 .f32 := fun i => s (i 0) (5000 * b + (i 1).val)

theorem blk_eq (s : Fin 256 → ℕ → EReal) (b : ℕ) (V : FVec Ideal S256x5000 .f32) (h : ∀ r q, V (ix2 r q) = s r (5000 * b + q.val)) : V = blk s b := by
  funext i
  have e : i = ix2 (i 0) (i 1) := eq_ix2 i
  refine (congrArg V e).trans (h (i 0) (i 1))

theorem one_plane (i : S1x256x128.Idx) : i = ix3 0 (i 1) (i 2) := by
  funext a
  match a with
  | ⟨0, _⟩ => exact Fin.ext (Nat.lt_one_iff.mp (i 0).isLt)
  | ⟨1, _⟩ => rfl
  | ⟨2, _⟩ => rfl

theorem one_col (i : S1x256x1.Idx) : i = ix3 0 (i 1) 0 := by
  funext a
  match a with
  | ⟨0, _⟩ => exact Fin.ext (Nat.lt_one_iff.mp (i 0).isLt)
  | ⟨1, _⟩ => rfl
  | ⟨2, _⟩ => exact Fin.ext (Nat.lt_one_iff.mp (i 2).isLt)

/-- What block `b` leaves at one place of the three buffers. -/
def Rows (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal))
    (s : Fin 256 → ℕ → EReal) (b : ℕ) (hb : b < 20) (r : Fin 256) (l : Fin 128) : Prop :=
  v9.read (Elt Ideal) f9 (ix3 ⟨2 * b, by omega⟩ r l) = (first (blk s b)).1 (ix2 r l)
    ∧ v9.read (Elt Ideal) f9 (ix3 ⟨2 * b + 1, by omega⟩ r l) = (second (blk s b)).1 (ix2 r l)
    ∧ v10.read (Elt Ideal) f10 (ix3 ⟨2 * b, by omega⟩ r l) = k0_pay353 (BitVec.ofNat 32 b) (first (blk s b)).2 (ix3 0 r l)
    ∧ v10.read (Elt Ideal) f10 (ix3 ⟨2 * b + 1, by omega⟩ r l) = k0_pay355 (BitVec.ofNat 32 b) (second (blk s b)).2 (ix3 0 r l)
    ∧ v11.read (Elt Ideal) f11 (ix3 ⟨b, hb⟩ r l) = third (blk s b) (ix2 r l)

section
variable (v9 : View sig .tc .vmem S40x256x128 .f32) (v10 : View sig .tc .vmem S40x256x128 .i32) (v11 : View sig .tc .vmem S20x256x128 .f32)
    (f9 : v9.ty.Contents (Elt Ideal)) (f10 : v10.ty.Contents (Elt Ideal)) (f11 : v11.ty.Contents (Elt Ideal))
    (s : Fin 256 → ℕ → EReal) (b : ℕ) (hb : b < 20) (r : Fin 256) (l : Fin 128)

theorem rows_kept (h : Rows v9 v10 v11 f9 f10 f11 s b hb r l) (hs : ∀ n, s r n < ⊤) (hp : pad < ⊤) : Kept v9 v10 v11 f9 f10 f11 (s r) b hb r l := by
  obtain ⟨h1, h2, h3, h4, h5⟩ := h
  obtain ⟨c, d, hc, hd, hcd, e1, n1, e2, n2, e0, e3⟩ := fold_spec (blk s b) (fun q => s r (5000 * b + q)) r (fun q => rfl) (fun n => hs _) hp l
  refine ⟨c, d, hcd, hc, hd, h1.trans e1, ?_, h2.trans e2, ?_, fun e he => (le_of_eq h1).trans (e0 e he), fun e he k1 k2 => (le_of_eq h5).trans (e3 e he k1 k2)⟩
  · exact h3.trans ((number_at _ _ r l).trans (number_eq b l.val c _ rfl _ n1))
  · exact h4.trans ((number_at' _ _ r l).trans (number_eq b l.val d _ rfl _ n2))

theorem rows_store (i : grid0.Coords) (hc2 : k0_cond2 i = 1#1) (hi : (i 0).val = b + 1) (w : BitVec 32) (hw : w = BitVec.ofNat 32 b)
    (V : FVec Ideal S256x5000 .f32) (hV : V = blk s b) :
    Rows v9 v10 v11 (v9.writes (Elt Ideal) f9 (st9 i hc2 V)) (v10.writes (Elt Ideal) f10 (st10 i hc2 w V)) (v11.writes (Elt Ideal) f11 (st11 i hc2 V)) s b hb r l := by
  subst hV hw
  have o3 : k0_off3 i = ![2 * b, 0, 0] := by
    rcases off3_eq i with h | h
    · rw [h, hi]; congr 1
    · omega
  have o4 : k0_off4 i = ![2 * b + 1, 0, 0] := by
    rcases off4_eq i with h | h
    · rw [h, hi]; congr 1
    · omega
  have o5 : k0_off5 i = ![b, 0, 0] := by
    rcases off5_eq i with h | h
    · rw [h, hi]; congr 1
    · omega
  refine ⟨?_, ?_, ?_, ?_, ?_⟩
  · refine (read_row_other (n := 40) v9 f9 _ (2 * b + 1) o4 _ _ _ (2 * b) (by omega) (by omega) r l).trans ?_
    refine (read_row_same (n := 40) v9 f9 _ (2 * b) (by omega) o3 _ _ _ r l).trans ?_
    exact pay352_at _ r l
  · refine (read_row_same (n := 40) v9 f9 _ (2 * b + 1) (by omega) o4 _ _ _ r l).trans ?_
    exact pay354_at _ r l
  · refine (read_row_other (n := 40) v10 f10 _ (2 * b + 1) o4 _ _ _ (2 * b) (by omega) (by omega) r l).trans ?_
    exact read_row_same (n := 40) v10 f10 _ (2 * b) (by omega) o3 _ _ _ r l
  · exact read_row_same (n := 40) v10 f10 _ (2 * b + 1) (by omega) o4 _ _ _ r l
  · exact (read_row_same (n := 20) v11 f11 _ b hb o5 (k0_off5_inb i hc2) (k0_pay356 (third (blk s b))) [] r l).trans (pay356_at _ r l)

theorem rows_other (i : grid0.Coords) (hc2 : k0_cond2 i = 1#1) (hi : b + 1 < (i 0).val) (w : BitVec 32)
    (V : FVec Ideal S256x5000 .f32) (h : Rows v9 v10 v11 f9 f10 f11 s b hb r l) :
    Rows v9 v10 v11 (v9.writes (Elt Ideal) f9 (st9 i hc2 V)) (v10.writes (Elt Ideal) f10 (st10 i hc2 w V)) (v11.writes (Elt Ideal) f11 (st11 i hc2 V)) s b hb r l := by
  obtain ⟨h1, h2, h3, h4, h5⟩ := h
  obtain ⟨m, hm⟩ : ∃ m, (i 0).val = m + 1 := ⟨(i 0).val - 1, by omega⟩
  have o3 : k0_off3 i = ![2 * m, 0, 0] := by
    rcases off3_eq i with h | h
    · rw [h, hm]; congr 1
    · omega
  have o4 : k0_off4 i = ![2 * m + 1, 0, 0] := by
    rcases off4_eq i with h | h
    · rw [h, hm]; congr 1
    · omega
  have o5 : k0_off5 i = ![m, 0, 0] := by
    rcases off5_eq i with h | h
    · rw [h, hm]; congr 1
    · omega
  have k9 : ∀ a (ha : a < 40), a < 2 * m → v9.read (Elt Ideal) (v9.writes (Elt Ideal) f9 (st9 i hc2 V)) (ix3 ⟨a, ha⟩ r l) = v9.read (Elt Ideal) f9 (ix3 ⟨a, ha⟩ r l) := by
    intro a ha h
    refine (read_row_other (n := 40) v9 f9 _ (2 * m + 1) o4 _ _ _ a ha (by omega) r l).trans ?_
    exact read_row_other (n := 40) v9 f9 _ (2 * m) o3 _ _ [] a ha (by omega) r l
  have k10 : ∀ a (ha : a < 40), a < 2 * m → v10.read (Elt Ideal) (v10.writes (Elt Ideal) f10 (st10 i hc2 w V)) (ix3 ⟨a, ha⟩ r l) = v10.read (Elt Ideal) f10 (ix3 ⟨a, ha⟩ r l) := by
    intro a ha h
    refine (read_row_other (n := 40) v10 f10 _ (2 * m + 1) o4 _ _ _ a ha (by omega) r l).trans ?_
    exact read_row_other (n := 40) v10 f10 _ (2 * m) o3 _ _ [] a ha (by omega) r l
  have k11 : v11.read (Elt Ideal) (v11.writes (Elt Ideal) f11 (st11 i hc2 V)) (ix3 ⟨b, hb⟩ r l) = v11.read (Elt Ideal) f11 (ix3 ⟨b, hb⟩ r l) :=
    read_row_other (n := 20) v11 f11 _ m o5 _ _ [] b hb (by omega) r l
  exact ⟨(k9 _ _ (by omega)).trans h1, (k9 _ _ (by omega)).trans h2, (k10 _ _ (by omega)).trans h3, (k10 _ _ (by omega)).trans h4, k11.trans h5⟩
end

/-- Everything the earlier points leave for the last one. -/
def Ready (v8 : View sig .tc .vmem S2x256x5000 .f32) (v9 : View sig .tc .vmem S40x256x128 .f32) (v10 : View sig .tc .vmem S40x256x128 .i32) (v11 : View sig .tc .vmem S20x256x128 .f32)
    (f8 : v8.ty.Contents (Elt Ideal)) (f9 : v9.ty.Contents (Elt Ideal)) (f10 : v10.ty.Contents (Elt Ideal)) (f11 : v11.ty.Contents (Elt Ideal))
    (s : Fin 256 → ℕ → EReal) : Prop :=
  (∀ r q, v8.read (Elt Ideal) f8 (ix3 1 r q) = s r (5000 * 19 + q.val)) ∧ ∀ b (hb : b < 20), b < 19 → ∀ r l, Rows v9 v10 v11 f9 f10 f11 s b hb r l

section
variable (v8 : View sig .tc .vmem S2x256x5000 .f32) (v9 : View sig .tc .vmem S40x256x128 .f32) (v10 : View sig .tc .vmem S40x256x128 .i32) (v11 : View sig .tc .vmem S20x256x128 .f32)
    (f8 g8 : v8.ty.Contents (Elt Ideal)) (f9 g9 : v9.ty.Contents (Elt Ideal)) (f10 g10 : v10.ty.Contents (Elt Ideal)) (f11 g11 : v11.ty.Contents (Elt Ideal))
    (s : Fin 256 → ℕ → EReal) (hc2 : k0_cond2 lastPt = 1#1)

theorem ready_last (h : Ready v8 v9 v10 v11 f8 f9 f10 f11 s) : lastV v8 hc2 f8 = blk s 19 :=
  blk_eq s 19 _ fun r q => (lastV_at v8 hc2 f8 r q).trans (h.1 r q)

theorem ready_rows (h : Ready v8 v9 v10 v11 f8 f9 f10 f11 s) (b : ℕ) (hb : b < 20) (r : Fin 256) (l : Fin 128) :
    Rows v9 v10 v11 (v9.writes (Elt Ideal) f9 (st9 lastPt hc2 (lastV v8 hc2 f8))) (v10.writes (Elt Ideal) f10 (st10 lastPt hc2 19#32 (lastV v8 hc2 f8)))
      (v11.writes (Elt Ideal) f11 (st11 lastPt hc2 (lastV v8 hc2 f8))) s b hb r l := by
  by_cases hb' : b < 19
  · exact rows_other v9 v10 v11 f9 f10 f11 s b hb r l lastPt hc2 (by show b + 1 < 20; omega) 19#32 _ (h.2 b hb hb' r l)
  · have : b = 19 := by omega
    subst this
    exact rows_store v9 v10 v11 f9 f10 f11 s 19 hb r l lastPt hc2 rfl 19#32 rfl _ (ready_last v8 v9 v10 v11 f8 f9 f10 f11 s hc2 h)

theorem plane {e : EltTy} (v : View sig .tc .vmem S40x256x128 e) (f g : v.ty.Contents (Elt Ideal))
    (h : ∀ b (hb : b < 20) r l, v.read (Elt Ideal) f (ix3 ⟨2 * b, by omega⟩ r l) = v.read (Elt Ideal) g (ix3 ⟨2 * b, by omega⟩ r l)
      ∧ v.read (Elt Ideal) f (ix3 ⟨2 * b + 1, by omega⟩ r l) = v.read (Elt Ideal) g (ix3 ⟨2 * b + 1, by omega⟩ r l)) :
    v.read (Elt Ideal) f = v.read (Elt Ideal) g := by
  funext i
  have e : i = ix3 (i 0) (i 1) (i 2) := eq_ix3 i
  have hi : (i 0).val < 40 := (i 0).isLt
  rw [e]
  rcases Nat.even_or_odd' (i 0).val with ⟨b, hb | hb⟩
  · have e0 : i 0 = ⟨2 * b, by omega⟩ := Fin.ext hb
    rw [e0]
    exact (h b (by omega) (i 1) (i 2)).1
  · have e0 : i 0 = ⟨2 * b + 1, by omega⟩ := Fin.ext hb
    rw [e0]
    exact (h b (by omega) (i 1) (i 2)).2

theorem ready_same (hF : Ready v8 v9 v10 v11 f8 f9 f10 f11 s) (hG : Ready v8 v9 v10 v11 g8 g9 g10 g11 s) :
    v9.read (Elt Ideal) (v9.writes (Elt Ideal) f9 (st9 lastPt hc2 (lastV v8 hc2 f8))) = v9.read (Elt Ideal) (v9.writes (Elt Ideal) g9 (st9 lastPt hc2 (lastV v8 hc2 g8)))
      ∧ v10.read (Elt Ideal) (v10.writes (Elt Ideal) f10 (st10 lastPt hc2 19#32 (lastV v8 hc2 f8))) = v10.read (Elt Ideal) (v10.writes (Elt Ideal) g10 (st10 lastPt hc2 19#32 (lastV v8 hc2 g8)))
      ∧ ∀ b, b < 20 → bounds v11 f11 hc2 (lastV v8 hc2 f8) b = bounds v11 g11 hc2 (lastV v8 hc2 g8) b := by
  have h1 := ready_rows v8 v9 v10 v11 f8 f9 f10 f11 s hc2 hF
  have h2 := ready_rows v8 v9 v10 v11 g8 g9 g10 g11 s hc2 hG
  refine ⟨plane v9 _ _ fun b hb r l => ⟨(h1 b hb r l).1.trans (h2 b hb r l).1.symm, (h1 b hb r l).2.1.trans (h2 b hb r l).2.1.symm⟩,
    plane v10 _ _ fun b hb r l => ⟨(h1 b hb r l).2.2.1.trans (h2 b hb r l).2.2.1.symm, (h1 b hb r l).2.2.2.1.trans (h2 b hb r l).2.2.2.1.symm⟩, fun b hb => ?_⟩
  funext i
  have e := one_plane i
  rw [e]
  exact (bounds_at v11 f11 hc2 _ b hb (i 1) (i 2)).trans ((h1 b hb (i 1) (i 2)).2.2.2.2.trans
    ((h2 b hb (i 1) (i 2)).2.2.2.2.symm.trans (bounds_at v11 g11 hc2 _ b hb (i 1) (i 2)).symm))
end

theorem wordRaw_congr (y y' : FVec Ideal S1x256x1 .f32) (t t' : FVec Ideal S1x256x128 .f32) (m m' : ℕ → FVec Ideal S1x256x128 .f32) (hy : y = y') (ht : t = t')
    (hm : ∀ b, b < 20 → m b = m' b) : wordRaw y t m = wordRaw y' t' m' := by
  subst hy ht
  unfold wordRaw
  rw [hm 0 (by omega), hm 1 (by omega), hm 2 (by omega), hm 3 (by omega), hm 4 (by omega), hm 5 (by omega), hm 6 (by omega), hm 7 (by omega), hm 8 (by omega), hm 9 (by omega),
    hm 10 (by omega), hm 11 (by omega), hm 12 (by omega), hm 13 (by omega), hm 14 (by omega), hm 15 (by omega), hm 16 (by omega), hm 17 (by omega), hm 18 (by omega), hm 19 (by omega)]

theorem word_out (v7 : View sig .tc .smem S1x1 .i32) (f7 F7 g7 G7 : v7.ty.Contents (Elt Ideal)) (w w' : BitVec 32)
    (e : F7 = v7.writes (Elt Ideal) f7 [⟨Rect.unit (s := S1x1) ![0, 0] ![1, 1] inb_S1x1_S1x1_0_0, fun _ => w⟩])
    (e' : G7 = v7.writes (Elt Ideal) g7 [⟨Rect.unit (s := S1x1) ![0, 0] ![1, 1] inb_S1x1_S1x1_0_0, fun _ => w'⟩]) (h : w = w') :
    v7.read (Elt Ideal) F7 (ix2 0 0) = v7.read (Elt Ideal) G7 (ix2 0 0) := by
  subst e e' h
  exact (View.read_writes_cons_unit_of_mem v7 f7 inb_S1x1_S1x1_0_0 (fun _ => w) [] (ix2 0 0) (ix2 0 0) rfl (fun a => by fin_cases a <;> rfl)).trans
    (View.read_writes_cons_unit_of_mem v7 g7 inb_S1x1_S1x1_0_0 (fun _ => w) [] (ix2 0 0) (ix2 0 0) rfl (fun a => by fin_cases a <;> rfl)).symm

variable {Ix U : Type} [DecidableEq Ix] [URA U]

theorem same_step (v12 : View sig .tc .vmem S5x256x128 .f32) (v13 : View sig .tc .vmem S5x256x128 .i32) (v14 : View sig .tc .vmem S16x256x1 .f32)
    (a12 b12 A12 B12 : v12.ty.Contents (Elt Ideal)) (a13 b13 A13 B13 : v13.ty.Contents (Elt Ideal)) (a14 b14 A14 B14 : v14.ty.Contents (Elt Ideal))
    (k : Fin k0_t2_loop.trips) (hk : k.val < 16) (i1 : a12 = b12) (i2 : a13 = b13)
    (i3 : ∀ j (hj : j < 16), j < k.val → ∀ r : Fin 256, v14.read (Elt Ideal) a14 (ix3 ⟨j, hj⟩ r 0) = v14.read (Elt Ideal) b14 (ix3 ⟨j, hj⟩ r 0))
    (e12 : A12 = v12.writes (Elt Ideal) a12 (four5 fun s => shapeCast S1x256x128 (drop (slots v12 v13 a12 a13) s) shapeCasts_S256x128_S1x256x128))
    (d12 : B12 = v12.writes (Elt Ideal) b12 (four5 fun s => shapeCast S1x256x128 (drop (slots v12 v13 b12 b13) s) shapeCasts_S256x128_S1x256x128))
    (e13 : A13 = a13) (d13 : B13 = b13)
    (e14 : A14 = v14.writes (Elt Ideal) a14 [putk k (shapeCast S1x256x1 (rowLeast (slots v12 v13 a12 a13)) shapeCasts_S256x1_S1x256x1)])
    (d14 : B14 = v14.writes (Elt Ideal) b14 [putk k (shapeCast S1x256x1 (rowLeast (slots v12 v13 b12 b13)) shapeCasts_S256x1_S1x256x1)]) :
    A12 = B12 ∧ A13 = B13 ∧ ∀ j (hj : j < 16), j < k.val + 1 → ∀ r : Fin 256, v14.read (Elt Ideal) A14 (ix3 ⟨j, hj⟩ r 0) = v14.read (Elt Ideal) B14 (ix3 ⟨j, hj⟩ r 0) := by
  subst i1 i2 e12 d12 e13 d13 e14 d14
  refine ⟨rfl, rfl, fun j hj h r => ?_⟩
  by_cases e : j = k.val
  · subst e
    exact (read_putk_same v14 a14 k _ [] hk r).trans (read_putk_same v14 b14 k _ [] hk r).symm
  · exact (read_putk_other v14 a14 k _ j hj (by omega) r).trans ((i3 j hj (by omega) r).trans (read_putk_other v14 b14 k _ j hj (by omega) r).symm)

theorem ext_same (c : Dev nD) (i : grid0.Coords)  (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (k0_h3 : k0_cond3 i = 1#1) (G12 : BufTy.Contents (Elt Ideal) arg12.view.ty) (G13 : BufTy.Contents (Elt Ideal) arg13.view.ty)
    (G14 G14' : BufTy.Contents (Elt Ideal) arg14.view.ty) (G15 G15' : BufTy.Contents (Elt Ideal) arg15.view.ty) :
    ∀ k : ℕ, k ≤ 16 → (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k).1 = (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14', G15') k).1
      ∧ (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k).2.1 = (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14', G15') k).2.1
      ∧ ∀ j (hj : j < 16), j < k → ∀ r : Fin 256, arg14.view.read (Elt Ideal) (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k).2.2.1 (ix3 ⟨j, hj⟩ r 0)
        = arg14.view.read (Elt Ideal) (extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14', G15') k).2.2.1 (ix3 ⟨j, hj⟩ r 0) := by
  intro k
  induction k with
  | zero => exact fun _ => ⟨rfl, rfl, fun j hj h => absurd h (Nat.not_lt_zero _)⟩
  | succ k ih =>
    intro hk
    have hkt : k < k0_t2_loop.trips := by rw [trips2]; omega
    obtain ⟨i1, i2, i3⟩ := ih (by omega)
    rw [extAt_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k hkt, extAt_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14', G15') k hkt]
    generalize extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14, G15) k = g at i1 i2 i3 ⊢
    generalize extAt (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 (G12, G13, G14', G15') k = g' at i1 i2 i3 ⊢
    have a12 := extTrip_12 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g
    have b12 := extTrip_12 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g'
    have a13 := extTrip_13 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g
    have b13 := extTrip_13 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g'
    have a14 := extTrip_14 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g
    have b14 := extTrip_14 (F := Ideal) (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h3 ⟨k, hkt⟩ g'
    exact same_step arg12.view arg13.view arg14.view _ _ _ _ _ _ _ _ _ _ _ _ ⟨k, hkt⟩ (show k < 16 by omega) i1 i2 i3 a12 b12 a13 b13 a14 b14

theorem ext_word (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (hc3 : k0_cond3 lastPt = 1#1) (G12 G12' : BufTy.Contents (Elt Ideal) arg12.view.ty) (G13 G13' : BufTy.Contents (Elt Ideal) arg13.view.ty)
    (G14 G14' : BufTy.Contents (Elt Ideal) arg14.view.ty) (G15 G15' : BufTy.Contents (Elt Ideal) arg15.view.ty) (h : G12 = G12' ∧ G13 = G13') (k : ℕ) (hk : k = 16) :
    res arg14.view (extRV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) 15 (by decide) = res arg14.view (extRV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12' G13' G14' G15' k) 15 (by decide)
      ∧ slot arg12.view (extV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G15 k) 4 (by decide) = slot arg12.view (extV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12' G13' G14' G15' k) 4 (by decide) := by
  obtain ⟨h1, h2⟩ := h
  subst h1 h2 hk
  obtain ⟨e1, -, e3⟩ := ext_same (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 G12 G13 G14 G14' G15 G15' 16 le_rfl
  refine ⟨?_, congrArg (fun f => slot arg12.view f 4 (by decide)) e1⟩
  funext i
  have e := one_col i
  rw [e]
  exact (res_apply arg14.view _ 15 (by decide) (i 1)).trans ((e3 15 (by decide) (by decide) (i 1)).trans (res_apply arg14.view _ 15 (by decide) (i 1)).symm)

theorem ins_same (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (hc3 : k0_cond3 lastPt = 1#1) (p : FVec Ideal S256x128 .f32) (w : IVec S256x128 32) (X9 X9' : BufTy.Contents (Elt Ideal) arg9.view.ty) (X10 X10' : BufTy.Contents (Elt Ideal) arg10.view.ty)
    (G12 : BufTy.Contents (Elt Ideal) arg12.view.ty) (G13 : BufTy.Contents (Elt Ideal) arg13.view.ty) (k : ℕ) (h9 : X9 = X9') (h10 : X10 = X10') :
    rooted arg12.view arg13.view (insV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 G12 G13 k) (insI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 G12 G13 k)
        = rooted arg12.view arg13.view (insV (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9' X10' G12 G13 k) (insI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9' X10' G12 G13 k)
      ∧ insI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9 X10 G12 G13 k = insI (F := Ideal) (Ix := Ix) (U := U) c lastPt arg1 harg1 arg2 harg2 arg3 harg3 arg4 harg4 arg5 harg5 arg6 harg6 arg7 harg7 arg8 harg8 arg9 harg9 arg10 harg10 arg11 harg11 arg12 harg12 arg13 harg13 arg14 harg14 arg15 harg15 hc3 p w X9' X10' G12 G13 k := by
  subst h9 h10
  exact ⟨rfl, rfl⟩

theorem word_same  (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f5 : BufTy.Contents (Elt Ideal) arg5.view.ty) (f6 : BufTy.Contents (Elt Ideal) arg6.view.ty) (f7 : BufTy.Contents (Elt Ideal) arg7.view.ty)  (g8 : BufTy.Contents (Elt Ideal) arg8.view.ty) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (g5 : BufTy.Contents (Elt Ideal) arg5.view.ty) (g6 : BufTy.Contents (Elt Ideal) arg6.view.ty) (g7 : BufTy.Contents (Elt Ideal) arg7.view.ty)  (s : Fin 256 → ℕ → EReal)
    (hF : Ready arg8.view arg9.view arg10.view arg11.view f8 f9 f10 f11 s) (hG : Ready arg8.view arg9.view arg10.view arg11.view g8 g9 g10 g11 s) :
    arg7.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1) (ix2 0 0) = arg7.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 g8 g9 g10 g11 g12 g13 g14 g15 g5 g6 g7).2.2.2.2.2.2.2.2.2.1) (ix2 0 0) := by
  have hR := ready_same arg8.view arg9.view arg10.view arg11.view f8 g8 f9 g9 f10 g10 f11 g11 s hc2 hF hG
  have e9 := congrArg harg9.unread hR.1
  have e10 := congrArg harg10.unread hR.2.1
  rw [harg9.unread_read, harg9.unread_read] at e9
  rw [harg10.unread_read, harg10.unread_read] at e10
  have hE := ext_word (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc3 _ _ _ _ f14 g14 f15 g15 (ins_same (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc3 k0_pay402 k0_pay410 _ _ _ _ (start12 (F := Ideal) arg12.view) (start13 (F := Ideal) arg13.view) k0_t1_loop.trips e9 e10) k0_t2_loop.trips trips2
  exact word_out arg7.view f7 _ g7 _ _ _ (last_w (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7) (last_w (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 g8 g9 g10 g11 g12 g13 g14 g15 g5 g6 g7) (wordRaw_congr _ _ _ _ _ _ hE.1 hE.2 hR.2.2)

end Cert.Search.Fast

end
-- ==== Proof.SearchIn.lean ====
/-
  The operands of the search's two calls, read at a place: the squared lengths, the queries times minus two and the keys, a
  block of 5000 keys at a time; and what real inputs give, every squared distance below infinity.
-/
module

public import proofs.«01_k».proof.Proof.FastWord
public import proofs.«01_k».proof.Proof.Dist
public import proofs.«01_k».proof.Proof.Carry
public import proofs.«01_k».proof.Proof.Ref
public import Idealize.ShloMosaic.Lib.StableHlo.Run
public import Idealize.ShloMosaic.Lib.Tactic

@[expose] public section

set_option maxRecDepth 16384

noncomputable section

namespace Cert.Search

open Cert.SearchIdeal Cert.SearchIdeal.Gen Cert.Dist
open Idealize.ShloMosaic Idealize.ShloMosaic.TcCoe Idealize.SL.Sem

/-! ## The squared distances -/

/-- The squared distance of query `r` to key `n`, as the fast call adds it up. -/
def sq (x : Queries.Idx → EReal) (k : Keys.Idx → EReal) (r : Fin 256) (n : ℕ) : EReal :=
  if h : n < 100000 then ∑ a : Fin 128, x (ix2 r a) * x (ix2 r a) + ∑ a : Fin 128, k (ix2 ⟨n, h⟩ a) * k (ix2 ⟨n, h⟩ a)
    + ∑ a : Fin 128, Ideal.ofBits .f32 0xC0000000#32 * x (ix2 r a) * k (ix2 ⟨n, h⟩ a) else 0

theorem sq_of (x : Queries.Idx → EReal) (k : Keys.Idx → EReal) (r : Fin 256) (n : ℕ) (h : n < 100000) :
    sq x k r n = ∑ a : Fin 128, x (ix2 r a) * x (ix2 r a) + ∑ a : Fin 128, k (ix2 ⟨n, h⟩ a) * k (ix2 ⟨n, h⟩ a)
    + ∑ a : Fin 128, Ideal.ofBits .f32 0xC0000000#32 * x (ix2 r a) * k (ix2 ⟨n, h⟩ a) := dif_pos h

theorem pad_lt : Fast.pad < ⊤ := by
  obtain ⟨p, e⟩ : ∃ p : ℝ, Fast.pad = (p : EReal) := ⟨_, by simp [Fast.pad, Ideal.ofBits, Ideal.ieee, -EReal.coe_mul]; rfl⟩
  rw [e]; exact EReal.coe_lt_top p

/-- At real inputs every squared distance is below infinity. -/
theorem sq_lt {x : Queries.Idx → EReal} {k : Keys.Idx → EReal} (hx : ∀ i, ∃ v : ℝ, x i = v) (hk : ∀ i, ∃ v : ℝ, k i = v) (r : Fin 256) (n : ℕ) :
    sq x k r n < ⊤ := by
  unfold sq
  split
  · choose x' hx' using hx
    choose k' hk' using hk
    simp only [hx', hk', minus_two, ← EReal.coe_mul, ← coe_sum, ← EReal.coe_add]
    exact EReal.coe_lt_top _
  · exact EReal.zero_lt_top

/-- The root of a squared distance, held above the small constant, is the distance. -/
theorem dst_sq {x : Queries.Idx → EReal} {k : Keys.Idx → EReal} (hx : ∀ i, ∃ v : ℝ, x i = v) (hk : ∀ i, ∃ v : ℝ, k i = v) (r : Fin 256) (n : ℕ)
    (h : n < 100000) : Fast.dst (sq x k r n) = table x k r n := by
  rw [sq_of x k r n h]
  exact (folded hx hk r ⟨n, h⟩).trans (table_of x k r ⟨n, h⟩).symm

/-! ## The operands as the calls find them -/

variable (m : (ℓ : Loc nD τ sig) → Buf (Elt Ideal) ℓ) (c : Dev nD)

/-- The queries. -/
abbrev qs : FVec Ideal S256x128 .f32 := m ((c.tc : Thread nD τ).loc main_arg0)
/-- The keys. -/
abbrev ks : FVec Ideal S100000x128 .f32 := m ((c.tc : Thread nD τ).loc main_arg1)

/-- Core `c`'s TensorCore buffers once the operands are made. -/
abbrev V0 : Valuation τ sig (Elt Ideal) := StableHlo.after hostOps0 (fun b => m (c, b))

theorem V_v7 : @Eq (FVec Ideal S256x128 .f32) (V0 m c main_v7)
    (mulf (broadcastInDim S256x128 ![] bcast_S_S256x128 (constant S_ .f32 0xC0000000#32)) (qs m c)) := by
  after_results
theorem V_v4 : @Eq (FVec Ideal S256x1 .f32) (V0 m c main_v4)
    (broadcastInDim S256x1 ![0] bcast_S256_S256x1_0
      (Host.reduceAdd (mulf (qs m c) (qs m c)) (constant S_ .f32 0x00000000#32) reducesTo_S256x128_S256_d1 h_S_)) := by
  after_results
theorem V_v5 : @Eq (FVec Ideal S20x1x5000 .f32) (V0 m c main_v5)
    (shapeCast S20x1x5000
      (Host.reduceAdd (mulf (ks m c) (ks m c)) (constant S_ .f32 0x00000000#32) reducesTo_S100000x128_S100000_d1 h_S_)
      shapeCasts_S100000_S20x1x5000) := by
  after_results
  rfl

/-- No operation writes an argument. -/
theorem V_arg0 : V0 m c main_arg0 = m ((c.tc : Thread nD τ).loc main_arg0) := by
  after_results
  try rfl
theorem V_arg1 : V0 m c main_arg1 = m ((c.tc : Thread nD τ).loc main_arg1) := by
  after_results
  try rfl

/-- The queries times minus two. -/
theorem v7_apply (r : Fin 256) (a : Fin 128) : (V0 m c main_v7 : FVec Ideal S256x128 .f32) (ix2 r a)
    = Ideal.ofBits .f32 0xC0000000#32 * qs m c (ix2 r a) := by
  rw [V_v7]; generalize qs m c = x; pointwise

/-- A query's squared length. -/
theorem v4_apply (r : Fin 256) : (V0 m c main_v4 : FVec Ideal S256x1 .f32) (ix2 r 0) = ∑ a : Fin 128, qs m c (ix2 r a) * qs m c (ix2 r a) := by
  rw [V_v4]; generalize qs m c = x; pointwise

/-- A key's squared length, the keys in twenty rows of 5000. -/
theorem v5_apply (t : Fin 20) (l : Fin 5000) (n : Fin 100000) (hn : n.val = t.val * 5000 + l.val) :
    (V0 m c main_v5 : FVec Ideal S20x1x5000 .f32) (ix3 t 0 l) = ∑ a : Fin 128, ks m c (ix2 n a) * ks m c (ix2 n a) := by
  have hlt : t.val * 5000 + l.val < 100000 := by have := t.isLt; have := l.isLt; omega
  obtain rfl : n = ⟨t.val * 5000 + l.val, hlt⟩ := Fin.ext hn
  rw [V_v5]; generalize ks m c = x; pointwise

/-! ## The blocks a point reads -/

/-- A point's blocks: at number `b`, the squared lengths of the queries, the queries times minus two, and the squared
    lengths and the coordinates of the keys from `5000 * b`. -/
structure Blocks (b : ℕ) (v1 : FVec Ideal S256x1 .f32) (v2 : FVec Ideal S256x128 .f32) (v3 : FVec Ideal S1x1x5000 .f32) (v4 : FVec Ideal S5000x128 .f32) : Prop where
  own : ∀ r : Fin 256, v1 (ix2 r 0) = ∑ a : Fin 128, qs m c (ix2 r a) * qs m c (ix2 r a)
  minus : ∀ (r : Fin 256) (a : Fin 128), v2 (ix2 r a) = Ideal.ofBits .f32 0xC0000000#32 * qs m c (ix2 r a)
  other : ∀ (l : Fin 5000) (n : Fin 100000), n.val = 5000 * b + l.val → v3 (ix3 0 0 l) = ∑ a : Fin 128, ks m c (ix2 n a) * ks m c (ix2 n a)
  key : ∀ (l : Fin 5000) (n : Fin 100000), n.val = 5000 * b + l.val → ∀ a : Fin 128, v4 (ix2 l a) = ks m c (ix2 n a)

variable {m c}

/-- The fast call's squared distances of a block. -/
theorem fresh_apply {b : ℕ} (hb : b < 20) {v1 : FVec Ideal S256x1 .f32} {v2 : FVec Ideal S256x128 .f32} {v3 : FVec Ideal S1x1x5000 .f32} {v4 : FVec Ideal S5000x128 .f32}
    (h : Blocks m c b v1 v2 v3 v4) (r : Fin 256) (l : Fin 5000) : k0_pay1 (F := Ideal) v2 v4 v3 v1 (ix3 0 r l) = sq (qs m c) (ks m c) r (5000 * b + l.val) := by
  have hn : 5000 * b + l.val < 100000 := by have := l.isLt; omega
  rw [sq_of _ _ _ _ hn]
  have e0 := h.own r
  have e1 := h.minus r
  have e2 := h.other l ⟨_, hn⟩ rfl
  have e3 := h.key l ⟨_, hn⟩ rfl
  rw [← e0, ← e2]
  simp only [← e1, ← e3]
  pointwise [k0_pay1]

end Cert.Search

end
-- ==== Proof.SearchBlocks.lean ====
/-
  The blocks the search's two calls are handed, read at a place: what a fetch leaves of the operands in their staging buffers,
  and what stays there until the next.
-/
module

public import proofs.«01_k».proof.Proof.SearchIn
public import proofs.«01_k».proof.Proof.Gen.SearchIdeal.Launch
public import proofs.«01_k».proof.Proof.Gen.SearchIdeal.Points
public import Idealize.ShloMosaic.Lib.Pipeline.Dat
public import Idealize.ShloMosaic.Lib.Tactic

@[expose] public section

set_option maxRecDepth 16384

noncomputable section

namespace Cert.Search

open Cert.SearchIdeal Cert.SearchIdeal.Gen Cert.Dist
open Idealize.ShloMosaic Idealize.ShloMosaic.TcCoe Idealize.SL Idealize.SL.RA Idealize.SL.Sem
open Idealize.ShloMosaic.Pipeline (RDat Cfg Window)

/-- What an input's staging buffer holds is what a fetch put there or what the body left of it. -/
theorem finds_kept {Ix : Type} [DecidableEq Ix] {Name : Type} [DecidableEq Name] {U : Type} [URA U] {Lvl : Type} {c : Dev nD}
    {cfg : Cfg sig Λ₀} (rd : RDat τ (Elt Ideal) Ix Name U Lvl cfg c) {w : Fin cfg.W}
    (P : ((cfg.win w).block.Idx → Elt Ideal (cfg.win w).elt) → Prop) (hout : (cfg.win w).isOut = false)
    (h0 : ∀ t : Fin cfg.N, t.val = 0 → (cfg.win w).fetch t = true)
    (hf : ∀ t d, P (rd.fetched w t d)) (ha : ∀ t Y X, rd.after w t Y X → P X) (t : Fin cfg.N)
    {X : (cfg.win w).block.Idx → Elt Ideal (cfg.win w).elt} (h : rd.Finds w t X) : P X := by
  by_cases hft : (cfg.win w).fetch t = true
  · obtain ⟨d, rfl⟩ := (rd.finds_of_fetch hft X).mp h
    exact hf t d
  · have hft' : (cfg.win w).fetch t = false := by simpa using hft
    have ht : t.val ≠ 0 := fun e => hft (h0 t e)
    rcases (rd.finds_of_pos hft' ht X).mp h with hl | ⟨Y, _, hl⟩
    · unfold Window.flush at hl; rw [hout] at hl; simp at hl
    · exact ha _ _ _ hl

variable (m : (ℓ : Loc nD τ sig) → Buf (Elt Ideal) ℓ) (c : Dev nD)

/-- Queries' squared lengths, their multiples by minus two, keys' squared lengths and keys of block `b`: what a block holds. -/
def Own (v : FVec Ideal S256x1 .f32) : Prop := ∀ r : Fin 256, v (ix2 r 0) = ∑ a : Fin 128, qs m c (ix2 r a) * qs m c (ix2 r a)
@[inherit_doc Own]
def Minus (v : FVec Ideal S256x128 .f32) : Prop := ∀ (r : Fin 256) (a : Fin 128), v (ix2 r a) = Ideal.ofBits .f32 0xC0000000#32 * qs m c (ix2 r a)
@[inherit_doc Own]
def Other (b : ℕ) (v : FVec Ideal S1x1x5000 .f32) : Prop :=
  ∀ (l : Fin 5000) (n : Fin 100000), n.val = 5000 * b + l.val → v (ix3 0 0 l) = ∑ a : Fin 128, ks m c (ix2 n a) * ks m c (ix2 n a)
@[inherit_doc Own]
def Key (b : ℕ) (v : FVec Ideal S5000x128 .f32) : Prop :=
  ∀ (l : Fin 5000) (n : Fin 100000), n.val = 5000 * b + l.val → ∀ a : Fin 128, v (ix2 l a) = ks m c (ix2 n a)

/-! ## Call 0's blocks -/

theorem index0_0 : ∀ t : Fin cfg0.N, win0_0.index t 0 = 0 ∧ win0_0.index t 1 = 0 := by decide +kernel
theorem index0_1 : ∀ t : Fin cfg0.N, win0_1.index t 0 = 0 ∧ win0_1.index t 1 = 0 := by decide +kernel
theorem index0_2 : ∀ t : Fin cfg0.N, t.val < 20 → win0_2.index t 0 = t.val ∧ win0_2.index t 1 = 0 ∧ win0_2.index t 2 = 0 := by decide +kernel
theorem index0_3 : ∀ t : Fin cfg0.N, t.val < 20 → win0_3.index t 0 = t.val ∧ win0_3.index t 1 = 0 := by decide +kernel

theorem own0 (t : Fin cfg0.N) (d : FVec Ideal S256x1 .f32) :
    Own m c ((cfg0.win 0).fill (cfg0.grid.coords t) d (((cfg0.win 0).blk t).view.read (Elt Ideal) (V0 m c main_v4))) := fun r => by
  refine Eq.trans ?_ (v4_apply m c r)
  have hm : (cfg0.win 0).moved (cfg0.grid.coords t) (ix2 r 0 : S256x1.Idx) = true :=
    ((cfg0.win 0).moved_iff _ _).mpr fun a => ((ix2 r 0 : S256x1.Idx) a).isLt
  refine (dif_pos hm).trans ?_
  rw [View.read_apply]
  show (V0 m c main_v4 : FVec Ideal S256x1 .f32) _ = _
  congr 1
  funext a
  apply Fin.ext
  match a with
  | ⟨0, _⟩ => show win0_0.index t 0 * 256 + 1 * r.val = r.val; rw [(index0_0 t).1]; omega
  | ⟨1, _⟩ => show win0_0.index t 1 * 1 + 1 * 0 = 0; rw [(index0_0 t).2]

theorem minus0 (t : Fin cfg0.N) (d : FVec Ideal S256x128 .f32) :
    Minus m c ((cfg0.win 1).fill (cfg0.grid.coords t) d (((cfg0.win 1).blk t).view.read (Elt Ideal) (V0 m c main_v7))) := fun r a => by
  refine Eq.trans ?_ (v7_apply m c r a)
  have hm : (cfg0.win 1).moved (cfg0.grid.coords t) (ix2 r a : S256x128.Idx) = true :=
    ((cfg0.win 1).moved_iff _ _).mpr fun b => ((ix2 r a : S256x128.Idx) b).isLt
  refine (dif_pos hm).trans ?_
  rw [View.read_apply]
  show (V0 m c main_v7 : FVec Ideal S256x128 .f32) _ = _
  congr 1
  funext b
  apply Fin.ext
  match b with
  | ⟨0, _⟩ => show win0_1.index t 0 * 256 + 1 * r.val = r.val; rw [(index0_1 t).1]; omega
  | ⟨1, _⟩ => show win0_1.index t 1 * 128 + 1 * a.val = a.val; rw [(index0_1 t).2]; omega

theorem other0 (t : Fin cfg0.N) (ht : t.val < 20) (d : FVec Ideal S1x1x5000 .f32) :
    Other m c t.val ((cfg0.win 2).fill (cfg0.grid.coords t) d (((cfg0.win 2).blk t).view.read (Elt Ideal) (V0 m c main_v5))) := fun l n hn => by
  refine Eq.trans ?_ (v5_apply m c ⟨t.val, ht⟩ l n (by show n.val = t.val * 5000 + l.val; omega))
  have hm : (cfg0.win 2).moved (cfg0.grid.coords t) (ix3 0 0 l : S1x1x5000.Idx) = true :=
    ((cfg0.win 2).moved_iff _ _).mpr fun b => ((ix3 0 0 l : S1x1x5000.Idx) b).isLt
  refine (dif_pos hm).trans ?_
  rw [View.read_apply]
  show (V0 m c main_v5 : FVec Ideal S20x1x5000 .f32) _ = _
  congr 1
  funext b
  apply Fin.ext
  match b with
  | ⟨0, _⟩ => show win0_2.index t 0 * 1 + 1 * 0 = t.val; rw [(index0_2 t ht).1]; omega
  | ⟨1, _⟩ => show win0_2.index t 1 * 1 + 1 * 0 = 0; rw [(index0_2 t ht).2.1]
  | ⟨2, _⟩ => show win0_2.index t 2 * 5000 + 1 * l.val = l.val; rw [(index0_2 t ht).2.2]; omega

theorem key0 (t : Fin cfg0.N) (ht : t.val < 20) (d : FVec Ideal S5000x128 .f32) :
    Key m c t.val ((cfg0.win 3).fill (cfg0.grid.coords t) d (((cfg0.win 3).blk t).view.read (Elt Ideal) (V0 m c main_arg1))) := fun l n hn a => by
  have e : @Eq (FVec Ideal S100000x128 .f32) (V0 m c main_arg1) (ks m c) := V_arg1 m c
  rw [← e]
  have hm : (cfg0.win 3).moved (cfg0.grid.coords t) (ix2 l a : S5000x128.Idx) = true :=
    ((cfg0.win 3).moved_iff _ _).mpr fun b => ((ix2 l a : S5000x128.Idx) b).isLt
  refine (dif_pos hm).trans ?_
  rw [View.read_apply]
  show (V0 m c main_arg1 : FVec Ideal S100000x128 .f32) _ = _
  congr 1
  funext b
  apply Fin.ext
  match b with
  | ⟨0, _⟩ => show win0_3.index t 0 * 5000 + 1 * l.val = n.val; rw [(index0_3 t ht).1]; omega
  | ⟨1, _⟩ => show win0_3.index t 1 * 128 + 1 * a.val = a.val; rw [(index0_3 t ht).2]; omega

/-! ## Call 1's blocks -/

theorem index1_0 : ∀ t : Fin cfg1.N, win1_0.index t 0 = 0 ∧ win1_0.index t 1 = 0 := by decide +kernel
theorem index1_1 : ∀ t : Fin cfg1.N, win1_1.index t 0 = 0 ∧ win1_1.index t 1 = 0 := by decide +kernel
theorem index1_2 : ∀ t : Fin cfg1.N, win1_2.index t 0 = t.val ∧ win1_2.index t 1 = 0 ∧ win1_2.index t 2 = 0 := by decide +kernel
theorem index1_3 : ∀ t : Fin cfg1.N, win1_3.index t 0 = t.val ∧ win1_3.index t 1 = 0 := by decide +kernel

theorem own1 (t : Fin cfg1.N) (d : FVec Ideal S256x1 .f32) :
    Own m c ((cfg1.win 0).fill (cfg1.grid.coords t) d (((cfg1.win 0).blk t).view.read (Elt Ideal) (V0 m c main_v4))) := fun r => by
  refine Eq.trans ?_ (v4_apply m c r)
  have hm : (cfg1.win 0).moved (cfg1.grid.coords t) (ix2 r 0 : S256x1.Idx) = true :=
    ((cfg1.win 0).moved_iff _ _).mpr fun a => ((ix2 r 0 : S256x1.Idx) a).isLt
  refine (dif_pos hm).trans ?_
  rw [View.read_apply]
  show (V0 m c main_v4 : FVec Ideal S256x1 .f32) _ = _
  congr 1
  funext a
  apply Fin.ext
  match a with
  | ⟨0, _⟩ => show win1_0.index t 0 * 256 + 1 * r.val = r.val; rw [(index1_0 t).1]; omega
  | ⟨1, _⟩ => show win1_0.index t 1 * 1 + 1 * 0 = 0; rw [(index1_0 t).2]

theorem minus1 (t : Fin cfg1.N) (d : FVec Ideal S256x128 .f32) :
    Minus m c ((cfg1.win 1).fill (cfg1.grid.coords t) d (((cfg1.win 1).blk t).view.read (Elt Ideal) (V0 m c main_v7))) := fun r a => by
  refine Eq.trans ?_ (v7_apply m c r a)
  have hm : (cfg1.win 1).moved (cfg1.grid.coords t) (ix2 r a : S256x128.Idx) = true :=
    ((cfg1.win 1).moved_iff _ _).mpr fun b => ((ix2 r a : S256x128.Idx) b).isLt
  refine (dif_pos hm).trans ?_
  rw [View.read_apply]
  show (V0 m c main_v7 : FVec Ideal S256x128 .f32) _ = _
  congr 1
  funext b
  apply Fin.ext
  match b with
  | ⟨0, _⟩ => show win1_1.index t 0 * 256 + 1 * r.val = r.val; rw [(index1_1 t).1]; omega
  | ⟨1, _⟩ => show win1_1.index t 1 * 128 + 1 * a.val = a.val; rw [(index1_1 t).2]; omega

theorem other1 (t : Fin cfg1.N) (d : FVec Ideal S1x1x5000 .f32) :
    Other m c t.val ((cfg1.win 2).fill (cfg1.grid.coords t) d (((cfg1.win 2).blk t).view.read (Elt Ideal) (V0 m c main_v5))) := fun l n hn => by
  have ht : t.val < 20 := by have hN : cfg1.N = 20 := N_1; have := t.isLt; omega
  refine Eq.trans ?_ (v5_apply m c ⟨t.val, ht⟩ l n (by show n.val = t.val * 5000 + l.val; omega))
  have hm : (cfg1.win 2).moved (cfg1.grid.coords t) (ix3 0 0 l : S1x1x5000.Idx) = true :=
    ((cfg1.win 2).moved_iff _ _).mpr fun b => ((ix3 0 0 l : S1x1x5000.Idx) b).isLt
  refine (dif_pos hm).trans ?_
  rw [View.read_apply]
  show (V0 m c main_v5 : FVec Ideal S20x1x5000 .f32) _ = _
  congr 1
  funext b
  apply Fin.ext
  match b with
  | ⟨0, _⟩ => show win1_2.index t 0 * 1 + 1 * 0 = t.val; rw [(index1_2 t).1]; omega
  | ⟨1, _⟩ => show win1_2.index t 1 * 1 + 1 * 0 = 0; rw [(index1_2 t).2.1]
  | ⟨2, _⟩ => show win1_2.index t 2 * 5000 + 1 * l.val = l.val; rw [(index1_2 t).2.2]; omega

theorem key1 (t : Fin cfg1.N) (d : FVec Ideal S5000x128 .f32) :
    Key m c t.val ((cfg1.win 3).fill (cfg1.grid.coords t) d (((cfg1.win 3).blk t).view.read (Elt Ideal) (V0 m c main_arg1))) := fun l n hn a => by
  have e : @Eq (FVec Ideal S100000x128 .f32) (V0 m c main_arg1) (ks m c) := V_arg1 m c
  rw [← e]
  have hm : (cfg1.win 3).moved (cfg1.grid.coords t) (ix2 l a : S5000x128.Idx) = true :=
    ((cfg1.win 3).moved_iff _ _).mpr fun b => ((ix2 l a : S5000x128.Idx) b).isLt
  refine (dif_pos hm).trans ?_
  rw [View.read_apply]
  show (V0 m c main_arg1 : FVec Ideal S100000x128 .f32) _ = _
  congr 1
  funext b
  apply Fin.ext
  match b with
  | ⟨0, _⟩ => show win1_3.index t 0 * 5000 + 1 * l.val = n.val; rw [(index1_3 t).1]; omega
  | ⟨1, _⟩ => show win1_3.index t 1 * 128 + 1 * a.val = a.val; rw [(index1_3 t).2]; omega

/-! ## The results, written back once -/

theorem last0 : 20 < cfg0.N := by rw [show cfg0.N = 21 from N_0]; decide
theorem last1 : 19 < cfg1.N := by rw [show cfg1.N = 20 from N_1]; decide

/-- Call 0's result 0 ends as the last point left its staging buffer. -/
theorem final0_4 {Ix : Type} [DecidableEq Ix] {Name : Type} [DecidableEq Name] {U : Type} [URA U] {Lvl : Type} {c : Dev nD}
    (rd : RDat τ (Elt Ideal) Ix Name U Lvl cfg0 c) (G : Vec Ideal S256x16 .f32) (h : rd.ArrAt 4 cfg0.N G) :
    ∃ Y : Vec Ideal S256x16 .f32, rd.after 4 ⟨20, last0⟩ Y G := by
  have hN : cfg0.N = 20 + 1 := N_0
  rw [hN] at h
  have hf : (cfg0.win 4).flush ⟨20, last0⟩ = true := (flush0_4 _).mpr (show 20 % 21 = 20 from rfl)
  unfold RDat.ArrAt at h
  rw [dif_pos last0, if_pos hf] at h
  obtain ⟨G₀, X, _, ⟨Y, _, hY⟩, rfl⟩ := h
  refine ⟨Y, ?_⟩
  have hz : (fun a => win0_4.index ⟨20, last0⟩ a * main_v8_0.ty.shape.size a) = fun _ => 0 := funext fun a => by fin_cases a <;> decide +kernel
  have e : ((cfg0.win 4).blk ⟨20, last0⟩).view.write (Elt Ideal) G₀ ((cfg0.win 4).cut (cfg0.grid.coords ⟨20, last0⟩) X) Finset.univ = X := by
    have h1 := Memref.read_access_unit_zero (Elt Ideal) main_v8_0 hz (fun a => by rw [congrFun hz a]; simp)
    refine (h1 _).symm.trans ?_
    exact View.read_write_univ _ _
  rw [e]
  exact hY

/-- Call 0's result 1 ends as the last point left its staging buffer. -/
theorem final0_5 {Ix : Type} [DecidableEq Ix] {Name : Type} [DecidableEq Name] {U : Type} [URA U] {Lvl : Type} {c : Dev nD}
    (rd : RDat τ (Elt Ideal) Ix Name U Lvl cfg0 c) (G : Vec Ideal S256x16 .i32) (h : rd.ArrAt 5 cfg0.N G) :
    ∃ Y : Vec Ideal S256x16 .i32, rd.after 5 ⟨20, last0⟩ Y G := by
  have hN : cfg0.N = 20 + 1 := N_0
  rw [hN] at h
  have hf : (cfg0.win 5).flush ⟨20, last0⟩ = true := (flush0_5 _).mpr (show 20 % 21 = 20 from rfl)
  unfold RDat.ArrAt at h
  rw [dif_pos last0, if_pos hf] at h
  obtain ⟨G₀, X, _, ⟨Y, _, hY⟩, rfl⟩ := h
  refine ⟨Y, ?_⟩
  have hz : (fun a => win0_5.index ⟨20, last0⟩ a * main_v8_1.ty.shape.size a) = fun _ => 0 := funext fun a => by fin_cases a <;> decide +kernel
  have e : ((cfg0.win 5).blk ⟨20, last0⟩).view.write (Elt Ideal) G₀ ((cfg0.win 5).cut (cfg0.grid.coords ⟨20, last0⟩) X) Finset.univ = X := by
    have h1 := Memref.read_access_unit_zero (Elt Ideal) main_v8_1 hz (fun a => by rw [congrFun hz a]; simp)
    refine (h1 _).symm.trans ?_
    exact View.read_write_univ _ _
  rw [e]
  exact hY

/-- Call 0's result 2 ends as the last point left its staging buffer. -/
theorem final0_6 {Ix : Type} [DecidableEq Ix] {Name : Type} [DecidableEq Name] {U : Type} [URA U] {Lvl : Type} {c : Dev nD}
    (rd : RDat τ (Elt Ideal) Ix Name U Lvl cfg0 c) (G : Vec Ideal S1x1 .i32) (h : rd.ArrAt 6 cfg0.N G) :
    ∃ Y : Vec Ideal S1x1 .i32, rd.after 6 ⟨20, last0⟩ Y G := by
  have hN : cfg0.N = 20 + 1 := N_0
  rw [hN] at h
  have hf : (cfg0.win 6).flush ⟨20, last0⟩ = true := (flush0_6 _).mpr (show 20 % 21 = 20 from rfl)
  unfold RDat.ArrAt at h
  rw [dif_pos last0, if_pos hf] at h
  obtain ⟨G₀, X, _, ⟨Y, _, hY⟩, rfl⟩ := h
  refine ⟨Y, ?_⟩
  have hz : (fun a => win0_6.index ⟨20, last0⟩ a * main_v8_2.ty.shape.size a) = fun _ => 0 := funext fun a => by fin_cases a <;> decide +kernel
  have e : ((cfg0.win 6).blk ⟨20, last0⟩).view.write (Elt Ideal) G₀ ((cfg0.win 6).cut (cfg0.grid.coords ⟨20, last0⟩) X) Finset.univ = X := by
    have h1 := Memref.read_access_unit_zero (Elt Ideal) main_v8_2 hz (fun a => by rw [congrFun hz a]; simp)
    refine (h1 _).symm.trans ?_
    exact View.read_write_univ _ _
  rw [e]
  exact hY

/-- Call 1's result 0 ends as the last point left its staging buffer. -/
theorem final1_4 {Ix : Type} [DecidableEq Ix] {Name : Type} [DecidableEq Name] {U : Type} [URA U] {Lvl : Type} {c : Dev nD}
    (rd : RDat τ (Elt Ideal) Ix Name U Lvl cfg1 c) (G : Vec Ideal S256x16 .f32) (h : rd.ArrAt 4 cfg1.N G) :
    ∃ Y : Vec Ideal S256x16 .f32, rd.after 4 ⟨19, last1⟩ Y G := by
  have hN : cfg1.N = 19 + 1 := N_1
  rw [hN] at h
  have hf : (cfg1.win 4).flush ⟨19, last1⟩ = true := (flush1_4 _).mpr (show 19 % 20 = 19 from rfl)
  unfold RDat.ArrAt at h
  rw [dif_pos last1, if_pos hf] at h
  obtain ⟨G₀, X, _, ⟨Y, _, hY⟩, rfl⟩ := h
  refine ⟨Y, ?_⟩
  have hz : (fun a => win1_4.index ⟨19, last1⟩ a * main_case0b1_v13_0.ty.shape.size a) = fun _ => 0 := funext fun a => by fin_cases a <;> decide +kernel
  have e : ((cfg1.win 4).blk ⟨19, last1⟩).view.write (Elt Ideal) G₀ ((cfg1.win 4).cut (cfg1.grid.coords ⟨19, last1⟩) X) Finset.univ = X := by
    have h1 := Memref.read_access_unit_zero (Elt Ideal) main_case0b1_v13_0 hz (fun a => by rw [congrFun hz a]; simp)
    refine (h1 _).symm.trans ?_
    exact View.read_write_univ _ _
  rw [e]
  exact hY

/-- Call 1's result 1 ends as the last point left its staging buffer. -/
theorem final1_5 {Ix : Type} [DecidableEq Ix] {Name : Type} [DecidableEq Name] {U : Type} [URA U] {Lvl : Type} {c : Dev nD}
    (rd : RDat τ (Elt Ideal) Ix Name U Lvl cfg1 c) (G : Vec Ideal S256x16 .i32) (h : rd.ArrAt 5 cfg1.N G) :
    ∃ Y : Vec Ideal S256x16 .i32, rd.after 5 ⟨19, last1⟩ Y G := by
  have hN : cfg1.N = 19 + 1 := N_1
  rw [hN] at h
  have hf : (cfg1.win 5).flush ⟨19, last1⟩ = true := (flush1_5 _).mpr (show 19 % 20 = 19 from rfl)
  unfold RDat.ArrAt at h
  rw [dif_pos last1, if_pos hf] at h
  obtain ⟨G₀, X, _, ⟨Y, _, hY⟩, rfl⟩ := h
  refine ⟨Y, ?_⟩
  have hz : (fun a => win1_5.index ⟨19, last1⟩ a * main_case0b1_v13_1.ty.shape.size a) = fun _ => 0 := funext fun a => by fin_cases a <;> decide +kernel
  have e : ((cfg1.win 5).blk ⟨19, last1⟩).view.write (Elt Ideal) G₀ ((cfg1.win 5).cut (cfg1.grid.coords ⟨19, last1⟩) X) Finset.univ = X := by
    have h1 := Memref.read_access_unit_zero (Elt Ideal) main_case0b1_v13_1 hz (fun a => by rw [congrFun hz a]; simp)
    refine (h1 _).symm.trans ?_
    exact View.read_write_univ _ _
  rw [e]
  exact hY

end Cert.Search

end
-- ==== Proof.SearchExact.lean ====
/-
  The exact call's body at a grid point: what it leaves of the buffers it is given. At the first point and between, the values
  and the numbers carried on are those of sixteen rounds over the point's candidates (`start_wp`, `mid_wp`); at the last they are
  put out too (`stop_wp`).
-/
module

public import proofs.«01_k».proof.Proof.Rounds
public import proofs.«01_k».proof.Proof.ExactValue
public import proofs.«01_k».proof.Proof.Gen.SearchIdeal.Launch
public import proofs.«01_k».proof.Proof.Gen.SearchIdeal.Skeleton
public import proofs.«01_k».proof.Proof.Gen.SearchIdeal.Points
public import Idealize.ShloMosaic.Lib.Exec
public import Idealize.ShloMosaic.Lib.Pipeline.Value
public import Idealize.ShloMosaic.Lib.Pipeline.FrameBody
public import Idealize.ShloMosaic.Lib.Tactic

@[expose] public section

set_option maxRecDepth 16384

noncomputable section

namespace Cert.Search.Exact

open Cert.SearchIdeal Cert.SearchIdeal.Gen Cert.Rounds
open Cert.ExactIdeal.Value (hz2 hz3 vals_of_cols idxs_of_cols)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix U : Type} [DecidableEq Ix] [URA U]

local notation "𝕄" => MT nD τ sig Ix (Elt Ideal) ℕ U ℕ

/-- The first round's mask. -/
theorem mask_eq (x1 : Vec Ideal S256x128 .f32) (x3 : Vec Ideal S5000x128 .f32) (x2 : Vec Ideal S1x1x5000 .f32) (x0 : Vec Ideal S256x1 .f32)
    (xs0 : Vec Ideal S256x16 .f32) : k1_pay7 x1 x3 x2 x0 xs0 = mask pos (k1_pay4 x1 x3 x2 x0 xs0) := rfl

/-- The first round's minima. -/
theorem minima_eq (x1 : Vec Ideal S256x128 .f32) (x3 : Vec Ideal S5000x128 .f32) (x2 : Vec Ideal S1x1x5000 .f32) (x0 : Vec Ideal S256x1 .f32)
    (xs0 : Vec Ideal S256x16 .f32) : k1_pay8 (k1_pay6 x1 x3 x2 x0 xs0) = valCol (k1_pay4 x1 x3 x2 x0 xs0) := rfl

/-- The first round's numbers. -/
theorem numbers_eq (ci : IVec S256x5016 32) (cv : FVec Ideal S256x5016 .f32) : k1_pay9 ci (mask pos cv) = idxCol pos ci cv := rfl

/-- The point is the first. -/
abbrev isFirst (i : grid1.Coords) : Prop := (Scalar.cmpi .ne (Scalar.extui (Scalar.cmpi .eq (BitVec.ofNat 32 (i 0).val) 0#32)) 0#32) = 1#1
/-- The point is the last. -/
abbrev isLast (i : grid1.Coords) : Prop := k1_cond2 i = 1#1

set_option maxHeartbeats 2000000 in
/-- At the first point: the writes of the body's run, with the run. -/
noncomputable def startRun (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : isFirst i) (hc1 : ¬isLast i)
    (x0 : Vec Ideal S256x1 .f32) (x1 : Vec Ideal S256x128 .f32) (x2 : Vec Ideal S1x1x5000 .f32) (x3 : Vec Ideal S5000x128 .f32) :
    Σ' (LS0 : List (View.Piece (Elt Ideal) S256x16 .f32)), { LS1 : List (View.Piece (Elt Ideal) S256x16 .i32) //
      ∀ (xi4 : Vec Ideal S256x16 .f32) (xi5 : Vec Ideal S256x16 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt Ideal) f LS0) ∗ (∃ f, arg8.view.loc (c : Thread nD τ) ↦[arg8.view.set]{fullShare} arg8.view.writes (Elt Ideal) f LS1)) -∗ K ⟨⟩))
          ⊢ wp frame (wpE (defs₀ (F := Ideal)) Variants.none c none) E (cc1__exact_body i arg1 harg1 arg2 harg2 arg3 harg3 arg4 harg4 arg5 harg5 arg6 harg6 arg7 harg7 arg8 harg8) K } := by
  refine ⟨?_, ?_, fun xi4 xi5 E K => ?run⟩
  case run =>
    simp only [cc1__exact_body_eq_skeleton]; unfold cc1__exact_body_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- At the first point: buffer 7 then holds the values of sixteen rounds. -/
theorem start_read_7 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : isFirst i) (hc1 : ¬isLast i)
    (x0 : Vec Ideal S256x1 .f32) (x1 : Vec Ideal S256x128 .f32) (x2 : Vec Ideal S1x1x5000 .f32) (x3 : Vec Ideal S5000x128 .f32) (f : BufTy.Contents (Elt Ideal) arg7.view.ty) :
    arg7.view.read (Elt Ideal) (arg7.view.writes (Elt Ideal) f (startRun (Ix := Ix) (U := U) c i arg1 harg1 arg2 harg2 arg3 harg3 arg4 harg4 arg5 harg5 arg6 harg6 arg7 harg7 arg8 harg8 hc0 hc1 x0 x1 x2 x3).1)
      = vals (k1_pay4 x1 x3 x2 x0 (k1_pay2 (F := Ideal))) := by
  rw [View.read_writes_eq_canon _ _ _ (View.cover_of_tiledL (startRun (Ix := Ix) (U := U) c i arg1 harg1 arg2 harg2 arg3 harg3 arg4 harg4 arg5 harg5 arg6 harg6 arg7 harg7 arg8 harg8 hc0 hc1 x0 x1 x2 x3).1 S256x16.size (by sl_kernel_rfl))]
  unfold startRun
  dsimp only
  sl_unfold_words
  rw [View.canon_cons_unit_zero (S := S256x16) hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 (k1_pay2 (F := Ideal)) = cv
  exact (shapeCast_self _ _).trans (vals_of_cols cv rfl)

/-- At the first point: buffer 8 then holds the numbers of sixteen rounds. -/
theorem start_read_8 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : isFirst i) (hc1 : ¬isLast i)
    (x0 : Vec Ideal S256x1 .f32) (x1 : Vec Ideal S256x128 .f32) (x2 : Vec Ideal S1x1x5000 .f32) (x3 : Vec Ideal S5000x128 .f32) (f : BufTy.Contents (Elt Ideal) arg8.view.ty) :
    arg8.view.read (Elt Ideal) (arg8.view.writes (Elt Ideal) f (startRun (Ix := Ix) (U := U) c i arg1 harg1 arg2 harg2 arg3 harg3 arg4 harg4 arg5 harg5 arg6 harg6 arg7 harg7 arg8 harg8 hc0 hc1 x0 x1 x2 x3).2.1)
      = idxs (k1_pay5 (F := Ideal) i k1_pay3) (k1_pay4 x1 x3 x2 x0 (k1_pay2 (F := Ideal))) := by
  rw [View.read_writes_eq_canon _ _ _ (View.cover_of_tiledL (startRun (Ix := Ix) (U := U) c i arg1 harg1 arg2 harg2 arg3 harg3 arg4 harg4 arg5 harg5 arg6 harg6 arg7 harg7 arg8 harg8 hc0 hc1 x0 x1 x2 x3).2.1 S256x16.size (by sl_kernel_rfl))]
  unfold startRun
  dsimp only
  sl_unfold_words
  rw [View.canon_cons_unit_zero (S := S256x16) hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 (k1_pay2 (F := Ideal)) = cv
  generalize k1_pay5 (F := Ideal) i k1_pay3 = ci
  exact (shapeCast_self _ _).trans (idxs_of_cols ci cv rfl)

/-- At the first point: the body's run, what it leaves read. -/
theorem start_wp (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : isFirst i) (hc1 : ¬isLast i)
    (x0 : Vec Ideal S256x1 .f32) (x1 : Vec Ideal S256x128 .f32) (x2 : Vec Ideal S1x1x5000 .f32) (x3 : Vec Ideal S5000x128 .f32) (xi4 : Vec Ideal S256x16 .f32) (xi5 : Vec Ideal S256x16 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare (vals (k1_pay4 x1 x3 x2 x0 (k1_pay2 (F := Ideal)))) ∗ owns (c : Thread nD τ) arg8 fullShare (idxs (k1_pay5 (F := Ideal) i k1_pay3) (k1_pay4 x1 x3 x2 x0 (k1_pay2 (F := Ideal))))) -∗ K ⟨⟩))
      ⊢ wp frame (wpE (defs₀ (F := Ideal)) Variants.none c none) E (cc1__exact_body i arg1 harg1 arg2 harg2 arg3 harg3 arg4 harg4 arg5 harg5 arg6 harg6 arg7 harg7 arg8 harg8) K := by
  iintro ⟨H0, H1, H2, H3, H4, H5, H6, H7, Hk⟩
  iapply (startRun (Ix := Ix) (U := U) c i arg1 harg1 arg2 harg2 arg3 harg3 arg4 harg4 arg5 harg5 arg6 harg6 arg7 harg7 arg8 harg8 hc0 hc1 x0 x1 x2 x3).2.2 xi4 xi5 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%f, H6⟩
    unfold owns
    iexists _; isplitr; · ipureintro; exact start_read_7 (Ix := Ix) (U := U) c i arg1 harg1 arg2 harg2 arg3 harg3 arg4 harg4 arg5 harg5 arg6 harg6 arg7 harg7 arg8 harg8 hc0 hc1 x0 x1 x2 x3 f
    iexact H6
  icases H7 with ⟨%f, H7⟩
  unfold owns
  iexists _; isplitr; · ipureintro; exact start_read_8 (Ix := Ix) (U := U) c i arg1 harg1 arg2 harg2 arg3 harg3 arg4 harg4 arg5 harg5 arg6 harg6 arg7 harg7 arg8 harg8 hc0 hc1 x0 x1 x2 x3 f
  iexact H7

set_option maxHeartbeats 2000000 in
/-- At a point between: the writes of the body's run, with the run. -/
noncomputable def midRun (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : ¬isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    Σ' (LS0 : List (View.Piece (Elt Ideal) S256x16 .f32)), { LS1 : List (View.Piece (Elt Ideal) S256x16 .i32) //
      ∀ (xi4 : Vec Ideal S256x16 .f32) (xi5 : Vec Ideal S256x16 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt Ideal) f LS0) ∗ (∃ f, arg8.view.loc (c : Thread nD τ) ↦[arg8.view.set]{fullShare} arg8.view.writes (Elt Ideal) f LS1)) -∗ K ⟨⟩))
          ⊢ wp frame (wpE (defs₀ (F := Ideal)) Variants.none c none) E (cc1__exact_body i arg1 harg1 arg2 harg2 arg3 harg3 arg4 harg4 arg5 harg5 arg6 harg6 arg7 harg7 arg8 harg8) K } := by
  refine ⟨?_, ?_, fun xi4 xi5 E K => ?run⟩
  case run =>
    simp only [cc1__exact_body_eq_skeleton]; unfold cc1__exact_body_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- At a point between: buffer 7 then holds the values of sixteen rounds. -/
theorem mid_read_7 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : ¬isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg7.view.ty) :
    arg7.view.read (Elt Ideal) (arg7.view.writes (Elt Ideal) f (midRun (Ix := Ix) (U := U) c i arg1 harg1 arg2 harg2 arg3 harg3 arg4 harg4 arg5 harg5 arg6 harg6 arg7 harg7 arg8 harg8 hc0 hc1 x0 x1 x2 x3 xs0 xs1).1)
      = vals (k1_pay4 x1 x3 x2 x0 xs0) := by
  rw [View.read_writes_eq_canon _ _ _ (View.cover_of_tiledL (midRun (Ix := Ix) (U := U) c i arg1 harg1 arg2 harg2 arg3 harg3 arg4 harg4 arg5 harg5 arg6 harg6 arg7 harg7 arg8 harg8 hc0 hc1 x0 x1 x2 x3 xs0 xs1).1 S256x16.size (by sl_kernel_rfl))]
  unfold midRun
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  exact (shapeCast_self _ _).trans (vals_of_cols cv rfl)

/-- At a point between: buffer 8 then holds the numbers of sixteen rounds. -/
theorem mid_read_8 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : ¬isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg8.view.ty) :
    arg8.view.read (Elt Ideal) (arg8.view.writes (Elt Ideal) f (midRun (Ix := Ix) (U := U) c i arg1 harg1 arg2 harg2 arg3 harg3 arg4 harg4 arg5 harg5 arg6 harg6 arg7 harg7 arg8 harg8 hc0 hc1 x0 x1 x2 x3 xs0 xs1).2.1)
      = idxs (k1_pay5 (F := Ideal) i xs1) (k1_pay4 x1 x3 x2 x0 xs0) := by
  rw [View.read_writes_eq_canon _ _ _ (View.cover_of_tiledL (midRun (Ix := Ix) (U := U) c i arg1 harg1 arg2 harg2 arg3 harg3 arg4 harg4 arg5 harg5 arg6 harg6 arg7 harg7 arg8 harg8 hc0 hc1 x0 x1 x2 x3 xs0 xs1).2.1 S256x16.size (by sl_kernel_rfl))]
  unfold midRun
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  generalize k1_pay5 (F := Ideal) i xs1 = ci
  exact (shapeCast_self _ _).trans (idxs_of_cols ci cv rfl)

/-- At a point between: the body's run, what it leaves read. -/
theorem mid_wp (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : ¬isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (xi4 : Vec Ideal S256x16 .f32) (xi5 : Vec Ideal S256x16 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare (vals (k1_pay4 x1 x3 x2 x0 xs0)) ∗ owns (c : Thread nD τ) arg8 fullShare (idxs (k1_pay5 (F := Ideal) i xs1) (k1_pay4 x1 x3 x2 x0 xs0))) -∗ K ⟨⟩))
      ⊢ wp frame (wpE (defs₀ (F := Ideal)) Variants.none c none) E (cc1__exact_body i arg1 harg1 arg2 harg2 arg3 harg3 arg4 harg4 arg5 harg5 arg6 harg6 arg7 harg7 arg8 harg8) K := by
  iintro ⟨H0, H1, H2, H3, H4, H5, H6, H7, Hk⟩
  iapply (midRun (Ix := Ix) (U := U) c i arg1 harg1 arg2 harg2 arg3 harg3 arg4 harg4 arg5 harg5 arg6 harg6 arg7 harg7 arg8 harg8 hc0 hc1 x0 x1 x2 x3 xs0 xs1).2.2 xi4 xi5 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%f, H6⟩
    unfold owns
    iexists _; isplitr; · ipureintro; exact mid_read_7 (Ix := Ix) (U := U) c i arg1 harg1 arg2 harg2 arg3 harg3 arg4 harg4 arg5 harg5 arg6 harg6 arg7 harg7 arg8 harg8 hc0 hc1 x0 x1 x2 x3 xs0 xs1 f
    iexact H6
  icases H7 with ⟨%f, H7⟩
  unfold owns
  iexists _; isplitr; · ipureintro; exact mid_read_8 (Ix := Ix) (U := U) c i arg1 harg1 arg2 harg2 arg3 harg3 arg4 harg4 arg5 harg5 arg6 harg6 arg7 harg7 arg8 harg8 hc0 hc1 x0 x1 x2 x3 xs0 xs1 f
  iexact H7

set_option maxHeartbeats 2000000 in
/-- At the last point: the writes of the body's run, with the run. -/
noncomputable def stopRun (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) :
    Σ' (L4 : List (View.Piece (Elt Ideal) S256x16 .f32)), Σ' (L5 : List (View.Piece (Elt Ideal) S256x16 .i32)), Σ' (LS0 : List (View.Piece (Elt Ideal) S256x16 .f32)), { LS1 : List (View.Piece (Elt Ideal) S256x16 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt Ideal) f L4) ∗ (∃ f, arg6.view.loc (c : Thread nD τ) ↦[arg6.view.set]{fullShare} arg6.view.writes (Elt Ideal) f L5) ∗ (∃ f, arg7.view.loc (c : Thread nD τ) ↦[arg7.view.set]{fullShare} arg7.view.writes (Elt Ideal) f LS0) ∗ (∃ f, arg8.view.loc (c : Thread nD τ) ↦[arg8.view.set]{fullShare} arg8.view.writes (Elt Ideal) f LS1)) -∗ K ⟨⟩))
          ⊢ wp frame (wpE (defs₀ (F := Ideal)) Variants.none c none) E (cc1__exact_body i arg1 harg1 arg2 harg2 arg3 harg3 arg4 harg4 arg5 harg5 arg6 harg6 arg7 harg7 arg8 harg8) K } := by
  refine ⟨?_, ?_, ?_, ?_, fun E K => ?run⟩
  case run =>
    simp only [cc1__exact_body_eq_skeleton]; unfold cc1__exact_body_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0
    obtain rfl := harg2.eq_unread hf1
    obtain rfl := harg3.eq_unread hf2
    obtain rfl := harg4.eq_unread hf3
    obtain rfl := harg7.eq_unread hf6
    obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

/-- At the last point: buffer 5 then holds the values of sixteen rounds. -/
theorem stop_read_5 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg5.view.ty) :
    arg5.view.read (Elt Ideal) (arg5.view.writes (Elt Ideal) f (stopRun (Ix := Ix) (U := U) c i arg1 harg1 arg2 harg2 arg3 harg3 arg4 harg4 arg5 harg5 arg6 harg6 arg7 harg7 arg8 harg8 hc0 hc1 x0 x1 x2 x3 xs0 xs1).1)
      = vals (k1_pay4 x1 x3 x2 x0 xs0) := by
  rw [View.read_writes_eq_canon _ _ _ (View.cover_of_tiledL (stopRun (Ix := Ix) (U := U) c i arg1 harg1 arg2 harg2 arg3 harg3 arg4 harg4 arg5 harg5 arg6 harg6 arg7 harg7 arg8 harg8 hc0 hc1 x0 x1 x2 x3 xs0 xs1).1 S256x16.size (by sl_kernel_rfl))]
  unfold stopRun
  dsimp only
  sl_unfold_words
  rw [View.canon_unit_zero hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  exact (shapeCast_self _ _).trans (vals_of_cols cv rfl)

/-- At the last point: buffer 6 then holds the numbers of sixteen rounds. -/
theorem stop_read_6 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg6.view.ty) :
    arg6.view.read (Elt Ideal) (arg6.view.writes (Elt Ideal) f (stopRun (Ix := Ix) (U := U) c i arg1 harg1 arg2 harg2 arg3 harg3 arg4 harg4 arg5 harg5 arg6 harg6 arg7 harg7 arg8 harg8 hc0 hc1 x0 x1 x2 x3 xs0 xs1).2.1)
      = idxs (k1_pay5 (F := Ideal) i xs1) (k1_pay4 x1 x3 x2 x0 xs0) := by
  rw [View.read_writes_eq_canon _ _ _ (View.cover_of_tiledL (stopRun (Ix := Ix) (U := U) c i arg1 harg1 arg2 harg2 arg3 harg3 arg4 harg4 arg5 harg5 arg6 harg6 arg7 harg7 arg8 harg8 hc0 hc1 x0 x1 x2 x3 xs0 xs1).2.1 S256x16.size (by sl_kernel_rfl))]
  unfold stopRun
  dsimp only
  sl_unfold_words
  rw [View.canon_unit_zero hz2]
  simp only [View.readCov_unit_zero (S := S256x16) _ hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  generalize k1_pay5 (F := Ideal) i xs1 = ci
  exact (shapeCast_self _ _).trans (idxs_of_cols ci cv rfl)

/-- At the last point: buffer 7 then holds the values of sixteen rounds. -/
theorem stop_read_7 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg7.view.ty) :
    arg7.view.read (Elt Ideal) (arg7.view.writes (Elt Ideal) f (stopRun (Ix := Ix) (U := U) c i arg1 harg1 arg2 harg2 arg3 harg3 arg4 harg4 arg5 harg5 arg6 harg6 arg7 harg7 arg8 harg8 hc0 hc1 x0 x1 x2 x3 xs0 xs1).2.2.1)
      = vals (k1_pay4 x1 x3 x2 x0 xs0) := by
  rw [View.read_writes_eq_canon _ _ _ (View.cover_of_tiledL (stopRun (Ix := Ix) (U := U) c i arg1 harg1 arg2 harg2 arg3 harg3 arg4 harg4 arg5 harg5 arg6 harg6 arg7 harg7 arg8 harg8 hc0 hc1 x0 x1 x2 x3 xs0 xs1).2.2.1 S256x16.size (by sl_kernel_rfl))]
  unfold stopRun
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  exact (shapeCast_self _ _).trans (vals_of_cols cv rfl)

/-- At the last point: buffer 8 then holds the numbers of sixteen rounds. -/
theorem stop_read_8 (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (f : BufTy.Contents (Elt Ideal) arg8.view.ty) :
    arg8.view.read (Elt Ideal) (arg8.view.writes (Elt Ideal) f (stopRun (Ix := Ix) (U := U) c i arg1 harg1 arg2 harg2 arg3 harg3 arg4 harg4 arg5 harg5 arg6 harg6 arg7 harg7 arg8 harg8 hc0 hc1 x0 x1 x2 x3 xs0 xs1).2.2.2.1)
      = idxs (k1_pay5 (F := Ideal) i xs1) (k1_pay4 x1 x3 x2 x0 xs0) := by
  rw [View.read_writes_eq_canon _ _ _ (View.cover_of_tiledL (stopRun (Ix := Ix) (U := U) c i arg1 harg1 arg2 harg2 arg3 harg3 arg4 harg4 arg5 harg5 arg6 harg6 arg7 harg7 arg8 harg8 hc0 hc1 x0 x1 x2 x3 xs0 xs1).2.2.2.1 S256x16.size (by sl_kernel_rfl))]
  unfold stopRun
  dsimp only
  sl_unfold_words
  rw [View.canon_unit_zero hz2]
  simp only [View.readAt_eq_ld, harg1.read_unread, harg2.read_unread, harg3.read_unread, harg4.read_unread, harg7.read_unread, harg8.read_unread,
    View.ld_unit_zero (S := S256x128) hz2, View.ld_unit_zero (S := S5000x128) hz2, View.ld_unit_zero (S := S256x1) hz2,
    View.ld_unit_zero (S := S256x16) hz2, View.ld_unit_zero (S := S1x1x5000) hz3, mask_eq, minima_eq, numbers_eq]
  generalize k1_pay4 x1 x3 x2 x0 xs0 = cv
  generalize k1_pay5 (F := Ideal) i xs1 = ci
  exact (shapeCast_self _ _).trans (idxs_of_cols ci cv rfl)

/-- At the last point: the body's run, what it leaves read. -/
theorem stop_wp (c : Dev nD) (i : grid1.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .vmem S256x16 .f32) (harg7 : arg7.IsWhole) (arg8 : Memref sig .tc .vmem S256x16 .i32) (harg8 : arg8.IsWhole) (hc0 : ¬isFirst i) (hc1 : isLast i)
    (x0 : Vec Ideal S256x1 .f32) (x1 : Vec Ideal S256x128 .f32) (x2 : Vec Ideal S1x1x5000 .f32) (x3 : Vec Ideal S5000x128 .f32) (xs0 : Vec Ideal S256x16 .f32) (xs1 : Vec Ideal S256x16 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (vals (k1_pay4 x1 x3 x2 x0 xs0)) ∗ owns (c : Thread nD τ) arg6 fullShare (idxs (k1_pay5 (F := Ideal) i xs1) (k1_pay4 x1 x3 x2 x0 xs0)) ∗ owns (c : Thread nD τ) arg7 fullShare (vals (k1_pay4 x1 x3 x2 x0 xs0)) ∗ owns (c : Thread nD τ) arg8 fullShare (idxs (k1_pay5 (F := Ideal) i xs1) (k1_pay4 x1 x3 x2 x0 xs0))) -∗ K ⟨⟩))
      ⊢ wp frame (wpE (defs₀ (F := Ideal)) Variants.none c none) E (cc1__exact_body i arg1 harg1 arg2 harg2 arg3 harg3 arg4 harg4 arg5 harg5 arg6 harg6 arg7 harg7 arg8 harg8) K := by
  iintro ⟨H0, H1, H2, H3, H4, H5, H6, H7, Hk⟩
  iapply (stopRun (Ix := Ix) (U := U) c i arg1 harg1 arg2 harg2 arg3 harg3 arg4 harg4 arg5 harg5 arg6 harg6 arg7 harg7 arg8 harg8 hc0 hc1 x0 x1 x2 x3 xs0 xs1).2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iexact H3
  isplitl [H4]
  · icases H4 with ⟨%f, H4⟩
    unfold owns
    iexists _; isplitr; · ipureintro; exact stop_read_5 (Ix := Ix) (U := U) c i arg1 harg1 arg2 harg2 arg3 harg3 arg4 harg4 arg5 harg5 arg6 harg6 arg7 harg7 arg8 harg8 hc0 hc1 x0 x1 x2 x3 xs0 xs1 f
    iexact H4
  isplitl [H5]
  · icases H5 with ⟨%f, H5⟩
    unfold owns
    iexists _; isplitr; · ipureintro; exact stop_read_6 (Ix := Ix) (U := U) c i arg1 harg1 arg2 harg2 arg3 harg3 arg4 harg4 arg5 harg5 arg6 harg6 arg7 harg7 arg8 harg8 hc0 hc1 x0 x1 x2 x3 xs0 xs1 f
    iexact H5
  isplitl [H6]
  · icases H6 with ⟨%f, H6⟩
    unfold owns
    iexists _; isplitr; · ipureintro; exact stop_read_7 (Ix := Ix) (U := U) c i arg1 harg1 arg2 harg2 arg3 harg3 arg4 harg4 arg5 harg5 arg6 harg6 arg7 harg7 arg8 harg8 hc0 hc1 x0 x1 x2 x3 xs0 xs1 f
    iexact H6
  icases H7 with ⟨%f, H7⟩
  unfold owns
  iexists _; isplitr; · ipureintro; exact stop_read_8 (Ix := Ix) (U := U) c i arg1 harg1 arg2 harg2 arg3 harg3 arg4 harg4 arg5 harg5 arg6 harg6 arg7 harg7 arg8 harg8 hc0 hc1 x0 x1 x2 x3 xs0 xs1 f
  iexact H7

end Cert.Search.Exact

end
-- ==== Proof.SearchHeld.lean ====
/-
  The exact call, whole: what its points carry on and what its two results end holding, each query's sixteen nearest keys
  (`body1`, the proof data `rdat1` point by point).
-/
module

public import proofs.«01_k».proof.Proof.SearchBlocks
public import proofs.«01_k».proof.Proof.SearchExact
public import Idealize.ShloMosaic.Lib.Pipeline.Regions

@[expose] public section

set_option maxRecDepth 16384

noncomputable section

namespace Cert.Search

open Cert.SearchIdeal Cert.SearchIdeal.Gen Cert.Dist Cert.Rounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable (m : (ℓ : Loc nD τ sig) → Buf (Elt Ideal) ℓ) (c : Dev nD)

/-! ## A point's candidates -/

theorem coord1 : ∀ t : Fin cfg1.N, ((grid1.coords t) 0).val = t.val := by decide +kernel

/-- The candidates of a point: the list carried, then the point's distances. -/
theorem cand_low (x0 : Vec Ideal S256x1 .f32) (x1 : Vec Ideal S256x128 .f32) (x2 : Vec Ideal S1x1x5000 .f32) (x3 : Vec Ideal S5000x128 .f32)
    (xs0 : Vec Ideal S256x16 .f32) (r : Fin 256) (q : Fin 5016) (h : q.val < 16) :
    k1_pay4 x1 x3 x2 x0 xs0 (ix2 r q) = xs0 (ix2 r ⟨q.val, h⟩) := by
  pointwise [k1_pay4]
  exact dif_pos h

variable {m c}

theorem cand_high (hx : ∀ i, ∃ v : ℝ, qs m c i = v) (hk : ∀ i, ∃ v : ℝ, ks m c i = v) (t : Fin cfg1.N)
    {b0 : FVec Ideal S256x1 .f32} {b1 : FVec Ideal S256x128 .f32} {b2 : FVec Ideal S1x1x5000 .f32} {b3 : FVec Ideal S5000x128 .f32}
    (h0 : Own m c b0) (h1 : Minus m c b1) (h2 : Other m c t.val b2) (h3 : Key m c t.val b3)
    (xs0 : Vec Ideal S256x16 .f32) (r : Fin 256) (q : Fin 5016) (h : 16 ≤ q.val) :
    k1_pay4 (F := Ideal) b1 b3 b2 b0 xs0 (ix2 r q) = table (qs m c) (ks m c) r (5000 * t.val + (q.val - 16)) := by
  have hN : cfg1.N = 20 := N_1
  have hn : 5000 * t.val + (q.val - 16) < 100000 := by have := t.isLt; have := q.isLt; omega
  have hl : q.val - 16 < 5000 := by have := q.isLt; omega
  refine Eq.trans ?_ (table_of (qs m c) (ks m c) r ⟨_, hn⟩).symm
  refine Eq.trans ?_ (folded hx hk r ⟨_, hn⟩)
  have e0 := h0 r
  have e1 := h1 r
  have e2 := h2 ⟨_, hl⟩ ⟨_, hn⟩ rfl
  have e3 := h3 ⟨_, hl⟩ ⟨_, hn⟩ rfl
  rw [← e0, ← e2]
  simp only [← e1, ← e3]
  clear h0 h1 h2 h3 e0 e1 e2 e3
  pointwise [k1_pay4]
  exact dif_neg (by omega)

/-- The candidates' numbers: those carried, then the point's key numbers. -/
theorem num_low (i : grid1.Coords) (xs1 : Vec Ideal S256x16 .i32) (r : Fin 256) (q : Fin 5016) (h : q.val < 16) :
    k1_pay5 (F := Ideal) i xs1 (ix2 r q) = xs1 (ix2 r ⟨q.val, h⟩) := by
  pointwise [k1_pay5]
  exact dif_pos h

theorem num_high (t : Fin cfg1.N) (xs1 : Vec Ideal S256x16 .i32) (r : Fin 256) (q : Fin 5016) (h : 16 ≤ q.val) :
    k1_pay5 (F := Ideal) (grid1.coords t) xs1 (ix2 r q) = BitVec.ofNat 32 (5000 * t.val + (q.val - 16)) := by
  pointwise [k1_pay5]
  refine (dif_neg (by omega)).trans ?_
  rw [coord1]
  show BitVec.ofNat 32 (q.val - 16) + BitVec.ofNat 32 t.val * BitVec.ofNat 32 5000 = _
  rw [← BitVec.ofNat_mul, ← BitVec.ofNat_add]
  congr 1
  omega

/-! ## The list carried -/

theorem table_lt (hx : ∀ i, ∃ v : ℝ, qs m c i = v) (hk : ∀ i, ∃ v : ℝ, ks m c i = v) (r : Fin 256) (l : ℕ) (h : l < 100000) :
    table (qs m c) (ks m c) r l < ⊤ := by
  rw [show table (qs m c) (ks m c) r l = _ from table_of (qs m c) (ks m c) r ⟨l, h⟩]
  exact dist_lt_top hx hk r _

/-- The first point's rounds hold the nearest of its own keys. -/
theorem held_first (hx : ∀ i, ∃ v : ℝ, qs m c i = v) (hk : ∀ i, ∃ v : ℝ, ks m c i = v) (t : Fin cfg1.N) (ht : t.val = 0)
    {b0 : FVec Ideal S256x1 .f32} {b1 : FVec Ideal S256x128 .f32} {b2 : FVec Ideal S1x1x5000 .f32} {b3 : FVec Ideal S5000x128 .f32}
    (h0 : Own m c b0) (h1 : Minus m c b1) (h2 : Other m c t.val b2) (h3 : Key m c t.val b3) (r : Fin 256) :
    Held (table (qs m c) (ks m c) r) (5000 * (t.val + 1)) r (vals (k1_pay4 (F := Ideal) b1 b3 b2 b0 (k1_pay2 (F := Ideal))))
      (idxs (k1_pay5 (F := Ideal) (grid1.coords t) k1_pay3) (k1_pay4 (F := Ideal) b1 b3 b2 b0 (k1_pay2 (F := Ideal)))) := by
  have e : 5000 * (t.val + 1) = 5000 := by omega
  rw [e]
  refine Held.first (fun l hl => table_lt hx hk r l (by omega)) (fun q hq => ?_) (fun q hq => ?_) (fun q hq => ?_)
  · rw [cand_low _ _ _ _ _ _ _ hq]
    pointwise [k1_pay2]
    exact ofBits_inf
  · rw [cand_high hx hk t h0 h1 h2 h3 _ _ _ hq]; congr 1; omega
  · rw [num_high _ _ _ _ hq]; congr 1; omega

/-- A further point's rounds, over a list that holds the nearest of the keys met before it. -/
theorem held_more (hx : ∀ i, ∃ v : ℝ, qs m c i = v) (hk : ∀ i, ∃ v : ℝ, ks m c i = v) (t : Fin cfg1.N)
    {b0 : FVec Ideal S256x1 .f32} {b1 : FVec Ideal S256x128 .f32} {b2 : FVec Ideal S1x1x5000 .f32} {b3 : FVec Ideal S5000x128 .f32}
    (h0 : Own m c b0) (h1 : Minus m c b1) (h2 : Other m c t.val b2) (h3 : Key m c t.val b3) (r : Fin 256)
    {xs0 : Vec Ideal S256x16 .f32} {xs1 : Vec Ideal S256x16 .i32} (ih : Held (table (qs m c) (ks m c) r) (5000 * t.val) r xs0 xs1) :
    Held (table (qs m c) (ks m c) r) (5000 * (t.val + 1)) r (vals (k1_pay4 (F := Ideal) b1 b3 b2 b0 xs0))
      (idxs (k1_pay5 (F := Ideal) (grid1.coords t) xs1) (k1_pay4 (F := Ideal) b1 b3 b2 b0 xs0)) := by
  have hN : cfg1.N = 20 := N_1
  have hn : t.val < 20 := by have := t.isLt; omega
  exact Held.more (B := 5000 * t.val) (by omega) ih (fun l hl => table_lt hx hk r l (by omega)) (fun q hq => cand_low _ _ _ _ _ _ _ hq)
    (fun q hq => cand_high hx hk t h0 h1 h2 h3 _ _ _ hq) (fun q hq => num_low _ _ _ _ hq) (fun q hq => num_high _ _ _ _ hq)

/-! ## The call point by point -/

/-- The inputs are real. -/
def Reals (m : (ℓ : Loc nD τ sig) → Buf (Elt Ideal) ℓ) (c : Dev nD) : Prop := (∀ i, ∃ v : ℝ, qs m c i = v) ∧ ∀ i, ∃ v : ℝ, ks m c i = v

/-- Results that, if the inputs are real, hold every query's sixteen nearest keys: the distances, the numbers. -/
def Values (m : (ℓ : Loc nD τ sig) → Buf (Elt Ideal) ℓ) (c : Dev nD) (X : Vec Ideal S256x16 .f32) : Prop :=
  Reals m c → ∀ r : Fin 256, ∃ s : Fin 16 → ℕ, Cert.Select.IsTop (table (qs m c) (ks m c) r) 100000 s ∧ ∀ j, X (ix2 r j) = table (qs m c) (ks m c) r (s j)
@[inherit_doc Values]
def Numbers (m : (ℓ : Loc nD τ sig) → Buf (Elt Ideal) ℓ) (c : Dev nD) (X : Vec Ideal S256x16 .i32) : Prop :=
  Reals m c → ∀ r : Fin 256, ∃ s : Fin 16 → ℕ, Cert.Select.IsTop (table (qs m c) (ks m c) r) 100000 s ∧ ∀ j, X (ix2 r j) = BitVec.ofNat 32 (s j)

section Region

variable {U : Type} [URA U]
local notation "𝕄" => MT nD τ sig Unit (Elt Ideal) ℕ U ℕ

/-- A buffer of the core held whole, whatever it holds. -/
abbrev some1 (U : Type) [URA U] (c : Dev nD) (b : Ref sig .tc) : sProp (MT nD τ sig Unit (Elt Ideal) ℕ U ℕ) :=
  iprop(∃ f : Buf (Elt Ideal) ((c : Thread nD τ).loc b), ((c : Thread nD τ).loc b) ↦{fullShare} f)

/-- The scoped buffers the exact call leaves alone. -/
abbrev rest1 (U : Type) [URA U] (c : Dev nD) : sProp (MT nD τ sig Unit (Elt Ideal) ℕ U ℕ) :=
  iprop(some1 U c cc0_stg0_0 ∗ some1 U c cc0_stg1_0 ∗ some1 U c cc0_stg2_0 ∗ some1 U c cc0_stg2_1 ∗ some1 U c cc0_stg3_0 ∗ some1 U c cc0_stg3_1
    ∗ some1 U c cc0_stg4_0 ∗ some1 U c cc0_stg5_0 ∗ some1 U c cc0_scratch0 ∗ some1 U c cc0_scratch1 ∗ some1 U c cc0_scratch2 ∗ some1 U c cc0_scratch3
    ∗ some1 U c cc0_scratch4 ∗ some1 U c cc0_scratch5 ∗ some1 U c cc0_scratch6 ∗ some1 U c cc0_scratch7 ∗ some1 U c cc0_stg6_0)

variable (m c)

/-- Before point `n` the scratch buffers hold the nearest of the keys met. -/
def inv1 (n : ℕ) : sProp 𝕄 :=
  iprop((∃ (xs0 : Vec Ideal S256x16 .f32) (xs1 : Vec Ideal S256x16 .i32), ⌜0 < n → Reals m c → ∀ r, Held (table (qs m c) (ks m c) r) (5000 * n) r xs0 xs1⌝
    ∗ owns (c : Thread nD τ) (Memref.whole cc1_scratch0) fullShare xs0 ∗ owns (c : Thread nD τ) (Memref.whole cc1_scratch1) fullShare xs1) ∗ rest1 U c)

/-- What the exact call leaves at each point: the operands' blocks as fetched, and at the last the results. -/
def rdat1 : RDat τ (Elt Ideal) Unit ℕ U ℕ cfg1 c where
  A w := V0 m c (Pipeline.arrRef spec1 w)
  after w t _ X := match w with
    | ⟨0, _⟩ => Own m c X
    | ⟨1, _⟩ => Minus m c X
    | ⟨2, _⟩ => Other m c t.val X
    | ⟨3, _⟩ => Key m c t.val X
    | ⟨4, _⟩ => t.val = 19 → Values m c X
    | ⟨5, _⟩ => t.val = 19 → Numbers m c X
  Φ n := inv1 m c n.val
  q _ := fullShare
  owed _ := 0

theorem first1 : ∀ t : Fin cfg1.N, Exact.isFirst (grid1.coords t) ↔ t.val = 0 := by decide +kernel
theorem stop1 : ∀ t : Fin cfg1.N, Exact.isLast (grid1.coords t) ↔ t.val = 19 := by decide +kernel

set_option maxHeartbeats 4000000 in
/-- The body at every point. -/
theorem body1 :
    (rdat1 (U := U) m c).BodyObligation (defs₀ (F := Ideal)) Variants.none () Set.univ := fun t Y hY => by
  have hN : cfg1.N = 20 := N_1
  have h0 : Own m c (Y 0) := finds_kept (rdat1 (U := U) m c) (w := 0) (Own m c) rfl (fun u hu => (fetch1_0 u).mpr (by rw [hu]))
    (fun u d => own1 m c u d) (fun _ _ _ h => h) t (hY 0)
  have h1 : Minus m c (Y 1) := finds_kept (rdat1 (U := U) m c) (w := 1) (Minus m c) rfl (fun u hu => (fetch1_1 u).mpr (by rw [hu]))
    (fun u d => minus1 m c u d) (fun _ _ _ h => h) t (hY 1)
  have h2 : Other m c t.val (Y 2) := by
    obtain ⟨d, e⟩ := ((rdat1 (U := U) m c).finds_of_fetch (w := 2) (fetch1_2 t) (Y 2)).mp (hY 2)
    rw [e]; exact other1 m c t d
  have h3 : Key m c t.val (Y 3) := by
    obtain ⟨d, e⟩ := ((rdat1 (U := U) m c).finds_of_fetch (w := 3) (fetch1_3 t) (Y 3)).mp (hY 3)
    rw [e]; exact key1 m c t d
  rw [bigSep_W1, bigSep_W1, show (rdat1 (U := U) m c).Φ t.castSucc = inv1 m c t.val from rfl,
    show (rdat1 (U := U) m c).Φ t.succ = inv1 m c (t.val + 1) from rfl,
    show (rdat1 (U := U) m c).owesAt () t.succ = (rdat1 (U := U) m c).owesAt () t.castSucc from rfl]
  unfold inv1
  by_cases ht0 : t.val = 0
  · have hc0 := (first1 t).mpr ht0
    have hc1 : ¬Exact.isLast (grid1.coords t) := fun h => by have := (stop1 t).mp h; omega
    iintro ⟨⟨⟨%xs0, %xs1, -, Hs0, Hs1⟩, Hr⟩, HO, H0, H1, H2, H3, H4, H5⟩
    iapply (Exact.start_wp (Ix := Unit) (U := U) c (grid1.coords t) _ _ _ _ _ _ _ _ _ _ _ _ _ _ _ _ hc0 hc1 (Y 0) (Y 1) (Y 2) (Y 3) (Y 4) (Y 5) Set.univ _)
    isplitl [H0]; · iexact H0
    isplitl [H1]; · iexact H1
    isplitl [H2]; · iexact H2
    isplitl [H3]; · iexact H3
    isplitl [H4]; · iexact H4
    isplitl [H5]; · iexact H5
    isplitl [Hs0]; · iexists _; iexact Hs0
    isplitl [Hs1]; · iexists _; iexact Hs1
    iintro ⟨H0, H1, H2, H3, H4, H5, Hs0, Hs1⟩
    isplitl [Hs0 Hs1 Hr]
    · isplitl [Hs0 Hs1]
      · iexists _; iexists _
        isplitr
        · ipureintro; exact fun _ hR r => held_first hR.1 hR.2 t ht0 h0 h1 h2 h3 r
        · isplitl [Hs0]
          · iexact Hs0
          · iexact Hs1
      · iexact Hr
    isplitl [HO]; · iexact HO
    isplitl [H0]; · iexists _; isplitr; · ipureintro; exact h0
                    iexact H0
    isplitl [H1]; · iexists _; isplitr; · ipureintro; exact h1
                    iexact H1
    isplitl [H2]; · iexists _; isplitr; · ipureintro; exact h2
                    iexact H2
    isplitl [H3]; · iexists _; isplitr; · ipureintro; exact h3
                    iexact H3
    isplitl [H4]; · iexists (Y 4); isplitr; · ipureintro; exact fun h => absurd h (by omega)
                    iexact H4
    iexists (Y 5); isplitr; · ipureintro; exact fun h => absurd h (by omega)
    iexact H5
  · have hc0 : ¬Exact.isFirst (grid1.coords t) := fun h => ht0 ((first1 t).mp h)
    by_cases ht1 : t.val = 19
    · have hc1 := (stop1 t).mpr ht1
      iintro ⟨⟨⟨%xs0, %xs1, %hS, Hs0, Hs1⟩, Hr⟩, HO, H0, H1, H2, H3, H4, H5⟩
      have hh := fun (hR : Reals m c) r => held_more hR.1 hR.2 t h0 h1 h2 h3 r (hS (by omega) hR r)
      have e : 5000 * (t.val + 1) = 100000 := by omega
      iapply (Exact.stop_wp (Ix := Unit) (U := U) c (grid1.coords t) _ _ _ _ _ _ _ _ _ _ _ _ _ _ _ _ hc0 hc1 (Y 0) (Y 1) (Y 2) (Y 3) xs0 xs1 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Hs0]; · iexact Hs0
      isplitl [Hs1]; · iexact Hs1
      iintro ⟨H0, H1, H2, H3, H4, H5, Hs0, Hs1⟩
      isplitl [Hs0 Hs1 Hr]
      · isplitl [Hs0 Hs1]
        · iexists _; iexists _
          isplitr
          · ipureintro; exact fun _ => hh
          · isplitl [Hs0]
            · iexact Hs0
            · iexact Hs1
        · iexact Hr
      isplitl [HO]; · iexact HO
      isplitl [H0]; · iexists _; isplitr; · ipureintro; exact h0
                      iexact H0
      isplitl [H1]; · iexists _; isplitr; · ipureintro; exact h1
                      iexact H1
      isplitl [H2]; · iexists _; isplitr; · ipureintro; exact h2
                      iexact H2
      isplitl [H3]; · iexists _; isplitr; · ipureintro; exact h3
                      iexact H3
      isplitl [H4]
      · iexists _; isplitr
        · ipureintro; exact fun _ hR r => (hh hR r).imp fun s h => ⟨e ▸ h.1, fun j => (h.2 j).1⟩
        · iexact H4
      iexists _; isplitr
      · ipureintro; exact fun _ hR r => (hh hR r).imp fun s h => ⟨e ▸ h.1, fun j => (h.2 j).2⟩
      · iexact H5
    · have hc1 : ¬Exact.isLast (grid1.coords t) := fun h => ht1 ((stop1 t).mp h)
      iintro ⟨⟨⟨%xs0, %xs1, %hS, Hs0, Hs1⟩, Hr⟩, HO, H0, H1, H2, H3, H4, H5⟩
      have hh := fun (hR : Reals m c) r => held_more hR.1 hR.2 t h0 h1 h2 h3 r (hS (by omega) hR r)
      iapply (Exact.mid_wp (Ix := Unit) (U := U) c (grid1.coords t) _ _ _ _ _ _ _ _ _ _ _ _ _ _ _ _ hc0 hc1 (Y 0) (Y 1) (Y 2) (Y 3) xs0 xs1 (Y 4) (Y 5) Set.univ _)
      isplitl [H0]; · iexact H0
      isplitl [H1]; · iexact H1
      isplitl [H2]; · iexact H2
      isplitl [H3]; · iexact H3
      isplitl [H4]; · iexact H4
      isplitl [H5]; · iexact H5
      isplitl [Hs0]; · iexact Hs0
      isplitl [Hs1]; · iexact Hs1
      iintro ⟨H0, H1, H2, H3, H4, H5, Hs0, Hs1⟩
      isplitl [Hs0 Hs1 Hr]
      · isplitl [Hs0 Hs1]
        · iexists _; iexists _
          isplitr
          · ipureintro; exact fun _ => hh
          · isplitl [Hs0]
            · iexact Hs0
            · iexact Hs1
        · iexact Hr
      isplitl [HO]; · iexact HO
      isplitl [H0]; · iexists _; isplitr; · ipureintro; exact h0
                      iexact H0
      isplitl [H1]; · iexists _; isplitr; · ipureintro; exact h1
                      iexact H1
      isplitl [H2]; · iexists _; isplitr; · ipureintro; exact h2
                      iexact H2
      isplitl [H3]; · iexists _; isplitr; · ipureintro; exact h3
                      iexact H3
      isplitl [H4]; · iexists (Y 4); isplitr; · ipureintro; exact fun h => absurd h ht1
                      iexact H4
      iexists (Y 5); isplitr; · ipureintro; exact fun h => absurd h ht1
      iexact H5

end Region

end Cert.Search

end
-- ==== Proof.FastFold.lean ====
/-
  A grid point between the first and the last of the fast search's body: the next block's squared distances are computed and
  kept, and the block before is folded to its lanes' two smallest and the third.
-/
module

public import proofs.«01_k».proof.Proof.FastOff
public import proofs.«01_k».proof.Proof.Gen.SearchIdeal.Launch
public import proofs.«01_k».proof.Proof.Gen.SearchIdeal.Skeleton
public import proofs.«01_k».proof.Proof.Gen.SearchIdeal.Points
public import Idealize.ShloMosaic.Lib.Exec
public import Idealize.ShloMosaic.Lib.Pipeline.FrameBody
public import Idealize.ShloMosaic.Lib.Tactic
public import Idealize.ShloMosaic.Lib.WordCmp

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {Ix U : Type} [DecidableEq Ix] [URA U]

local notation "𝕄" => MT nD τ sig Ix (Elt F) ℕ U ℕ

set_option maxHeartbeats 2000000 in
/-- At a point between the body stores the block's squared distances and the fold of the block before. -/
noncomputable def foldRun (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) :
    Σ' (L8 : List (View.Piece (Elt F) S2x256x5000 .f32)), Σ' (L9 : List (View.Piece (Elt F) S40x256x128 .f32)), Σ' (L10 : List (View.Piece (Elt F) S40x256x128 .i32)), { L11 : List (View.Piece (Elt F) S20x256x128 .f32) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} arg8.view.writes (Elt F) f8 L8) ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11)) -∗ K ⟨⟩))
          ⊢ wp frame (wpE (defs₀ (F := F)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__fast_body_eq_skeleton]; unfold cc0__fast_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    iintro ⟨H1, H2, H3, H4, H8, H9, H10, H11, Hk⟩
    sl_exec (disch := first | sl_exact hc1 | sl_exact hc2 | sl_exact hc3)
    sl_step
    iapply Hk
    isplitl [H1]; · iexact H1
    isplitl [H2]; · iexact H2
    isplitl [H3]; · iexact H3
    isplitl [H4]; · iexact H4
    isplitl [H8]; · iexact H8
    isplitl [H9]; · iexact H9
    isplitl [H10]; · iexact H10
    iexact H11

end Cert.Search.Fast

end
-- ==== Proof.FastFill.lean ====
/-
  The first grid point of the fast search's body: the squared distances of the first block are computed and kept.
-/
module

public import proofs.«01_k».proof.Proof.Gen.SearchIdeal.Launch
public import proofs.«01_k».proof.Proof.Gen.SearchIdeal.Skeleton
public import proofs.«01_k».proof.Proof.Gen.SearchIdeal.Points
public import Idealize.ShloMosaic.Lib.Exec
public import Idealize.ShloMosaic.Lib.Pipeline.FrameBody
public import Idealize.ShloMosaic.Lib.Tactic
public import Idealize.ShloMosaic.Lib.WordCmp

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {Ix U : Type} [DecidableEq Ix] [URA U]

local notation "𝕄" => MT nD τ sig Ix (Elt F) ℕ U ℕ

set_option maxHeartbeats 2000000 in
/-- At the first point the body stores the block's squared distances. -/
noncomputable def fillRun (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : ¬ k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
    { L8 : List (View.Piece (Elt F) S2x256x5000 .f32) //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8)
            ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} arg8.view.writes (Elt F) f8 L8)) -∗ K ⟨⟩))
          ⊢ wp frame (wpE (defs₀ (F := F)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fast_body_eq_skeleton]; unfold cc0__fast_body_skel
    iintro ⟨H1, H2, H3, H4, H8, Hk⟩
    sl_exec (disch := first | sl_exact hc1 | sl_exact hc2 | sl_exact hc3)
    sl_step
    iapply Hk
    isplitl [H1]; · iexact H1
    isplitl [H2]; · iexact H2
    isplitl [H3]; · iexact H3
    isplitl [H4]; · iexact H4
    iexact H8

end Cert.Search.Fast

end
-- ==== Proof.FastFoldV.lean ====
/-
  What a point of the fast search stores.
-/
module

public import proofs.«01_k».proof.Proof.FastTree
public import proofs.«01_k».proof.Proof.FastFold
public import proofs.«01_k».proof.Proof.FastFill
public import proofs.«01_k».proof.Proof.FastKeep
public import Idealize.ShloMosaic.Lib.Pipeline.Regions

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL.RA

variable {F : FTy → Type} [FloatOps F] {Ix U : Type} [DecidableEq Ix] [URA U]

/-- The block's squared distances, as stored. -/
def fresh (arg1 : Memref sig .tc .vmem S256x1 .f32) (arg2 : Memref sig .tc .vmem S256x128 .f32) (arg3 : Memref sig .tc .vmem S1x1x5000 .f32) (arg4 : Memref sig .tc .vmem S5000x128 .f32) (f1 : BufTy.Contents (Elt F) arg1.view.ty) (f2 : BufTy.Contents (Elt F) arg2.view.ty) (f3 : BufTy.Contents (Elt F) arg3.view.ty) (f4 : BufTy.Contents (Elt F) arg4.view.ty) : FVec F S1x256x5000 .f32 :=
  (k0_pay1 (View.readAt (Elt F) arg2.view (Rect.unit (s := S256x128) ![0,0] S256x128.size inb_S256x128_S256x128_0_0).toLoadRect f2) (View.readAt (Elt F) arg4.view (Rect.unit (s := S5000x128) ![0,0] S5000x128.size inb_S5000x128_S5000x128_0_0).toLoadRect f4) (View.readAt (Elt F) arg3.view (Rect.unit (s := S1x1x5000) ![0,0,0] S1x1x5000.size inb_S1x1x5000_S1x1x5000_0_0_0).toLoadRect f3) (View.readAt (Elt F) arg1.view (Rect.unit (s := S256x1) ![0,0] S256x1.size inb_S256x1_S256x1_0_0).toLoadRect f1))

/-- The store of the block's squared distances. -/
def st8 (i : grid0.Coords) (hc1 : k0_cond1 i = 1#1) (p : FVec F S1x256x5000 .f32) : List (View.Piece (Elt F) S2x256x5000 .f32) :=
  [⟨Rect.unit (s := S2x256x5000) (k0_off1 i) S1x256x5000.size (k0_off1_inb i hc1), p⟩]

/-- The block before, loaded. -/
def loaded (i : grid0.Coords) (hc2 : k0_cond2 i = 1#1) (arg8 : Memref sig .tc .vmem S2x256x5000 .f32) (g : BufTy.Contents (Elt F) arg8.view.ty) : FVec F S256x5000 .f32 :=
  k0_pay3 (View.readAt (Elt F) arg8.view (Rect.unit (s := S2x256x5000) (k0_off2 i) S1x256x5000.size (k0_off2_inb i hc2)).toLoadRect g)

theorem fillRun_L8 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : ¬ k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
    (fillRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8).1 = st8 i hc1 (fresh arg1 arg2 arg3 arg4 f1 f2 f3 f4) := by
  unfold fillRun
  dsimp only
  chain_rfl

theorem foldRun_H8 (i : grid0.Coords) (arg1 : Memref sig .tc .vmem S256x1 .f32) (arg2 : Memref sig .tc .vmem S256x128 .f32) (arg3 : Memref sig .tc .vmem S1x1x5000 .f32) (arg4 : Memref sig .tc .vmem S5000x128 .f32) (hc1 : k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) :
    foldRun.sl.H8_1 i arg1 arg2 arg3 arg4 hc1 f1 f2 f3 f4 = st8 i hc1 (fresh arg1 arg2 arg3 arg4 f1 f2 f3 f4) := by
  chain_rfl

theorem foldRun_L8 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) :
    (foldRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).1 = st8 i hc1 (fresh arg1 arg2 arg3 arg4 f1 f2 f3 f4) := by
  unfold foldRun
  dsimp only
  chain_rfl

theorem foldRun_L9 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) :
    (foldRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).2.1 = st9 i hc2 (loaded i hc2 arg8 (arg8.view.writes (Elt F) f8 (foldRun.sl.H8_1 i arg1 arg2 arg3 arg4 hc1 f1 f2 f3 f4))) := by
  unfold foldRun
  dsimp only
  chain_rfl

theorem foldRun_L10 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) :
    (foldRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).2.2.1 = st10 i hc2 (Scalar.subi (BitVec.ofNat 32 (i 0).val) 1#32) (loaded i hc2 arg8 (arg8.view.writes (Elt F) f8 (foldRun.sl.H8_1 i arg1 arg2 arg3 arg4 hc1 f1 f2 f3 f4))) := by
  unfold foldRun
  dsimp only
  chain_rfl

theorem foldRun_L11 (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) :
    (foldRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).2.2.2.1 = st11 i hc2 (loaded i hc2 arg8 (arg8.view.writes (Elt F) f8 (foldRun.sl.H8_1 i arg1 arg2 arg3 arg4 hc1 f1 f2 f3 f4))) := by
  unfold foldRun
  dsimp only
  chain_rfl

end Cert.Search.Fast

end
-- ==== Proof.FastState.lean ====
/-
  The fast call's points: what each takes and leaves, from the first to the last (`fill_wp`, `fold_wp`, `last_wp`), and what
  the scratch buffers hold before each (`State`).
-/
module

public import proofs.«01_k».proof.Proof.FastWord
public import proofs.«01_k».proof.Proof.FastFoldV
public import Idealize.ShloMosaic.Lib.Pipeline.Regions
public import Idealize.ShloMosaic.Lib.VecWindow

@[expose] public section

set_option maxRecDepth 16384

noncomputable section

namespace Cert.Search.Fast

open Cert.SearchIdeal Cert.SearchIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Lanes Cert.Select

/-- Before point `n`: the block of the point before, in its half of the double buffer, and of the blocks before that one what was kept. -/
def State (v8 : View sig .tc .vmem S2x256x5000 .f32) (v9 : View sig .tc .vmem S40x256x128 .f32) (v10 : View sig .tc .vmem S40x256x128 .i32) (v11 : View sig .tc .vmem S20x256x128 .f32)
    (f8 : v8.ty.Contents (Elt Ideal)) (f9 : v9.ty.Contents (Elt Ideal)) (f10 : v10.ty.Contents (Elt Ideal)) (f11 : v11.ty.Contents (Elt Ideal))
    (s : Fin 256 → ℕ → EReal) (n : ℕ) : Prop :=
  (∀ b, n = b + 1 → b < 20 → ∀ r q, v8.read (Elt Ideal) f8 (ix3 ⟨b % 2, Nat.mod_lt _ (by decide)⟩ r q) = s r (5000 * b + q.val))
    ∧ ∀ b (hb : b < 20), b + 1 < n → ∀ r l, Rows v9 v10 v11 f9 f10 f11 s b hb r l

section States

variable (v8 : View sig .tc .vmem S2x256x5000 .f32) (v9 : View sig .tc .vmem S40x256x128 .f32) (v10 : View sig .tc .vmem S40x256x128 .i32) (v11 : View sig .tc .vmem S20x256x128 .f32)
  (f8 : v8.ty.Contents (Elt Ideal)) (f9 : v9.ty.Contents (Elt Ideal)) (f10 : v10.ty.Contents (Elt Ideal)) (f11 : v11.ty.Contents (Elt Ideal))
  (s : Fin 256 → ℕ → EReal)

theorem state_start : State v8 v9 v10 v11 f8 f9 f10 f11 s 0 := ⟨fun _ h => absurd h (by omega), fun _ _ h => absurd h (by omega)⟩

theorem state_ready (h : State v8 v9 v10 v11 f8 f9 f10 f11 s 20) : Ready v8 v9 v10 v11 f8 f9 f10 f11 s :=
  ⟨fun r q => h.1 19 rfl (by omega) r q, fun b hb h' => h.2 b hb (by omega)⟩

/-- The half the point stores reads the block stored. -/
theorem read_half (i : grid0.Coords) (hc1 : k0_cond1 i = 1#1) (p : FVec Ideal S1x256x5000 .f32) (a : ℕ) (ha : a < 2) (h : (i 0).val % 2 = a)
    (r : Fin 256) (q : Fin 5000) : v8.read (Elt Ideal) (v8.writes (Elt Ideal) f8 (st8 i hc1 p)) (ix3 ⟨a, ha⟩ r q) = p (ix3 0 r q) :=
  View.read_writes_cons_unit_of_mem v8 f8 (k0_off1_inb i hc1) p [] (ix3 ⟨a, ha⟩ r q) (ix3 0 r q) (off1_eq i) fun x => by
    match x with
    | ⟨0, _⟩ => show a = (i 0).val % 2 + 0; omega
    | ⟨1, _⟩ => show r.val = 0 + r.val; omega
    | ⟨2, _⟩ => show q.val = 0 + q.val; omega

/-- The other half reads what it did. -/
theorem read_half_other (i : grid0.Coords) (hc1 : k0_cond1 i = 1#1) (p : FVec Ideal S1x256x5000 .f32) (a : ℕ) (ha : a < 2) (h : (i 0).val % 2 ≠ a)
    (r : Fin 256) (q : Fin 5000) : v8.read (Elt Ideal) (v8.writes (Elt Ideal) f8 (st8 i hc1 p)) (ix3 ⟨a, ha⟩ r q) = v8.read (Elt Ideal) f8 (ix3 ⟨a, ha⟩ r q) :=
  View.read_writes_cons_unit_of_not_mem v8 f8 (k0_off1_inb i hc1) p [] (ix3 ⟨a, ha⟩ r q) (off1_eq i) 0 (by
    show a < (i 0).val % 2 ∨ (i 0).val % 2 + 1 ≤ a; omega)

variable {f8 f9 f10 f11 s}

theorem fill_state (i : grid0.Coords) (hc1 : k0_cond1 i = 1#1) (hi : (i 0).val = 0) (p : FVec Ideal S1x256x5000 .f32)
    (hp : ∀ r (q : Fin 5000), p (ix3 0 r q) = s r (5000 * 0 + q.val)) :
    State v8 v9 v10 v11 (v8.writes (Elt Ideal) f8 (st8 i hc1 p)) f9 f10 f11 s 1 :=
  ⟨fun b h _ r q => by
    obtain rfl : b = 0 := by omega
    exact (read_half v8 f8 i hc1 p (0 % 2) _ (by omega) r q).trans (hp r q), fun b _ h => absurd h (by omega)⟩

end States

/-- The block a point takes from the double buffer. -/
theorem loaded_at (i : grid0.Coords) (hc2 : k0_cond2 i = 1#1) (arg8 : Memref sig .tc .vmem S2x256x5000 .f32) (g : BufTy.Contents (Elt Ideal) arg8.view.ty)
    (a : ℕ) (ha : a < 2) (h : ((i 0).val + 1) % 2 = a) (r : Fin 256) (q : Fin 5000) :
    loaded i hc2 arg8 g (ix2 r q) = arg8.view.read (Elt Ideal) g (ix3 ⟨a, ha⟩ r q) := by
  have e : ∀ y : FVec Ideal S1x256x5000 .f32, k0_pay3 (F := Ideal) y (ix2 r q) = y (ix3 0 r q) := fun y => by pointwise [k0_pay3]
  unfold loaded
  refine (e _).trans ?_
  rw [View.readAt_apply]
  congr 1
  funext x
  apply Fin.ext
  have ho : k0_off2 i = ![a, 0, 0] := (off2_eq i).trans (by rw [h])
  show (k0_off2 i) x + 1 * _ = _
  refine (congrArg (fun o : Fin 3 → ℕ => o x + 1 * ((ix3 0 r q : S1x256x5000.Idx) x).val) ho).trans ?_
  match x with
  | ⟨0, _⟩ => show a + 1 * 0 = a; omega
  | ⟨1, _⟩ => show 0 + 1 * r.val = r.val; omega
  | ⟨2, _⟩ => show 0 + 1 * q.val = q.val; omega

theorem fold_word : ∀ n : ℕ, n < 20 → Scalar.subi (BitVec.ofNat 32 (n + 1)) 1#32 = BitVec.ofNat 32 n := by decide +kernel

theorem fold_state (arg8 : Memref sig .tc .vmem S2x256x5000 .f32) (v9 : View sig .tc .vmem S40x256x128 .f32) (v10 : View sig .tc .vmem S40x256x128 .i32) (v11 : View sig .tc .vmem S20x256x128 .f32)
    {f8 : arg8.view.ty.Contents (Elt Ideal)} {f9 : v9.ty.Contents (Elt Ideal)} {f10 : v10.ty.Contents (Elt Ideal)} {f11 : v11.ty.Contents (Elt Ideal)}
    {s : Fin 256 → ℕ → EReal} (i : grid0.Coords) (hc1 : k0_cond1 i = 1#1) (hc2 : k0_cond2 i = 1#1) (p : FVec Ideal S1x256x5000 .f32)
    (hp : ∀ r (q : Fin 5000), p (ix3 0 r q) = s r (5000 * (i 0).val + q.val)) (V : FVec Ideal S256x5000 .f32)
    (hV : V = loaded i hc2 arg8 (arg8.view.writes (Elt Ideal) f8 (st8 i hc1 p)))
    (h : State arg8.view v9 v10 v11 f8 f9 f10 f11 s (i 0).val) :
    State arg8.view v9 v10 v11 (arg8.view.writes (Elt Ideal) f8 (st8 i hc1 p)) (v9.writes (Elt Ideal) f9 (st9 i hc2 V))
      (v10.writes (Elt Ideal) f10 (st10 i hc2 (Scalar.subi (BitVec.ofNat 32 (i 0).val) 1#32) V)) (v11.writes (Elt Ideal) f11 (st11 i hc2 V)) s ((i 0).val + 1) := by
  have hlt := (cond1_iff i).mp hc1
  have hpos := (cond2_iff i).mp hc2
  refine ⟨fun b hb _ r q => ?_, fun b hb hlt' r l => ?_⟩
  · obtain rfl : b = (i 0).val := by omega
    exact (read_half arg8.view f8 i hc1 p _ _ rfl r q).trans (hp r q)
  · obtain ⟨n, hn⟩ : ∃ n, (i 0).val = n + 1 := ⟨(i 0).val - 1, by omega⟩
    by_cases hbn : b = n
    · subst hbn
      refine rows_store v9 v10 v11 f9 f10 f11 s b hb r l i hc2 hn _ ?_ V ?_
      · rw [hn]; exact fold_word b hb
      · refine blk_eq s b V fun r q => ?_
        rw [hV]
        refine (loaded_at i hc2 arg8 _ (b % 2) (Nat.mod_lt _ (by decide)) (by omega) r q).trans ?_
        refine (read_half_other arg8.view f8 i hc1 p _ _ (by omega) r q).trans ?_
        exact h.1 b hn hb r q
    · exact rows_other v9 v10 v11 f9 f10 f11 s b hb r l i hc2 (by omega) _ V (h.2 b hb (by omega) r l)

/-- The block's squared distances from what the operands' windows hold. -/
theorem fresh_eq (arg1 : Memref sig .tc .vmem S256x1 .f32) (arg2 : Memref sig .tc .vmem S256x128 .f32) (arg3 : Memref sig .tc .vmem S1x1x5000 .f32) (arg4 : Memref sig .tc .vmem S5000x128 .f32)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) :
    fresh arg1 arg2 arg3 arg4 f1 f2 f3 f4
      = k0_pay1 (F := Ideal) (arg2.view.read (Elt Ideal) f2) (arg4.view.read (Elt Ideal) f4) (arg3.view.read (Elt Ideal) f3) (arg1.view.read (Elt Ideal) f1) := by
  unfold fresh
  rw [View.readAt_full, View.readAt_full, View.readAt_full, View.readAt_full]

variable {Ix U : Type} [DecidableEq Ix] [URA U]
local notation "𝕄" => MT nD τ sig Ix (Elt Ideal) ℕ U ℕ

/-- The first point stores its block. -/
theorem fill_wp (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : ¬ k0_cond2 i = 1#1) (hc3 : ¬ k0_cond3 i = 1#1)
    (x1 : Vec Ideal S256x1 .f32) (x2 : Vec Ideal S256x128 .f32) (x3 : Vec Ideal S1x1x5000 .f32) (x4 : Vec Ideal S5000x128 .f32) (f8 : BufTy.Contents (Elt Ideal) arg8.view.ty) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (arg8.view.loc (c : Thread nD τ) ↦[arg8.view.set]{fullShare} f8)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (arg8.view.loc (c : Thread nD τ) ↦[arg8.view.set]{fullShare} arg8.view.writes (Elt Ideal) f8 (st8 i hc1 (k0_pay1 (F := Ideal) x2 x4 x3 x1)))) -∗ K ⟨⟩))
      ⊢ wp frame (wpE (defs₀ (F := Ideal)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %e1, H1⟩, ⟨%f2, %e2, H2⟩, ⟨%f3, %e3, H3⟩, ⟨%f4, %e4, H4⟩, H8, Hk⟩
  subst e1 e2 e3 e4
  have h := (fillRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8).2 E K
  rw [fillRun_L8, fresh_eq] at h
  iapply h
  isplitl [H1]; · iexact H1
  isplitl [H2]; · iexact H2
  isplitl [H3]; · iexact H3
  isplitl [H4]; · iexact H4
  isplitl [H8]; · iexact H8
  iintro ⟨H1, H2, H3, H4, H8⟩
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexact H8

/-- A run's lists of stores in other words. -/
theorem fold_lists (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (E : Set ℕ) (K : PUnit → sProp 𝕄)
    (L8 : List (View.Piece (Elt Ideal) S2x256x5000 .f32)) (L9 : List (View.Piece (Elt Ideal) S40x256x128 .f32)) (L10 : List (View.Piece (Elt Ideal) S40x256x128 .i32)) (L11 : List (View.Piece (Elt Ideal) S20x256x128 .f32)) (M8 : List (View.Piece (Elt Ideal) S2x256x5000 .f32)) (M9 : List (View.Piece (Elt Ideal) S40x256x128 .f32)) (M10 : List (View.Piece (Elt Ideal) S40x256x128 .i32)) (M11 : List (View.Piece (Elt Ideal) S20x256x128 .f32)) (h8 : L8 = M8) (h9 : L9 = M9) (h10 : L10 = M10) (h11 : L11 = M11) (f1 : BufTy.Contents (Elt Ideal) arg1.view.ty) (f2 : BufTy.Contents (Elt Ideal) arg2.view.ty) (f3 : BufTy.Contents (Elt Ideal) arg3.view.ty) (f4 : BufTy.Contents (Elt Ideal) arg4.view.ty)
    (h : (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} arg8.view.writes (Elt Ideal) f8 L8) ∗ (arg9.view.loc (c : Thread nD τ) ↦[arg9.view.set]{fullShare} arg9.view.writes (Elt Ideal) f9 L9) ∗ (arg10.view.loc (c : Thread nD τ) ↦[arg10.view.set]{fullShare} arg10.view.writes (Elt Ideal) f10 L10) ∗ (arg11.view.loc (c : Thread nD τ) ↦[arg11.view.set]{fullShare} arg11.view.writes (Elt Ideal) f11 L11)) -∗ K ⟨⟩))
      ⊢ wp frame (wpE (defs₀ (F := Ideal)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K)) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} arg8.view.writes (Elt Ideal) f8 M8) ∗ (arg9.view.loc (c : Thread nD τ) ↦[arg9.view.set]{fullShare} arg9.view.writes (Elt Ideal) f9 M9) ∗ (arg10.view.loc (c : Thread nD τ) ↦[arg10.view.set]{fullShare} arg10.view.writes (Elt Ideal) f10 M10) ∗ (arg11.view.loc (c : Thread nD τ) ↦[arg11.view.set]{fullShare} arg11.view.writes (Elt Ideal) f11 M11)) -∗ K ⟨⟩))
      ⊢ wp frame (wpE (defs₀ (F := Ideal)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K) := by
  subst h8 h9 h10 h11
  exact h

set_option maxHeartbeats 2000000 in
/-- A point between stores its block and keeps of the block before. -/
theorem fold_wp (c : Dev nD) (i : grid0.Coords) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : k0_cond1 i = 1#1) (hc2 : k0_cond2 i = 1#1) (hc3 : ¬ k0_cond3 i = 1#1)
    (x1 : Vec Ideal S256x1 .f32) (x2 : Vec Ideal S256x128 .f32) (x3 : Vec Ideal S1x1x5000 .f32) (x4 : Vec Ideal S5000x128 .f32) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (arg8.view.loc (c : Thread nD τ) ↦[arg8.view.set]{fullShare} arg8.view.writes (Elt Ideal) f8 (st8 i hc1 (k0_pay1 (F := Ideal) x2 x4 x3 x1))) ∗ (arg9.view.loc (c : Thread nD τ) ↦[arg9.view.set]{fullShare} arg9.view.writes (Elt Ideal) f9 (st9 i hc2 (loaded i hc2 arg8 (arg8.view.writes (Elt Ideal) f8 (st8 i hc1 (k0_pay1 (F := Ideal) x2 x4 x3 x1)))))) ∗ (arg10.view.loc (c : Thread nD τ) ↦[arg10.view.set]{fullShare} arg10.view.writes (Elt Ideal) f10 (st10 i hc2 (Scalar.subi (BitVec.ofNat 32 (i 0).val) 1#32) (loaded i hc2 arg8 (arg8.view.writes (Elt Ideal) f8 (st8 i hc1 (k0_pay1 (F := Ideal) x2 x4 x3 x1)))))) ∗ (arg11.view.loc (c : Thread nD τ) ↦[arg11.view.set]{fullShare} arg11.view.writes (Elt Ideal) f11 (st11 i hc2 (loaded i hc2 arg8 (arg8.view.writes (Elt Ideal) f8 (st8 i hc1 (k0_pay1 (F := Ideal) x2 x4 x3 x1))))))) -∗ K ⟨⟩))
      ⊢ wp frame (wpE (defs₀ (F := Ideal)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f1, %e1, H1⟩, ⟨%f2, %e2, H2⟩, ⟨%f3, %e3, H3⟩, ⟨%f4, %e4, H4⟩, H8, H9, H10, H11, Hk⟩
  subst e1 e2 e3 e4
  have he : foldRun.sl.H8_1 i arg1 arg2 arg3 arg4 hc1 f1 f2 f3 f4 = _ :=
    (foldRun_H8 i arg1 arg2 arg3 arg4 hc1 f1 f2 f3 f4).trans (congrArg (st8 i hc1) (fresh_eq arg1 arg2 arg3 arg4 f1 f2 f3 f4))
  have h := fold_lists c i arg1 harg1 arg2 harg2 arg3 harg3 arg4 harg4 arg5 harg5 arg6 harg6 arg7 harg7 arg8 harg8 arg9 harg9 arg10 harg10 arg11 harg11 arg12 harg12 arg13 harg13 arg14 harg14 arg15 harg15 f8 f9 f10 f11 E K _ _ _ _ _ _ _ _
    ((foldRun_L8 (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).trans (congrArg (st8 i hc1) (fresh_eq arg1 arg2 arg3 arg4 f1 f2 f3 f4)))
    ((foldRun_L9 (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).trans (congrArg (fun L => st9 i hc2 (loaded i hc2 arg8 (arg8.view.writes (Elt Ideal) f8 L))) he))
    ((foldRun_L10 (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).trans (congrArg (fun L => st10 i hc2 (Scalar.subi (BitVec.ofNat 32 (i 0).val) 1#32) (loaded i hc2 arg8 (arg8.view.writes (Elt Ideal) f8 L))) he))
    ((foldRun_L11 (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).trans (congrArg (fun L => st11 i hc2 (loaded i hc2 arg8 (arg8.view.writes (Elt Ideal) f8 L))) he))
    f1 f2 f3 f4 ((foldRun (Ix := Ix) (U := U) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f1 f2 f3 f4 f8 f9 f10 f11).2.2.2.2 E K)
  iapply h
  isplitl [H1]; · iexact H1
  isplitl [H2]; · iexact H2
  isplitl [H3]; · iexact H3
  isplitl [H4]; · iexact H4
  isplitl [H8]; · iexact H8
  isplitl [H9]; · iexact H9
  isplitl [H10]; · iexact H10
  isplitl [H11]; · iexact H11
  iintro ⟨H1, H2, H3, H4, H8, H9, H10, H11⟩
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H8]; · iexact H8
  isplitl [H9]; · iexact H9
  isplitl [H10]; · iexact H10
  iexact H11

variable (Ix U) in
/-- The last point finds no lane short of entries. -/
def Quiet (c : Dev nD) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1) (s : Fin 256 → ℕ → EReal) : Prop :=
  ∀ (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f5 : BufTy.Contents (Elt Ideal) arg5.view.ty) (f6 : BufTy.Contents (Elt Ideal) arg6.view.ty) (f7 : BufTy.Contents (Elt Ideal) arg7.view.ty), Ready arg8.view arg9.view arg10.view arg11.view f8 f9 f10 f11 s → arg7.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1) (ix2 0 0) = 0#32

set_option maxHeartbeats 2000000 in
/-- The last point keeps of the last block and selects: if no lane was short of entries and every entry lies below infinity, the two results are each row's sixteen least. -/
theorem last_wp (c : Dev nD) (i : grid0.Coords) (hi : i = lastPt) (arg1 : Memref sig .tc .vmem S256x1 .f32) (harg1 : arg1.IsWhole) (arg2 : Memref sig .tc .vmem S256x128 .f32) (harg2 : arg2.IsWhole) (arg3 : Memref sig .tc .vmem S1x1x5000 .f32) (harg3 : arg3.IsWhole) (arg4 : Memref sig .tc .vmem S5000x128 .f32) (harg4 : arg4.IsWhole) (arg5 : Memref sig .tc .vmem S256x16 .f32) (harg5 : arg5.IsWhole) (arg6 : Memref sig .tc .vmem S256x16 .i32) (harg6 : arg6.IsWhole) (arg7 : Memref sig .tc .smem S1x1 .i32) (harg7 : arg7.IsWhole) (arg8 : Memref sig .tc .vmem S2x256x5000 .f32) (harg8 : arg8.IsWhole) (arg9 : Memref sig .tc .vmem S40x256x128 .f32) (harg9 : arg9.IsWhole) (arg10 : Memref sig .tc .vmem S40x256x128 .i32) (harg10 : arg10.IsWhole) (arg11 : Memref sig .tc .vmem S20x256x128 .f32) (harg11 : arg11.IsWhole) (arg12 : Memref sig .tc .vmem S5x256x128 .f32) (harg12 : arg12.IsWhole) (arg13 : Memref sig .tc .vmem S5x256x128 .i32) (harg13 : arg13.IsWhole) (arg14 : Memref sig .tc .vmem S16x256x1 .f32) (harg14 : arg14.IsWhole) (arg15 : Memref sig .tc .vmem S16x256x1 .i32) (harg15 : arg15.IsWhole)
    (hc1 : ¬ k0_cond1 lastPt = 1#1) (hc2 : k0_cond2 lastPt = 1#1) (hc3 : k0_cond3 lastPt = 1#1) (s : Fin 256 → ℕ → EReal) (hp : pad < ⊤)
    (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (hR : Ready arg8.view arg9.view arg10.view arg11.view f8 f9 f10 f11 s) (x5 : Vec Ideal S256x16 .f32) (x6 : Vec Ideal S256x16 .i32) (x7 : Vec Ideal S1x1 .i32) (E : Set ℕ) (K : PUnit → sProp 𝕄) :
    iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ owns (c : Thread nD τ) arg5 fullShare x5 ∗ owns (c : Thread nD τ) arg6 fullShare x6 ∗ owns (c : Thread nD τ) arg7 fullShare x7
        ∗ (iprop(((∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))
          ∗ (∃ (y5 : Vec Ideal S256x16 .f32) (y6 : Vec Ideal S256x16 .i32) (y7 : Vec Ideal S1x1 .i32),
            ⌜(y7 (ix2 0 0) = 0#32 → Quiet Ix U c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 s)
              ∧ (Quiet Ix U c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 s → (∀ r n, s r n < ⊤) → ∀ r, ∃ t : Fin 16 → ℕ, Cert.Select.IsTop (fun n => dst (s r n)) 100000 t
                ∧ ∀ j : Fin 16, y5 (ix2 r j) = dst (s r (t j)) ∧ y6 (ix2 r j) = BitVec.ofNat 32 (t j))⌝
            ∗ owns (c : Thread nD τ) arg5 fullShare y5 ∗ owns (c : Thread nD τ) arg6 fullShare y6 ∗ owns (c : Thread nD τ) arg7 fullShare y7)) -∗ K ⟨⟩))
      ⊢ wp frame (wpE (defs₀ (F := Ideal)) Variants.none c none) E (cc0__fast_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst hi
  unfold owns
  iintro ⟨H8, H9, H10, H11, H12, H13, H14, H15, ⟨%f5, %e5, H5⟩, ⟨%f6, %e6, H6⟩, ⟨%f7, %e7, H7⟩, Hk⟩
  have h := (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.2 E K
  iapply h
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H5]; · iexact H5
  isplitl [H6]; · iexact H6
  isplitl [H7]; · iexact H7
  iintro ⟨H8, H9, H10, H11, H12, H13, H14, H15, H5, H6, H7⟩
  iapply Hk
  isplitl [H8 H9 H10 H11 H12 H13 H14 H15]
  · isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  iexists (arg5.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.1)); iexists (arg6.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.1)); iexists (arg7.view.read (Elt Ideal) ((lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1))
  isplitr
  · ipureintro
    refine ⟨fun hw g8 g9 g10 g11 g12 g13 g14 g15 g5 g6 g7 hG => ?_, fun hq hs r => ?_⟩
    · exact (word_same (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 g8 g9 g10 g11 g12 g13 g14 g15 g5 g6 g7 f8 f9 f10 f11 f12 f13 f14 f15 f5 f6 f7 s hG hR).trans hw
    · exact last_row (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7 (s r) (hs r) hp r (fun q => hR.1 r q)
        (fun b hb hb' l => rows_kept arg9.view arg10.view arg11.view f9 f10 f11 s b hb r l (hR.2 b hb hb' r l) (hs r) hp)
        (hq f8 f9 f10 f11 f12 f13 f14 f15 f5 f6 f7 hR)
  isplitl [H5]
  · iexists (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.1; isplitr
    · ipureintro; exact rfl
    · iexact H5
  isplitl [H6]
  · iexists (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.1; isplitr
    · ipureintro; exact rfl
    · iexact H6
  iexists (lastRun (Ix := Ix) (U := U) c arg1 harg1 arg2 harg2 arg3 harg3 arg4 harg4 arg5 harg5 arg6 harg6 arg7 harg7 arg8 harg8 arg9 harg9 arg10 harg10 arg11 harg11 arg12 harg12 arg13 harg13 arg14 harg14 arg15 harg15 hc1 hc2 hc3 f8 f9 f10 f11 f12 f13 f14 f15 f5 f6 f7).2.2.2.2.2.2.2.2.2.1; isplitr
  · ipureintro; exact rfl
  · iexact H7

end Cert.Search.Fast

end
-- ==== Proof.SearchFast.lean ====
/-
  The fast call, whole: what its points carry on and what its three results end holding (`body0`, the proof data `rdat0` point
  by point).  Its third result is the number zero only where the first two are each query's sixteen nearest keys.
-/
module

public import proofs.«01_k».proof.Proof.SearchHeld
public import proofs.«01_k».proof.Proof.FastState

@[expose] public section

set_option maxRecDepth 16384

noncomputable section

namespace Cert.Search

open Cert.SearchIdeal Cert.SearchIdeal.Gen Cert.Dist Cert.Rounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

/-- The first sixteen positions depend on the entries below the bound alone. -/
theorem top_congr {d d' : ℕ → EReal} {M : ℕ} {s : Fin 16 → ℕ} (h : ∀ n, n < M → d n = d' n) (hs : Cert.Select.IsTop d M s) :
    Cert.Select.IsTop d' M s where
  lt := hs.lt
  inc i j hij := by
    have := hs.inc i j hij
    unfold Cert.Select.Before at this ⊢
    rwa [← h _ (hs.lt i), ← h _ (hs.lt j)]
  least n hn hne j := by
    have := hs.least n hn hne j
    unfold Cert.Select.Before at this ⊢
    rwa [← h _ hn, ← h _ (hs.lt j)]

theorem coord0 : ∀ t : Fin cfg0.N, ((grid0.coords t) 0).val = t.val := by decide +kernel
theorem fetch0_2 : ∀ t : Fin cfg0.N, t.val < 20 → (cfg0.win 2).fetch t = true := by decide +kernel
theorem fetch0_3 : ∀ t : Fin cfg0.N, t.val < 20 → (cfg0.win 3).fetch t = true := by decide +kernel

theorem coords_last : grid0.coords ⟨20, last0⟩ = Fast.lastPt := by
  funext a
  apply Fin.ext
  match a with
  | ⟨0, _⟩ => exact coord0 ⟨20, last0⟩

theorem lc1 : ¬ k0_cond1 Fast.lastPt = 1#1 := by decide +kernel
theorem lc2 : k0_cond2 Fast.lastPt = 1#1 := by decide +kernel
theorem lc3 : k0_cond3 Fast.lastPt = 1#1 := by decide +kernel

section Region

variable {U : Type} [URA U]
local notation "𝕄" => MT nD τ sig Unit (Elt Ideal) ℕ U ℕ

variable (m : (ℓ : Loc nD τ sig) → Buf (Elt Ideal) ℓ) (c : Dev nD)

/-- The scoped buffers the fast call leaves alone. -/
abbrev rest0 (U : Type) [URA U] (c : Dev nD) : sProp (MT nD τ sig Unit (Elt Ideal) ℕ U ℕ) :=
  iprop(some1 U c cc1_stg0_0 ∗ some1 U c cc1_stg1_0 ∗ some1 U c cc1_stg2_0 ∗ some1 U c cc1_stg2_1 ∗ some1 U c cc1_stg3_0 ∗ some1 U c cc1_stg3_1 ∗ some1 U c cc1_stg4_0 ∗ some1 U c cc1_stg5_0 ∗ some1 U c cc1_scratch0 ∗ some1 U c cc1_scratch1)

/-- The fast call's scratch buffers, at given contents. -/
abbrev held0 (U : Type) [URA U] (c : Dev nD) (f8 : BufTy.Contents (Elt Ideal) (Memref.whole cc0_scratch0).view.ty) (f9 : BufTy.Contents (Elt Ideal) (Memref.whole cc0_scratch1).view.ty) (f10 : BufTy.Contents (Elt Ideal) (Memref.whole cc0_scratch2).view.ty) (f11 : BufTy.Contents (Elt Ideal) (Memref.whole cc0_scratch3).view.ty) (f12 : BufTy.Contents (Elt Ideal) (Memref.whole cc0_scratch4).view.ty) (f13 : BufTy.Contents (Elt Ideal) (Memref.whole cc0_scratch5).view.ty) (f14 : BufTy.Contents (Elt Ideal) (Memref.whole cc0_scratch6).view.ty) (f15 : BufTy.Contents (Elt Ideal) (Memref.whole cc0_scratch7).view.ty) : sProp (MT nD τ sig Unit (Elt Ideal) ℕ U ℕ) :=
  iprop(((Memref.whole cc0_scratch0).view.loc (c : Thread nD τ) ↦[(Memref.whole cc0_scratch0).view.set]{fullShare} f8) ∗ ((Memref.whole cc0_scratch1).view.loc (c : Thread nD τ) ↦[(Memref.whole cc0_scratch1).view.set]{fullShare} f9) ∗ ((Memref.whole cc0_scratch2).view.loc (c : Thread nD τ) ↦[(Memref.whole cc0_scratch2).view.set]{fullShare} f10) ∗ ((Memref.whole cc0_scratch3).view.loc (c : Thread nD τ) ↦[(Memref.whole cc0_scratch3).view.set]{fullShare} f11) ∗ ((Memref.whole cc0_scratch4).view.loc (c : Thread nD τ) ↦[(Memref.whole cc0_scratch4).view.set]{fullShare} f12) ∗ ((Memref.whole cc0_scratch5).view.loc (c : Thread nD τ) ↦[(Memref.whole cc0_scratch5).view.set]{fullShare} f13) ∗ ((Memref.whole cc0_scratch6).view.loc (c : Thread nD τ) ↦[(Memref.whole cc0_scratch6).view.set]{fullShare} f14) ∗ ((Memref.whole cc0_scratch7).view.loc (c : Thread nD τ) ↦[(Memref.whole cc0_scratch7).view.set]{fullShare} f15))

/-- Before point `n` the scratch buffers hold the block met last and what was kept of the blocks before. -/
def inv0 (n : ℕ) : sProp 𝕄 :=
  iprop((∃ (f8 : BufTy.Contents (Elt Ideal) (Memref.whole cc0_scratch0).view.ty) (f9 : BufTy.Contents (Elt Ideal) (Memref.whole cc0_scratch1).view.ty) (f10 : BufTy.Contents (Elt Ideal) (Memref.whole cc0_scratch2).view.ty) (f11 : BufTy.Contents (Elt Ideal) (Memref.whole cc0_scratch3).view.ty) (f12 : BufTy.Contents (Elt Ideal) (Memref.whole cc0_scratch4).view.ty) (f13 : BufTy.Contents (Elt Ideal) (Memref.whole cc0_scratch5).view.ty) (f14 : BufTy.Contents (Elt Ideal) (Memref.whole cc0_scratch6).view.ty) (f15 : BufTy.Contents (Elt Ideal) (Memref.whole cc0_scratch7).view.ty), ⌜n ≤ 20 → Fast.State (Memref.whole cc0_scratch0).view (Memref.whole cc0_scratch1).view (Memref.whole cc0_scratch2).view (Memref.whole cc0_scratch3).view f8 f9 f10 f11 (sq (qs m c) (ks m c)) n⌝ ∗ held0 U c f8 f9 f10 f11 f12 f13 f14 f15) ∗ rest0 U c)

variable (U) in
/-- The fast call answers. -/
def Good : Prop :=
  Fast.Quiet Unit U c (win0_0.stage (cfg0.slots ⟨20, last0⟩ 0)) (hstage0_0 ((cfg0.slots ⟨20, last0⟩ 0).cast nbuf0_0)) (win0_1.stage (cfg0.slots ⟨20, last0⟩ 1)) (hstage0_1 ((cfg0.slots ⟨20, last0⟩ 1).cast nbuf0_1)) (win0_2.stage (cfg0.slots ⟨20, last0⟩ 2)) (hstage0_2 ((cfg0.slots ⟨20, last0⟩ 2).cast nbuf0_2)) (win0_3.stage (cfg0.slots ⟨20, last0⟩ 3)) (hstage0_3 ((cfg0.slots ⟨20, last0⟩ 3).cast nbuf0_3)) (win0_4.stage (cfg0.slots ⟨20, last0⟩ 4)) (hstage0_4 ((cfg0.slots ⟨20, last0⟩ 4).cast nbuf0_4)) (win0_5.stage (cfg0.slots ⟨20, last0⟩ 5)) (hstage0_5 ((cfg0.slots ⟨20, last0⟩ 5).cast nbuf0_5)) (win0_6.stage (cfg0.slots ⟨20, last0⟩ 6)) (hstage0_6 ((cfg0.slots ⟨20, last0⟩ 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) lc1 lc2 lc3 (sq (qs m c) (ks m c))

/-- What the fast call leaves at each point: the operands' blocks as fetched, and at the last the results. -/
def rdat0 : RDat τ (Elt Ideal) Unit ℕ U ℕ cfg0 c where
  A w := V0 m c (Pipeline.arrRef spec0 w)
  after w t _ X := match w with
    | ⟨0, _⟩ => Own m c X
    | ⟨1, _⟩ => Minus m c X
    | ⟨2, _⟩ => True
    | ⟨3, _⟩ => True
    | ⟨4, _⟩ => t.val = 20 → Good U m c → Values m c X
    | ⟨5, _⟩ => t.val = 20 → Good U m c → Numbers m c X
    | ⟨6, _⟩ => t.val = 20 → (X : Vec Ideal S1x1 .i32) (ix2 0 0) = 0#32 → Good U m c
  Φ n := inv0 m c n.val
  q _ := fullShare
  owed _ := 0

set_option maxHeartbeats 8000000 in
/-- The body at every point. -/
theorem body0 :
    (rdat0 (U := U) m c).BodyObligation (defs₀ (F := Ideal)) Variants.none () Set.univ := fun t Y hY => by
  have hN : cfg0.N = 21 := N_0
  have htN : t.val < 21 := by have := t.isLt; omega
  have h0 : Own m c (Y 0) := finds_kept (rdat0 (U := U) m c) (w := 0) (Own m c) rfl (fun u hu => (fetch0_0 u).mpr (by rw [hu]))
    (fun u d => own0 m c u d) (fun _ _ _ h => h) t (hY 0)
  have h1 : Minus m c (Y 1) := finds_kept (rdat0 (U := U) m c) (w := 1) (Minus m c) rfl (fun u hu => (fetch0_1 u).mpr (by rw [hu]))
    (fun u d => minus0 m c u d) (fun _ _ _ h => h) t (hY 1)
  have hp : t.val < 20 → ∀ (r : Fin 256) (q : Fin 5000), (k0_pay1 (F := Ideal) (Y 1) (Y 3) (Y 2) (Y 0)) (ix3 0 r q) = sq (qs m c) (ks m c) r (5000 * t.val + q.val) := fun ht r q => by
    have h2 : Other m c t.val (Y 2) := by
      obtain ⟨d, e⟩ := ((rdat0 (U := U) m c).finds_of_fetch (w := 2) (fetch0_2 t ht) (Y 2)).mp (hY 2)
      rw [e]; exact other0 m c t ht d
    have h3 : Key m c t.val (Y 3) := by
      obtain ⟨d, e⟩ := ((rdat0 (U := U) m c).finds_of_fetch (w := 3) (fetch0_3 t ht) (Y 3)).mp (hY 3)
      rw [e]; exact key0 m c t ht d
    exact fresh_apply ht ⟨h0, h1, h2, h3⟩ r q
  rw [bigSep_W0, bigSep_W0, show (rdat0 (U := U) m c).Φ t.castSucc = inv0 m c t.val from rfl,
    show (rdat0 (U := U) m c).Φ t.succ = inv0 m c (t.val + 1) from rfl,
    show (rdat0 (U := U) m c).owesAt () t.succ = (rdat0 (U := U) m c).owesAt () t.castSucc from rfl]
  unfold inv0
  have hco := coord0 t
  have hlast : t.val < 20 → ¬ k0_cond3 (grid0.coords t) = 1#1 := fun h h' => by have := (Fast.cond3_iff _).mp h'; omega
  by_cases ht0 : t.val = 0
  · have hc1 : k0_cond1 (grid0.coords t) = 1#1 := (Fast.cond1_iff _).mpr (by omega)
    have hc2 : ¬ k0_cond2 (grid0.coords t) = 1#1 := fun h => by have := (Fast.cond2_iff _).mp h; omega
    iintro ⟨⟨⟨%f8, %f9, %f10, %f11, %f12, %f13, %f14, %f15, -, S8, S9, S10, S11, S12, S13, S14, S15⟩, Hr⟩, HO, H0, H1, H2, H3, H4, H5, H6⟩
    iapply (Fast.fill_wp (Ix := Unit) (U := U) c (grid0.coords t) _ _ _ _ _ _ _ _ _ _ _ _ _ _ _ _ _ _ _ _ _ _ _ _ _ _ _ _ _ _ hc1 hc2 (hlast (by omega)) (Y 0) (Y 1) (Y 2) (Y 3) f8 Set.univ _)
    isplitl [H0]; · iexact H0
    isplitl [H1]; · iexact H1
    isplitl [H2]; · iexact H2
    isplitl [H3]; · iexact H3
    isplitl [S8]; · iexact S8
    iintro ⟨H0, H1, H2, H3, S8⟩
    isplitl [S8 S9 S10 S11 S12 S13 S14 S15 Hr]
    · isplitl [S8 S9 S10 S11 S12 S13 S14 S15]
      · iexists _; iexists f9; iexists f10; iexists f11; iexists f12; iexists f13; iexists f14; iexists f15
        isplitr
        rotate_left
        · isplitl [S8]
          · iexact S8
          isplitl [S9]; · iexact S9
          isplitl [S10]; · iexact S10
          isplitl [S11]; · iexact S11
          isplitl [S12]; · iexact S12
          isplitl [S13]; · iexact S13
          isplitl [S14]; · iexact S14
          iexact S15
        · ipureintro
          intro _
          rw [ht0]
          exact Fast.fill_state _ _ _ _ (grid0.coords t) hc1 (by omega) _ (fun r q => by have := hp (by omega) r q; rwa [ht0] at this)
      · iexact Hr
    isplitl [HO]; · iexact HO
    isplitl [H0]; · iexists (Y 0); isplitr; · ipureintro; exact h0
                    iexact H0
    isplitl [H1]; · iexists (Y 1); isplitr; · ipureintro; exact h1
                    iexact H1
    isplitl [H2]; · iexists (Y 2); isplitr; · ipureintro; exact trivial
                    iexact H2
    isplitl [H3]; · iexists (Y 3); isplitr; · ipureintro; exact trivial
                    iexact H3
    isplitl [H4]; · iexists (Y 4); isplitr; · ipureintro; exact fun h => absurd h (by omega)
                    iexact H4
    isplitl [H5]; · iexists (Y 5); isplitr; · ipureintro; exact fun h => absurd h (by omega)
                    iexact H5
    iexists (Y 6); isplitr; · ipureintro; exact fun h => absurd h (by omega)
    iexact H6
  · by_cases ht1 : t.val < 20
    · have hc1 : k0_cond1 (grid0.coords t) = 1#1 := (Fast.cond1_iff _).mpr (by omega)
      have hc2 : k0_cond2 (grid0.coords t) = 1#1 := (Fast.cond2_iff _).mpr (by omega)
      iintro ⟨⟨⟨%f8, %f9, %f10, %f11, %f12, %f13, %f14, %f15, %hS, S8, S9, S10, S11, S12, S13, S14, S15⟩, Hr⟩, HO, H0, H1, H2, H3, H4, H5, H6⟩
      iapply (Fast.fold_wp (Ix := Unit) (U := U) c (grid0.coords t) _ _ _ _ _ _ _ _ _ _ _ _ _ _ _ _ _ _ _ _ _ _ _ _ _ _ _ _ _ _ hc1 hc2 (hlast ht1) (Y 0) (Y 1) (Y 2) (Y 3) f8 f9 f10 f11 Set.univ _)
      isplitl [H0]; · iexact H0
      isplitl [H1]; · iexact H1
      isplitl [H2]; · iexact H2
      isplitl [H3]; · iexact H3
      isplitl [S8]; · iexact S8
      isplitl [S9]; · iexact S9
      isplitl [S10]; · iexact S10
      isplitl [S11]; · iexact S11
      iintro ⟨H0, H1, H2, H3, S8, S9, S10, S11⟩
      isplitl [S8 S9 S10 S11 S12 S13 S14 S15 Hr]
      · isplitl [S8 S9 S10 S11 S12 S13 S14 S15]
        · iexists _; iexists _; iexists _; iexists _; iexists f12; iexists f13; iexists f14; iexists f15
          isplitr
          rotate_left
          · isplitl [S8]
            · iexact S8
            isplitl [S9]; · iexact S9
            isplitl [S10]; · iexact S10
            isplitl [S11]; · iexact S11
            isplitl [S12]; · iexact S12
            isplitl [S13]; · iexact S13
            isplitl [S14]; · iexact S14
            iexact S15
          · ipureintro
            intro _
            have h := hS (by omega)
            rw [← hco] at h ⊢
            exact Fast.fold_state (Memref.whole cc0_scratch0) _ _ _ (grid0.coords t) hc1 hc2 _ (fun r q => by rw [hco]; exact hp ht1 r q) _ rfl h
        · iexact Hr
      isplitl [HO]; · iexact HO
      isplitl [H0]; · iexists (Y 0); isplitr; · ipureintro; exact h0
                      iexact H0
      isplitl [H1]; · iexists (Y 1); isplitr; · ipureintro; exact h1
                      iexact H1
      isplitl [H2]; · iexists (Y 2); isplitr; · ipureintro; exact trivial
                      iexact H2
      isplitl [H3]; · iexists (Y 3); isplitr; · ipureintro; exact trivial
                      iexact H3
      isplitl [H4]; · iexists (Y 4); isplitr; · ipureintro; exact fun h => absurd h (by omega)
                      iexact H4
      isplitl [H5]; · iexists (Y 5); isplitr; · ipureintro; exact fun h => absurd h (by omega)
                      iexact H5
      iexists (Y 6); isplitr; · ipureintro; exact fun h => absurd h (by omega)
      iexact H6
    · obtain rfl : t = ⟨20, last0⟩ := Fin.ext (by show t.val = 20; omega)
      iintro ⟨⟨⟨%f8, %f9, %f10, %f11, %f12, %f13, %f14, %f15, %hS, S8, S9, S10, S11, S12, S13, S14, S15⟩, Hr⟩, HO, H0, H1, H2, H3, H4, H5, H6⟩
      have hR := Fast.state_ready _ _ _ _ _ _ _ _ _ (hS (le_refl 20))
      iapply (Fast.last_wp (Ix := Unit) (U := U) c (grid0.coords ⟨20, last0⟩) coords_last (win0_0.stage (cfg0.slots ⟨20, last0⟩ 0)) (hstage0_0 ((cfg0.slots ⟨20, last0⟩ 0).cast nbuf0_0)) (win0_1.stage (cfg0.slots ⟨20, last0⟩ 1)) (hstage0_1 ((cfg0.slots ⟨20, last0⟩ 1).cast nbuf0_1)) (win0_2.stage (cfg0.slots ⟨20, last0⟩ 2)) (hstage0_2 ((cfg0.slots ⟨20, last0⟩ 2).cast nbuf0_2)) (win0_3.stage (cfg0.slots ⟨20, last0⟩ 3)) (hstage0_3 ((cfg0.slots ⟨20, last0⟩ 3).cast nbuf0_3)) (win0_4.stage (cfg0.slots ⟨20, last0⟩ 4)) (hstage0_4 ((cfg0.slots ⟨20, last0⟩ 4).cast nbuf0_4)) (win0_5.stage (cfg0.slots ⟨20, last0⟩ 5)) (hstage0_5 ((cfg0.slots ⟨20, last0⟩ 5).cast nbuf0_5)) (win0_6.stage (cfg0.slots ⟨20, last0⟩ 6)) (hstage0_6 ((cfg0.slots ⟨20, last0⟩ 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) lc1 lc2 lc3 (sq (qs m c) (ks m c))
        pad_lt f8 f9 f10 f11 f12 f13 f14 f15 hR (Y 4) (Y 5) (Y 6) Set.univ _)
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [H4]; · iexact H4
      isplitl [H5]; · iexact H5
      isplitl [H6]; · iexact H6
      iintro ⟨⟨⟨%g8, S8⟩, ⟨%g9, S9⟩, ⟨%g10, S10⟩, ⟨%g11, S11⟩, ⟨%g12, S12⟩, ⟨%g13, S13⟩, ⟨%g14, S14⟩, ⟨%g15, S15⟩⟩, ⟨%y5, %y6, %y7, %hy, H4, H5, H6⟩⟩
      have hv : Good U m c → Reals m c → ∀ r, ∃ s, Cert.Select.IsTop (table (qs m c) (ks m c) r) 100000 s
          ∧ ∀ j : Fin 16, y5 (ix2 r j) = table (qs m c) (ks m c) r (s j) ∧ y6 (ix2 r j) = BitVec.ofNat 32 (s j) := fun hg hR r =>
        (hy.2 hg (fun r n => sq_lt hR.1 hR.2 r n) r).imp fun s h =>
          ⟨top_congr (fun n hn => dst_sq hR.1 hR.2 r n hn) h.1, fun j => ⟨((h.2 j).1).trans (dst_sq hR.1 hR.2 r _ (h.1.lt j)), (h.2 j).2⟩⟩
      isplitl [S8 S9 S10 S11 S12 S13 S14 S15 Hr]
      · isplitl [S8 S9 S10 S11 S12 S13 S14 S15]
        · iexists g8; iexists g9; iexists g10; iexists g11; iexists g12; iexists g13; iexists g14; iexists g15
          isplitr
          · ipureintro; exact fun h => absurd h (by show ¬ (20 + 1 ≤ 20); omega)
          isplitl [S8]; · iexact S8
          isplitl [S9]; · iexact S9
          isplitl [S10]; · iexact S10
          isplitl [S11]; · iexact S11
          isplitl [S12]; · iexact S12
          isplitl [S13]; · iexact S13
          isplitl [S14]; · iexact S14
          iexact S15
        · iexact Hr
      isplitl [HO]; · iexact HO
      isplitl [H0]; · iexists (Y 0); isplitr; · ipureintro; exact h0
                      iexact H0
      isplitl [H1]; · iexists (Y 1); isplitr; · ipureintro; exact h1
                      iexact H1
      isplitl [H2]; · iexists (Y 2); isplitr; · ipureintro; exact trivial
                      iexact H2
      isplitl [H3]; · iexists (Y 3); isplitr; · ipureintro; exact trivial
                      iexact H3
      isplitl [H4]
      · iexists y5; isplitr
        · ipureintro; exact fun _ hg hR r => (hv hg hR r).imp fun s h => ⟨h.1, fun j => (h.2 j).1⟩
        · iexact H4
      isplitl [H5]
      · iexists y6; isplitr
        · ipureintro; exact fun _ hg hR r => (hv hg hR r).imp fun s h => ⟨h.1, fun j => (h.2 j).2⟩
        · iexact H5
      iexists y7; isplitr
      · ipureintro; exact fun _ => hy.1
      · iexact H6

end Region

end Cert.Search

end
-- ==== Proof.SearchCalls.lean ====
/-
  The search's two calls as parts of its run: each entered from the host's arrays, left with its results in theirs.
-/
module

public import proofs.«01_k».proof.Proof.SearchFast
public import Idealize.ShloMosaic.Lib.Pipeline.RegionsLoop

@[expose] public section

set_option maxRecDepth 16384

noncomputable section

namespace Cert.Search

open Cert.SearchIdeal Cert.SearchIdeal.Gen Cert.Dist Cert.Rounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

/-- The run's ghost algebra: the calls' own, once for each call. -/
abbrev UU : Type := IProdConst (Fin 2) (UR sig nD τ) × Counters

local notation "𝕄" => MT nD τ sig Unit (Elt Ideal) ℕ UU ℕ

abbrev L : GSem nD τ sig → Finset Unit := fun _ => ∅
abbrev lv : GSem nD τ sig → Unit → ℕ := fun _ _ => 0
abbrev adm : (p : Fin 2) → (pcfgs (F := Ideal) p).Adm := fun p => (cfgs p).toPCfg_adm
/-- The first call's ghosts, the second's. -/
abbrev E0 : Emb (UR sig nD τ) (MT nD τ sig Unit (Elt Ideal) ℕ UU ℕ) := embAt 0
@[inherit_doc E0]
abbrev E1 : Emb (UR sig nD τ) (MT nD τ sig Unit (Elt Ideal) ℕ UU ℕ) := embAt 1

/-- The buffers the host holds. -/
def ucRefs : Finset (DevRef τ sig) := (StableHlo.tcRefs τ sig).filter fun b => ¬ b.isScoped

theorem unscopedBufs_held (c : Dev nD) (W : Valuation τ sig (Elt Ideal)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt Ideal)) (h : op.bufs ⊆ StableHlo.tcRefs τ sig) : op.bufs ⊆ ucRefs := fun b hb =>
  Finset.mem_filter.mpr ⟨h hb, fun h' => Bool.false_ne_true ((op.no_scoped b hb).symm.trans h')⟩

/-- Nothing is owed. -/
abbrev ow (c : Dev nD) : sProp 𝕄 := iprop(∃ W, owes (c : Thread nD τ) (0 : CellTallies nD τ sig Unit) W)
/-- What the second call's entry takes. -/
abbrev gh (c : Dev nD) : sProp 𝕄 :=
  iprop(Pipeline.cellsGhost (Pipeline.pin (pcfgs (F := Ideal)) adm) E1 1 c ∗ Pipeline.toksInit (Pipeline.pin (pcfgs (F := Ideal)) adm) E1 1 c)

theorem pts_congr {ℓ : Loc nD τ sig} {f g : Buf (Elt Ideal) ℓ} (h : f = g) : (ℓ ↦{fullShare} f : sProp 𝕄) ⊢ ℓ ↦{fullShare} g := by rw [h]

theorem pts_whole (c : Dev nD) (b : Ref sig .tc) (f : Buf (Elt Ideal) ((c : Thread nD τ).loc b)) :
    ((Memref.whole b).view.loc (c : Thread nD τ) ↦[(Memref.whole b).view.set]{fullShare} f : sProp 𝕄) = ((c : Thread nD τ).loc b ↦{fullShare} f) := by
  rw [(Memref.isWhole_whole b).set_eq_univ]

variable (m : (ℓ : Loc nD τ sig) → Buf (Elt Ideal) ℓ)

/-- Both calls' proof data. -/
def rdats : (p : Fin 2) → (c : Dev nD) → RDat τ (Elt Ideal) Unit ℕ UU ℕ (Pipeline.pin (pcfgs (F := Ideal)) adm p) c
  | ⟨0, _⟩ => fun c => rdat0 (U := UU) m c
  | ⟨1, _⟩ => fun c => rdat1 (U := UU) m c

/-- The host's buffers after the fast call: its flag zero only beside the answers, all else as before it. -/
structure After0 (c : Dev nD) (V : Valuation τ sig (Elt Ideal)) : Prop where
  good : (V main_v8_2 : Vec Ideal S1x1 .i32) (ix2 0 0) = 0#32 → Values m c (V main_v8_0) ∧ Numbers m c (V main_v8_1)
  same : ∀ b : Ref sig .tc, b ≠ main_v8_0 → b ≠ main_v8_1 → b ≠ main_v8_2 → V b = V0 m c b

/-- The host's buffers before the exact call: its operands as made, its results' places as they were. -/
structure Before1 (c : Dev nD) (V : Valuation τ sig (Elt Ideal)) : Prop where
  win : ∀ w : Fin 6, V (Pipeline.arrRef spec1 w) = V0 m c (Pipeline.arrRef spec1 w)
  arg0 : V main_arg0 = V0 m c main_arg0

/-- The host's buffers after the exact call. -/
structure After1 (c : Dev nD) (V : Valuation τ sig (Elt Ideal)) : Prop where
  val : Values m c (V main_case0b1_v13_0)
  num : Numbers m c (V main_case0b1_v13_1)
  arg0 : V main_arg0 = V0 m c main_arg0
  arg1 : V main_arg1 = V0 m c main_arg1

variable {m}

/-- Contents that differ from given ones at the fast call's results alone. -/
theorem update0 (W : Valuation τ sig (Elt Ideal)) (F4 : (Proc.devRef (τ := τ) .tc main_v8_0).ty.Contents (Elt Ideal))
    (F5 : (Proc.devRef (τ := τ) .tc main_v8_1).ty.Contents (Elt Ideal)) (F6 : (Proc.devRef (τ := τ) .tc main_v8_2).ty.Contents (Elt Ideal)) :
    ∃ V : Valuation τ sig (Elt Ideal), (∀ b : Ref sig .tc, b ≠ main_v8_0 → b ≠ main_v8_1 → b ≠ main_v8_2 → V b = W b)
      ∧ V main_v8_0 = F4 ∧ V main_v8_1 = F5 ∧ V main_v8_2 = F6 :=
  ⟨Function.update (Function.update (Function.update W main_v8_0 F4) main_v8_1 F5) main_v8_2 F6, fun b h0 h1 h2 => by
    rw [Function.update_of_ne (StableHlo.devRef_ne_of_ne h2), Function.update_of_ne (StableHlo.devRef_ne_of_ne h1), Function.update_of_ne (StableHlo.devRef_ne_of_ne h0)],
    by rw [Function.update_of_ne (StableHlo.devRef_ne_of_ne (by decide)), Function.update_of_ne (StableHlo.devRef_ne_of_ne (by decide)), Function.update_self],
    by rw [Function.update_of_ne (StableHlo.devRef_ne_of_ne (by decide)), Function.update_self], Function.update_self ..⟩

/-- Contents that differ from given ones at the exact call's results alone. -/
theorem update1 (W : Valuation τ sig (Elt Ideal)) (F4 : (Proc.devRef (τ := τ) .tc main_case0b1_v13_0).ty.Contents (Elt Ideal))
    (F5 : (Proc.devRef (τ := τ) .tc main_case0b1_v13_1).ty.Contents (Elt Ideal)) :
    ∃ V : Valuation τ sig (Elt Ideal), (∀ b : Ref sig .tc, b ≠ main_case0b1_v13_0 → b ≠ main_case0b1_v13_1 → V b = W b)
      ∧ V main_case0b1_v13_0 = F4 ∧ V main_case0b1_v13_1 = F5 :=
  ⟨Function.update (Function.update W main_case0b1_v13_0 F4) main_case0b1_v13_1 F5, fun b h0 h1 => by
    rw [Function.update_of_ne (StableHlo.devRef_ne_of_ne h1), Function.update_of_ne (StableHlo.devRef_ne_of_ne h0)],
    by rw [Function.update_of_ne (StableHlo.devRef_ne_of_ne (by decide)), Function.update_self], Function.update_self ..⟩

set_option maxHeartbeats 4000000 in
/-- The first call's arrays, whatever they may hold at its end, beside the rest. -/
theorem leave0 (c : Dev nD) :
    iprop((rdats m 0 c).arraysAt cfg0.N ∗ Pipeline.unscopedRest (Ix := Unit) (Name := ℕ) (U := UU) (Lvl := ℕ) spec0 c (fun b => V0 m c b))
      ⊢ iprop(∃ V, ⌜After0 m c V⌝ ∗ StableHlo.held (c : Thread nD τ) ucRefs V : sProp 𝕄) := by
  rw [RDat.arraysAt_eq (pcfgs (F := Ideal)) adm (rdats m) (p := 0) c arr_whole0 ((rdats m 0 c).share_full fun _ => rfl) cfg0.N]
  refine (sep_mono (Entails.of_eq (bigSep_W0 _)) .rfl).trans ?_
  iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩⟩, Hr⟩
  have e0 : F0 = V0 m c main_v4 := (congrFun ((rdats m 0 c).ArrAt_in 0 rfl cfg0.N) F0).mp h0
  have e1 : F1 = V0 m c main_v7 := (congrFun ((rdats m 0 c).ArrAt_in 1 rfl cfg0.N) F1).mp h1
  have e2 : F2 = V0 m c main_v5 := (congrFun ((rdats m 0 c).ArrAt_in 2 rfl cfg0.N) F2).mp h2
  have e3 : F3 = V0 m c main_arg1 := (congrFun ((rdats m 0 c).ArrAt_in 3 rfl cfg0.N) F3).mp h3
  obtain ⟨V, hne, v4, v5, v6⟩ := update0 (V0 m c) F4 F5 F6
  have ha : After0 m c V := ⟨fun hz => by
    obtain ⟨_, a4⟩ := final0_4 (rdat0 (U := UU) m c) F4 h4
    obtain ⟨_, a5⟩ := final0_5 (rdat0 (U := UU) m c) F5 h5
    obtain ⟨_, a6⟩ := final0_6 (rdat0 (U := UU) m c) F6 h6
    rw [v6] at hz
    have hg : Good UU m c := a6 rfl hz
    rw [v4, v5]
    exact ⟨a4 rfl hg, a5 rfl hg⟩, hne⟩
  iexists V
  isplitr; · ipureintro; exact ha
  rw [← unscopedBufs_held, Pipeline.unscopedBufs_split cfgs (p := 0) winFacts0.arr_unscoped winFacts0.arr_inj c (fun b => V b)]
  isplitr [Hr]
  · iapply (Entails.of_eq (bigSep_W0 _).symm)
    isplitl [H0]; · iapply (pts_congr (e0.trans (hne main_v4 (by decide) (by decide) (by decide)).symm)); iexact H0
    isplitl [H1]; · iapply (pts_congr (e1.trans (hne main_v7 (by decide) (by decide) (by decide)).symm)); iexact H1
    isplitl [H2]; · iapply (pts_congr (e2.trans (hne main_v5 (by decide) (by decide) (by decide)).symm)); iexact H2
    isplitl [H3]; · iapply (pts_congr (e3.trans (hne main_arg1 (by decide) (by decide) (by decide)).symm)); iexact H3
    isplitl [H4]; · iapply (pts_congr v4.symm); iexact H4
    isplitl [H5]; · iapply (pts_congr v5.symm); iexact H5
    iapply (pts_congr v6.symm); iexact H6
  · iapply (Entails.of_eq (bigSep_congr fun b hb => by
      have hb' := (Finset.mem_sdiff.mp hb).2
      beta_reduce; rw [hne b (fun h => hb' (h ▸ Finset.mem_image.mpr ⟨4, Finset.mem_univ _, rfl⟩)) (fun h => hb' (h ▸ Finset.mem_image.mpr ⟨5, Finset.mem_univ _, rfl⟩))
        (fun h => hb' (h ▸ Finset.mem_image.mpr ⟨6, Finset.mem_univ _, rfl⟩))]) :
      Pipeline.unscopedRest (Ix := Unit) (Name := ℕ) (U := UU) (Lvl := ℕ) spec0 c (fun b => V0 m c b) ⊢ (Pipeline.unscopedRest spec0 c (fun b => V b) : sProp 𝕄))
    iexact Hr

set_option maxHeartbeats 4000000 in
/-- The second call's arrays, whatever they may hold at its end, beside the rest. -/
theorem leave1 (c : Dev nD) (W : Valuation τ sig (Elt Ideal)) (hW : Before1 m c W) :
    iprop((rdats m 1 c).arraysAt cfg1.N ∗ Pipeline.unscopedRest (Ix := Unit) (Name := ℕ) (U := UU) (Lvl := ℕ) spec1 c (fun b => W b))
      ⊢ iprop(∃ V, ⌜After1 m c V⌝ ∗ StableHlo.held (c : Thread nD τ) ucRefs V : sProp 𝕄) := by
  rw [RDat.arraysAt_eq (pcfgs (F := Ideal)) adm (rdats m) (p := 1) c arr_whole1 ((rdats m 1 c).share_full fun _ => rfl) cfg1.N]
  refine (sep_mono (Entails.of_eq (bigSep_W1 _)) .rfl).trans ?_
  iintro ⟨⟨⟨%F0, %h0, H0⟩, ⟨%F1, %h1, H1⟩, ⟨%F2, %h2, H2⟩, ⟨%F3, %h3, H3⟩, ⟨%F4, %h4, H4⟩, ⟨%F5, %h5, H5⟩⟩, Hr⟩
  have e0 : F0 = W main_v4 := ((congrFun ((rdats m 1 c).ArrAt_in 0 rfl cfg1.N) F0).mp h0).trans (hW.win 0).symm
  have e1 : F1 = W main_v7 := ((congrFun ((rdats m 1 c).ArrAt_in 1 rfl cfg1.N) F1).mp h1).trans (hW.win 1).symm
  have e2 : F2 = W main_v5 := ((congrFun ((rdats m 1 c).ArrAt_in 2 rfl cfg1.N) F2).mp h2).trans (hW.win 2).symm
  have e3 : F3 = W main_arg1 := ((congrFun ((rdats m 1 c).ArrAt_in 3 rfl cfg1.N) F3).mp h3).trans (hW.win 3).symm
  obtain ⟨V, hne, v4, v5⟩ := update1 W F4 F5
  have ha : After1 m c V := by
    obtain ⟨_, a4⟩ := final1_4 (rdat1 (U := UU) m c) F4 h4
    obtain ⟨_, a5⟩ := final1_5 (rdat1 (U := UU) m c) F5 h5
    refine ⟨?_, ?_, (hne main_arg0 (by decide) (by decide)).trans hW.arg0, (hne main_arg1 (by decide) (by decide)).trans (hW.win 3)⟩
    · rw [v4]; exact a4 rfl
    · rw [v5]; exact a5 rfl
  iexists V
  isplitr; · ipureintro; exact ha
  rw [← unscopedBufs_held, Pipeline.unscopedBufs_split cfgs (p := 1) winFacts1.arr_unscoped winFacts1.arr_inj c (fun b => V b)]
  isplitr [Hr]
  · iapply (Entails.of_eq (bigSep_W1 _).symm)
    isplitl [H0]; · iapply (pts_congr (e0.trans (hne main_v4 (by decide) (by decide)).symm)); iexact H0
    isplitl [H1]; · iapply (pts_congr (e1.trans (hne main_v7 (by decide) (by decide)).symm)); iexact H1
    isplitl [H2]; · iapply (pts_congr (e2.trans (hne main_v5 (by decide) (by decide)).symm)); iexact H2
    isplitl [H3]; · iapply (pts_congr (e3.trans (hne main_arg1 (by decide) (by decide)).symm)); iexact H3
    isplitl [H4]; · iapply (pts_congr v4.symm); iexact H4
    iapply (pts_congr v5.symm); iexact H5
  · iapply (Entails.of_eq (bigSep_congr fun b hb => by
      have hb' := (Finset.mem_sdiff.mp hb).2
      beta_reduce; rw [hne b (fun h => hb' (h ▸ Finset.mem_image.mpr ⟨4, Finset.mem_univ _, rfl⟩)) (fun h => hb' (h ▸ Finset.mem_image.mpr ⟨5, Finset.mem_univ _, rfl⟩))]) :
      Pipeline.unscopedRest (Ix := Unit) (Name := ℕ) (U := UU) (Lvl := ℕ) spec1 c (fun b => W b) ⊢ (Pipeline.unscopedRest spec1 c (fun b => V b) : sProp 𝕄))
    iexact Hr

/-- The first call's own buffers at its start and its end. -/
theorem start0 (c : Dev nD) : (Pipeline.scopedRest (Ix := Unit) (Name := ℕ) (U := UU) (Lvl := ℕ) (Val := Elt Ideal) spec0 c : sProp 𝕄) ⊢ inv0 (U := UU) m c 0 := by
  rw [scopedRest0_eq]; unfold inv0 held0
  iintro ⟨⟨%f8, H0⟩, ⟨%f9, H1⟩, ⟨%f10, H2⟩, ⟨%f11, H3⟩, ⟨%f12, H4⟩, ⟨%f13, H5⟩, ⟨%f14, H6⟩, ⟨%f15, H7⟩, Hr⟩
  isplitr [Hr]
  · iexists f8; iexists f9; iexists f10; iexists f11; iexists f12; iexists f13; iexists f14; iexists f15
    isplitr; · ipureintro; exact fun _ => Fast.state_start ..
    isplitl [H0]; · iapply (Entails.of_eq (pts_whole c cc0_scratch0 f8).symm); iexact H0
    isplitl [H1]; · iapply (Entails.of_eq (pts_whole c cc0_scratch1 f9).symm); iexact H1
    isplitl [H2]; · iapply (Entails.of_eq (pts_whole c cc0_scratch2 f10).symm); iexact H2
    isplitl [H3]; · iapply (Entails.of_eq (pts_whole c cc0_scratch3 f11).symm); iexact H3
    isplitl [H4]; · iapply (Entails.of_eq (pts_whole c cc0_scratch4 f12).symm); iexact H4
    isplitl [H5]; · iapply (Entails.of_eq (pts_whole c cc0_scratch5 f13).symm); iexact H5
    isplitl [H6]; · iapply (Entails.of_eq (pts_whole c cc0_scratch6 f14).symm); iexact H6
    iapply (Entails.of_eq (pts_whole c cc0_scratch7 f15).symm); iexact H7
  iexact Hr

@[inherit_doc start0]
theorem quit0 (c : Dev nD) (n : ℕ) : inv0 (U := UU) m c n ⊢ (Pipeline.scopedRest (Ix := Unit) (Name := ℕ) (U := UU) (Lvl := ℕ) (Val := Elt Ideal) spec0 c : sProp 𝕄) := by
  rw [scopedRest0_eq]; unfold inv0 held0
  iintro ⟨⟨%f8, %f9, %f10, %f11, %f12, %f13, %f14, %f15, -, H0, H1, H2, H3, H4, H5, H6, H7⟩, Hr⟩
  isplitl [H0]; · iexists f8; iapply (Entails.of_eq (pts_whole c cc0_scratch0 f8)); iexact H0
  isplitl [H1]; · iexists f9; iapply (Entails.of_eq (pts_whole c cc0_scratch1 f9)); iexact H1
  isplitl [H2]; · iexists f10; iapply (Entails.of_eq (pts_whole c cc0_scratch2 f10)); iexact H2
  isplitl [H3]; · iexists f11; iapply (Entails.of_eq (pts_whole c cc0_scratch3 f11)); iexact H3
  isplitl [H4]; · iexists f12; iapply (Entails.of_eq (pts_whole c cc0_scratch4 f12)); iexact H4
  isplitl [H5]; · iexists f13; iapply (Entails.of_eq (pts_whole c cc0_scratch5 f13)); iexact H5
  isplitl [H6]; · iexists f14; iapply (Entails.of_eq (pts_whole c cc0_scratch6 f14)); iexact H6
  isplitl [H7]; · iexists f15; iapply (Entails.of_eq (pts_whole c cc0_scratch7 f15)); iexact H7
  iexact Hr

/-- The second call's own buffers at its start and its end. -/
theorem start1 (c : Dev nD) : (Pipeline.scopedRest (Ix := Unit) (Name := ℕ) (U := UU) (Lvl := ℕ) (Val := Elt Ideal) spec1 c : sProp 𝕄) ⊢ inv1 (U := UU) m c 0 := by
  rw [scopedRest1_eq]; unfold inv1 rest1
  iintro ⟨P0, P1, P2, P3, P4, P5, P6, P7, P8, P9, P10, P11, P12, P13, P14, P15, ⟨%f, Hf⟩, ⟨%g, Hg⟩, Hl⟩
  isplitl [Hf Hg]
  · iexists f; iexists g
    isplitr; · ipureintro; exact fun h => absurd h (lt_irrefl _)
    isplitl [Hf]
    · rw [owns_whole_eq]; iexists f; isplitr; (· ipureintro; rfl); iexact Hf
    · rw [owns_whole_eq]; iexists g; isplitr; (· ipureintro; rfl); iexact Hg
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  iexact Hl

@[inherit_doc start1]
theorem quit1 (c : Dev nD) (n : ℕ) : inv1 (U := UU) m c n ⊢ (Pipeline.scopedRest (Ix := Unit) (Name := ℕ) (U := UU) (Lvl := ℕ) (Val := Elt Ideal) spec1 c : sProp 𝕄) := by
  rw [scopedRest1_eq]; unfold inv1 rest1
  simp only [owns_whole_eq]
  iintro ⟨⟨%xs0, %xs1, -, ⟨%f, -, Hf⟩, ⟨%g, -, Hg⟩⟩, P0, P1, P2, P3, P4, P5, P6, P7, P8, P9, P10, P11, P12, P13, P14, P15, Hl⟩
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  isplitl [Hf]; · iexists f; iexact Hf
  isplitl [Hg]; · iexists g; iexact Hg
  iexact Hl

set_option backward.isDefEq.respectTransparency.types false in
/-- The fast call. -/
def reg0 :
    RDat.RegionSeg (pcfgs (F := Ideal)) adm (rdats m) () (defs₀ (F := Ideal)) Variants.none L lv 0 where
  win := winFacts0.to₀
  block_pos := block_pos0
  stage_whole := stage_whole0
  K := PEmpty
  osem k := k.elim
  ho := Pipeline.OwnSemFacts.none _
  hbody c := body0 (U := UU) m c
  hwaits := RDat.hwaits_of_owed_zero _ _ _ _ L lv 0 fun _ _ => rfl
  pre c := iprop(StableHlo.held (c : Thread nD τ) ucRefs (V0 m c) ∗ gh c ∗ ow c)
  post c := iprop((∃ V, ⌜After0 m c V⌝ ∗ StableHlo.held (c : Thread nD τ) ucRefs V) ∗ gh c ∗ ow c)
  X _ := BI.emp
  Y _ := BI.emp
  Z c := iprop(Pipeline.unscopedRest (Ix := Unit) (Name := ℕ) (U := UU) (Lvl := ℕ) spec0 c (fun b => V0 m c b) ∗ gh c)
  hentry c := by
    rw [Pipeline.ownSems0_none]
    have hsplit := Pipeline.RDat.arrays_of_unscopedBufs (p := 0) (pcfgs (F := Ideal)) adm (rdats m) winFacts0 arr_whole0 c
      ((rdats m 0 c).share_full fun _ => rfl) (fun b => V0 m c b) fun _ => rfl
    rw [← unscopedBufs_held]
    iintro ⟨⟨Hub, HG, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rdats m 0 c).Φ 0 = inv0 (U := UU) m c 0 from rfl]
    iintro ⟨-, -, Hr⟩; iapply (start0 c); iexact Hr
  hout c := by
    rw [Pipeline.ownSems0_none, show (rdats m 0 c).Φ (Fin.last _) = inv0 (U := UU) m c cfg0.N from rfl]
    iintro Hr
    isplitr; · iempintro
    isplitr; · iempintro
    iapply (quit0 c cfg0.N); iexact Hr
  hexit c := by
    iintro ⟨Ha, HO, -, Hrest, HG⟩
    imodintro
    isplitl [Ha Hrest]
    · iapply (leave0 c); isplitl [Ha] <;> iassumption
    isplitl [HG]; · iexact HG
    unfold Pipeline.RDat.owesAt Pipeline.owesWithin
    icases HO with ⟨%W, -, HO⟩; iexists W; iexact HO

set_option backward.isDefEq.respectTransparency.types false in
/-- The exact call. -/
def reg1 :
    RDat.RegionSeg (pcfgs (F := Ideal)) adm (rdats m) () (defs₀ (F := Ideal)) Variants.none L lv 1 where
  win := winFacts1.to₀
  block_pos := block_pos1
  stage_whole := stage_whole1
  K := PEmpty
  osem k := k.elim
  ho := Pipeline.OwnSemFacts.none _
  hbody c := body1 (U := UU) m c
  hwaits := RDat.hwaits_of_owed_zero _ _ _ _ L lv 1 fun _ _ => rfl
  pre c := iprop((∃ W, ⌜Before1 m c W⌝ ∗ StableHlo.held (c : Thread nD τ) ucRefs W) ∗ ow c)
  post c := iprop((∃ V, ⌜After1 m c V⌝ ∗ StableHlo.held (c : Thread nD τ) ucRefs V) ∗ ow c)
  X _ := BI.emp
  Y _ := BI.emp
  Z c := iprop(∃ W, ⌜Before1 m c W⌝ ∗ Pipeline.unscopedRest (Ix := Unit) (Name := ℕ) (U := UU) (Lvl := ℕ) spec1 c (fun b => W b))
  hentry c := by
    rw [Pipeline.ownSems0_none]
    iintro ⟨⟨⟨%W, %hW, Hub⟩, HO⟩, -, -⟩
    have hsplit := (Entails.of_eq (unscopedBufs_held c W).symm).trans (Pipeline.RDat.arrays_of_unscopedBufs (p := 1) (pcfgs (F := Ideal)) adm (rdats m) winFacts1 arr_whole1 c
      ((rdats m 1 c).share_full fun _ => rfl) (fun b => W b) fun w => (hW.win w).symm)
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexists W; isplitr; (· ipureintro; exact hW); iexact Hrest
  hin c := by
    rw [show (rdats m 1 c).Φ 0 = inv1 (U := UU) m c 0 from rfl]
    iintro ⟨-, -, Hr⟩; iapply (start1 c); iexact Hr
  hout c := by
    rw [Pipeline.ownSems0_none, show (rdats m 1 c).Φ (Fin.last _) = inv1 (U := UU) m c cfg1.N from rfl]
    iintro Hr
    isplitr; · iempintro
    isplitr; · iempintro
    iapply (quit1 c cfg1.N); iexact Hr
  hexit c := by
    iintro ⟨Ha, HO, -, ⟨%W, %hW, Hrest⟩⟩
    imodintro
    isplitl [Ha Hrest]
    · iapply (leave1 c W hW); isplitl [Ha] <;> iassumption
    unfold Pipeline.RDat.owesAt Pipeline.owesWithin
    icases HO with ⟨%W, -, HO⟩; iexists W; iexact HO

end Cert.Search

end
-- ==== Proof.SearchRun.lean ====
/-
  The search's run, whole: the operands made, the fast call, its flag read, and the exact call where the flag is up.  At real
  inputs it ends with every query's sixteen nearest keys (`run`).
-/
module

public import proofs.«01_k».proof.Proof.SearchCalls
public import Idealize.ShloMosaic.Lib.HostLoop.Rules

@[expose] public section

set_option maxRecDepth 16384

noncomputable section

namespace Cert.Search

open Cert.SearchIdeal Cert.SearchIdeal.Gen Cert.Dist Cert.Rounds
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (RDat Cfg Window)

local notation "𝕄" => MT nD τ sig Unit (Elt Ideal) ℕ UU ℕ
local notation "𝔻" => Pipeline.defs (pcfgs (F := Ideal)) (defs₀ (F := Ideal))
local notation "𝕍" => Variants.lift Variants.none

/-! ## Between the calls -/

/-- The flag widened to the branch's number. -/
abbrev rdOp : HloOp τ sig (Elt Ideal) :=
  StableHlo.unary main_v10 main_v11 ((extui 32 · natLt_1_32) : (⟨S_, .i1⟩ : BufTy).Contents (Elt Ideal) → (⟨S_, .i32⟩ : BufTy).Contents (Elt Ideal))
/-- The results copied out: the fast call's, the exact call's. -/
abbrev ops0 : List (HloOp τ sig (Elt Ideal)) := [StableHlo.unary main_v8_0 main_v12_0 id, StableHlo.unary main_v8_1 main_v12_1 id]
@[inherit_doc ops0]
abbrev ops1 : List (HloOp τ sig (Elt Ideal)) :=
  [StableHlo.unary main_case0b1_v13_0 main_v12_0 id, StableHlo.unary main_case0b1_v13_1 main_v12_1 id]

section Folds

variable (V : Valuation τ sig (Elt Ideal))

/-- The buffers once the flag is read. -/
abbrev Vm : Valuation τ sig (Elt Ideal) := after [rdOp] (after hostOps1 V)
/-- The branch's number. -/
abbrev word : BitVec 32 := (Vm V main_v11 : Vec Ideal S_ .i32) HostLoop.idx0

theorem word_eq : word V = (IntOp.cmpi .ne ((V main_v8_2 : Vec Ideal S1x1 .i32) (ix2 0 0)) 0#32).setWidth 32 := by
  have e : @Eq (IVec S_ 32) (Vm V main_v11)
      (extui 32 (cmpi .ne (shapeCast S_ (V main_v8_2 : IVec S1x1 32) shapeCasts_S1x1_S_) (constantI S_ 32 0#32)) natLt_1_32) := by
    show after (hostOps1 ++ [rdOp]) V main_v11 = _
    simp only [hostOps1, List.cons_append, List.nil_append]
    after_results
    rfl
  have hi : ∀ i : S1x1.Idx, i = ix2 0 0 := fun i => by
    funext a
    match a with
    | ⟨0, _⟩ => exact Subsingleton.elim (α := Fin 1) _ _
    | ⟨1, _⟩ => exact Subsingleton.elim (α := Fin 1) _ _
  show (Vm V main_v11 : IVec S_ 32) HostLoop.idx0 = _
  rw [e]
  exact congrArg (fun y => (IntOp.cmpi .ne ((V main_v8_2 : Vec Ideal S1x1 .i32) y) 0#32).setWidth 32) (hi _)

theorem Vm_same (b : Ref sig .tc) (h : b ≠ main_v9 ∧ b ≠ main_c ∧ b ≠ main_v10 ∧ b ≠ main_v11) : Vm V b = V b := by
  obtain ⟨h0, h1, h2, h3⟩ := h
  show after [rdOp] (after hostOps1 V) (Proc.devRef .tc b) = _
  rw [← StableHlo.after_append]
  refine StableHlo.after_of_forall_not_mem (b := Proc.devRef .tc b) _ V fun op hop => ?_
  simp only [List.cons_append, List.nil_append, List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

theorem ops0_val : after ops0 V main_v12_0 = V main_v8_0 ∧ after ops0 V main_v12_1 = V main_v8_1 ∧ after ops0 V main_arg0 = V main_arg0
    ∧ after ops0 V main_arg1 = V main_arg1 := by
  refine ⟨?_, ?_, ?_, ?_⟩ <;> after_results <;> rfl
theorem ops1_val : after ops1 V main_v12_0 = V main_case0b1_v13_0 ∧ after ops1 V main_v12_1 = V main_case0b1_v13_1 ∧ after ops1 V main_arg0 = V main_arg0
    ∧ after ops1 V main_arg1 = V main_arg1 := by
  refine ⟨?_, ?_, ?_, ?_⟩ <;> after_results <;> rfl

/-- A number for the first branch names the first; any other the second. -/
theorem branch_zero : HostLoop.branch 0#32 1 = 0 := by decide
theorem branch_one : HostLoop.branch 1#32 1 = 1 := by decide

theorem word_zero (h : (V main_v8_2 : Vec Ideal S1x1 .i32) (ix2 0 0) = 0#32) : HostLoop.branch (word V) 1 = 0 := by
  rw [word_eq, h]; decide
theorem word_one (h : (V main_v8_2 : Vec Ideal S1x1 .i32) (ix2 0 0) ≠ 0#32) : HostLoop.branch (word V) 1 = 1 := by
  have e : IntOp.cmpi .ne ((V main_v8_2 : Vec Ideal S1x1 .i32) (ix2 0 0)) 0#32 = 1#1 := by
    unfold IntOp.cmpi
    rw [show ((V main_v8_2 : Vec Ideal S1x1 .i32) (ix2 0 0) != 0#32) = true from bne_iff_ne.mpr h]
    rfl
  rw [word_eq, e]; decide

end Folds

variable (m : (ℓ : Loc nD τ sig) → Buf (Elt Ideal) ℓ) (ρ : Dev nD → PrngReg)

/-- The buffers at the end: the results right, the arguments as made. -/
structure Done (c : Dev nD) (V : Valuation τ sig (Elt Ideal)) : Prop where
  val : Values m c (V main_v12_0)
  num : Numbers m c (V main_v12_1)
  arg0 : V main_arg0 = V0 m c main_arg0
  arg1 : V main_arg1 = V0 m c main_arg1

variable {m}

theorem done0 (c : Dev nD) (V : Valuation τ sig (Elt Ideal)) (h : After0 m c V) (hz : (V main_v8_2 : Vec Ideal S1x1 .i32) (ix2 0 0) = 0#32) :
    Done m c (after ops0 (Vm V)) := by
  obtain ⟨a, b, c0, c1⟩ := ops0_val (Vm V)
  obtain ⟨hv, hn⟩ := h.good hz
  refine ⟨?_, ?_, ?_, ?_⟩
  · rw [a, Vm_same V _ (by decide)]; exact hv
  · rw [b, Vm_same V _ (by decide)]; exact hn
  · rw [c0, Vm_same V _ (by decide)]; exact h.same _ (by decide) (by decide) (by decide)
  · rw [c1, Vm_same V _ (by decide)]; exact h.same _ (by decide) (by decide) (by decide)

theorem before1 (c : Dev nD) (V : Valuation τ sig (Elt Ideal)) (h : After0 m c V) : Before1 m c (Vm V) where
  win w := by
    fin_cases w
    · exact (Vm_same V main_v4 (by decide)).trans (h.same _ (by decide) (by decide) (by decide))
    · exact (Vm_same V main_v7 (by decide)).trans (h.same _ (by decide) (by decide) (by decide))
    · exact (Vm_same V main_v5 (by decide)).trans (h.same _ (by decide) (by decide) (by decide))
    · exact (Vm_same V main_arg1 (by decide)).trans (h.same _ (by decide) (by decide) (by decide))
    · exact (Vm_same V main_case0b1_v13_0 (by decide)).trans (h.same _ (by decide) (by decide) (by decide))
    · exact (Vm_same V main_case0b1_v13_1 (by decide)).trans (h.same _ (by decide) (by decide) (by decide))
  arg0 := (Vm_same V _ (by decide)).trans (h.same _ (by decide) (by decide) (by decide))

theorem done1 (c : Dev nD) (V : Valuation τ sig (Elt Ideal)) (h : After1 m c V) : Done m c (after ops1 V) := by
  obtain ⟨a, b, c0, c1⟩ := ops1_val V
  exact ⟨a ▸ h.val, b ▸ h.num, c0.trans h.arg0, c1.trans h.arg1⟩

/-! ## The run's parts -/

theorem ops_sub (l : List (HloOp τ sig (Elt Ideal))) (h : l.Forall fun op => op.bufs ⊆ StableHlo.tcRefs τ sig) : ∀ op ∈ l, op.bufs ⊆ ucRefs :=
  fun op hop => sub_ucRefs op ((List.forall_iff_forall_mem.mp h) op hop)

variable (m) in
/-- The operands made. -/
def seg0 : Pipeline.HostSeg (Name := ℕ) (U := UU) (pcfgs (F := Ideal)) (defs₀ (F := Ideal)) Variants.none L lv :=
  Pipeline.HostSeg.ofOps _ _ _ _ _ ucRefs hostOps0 (ops_sub _ hostOps0_sub)
    (by intro _ h; (repeat (cases h with | head => rfl | tail _ h => ?_)); exact nomatch h) (fun c b => m (c, b)) fun c => iprop(gh c ∗ ow c)

set_option backward.isDefEq.respectTransparency.types false in
variable (m) in
/-- The flag compared. -/
def seg1 : Pipeline.HostSeg (Name := ℕ) (U := UU) (pcfgs (F := Ideal)) (defs₀ (F := Ideal)) Variants.none L lv where
  prog := StableHlo.seq hostOps1
  pre c := iprop((∃ V, ⌜After0 m c V⌝ ∗ held (c : Thread nD τ) ucRefs V) ∗ gh c ∗ ow c)
  post c := iprop((∃ V, ⌜After0 m c V⌝ ∗ held (c : Thread nD τ) ucRefs (after hostOps1 V)) ∗ gh c ∗ ow c)
  run c {_} k K := by
    iintro ⟨Hk, Hbd, ⟨⟨%V, %hV, Hh⟩, HR⟩, -⟩
    have hseq := StableHlo.wp_seq (defs := 𝔻) 𝕍 none Set.univ c ucRefs k (K := K) hostOps1 (ops_sub _ hostOps1_sub)
      (by intro _ h; (repeat (cases h with | head => rfl | tail _ h => ?_)); exact nomatch h) V
    iapply hseq $$ [Hbd Hh]
    · isplitl [Hbd] <;> iassumption
    iintro ⟨Hbd, Hh⟩
    iapply Hk
    isplitl [Hbd]; · iexact Hbd
    isplitl [Hh]
    · iexists V; isplitr; (· ipureintro; exact hV); iexact Hh
    iexact HR

/-- The branch as printed. -/
abbrev arms : Fin 2 → Prog (TpuEff nD τ sig (Elt Ideal) (Pipeline.Sig Λ₀ (Fin 2) fun p => (pcfgs (F := Ideal) p).Adm) .tc) PUnit
  | 0 => do
      hlo rfl (StableHlo.unary main_v8_0 main_v12_0 id) (fun _ => .ret ⟨⟩)
      hlo rfl (StableHlo.unary main_v8_1 main_v12_1 id) (fun _ => .ret ⟨⟩)
      pure ⟨⟩
  | 1 => do
      Prog.lift (.customCall (Pipeline.entry 1) ())
      hlo rfl (StableHlo.unary main_case0b1_v13_0 main_v12_0 id) (fun _ => .ret ⟨⟩)
      hlo rfl (StableHlo.unary main_case0b1_v13_1 main_v12_1 id) (fun _ => .ret ⟨⟩)
      pure ⟨⟩
  | ⟨_ + 2, h⟩ => absurd h (Nat.not_lt.2 (Nat.le_add_left _ _))
/-- What one operation leaves. -/
theorem after_one (W : Valuation τ sig (Elt Ideal)) : after [rdOp] W = rdOp.result W := by
  rw [StableHlo.after_cons, StableHlo.after_nil]

/-- The read as printed. -/
abbrev rdProg : Prog (TpuEff nD τ sig (Elt Ideal) (Pipeline.Sig Λ₀ (Fin 2) fun p => (pcfgs (F := Ideal) p).Adm) .tc) (BitVec 32) :=
  hlo rfl rdOp (HostLoop.elt main_v11)

set_option backward.isDefEq.respectTransparency.types false in
/-- The read returns the branch's number. -/
theorem read_spec (c : Dev nD) (V : Valuation τ sig (Elt Ideal)) :
    iprop(boundary (c : Thread nD τ) ∗ held (c : Thread nD τ) ucRefs (after hostOps1 V))
      ⊢ wp frame (wpE 𝔻 𝕍 (c : Thread nD τ) none) Set.univ rdProg
          (fun v => iprop(⌜v = word V⌝ ∗ boundary (c : Thread nD τ) ∗ held (c : Thread nD τ) ucRefs (Vm V)) : BitVec 32 → sProp 𝕄) := by
  unfold rdProg
  iintro ⟨Hb, Hh⟩
  iapply (StableHlo.wp_hlo_within 𝕍 (c : Thread nD τ) none Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; rfl
  isplitl [Hb]; · iexact Hb
  unfold Vm; rw [after_one]; iexact Hh

section Arms

variable {β : Type} (k : PUnit → Prog (TpuEff nD τ sig (Elt Ideal) (Pipeline.Sig Λ₀ (Fin 2) fun p => (pcfgs (F := Ideal) p).Adm) .tc) β) (K : β → sProp 𝕄)

set_option backward.isDefEq.respectTransparency.types false in
/-- The first branch: the fast call's results are the answer. -/
theorem arm_zero (c : Dev nD) (V : Valuation τ sig (Elt Ideal)) (h : Done m c (after ops0 (Vm V))) :
    iprop((iprop(boundary (c : Thread nD τ) ∗ (∃ V, ⌜Done m c V⌝ ∗ held (c : Thread nD τ) ucRefs V) ∗ ow c) -∗ wp frame (wpE 𝔻 𝕍 (c : Thread nD τ) none) Set.univ (k ⟨⟩) K)
        ∗ boundary (c : Thread nD τ) ∗ held (c : Thread nD τ) ucRefs (Vm V) ∗ ow c)
      ⊢ wp frame (wpE 𝔻 𝕍 (c : Thread nD τ) none) Set.univ (arms 0 >>= k) K := by
  have hseq := StableHlo.wp_seq (defs := 𝔻) 𝕍 none Set.univ c ucRefs k (K := K) ops0
    (ops_sub _ ⟨StableHlo.unary_bufs_sub .., StableHlo.unary_bufs_sub ..⟩)
    (by intro _ h; (repeat (cases h with | head => rfl | tail _ h => ?_)); exact nomatch h) (Vm V)
  refine BIBase.Entails.trans ?_ (Entails.of_eq (show wp frame (wpE 𝔻 𝕍 (c : Thread nD τ) none) Set.univ (StableHlo.seq ops0 >>= k) K
    = wp frame (wpE 𝔻 𝕍 (c : Thread nD τ) none) Set.univ (arms 0 >>= k) K from rfl))
  iintro ⟨Hk, Hbd, Hh, HO⟩
  iapply hseq $$ [Hbd Hh]
  · isplitl [Hbd] <;> iassumption
  iintro ⟨Hbd, Hh⟩
  iapply Hk
  isplitl [Hbd]; · iexact Hbd
  isplitl [Hh]
  · iexists _; isplitr; (· ipureintro; exact h); iexact Hh
  iexact HO

set_option backward.isDefEq.respectTransparency.types false in
/-- The second branch: the exact call, its results the answer. -/
theorem arm_one (c : Dev nD) (V : Valuation τ sig (Elt Ideal)) (h : Before1 m c (Vm V)) :
    iprop((iprop(boundary (c : Thread nD τ) ∗ (∃ V, ⌜Done m c V⌝ ∗ held (c : Thread nD τ) ucRefs V) ∗ ow c) -∗ wp frame (wpE 𝔻 𝕍 (c : Thread nD τ) none) Set.univ (k ⟨⟩) K)
        ∗ boundary (c : Thread nD τ) ∗ held (c : Thread nD τ) ucRefs (Vm V) ∗ gh c ∗ ow c ∗ levAts L lv)
      ⊢ wp frame (wpE 𝔻 𝕍 (c : Thread nD τ) none) Set.univ (arms 1 >>= k) K := by
  have hreg := RDat.RegionSeg.wp (pcfgs (F := Ideal)) adm (rdats m) () cellOf_inj E1 (defs₀ (F := Ideal)) Variants.none L lv (reg1 (m := m)) c none
    (fun u hu => nomatch hu) (fun _ => StableHlo.seq ops1 >>= k) K
  rw [show (reg1 (m := m)).pre c = iprop((∃ W, ⌜Before1 m c W⌝ ∗ held (c : Thread nD τ) ucRefs W) ∗ ow c) from rfl,
    show (reg1 (m := m)).post c = iprop((∃ V, ⌜After1 m c V⌝ ∗ held (c : Thread nD τ) ucRefs V) ∗ ow c) from rfl] at hreg
  refine BIBase.Entails.trans ?_ (hreg.trans (Entails.of_eq (show wp frame (wpE 𝔻 𝕍 (c : Thread nD τ) none) Set.univ
      (.op (.customCall (Pipeline.entry 1) ()) fun _ => StableHlo.seq ops1 >>= k) K
    = wp frame (wpE 𝔻 𝕍 (c : Thread nD τ) none) Set.univ (arms 1 >>= k) K from rfl)))
  iintro ⟨Hk, Hbd, Hh, ⟨HG, HT⟩, HO, Hl⟩
  isplitl [Hk]
  · iintro ⟨Hbd, ⟨%W, %hW, Hh⟩, HO⟩
    have hseq := StableHlo.wp_seq (defs := 𝔻) 𝕍 none Set.univ c ucRefs k (K := K) ops1
      (ops_sub _ ⟨StableHlo.unary_bufs_sub .., StableHlo.unary_bufs_sub ..⟩)
      (by intro _ h; (repeat (cases h with | head => rfl | tail _ h => ?_)); exact nomatch h) W
    iapply hseq $$ [Hbd Hh]
    · isplitl [Hbd] <;> iassumption
    iintro ⟨Hbd, Hh⟩
    iapply Hk
    isplitl [Hbd]; · iexact Hbd
    isplitl [Hh]
    · iexists _; isplitr; (· ipureintro; exact done1 c W hW); iexact Hh
    iexact HO
  isplitl [Hbd]; · iexact Hbd
  isplitl [Hh HO]
  · isplitl [Hh]
    · iexists _; isplitr; (· ipureintro; exact h); iexact Hh
    iexact HO
  isplitl [Hl]; · iexact Hl
  isplitl [HG] <;> iassumption

end Arms

set_option backward.isDefEq.respectTransparency.types false in
/-- The branch on the flag. -/
def seg2 :
    Pipeline.HostSeg (Name := ℕ) (U := UU) (pcfgs (F := Ideal)) (defs₀ (F := Ideal)) Variants.none L lv where
  prog := rdProg >>= fun x => HostLoop.case 2 x arms
  pre c := iprop((∃ V, ⌜After0 m c V⌝ ∗ held (c : Thread nD τ) ucRefs (after hostOps1 V)) ∗ gh c ∗ ow c)
  post c := iprop((∃ V, ⌜Done m c V⌝ ∗ held (c : Thread nD τ) ucRefs V) ∗ ow c)
  run c {_} k K := by
    rw [Prog.bind_assoc, wp_bind]
    iintro ⟨Hk, Hb, ⟨⟨%V, %hV, Hh⟩, HG, HO⟩, Hl⟩
    iapply (wp_wand_r frame _ Set.univ)
    isplitl [Hb Hh]
    · iapply (read_spec c V)
      isplitl [Hb] <;> iassumption
    iintro %v ⟨%hv, Hb, Hh⟩
    subst hv
    rw [HostLoop.case_succ]
    by_cases hz : (V main_v8_2 : Vec Ideal S1x1 .i32) (ix2 0 0) = 0#32
    · rw [word_zero V hz]
      iapply (arm_zero k K c V (done0 c V hV hz))
      isplitl [Hk]; · iexact Hk
      isplitl [Hb]; · iexact Hb
      isplitl [Hh]; · iexact Hh
      iexact HO
    · rw [word_one V hz]
      iapply (arm_one k K c V (before1 c V hV))
      isplitl [Hk]; · iexact Hk
      isplitl [Hb]; · iexact Hb
      isplitl [Hh]; · iexact Hh
      isplitl [HG]; · iexact HG
      isplitl [HO] <;> iassumption

/-! ## The run -/

/-- What the launch makes: each call's ghosts. -/
def u₀ : UU := (fun _ => initOf (Pipeline.cells cfgs cellOf_inj) (Pipeline.launchToks cfgs cellOf_inj), 1)

theorem start_ghosts : (ownU u₀ : sProp 𝕄) ⊢ |={Set.univ}=> iprop(BI.own (E0 (initOf (Pipeline.cells (Pipeline.pin (pcfgs (F := Ideal)) adm) cellOf_inj)
    (Pipeline.launchToks (Pipeline.pin (pcfgs (F := Ideal)) adm) cellOf_inj))) ∗ bigSep Finset.univ gh) := by
  have hJ : ∀ Φ : Fin 2 → sProp 𝕄, bigSep Finset.univ Φ = iprop(Φ 0 ∗ Φ 1) := fun Φ => bigSep_univ_eq_bigSepL [(0 : Fin 2), 1] (by decide) (by decide) Φ
  have hone : ∀ Φ : Dev nD → Fin 2 → sProp 𝕄, (bigSep Finset.univ fun c => bigSep Finset.univ fun p => Φ c p) ⊢ bigSep Finset.univ fun c => Φ c 1 :=
    fun Φ => bigSep_mono fun c _ => bigSep_elim (Finset.mem_univ 1)
  unfold u₀
  iintro Hu
  ihave H := (ownU_pair _ _) $$ Hu
  icases H with ⟨HP, -⟩
  ihave H := (own_iprod _) $$ HP
  ihave H := (Entails.of_eq (hJ _)) $$ H
  icases H with ⟨H0, H1⟩
  imod (Pipeline.fund_ghost (Pipeline.pin (pcfgs (F := Ideal)) adm) E1 cellOf_inj) $$ H1 with ⟨Hg, Ht⟩
  imodintro
  isplitl [H0]; · iexact H0
  iapply (Entails.of_eq (bigSep_sep' (s := Finset.univ) (Φ := fun c => Pipeline.cellsGhost (Pipeline.pin (pcfgs (F := Ideal)) adm) E1 1 c)
    (Ψ := fun c => Pipeline.toksInit (Pipeline.pin (pcfgs (F := Ideal)) adm) E1 1 c)).symm)
  isplitl [Hg]
  · iapply (hone fun c p => Pipeline.cellsGhost (Pipeline.pin (pcfgs (F := Ideal)) adm) E1 p c); iexact Hg
  · iapply (hone fun c p => Pipeline.toksInit (Pipeline.pin (pcfgs (F := Ideal)) adm) E1 p c); iexact Ht

/-- The run's parts in order. -/
abbrev segs :
    List (RDat.Seg (pcfgs (F := Ideal)) adm (rdats m) () (defs₀ (F := Ideal)) Variants.none L lv) :=
  [.host (seg0 m), .region (reg0 (m := m)), .host (seg1 m), .host (seg2 (m := m))]

/-- They are the program. -/
theorem run_segs (c : Dev nD) : RDat.Seg.run (segs (m := m)) = main (F := Ideal) c :=
  (RDat.Seg.run_eq_chain (segs (m := m))).trans (Eq.trans rfl (main_chain c).symm)

/-- How the memory ends. -/
def Ends (c : Dev nD) (s : MemSt nD τ sig (Elt Ideal)) : Prop :=
  Values m c (s.mem ((c : Thread nD τ).loc main_v12_0)) ∧ Numbers m c (s.mem ((c : Thread nD τ).loc main_v12_1))
    ∧ s.mem ((c : Thread nD τ).loc main_arg0) = m ((c : Thread nD τ).loc main_arg0) ∧ s.mem ((c : Thread nD τ).loc main_arg1) = m ((c : Thread nD τ).loc main_arg1)

theorem held_read (c : Dev nD) (V : Valuation τ sig (Elt Ideal)) (s' : Phys nD τ sig (Elt Ideal)) :
    iprop(held (c : Thread nD τ) ucRefs V ∗ SI s')
      ⊢ iprop(⌜∀ b : Ref sig .tc, ¬ b.isScoped → s'.mem.mem ((c : Thread nD τ).loc b) = V b⌝ ∗ SI s' : sProp 𝕄) := by
  rw [← unscopedBufs_held]
  refine (pointsTo_read_all (Finset.univ.filter fun b : Ref sig .tc => ¬ b.isScoped) (fun b => (c : Thread nD τ).loc b) (fun b => V b) s').trans ?_
  exact sep_mono (Laws.pure_mono fun h b hb => h b (Finset.mem_filter.mpr ⟨Finset.mem_univ b, hb⟩)) BIBase.Entails.rfl

theorem ends (c : Dev nD) (s' : Phys nD τ sig (Elt Ideal)) :
    iprop((∃ V, ⌜Done m c V⌝ ∗ held (c : Thread nD τ) ucRefs V) ∗ SI s') ⊢ |={Set.univ}=> iprop(⌜Ends (m := m) c s'.mem⌝ ∗ SI s' : sProp 𝕄) := by
  iintro ⟨⟨%V, %hV, Hh⟩, HSI⟩
  ihave H := (held_read c V s') $$ [Hh HSI]
  · isplitl [Hh] <;> iassumption
  icases H with ⟨%h, HSI⟩
  imodintro
  isplitr
  · ipureintro
    refine ⟨?_, ?_, ?_, ?_⟩
    · rw [h main_v12_0 (by decide)]; exact hV.val
    · rw [h main_v12_1 (by decide)]; exact hV.num
    · exact ((h main_arg0 (by decide)).trans hV.arg0).trans (V_arg0 m c)
    · exact ((h main_arg1 (by decide)).trans hV.arg1).trans (V_arg1 m c)
  iexact HSI

set_option backward.isDefEq.respectTransparency.types false in
/-- The search runs and ends with, at real inputs, every query's sixteen nearest keys; the arguments as they were, every semaphore at zero. -/
theorem run :
    θ_run defs (onTc (τ := τ) (main (F := Ideal))) ⟨m, fun _ => 0, ρ⟩ (fun r => (∀ c, Ends (m := m) c r.2) ∧ r.2.sem = fun _ => 0) :=
  RDat.θ_run_regions_kit_sems (pcfgs (F := Ideal)) adm (rdats m) () cellOf_inj E0 (defs₀ (F := Ideal)) Variants.none L lv m ρ main (segs (m := m))
    (fun c Q => Entails.of_eq (congrArg (fun p => wp frame (wpE 𝔻 𝕍 (c : Thread nD τ) none) Set.univ p Q) (run_segs (m := m) c)))
    (by simp only [RDat.Seg.pipes_host, RDat.Seg.pipes_region, RDat.Seg.pipes_nil]; decide) (O₀ := 0) (hL := fun _ _ => rfl) (G := gh) (u₀ := u₀)
    (hu₀ := start_ghosts)
    (T₀ := fun c => iprop(held (c : Thread nD τ) ucRefs (fun b => m (c, b)) ∗ gh c ∗ ow c))
    (Tₙ := fun c => iprop(∃ V, ⌜Done m c V⌝ ∗ held (c : Thread nD τ) ucRefs V))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) ucRefs (fun b => m (c, b)) from unscopedBufs_held c (fun b => m (c, b))]
      iintro ⟨⟨Hh, -, HO, -, -, HG⟩, -⟩
      imodintro
      isplitl [Hh]; · iexact Hh
      isplitl [HG]; · iexact HG
      iexists ∅; iexact HO)
    (QY := fun c s => Ends (m := m) c s)
    (hfin := ends)
    (hQ := fun _ h hz => ⟨h, funext fun g => hz g (.inr (by revert g; decide))⟩)

end Cert.Search

end
-- ==== Proof.lean ====
/-
  The kernel's SparseCore gather is correct: every claim of Defs.lean, from the program's run (Proof/Run.lean, over one task,
  Proof/Tile.lean) and the reference's two takes read index by index (Proof/Ref.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Run
public import proofs.«01_k».proof.Proof.Ref
public import proofs.«01_k».proof.Proof.Gen.ReferenceIdeal
public import proofs.«01_k».proof.Proof.Gen.ReferenceIdeal.Run
public import proofs.«01_k».proof.Proof.Gen.Pre_names_rows
public import proofs.«01_k».proof.Proof.Gen.Exact
public import proofs.«01_k».proof.Proof.Gen.Exact.Skeleton
public import proofs.«01_k».proof.Proof.Gen.Exact.Launch
public import proofs.«01_k».proof.Proof.Gen.Exact.Points
public import proofs.«01_k».proof.Proof.Gen.Exact.Frame
public import proofs.«01_k».proof.Proof.Gen.ExactIdeal
public import proofs.«01_k».proof.Proof.Gen.ExactIdeal.Skeleton
public import proofs.«01_k».proof.Proof.Gen.ExactIdeal.Launch
public import proofs.«01_k».proof.Proof.Gen.ExactIdeal.Points
public import proofs.«01_k».proof.Proof.Gen.ExactIdeal.Frame
public import proofs.«01_k».proof.Proof.Gen.NearestIdeal
public import proofs.«01_k».proof.Proof.Gen.NearestIdeal.Run
public import proofs.«01_k».proof.Proof.Gen.Pre_finite
public import proofs.«01_k».proof.Proof.Gen.SearchIdeal
public import proofs.«01_k».proof.Proof.Gen.SearchIdeal.Skeleton
public import proofs.«01_k».proof.Proof.Gen.SearchIdeal.Launch
public import proofs.«01_k».proof.Proof.Gen.SearchIdeal.Points
public import proofs.«01_k».proof.Proof.Gen.SearchIdeal.Loops
public import proofs.«01_k».proof.Proof.ExactResult
public import proofs.«01_k».proof.Proof.Nearest
public import proofs.«01_k».proof.Proof.SearchRun
public import Idealize.ShloMosaic.Adequacy
public import Idealize.ShloMosaic.Init

@[expose] public section

noncomputable section

namespace Cert.Proof

open Idealize.ShloMosaic Idealize.SL.Sem

/-- At machine floats the program runs, its arguments end unchanged and every semaphore ends at zero: its run is
    `Gather.run_main`, the two prints of the program being the same text. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (Gather.run_main (F := Bits) m ρ fun d j => Take.bound_of_pre _ _ _ (hpre d) j)

/-- The same at exact reals. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (Gather.run_main (F := Ideal) m ρ fun d j => Take.bound_of_pre _ _ _ (hpre d) j)

/-- The reference runs and leaves its arguments; it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The program and the reference end with equal results: the requested rows of `keys` and the requested entries of
    `key_classes`. -/
theorem values : Cert.algebraic_KernelIdeal_ReferenceIdeal := by
  intro m ρ m' ρ' hpre hagree
  have hin : ∀ d j, ((m (Gather.askLoc d)) j).toNat < 100000 := fun d j => Take.bound_of_pre _ _ _ (hpre d) j
  refine ⟨fun d => Gather.outE m d, fun d => Gather.outC m d,
    (θ_run Cert.KernelIdeal.defs _ _).mono
      (fun _ h c => ⟨(h.1 c).2.2.2.1, (h.1 c).2.2.2.2, (h.1 c).1, (h.1 c).2.1, (h.1 c).2.2.1⟩) (Gather.run_main (F := Ideal) m ρ hin),
    (θ_run Cert.ReferenceIdeal.defs _ _).mono
      (fun _ h c => ⟨(h c).1.trans ?_, (h c).2.1.trans ?_, (h c).2.2⟩) (Cert.ReferenceIdeal.Value.run (F := Ideal) m' ρ')⟩
  · obtain ⟨h0, -, h2⟩ := hagree c
    rw [h0, h2]
    funext y
    exact (Take.take_rows (hin c) _ _ y).trans (Take.outE_apply c y).symm
  · obtain ⟨-, h1, h2⟩ := hagree c
    rw [h1, h2]
    funext y
    exact (Take.take_entries (hin c) _ _ y).trans (Take.outC_apply c y).symm

/-! ## The exact search -/

/-- At machine floats the exact search runs, its arguments end unchanged and every semaphore ends at zero. -/
theorem frame_exact : Cert.quiescent_Exact := fun m ρ _ => Cert.Exact.Gen.frame (F := Bits) m ρ

/-- The same at exact reals. -/
theorem frame_exact_ideal : Cert.quiescent_ExactIdeal := fun m ρ _ => Cert.ExactIdeal.Gen.frame (F := Ideal) m ρ

/-- The same at exact reals, from finite inputs. -/
theorem frame_exact_ideal_finite : Cert.quiescent_ExactIdeal_pre_finite := fun m ρ _ => Cert.ExactIdeal.Gen.frame (F := Ideal) m ρ

/-- The search's reference runs and leaves its arguments; it declares no semaphore. -/
theorem frame_nearest : Cert.quiescent_NearestIdeal := fun m ρ _ =>
  (θ_run Cert.NearestIdeal.defs _ _).mono
    (fun r h => ⟨fun c => (h c).2.2, sem_eq_zero_of_no_sems (by decide) r.2⟩)
    (Cert.NearestIdeal.Value.run (F := Ideal) m ρ)

/-- The same from finite inputs. -/
theorem frame_nearest_finite : Cert.quiescent_NearestIdeal_pre_finite := fun m ρ _ =>
  (θ_run Cert.NearestIdeal.defs _ _).mono
    (fun r h => ⟨fun c => (h c).2.2, sem_eq_zero_of_no_sems (by decide) r.2⟩)
    (Cert.NearestIdeal.Value.run (F := Ideal) m ρ)

/-- From finite inputs, the exact search and its reference end with equal results: per query, in order, the distances of the
    sixteen nearest keys, and their numbers. -/
theorem nearest : Cert.algebraic_ExactIdeal_NearestIdeal_pre_finite := by
  intro m ρ m' ρ' hpre hagree
  refine ⟨fun d => Cert.ExactIdeal.Value.values m d, fun d => Cert.ExactIdeal.Value.numbers m d, Cert.ExactIdeal.Value.run m ρ,
    (θ_run Cert.NearestIdeal.defs _ _).mono
      (fun _ h c => ⟨(h c).1.trans ?_, (h c).2.1.trans ?_, (h c).2.2⟩) (Cert.NearestIdeal.Value.run (F := Ideal) m' ρ')⟩
  all_goals
    obtain ⟨h0, h1⟩ := hagree c
    rw [h0, h1]
    obtain ⟨hx, hk⟩ := Nearest.real_of_pre (Cert.ExactIdeal.Value.qs m c) (Cert.ExactIdeal.Value.ks m c) (hpre c)
    funext y
    obtain ⟨s, hs, hv⟩ := Cert.ExactIdeal.Value.results m c hx hk (y 0)
    obtain ⟨e0, e1⟩ := Nearest.top _ _ (y 0) hs (y 1)
    have ey : y = ix2 (y 0) (y 1) := eq_ix2 y
    rw [ey]
  · exact e0.trans (hv (y 1)).1.symm
  · exact e1.trans (hv (y 1)).2.symm

/-! ## The whole search -/

/-- The whole search, both calls and the branch between them, runs, its arguments end unchanged and every semaphore ends at
    zero. -/
theorem frame_search : Cert.quiescent_SearchIdeal := fun m ρ _ =>
  (θ_run Cert.SearchIdeal.defs _ _).mono (fun _ h => ⟨fun c => (h.1 c).2.2, h.2⟩) (Cert.Search.run ρ)

/-- The same from finite inputs. -/
theorem frame_search_finite : Cert.quiescent_SearchIdeal_pre_finite := fun m ρ _ =>
  (θ_run Cert.SearchIdeal.defs _ _).mono (fun _ h => ⟨fun c => (h.1 c).2.2, h.2⟩) (Cert.Search.run ρ)

set_option maxRecDepth 16384 in
/-- From finite inputs, the whole search and the reference end with equal results, whichever branch is taken. -/
theorem search : Cert.algebraic_SearchIdeal_NearestIdeal_pre_finite := by
  intro m ρ m' ρ' hpre hagree
  refine ⟨fun c => Host.negf (Host.topK Cert.NearestIdeal.S256x16 1 (FloatOps.cmpfTotal .gt) (Nearest.scores (Cert.Search.qs m c) (Cert.Search.ks m c)) Cert.NearestIdeal.Gen.sliceFits_S256x100000_S256x16).1,
    fun c => (Host.topK Cert.NearestIdeal.S256x16 1 (FloatOps.cmpfTotal .gt) (Nearest.scores (Cert.Search.qs m c) (Cert.Search.ks m c)) Cert.NearestIdeal.Gen.sliceFits_S256x100000_S256x16).2,
    (θ_run Cert.SearchIdeal.defs _ _).mono
      (fun _ h c => ⟨?_, ?_, (h.1 c).2.2⟩)
      (Cert.Search.run ρ),
    (θ_run Cert.NearestIdeal.defs _ _).mono
      (fun _ h c => ⟨(h c).1.trans ?_, (h c).2.1.trans ?_, (h c).2.2⟩) (Cert.NearestIdeal.Value.run (F := Ideal) m' ρ')⟩
  · funext y
    obtain ⟨s, hs, hv⟩ := (h.1 c).1 (Nearest.real_of_pre _ _ (hpre c)) (y 0)
    have ey : y = ix2 (y 0) (y 1) := eq_ix2 y
    rw [ey]
    exact (hv (y 1)).trans (Nearest.top _ _ (y 0) hs (y 1)).1.symm
  · funext y
    obtain ⟨s, hs, hv⟩ := (h.1 c).2.1 (Nearest.real_of_pre _ _ (hpre c)) (y 0)
    have ey : y = ix2 (y 0) (y 1) := eq_ix2 y
    rw [ey]
    exact (hv (y 1)).trans (Nearest.top _ _ (y 0) hs (y 1)).2.symm
  all_goals
    obtain ⟨h0, h1⟩ := hagree c
    rw [h0, h1]

theorem claim : Cert.Claim := ⟨Cert.Kernel.Gen.facts, Cert.KernelIdeal.Gen.facts, Cert.ReferenceIdeal.Gen.facts, Cert.Exact.Gen.facts,
  Cert.ExactIdeal.Gen.facts, Cert.NearestIdeal.Gen.facts, Cert.SearchIdeal.Gen.facts, Cert.Pre_names_rows.Gen.facts, Cert.Pre_finite.Gen.facts,
  frame_kernel, frame_ideal, frame_reference, frame_exact, frame_exact_ideal, frame_exact_ideal_finite, frame_nearest,
  frame_nearest_finite, frame_search, frame_search_finite, trivial, values, trivial, nearest, search⟩

end Cert.Proof

end
